-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_and_scales_are_numbers [hPre_codes_and_scales_are_numbers : Cert.Pre_codes_and_scales_are_numbers.Facts] (m : (ℓ : Loc Cert.KernelIdeal.nD Cert.KernelIdeal.τ Cert.KernelIdeal.sig) → Buf (Elt Ideal) ℓ) : Prop :=
  ∀ c : Dev Cert.KernelIdeal.nD,
    (Cert.Pre_codes_and_scales_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_codes_and_scales_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_codes_and_scales_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_codes_and_scales_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_codes_and_scales_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_codes_and_scales_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_codes_and_scales_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_and_scales_are_numbers [hPre_codes_and_scales_are_numbers : Cert.Pre_codes_and_scales_are_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_and_scales_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_codes_and_scales_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_codes_and_scales_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_codes_and_scales_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_codes_and_scales_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_codes_and_scales_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_codes_and_scales_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_codes_and_scales_are_numbers [hKernelIdeal : Cert.KernelIdeal.Facts] [hPre_codes_and_scales_are_numbers : Cert.Pre_codes_and_scales_are_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_and_scales_are_numbers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_codes_and_scales_are_numbers [hReferenceIdeal : Cert.ReferenceIdeal.Facts] [hPre_codes_and_scales_are_numbers : Cert.Pre_codes_and_scales_are_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_and_scales_are_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "score_scale" .f32 0x3E0293EE#32 (((Real.sqrt 128)⁻¹ * (Real.log 2)⁻¹ : ℝ) : EReal)
  ∧ IdealRules.named_const.Statement Cert.KernelIdeal.κ "log2_e" .f32 0x3FB8AA3B#32 (((Real.log 2)⁻¹ : ℝ) : EReal)
  ∧ IdealRules.named_const.Statement Cert.KernelIdeal.κ "ln_2" .f32 0x3F317218#32 ((Real.log 2 : ℝ) : EReal)
  ∧ IdealRules.named_const.Statement Cert.KernelIdeal.κ "ln_past" .f32 0x40F3FCE1#32 ((Real.log 2048 : ℝ) : EReal)

def algebraic_KernelIdeal_ReferenceIdeal_pre_codes_and_scales_are_numbers [hKernelIdeal : Cert.KernelIdeal.Facts] [hReferenceIdeal : Cert.ReferenceIdeal.Facts] [hPre_codes_and_scales_are_numbers : Cert.Pre_codes_and_scales_are_numbers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_and_scales_are_numbers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_codes_and_scales_are_numbers : Cert.Pre_codes_and_scales_are_numbers.Facts),
    quiescent_Kernel (hKernel := hKernel)
    ∧ quiescent_KernelIdeal (hKernelIdeal := hKernelIdeal)
    ∧ quiescent_KernelIdeal_pre_codes_and_scales_are_numbers (hKernelIdeal := hKernelIdeal) (hPre_codes_and_scales_are_numbers := hPre_codes_and_scales_are_numbers)
    ∧ quiescent_ReferenceIdeal (hReferenceIdeal := hReferenceIdeal)
    ∧ quiescent_ReferenceIdeal_pre_codes_and_scales_are_numbers (hReferenceIdeal := hReferenceIdeal) (hPre_codes_and_scales_are_numbers := hPre_codes_and_scales_are_numbers)
    ∧ preserves_Kernel_KernelIdeal
    ∧ algebraic_KernelIdeal_ReferenceIdeal_pre_codes_and_scales_are_numbers (hKernelIdeal := hKernelIdeal) (hReferenceIdeal := hReferenceIdeal) (hPre_codes_and_scales_are_numbers := hPre_codes_and_scales_are_numbers)
-- ==== Pre_codes_and_scales_are_numbers.lean ====
abbrev S64x512x12x128 : Shape := ⟨4, ![64, 512, 12, 128]⟩
abbrev S64x512x12 : Shape := ⟨3, ![64, 512, 12]⟩
abbrev S2048x2x128 : Shape := ⟨3, ![2048, 2, 128]⟩
abbrev S2048x2 : Shape := ⟨2, ![2048, 2]⟩
abbrev S64x512x2x128 : Shape := ⟨4, ![64, 512, 2, 128]⟩
abbrev S64x512x2 : Shape := ⟨3, ![64, 512, 2]⟩
abbrev S_ : Shape := ⟨0, ![]⟩

class Facts : Prop where
  natLt_8_32 : 8 < 32
  bcast_S_S64x512x12x128 : S_.BroadcastsInDim S64x512x12x128 (![] : Fin 0 → Fin S64x512x12x128.rank)
  reducesTo_S64x512x12x128_S_d0_1_2_3 : S64x512x12x128.ReducesTo [0, 1, 2, 3] S_
  h_S_ : 0 < S_.numel
  bcast_S_S64x512x12 : S_.BroadcastsInDim S64x512x12 (![] : Fin 0 → Fin S64x512x12.rank)
  reducesTo_S64x512x12_S_d0_1_2 : S64x512x12.ReducesTo [0, 1, 2] S_
  bcast_S_S2048x2x128 : S_.BroadcastsInDim S2048x2x128 (![] : Fin 0 → Fin S2048x2x128.rank)
  reducesTo_S2048x2x128_S_d0_1_2 : S2048x2x128.ReducesTo [0, 1, 2] S_
  bcast_S_S2048x2 : S_.BroadcastsInDim S2048x2 (![] : Fin 0 → Fin S2048x2.rank)
  reducesTo_S2048x2_S_d0_1 : S2048x2.ReducesTo [0, 1] S_
  bcast_S_S64x512x2x128 : S_.BroadcastsInDim S64x512x2x128 (![] : Fin 0 → Fin S64x512x2x128.rank)
  reducesTo_S64x512x2x128_S_d0_1_2_3 : S64x512x2x128.ReducesTo [0, 1, 2, 3] S_
  bcast_S_S64x512x2 : S_.BroadcastsInDim S64x512x2 (![] : Fin 0 → Fin S64x512x2.rank)
  reducesTo_S64x512x2_S_d0_1_2 : S64x512x2.ReducesTo [0, 1, 2] S_

variable [Facts]

def fn_part2 {F : FTy → Type} [FloatOps F] (main_v5 : IVec S_ 1) (main_v9 : IVec S_ 1) (main_v12 : IVec S_ 1) (main_v18 : IVec S_ 1) (main_v22 : IVec S_ 1) (main_v28 : IVec S_ 1) (main_v31 : IVec S64x512x2 1) : IVec S_ 1 × IVec S_ 1 × IVec S_ 1 × IVec S_ 1 × IVec S_ 1 × IVec S_ 1 × IVec S_ 1 :=
  let main_c_14 : IVec S_ 1 := constantI S_ 1 1#1
  let main_v32 : IVec S_ 1 := (fun x v => Host.reduce IntOp.andi x v reducesTo_S64x512x2_S_d0_1_2 h_S_) main_v31 main_c_14
  (main_v5, main_v9, main_v12, main_v18, main_v22, main_v28, main_v32)

def fn_part1 {F : FTy → Type} [FloatOps F] (main_arg3 : FVec F S2048x2 .f32) (main_arg6 : IVec S64x512x2x128 8) (main_arg7 : FVec F S64x512x2 .f32) (main_v5 : IVec S_ 1) (main_v9 : IVec S_ 1) (main_v12 : IVec S_ 1) (main_v15 : IVec S2048x2x128 32) : IVec S_ 1 × IVec S_ 1 × IVec S_ 1 × IVec S_ 1 × IVec S_ 1 × IVec S_ 1 × IVec S_ 1 :=
  let main_c_6 : IVec S_ 32 := constantI S_ 32 127#32
  let main_v16 : IVec S2048x2x128 32 := broadcastInDim S2048x2x128 ![] bcast_S_S2048x2x128 main_c_6
  let main_v17 : IVec S2048x2x128 1 := cmpi .ne main_v15 main_v16
  let main_c_7 : IVec S_ 1 := constantI S_ 1 1#1
  let main_v18 : IVec S_ 1 := (fun x v => Host.reduce IntOp.andi x v reducesTo_S2048x2x128_S_d0_1_2 h_S_) main_v17 main_c_7
  let main_v19 : FVec F S2048x2 .f32 := Host.absf main_arg3
  let main_cst_8 : FVec F S_ .f32 := constant S_ .f32 0x7F800000#32
  let main_v20 : FVec F S2048x2 .f32 := broadcastInDim S2048x2 ![] bcast_S_S2048x2 main_cst_8
  let main_v21 : IVec S2048x2 1 := cmpf .olt main_v19 main_v20
  let main_c_9 : IVec S_ 1 := constantI S_ 1 1#1
  let main_v22 : IVec S_ 1 := (fun x v => Host.reduce IntOp.andi x v reducesTo_S2048x2_S_d0_1 h_S_) main_v21 main_c_9
  let main_v23 : IVec S64x512x2x128 32 := (extui 32 · natLt_8_32) main_arg6
  let main_c_10 : IVec S_ 32 := constantI S_ 32 127#32
  let main_v24 : IVec S64x512x2x128 32 := broadcastInDim S64x512x2x128 ![] bcast_S_S64x512x2x128 main_c_10
  let main_v25 : IVec S64x512x2x128 32 := andi main_v23 main_v24
  let main_c_11 : IVec S_ 32 := constantI S_ 32 127#32
  let main_v26 : IVec S64x512x2x128 32 := broadcastInDim S64x512x2x128 ![] bcast_S_S64x512x2x128 main_c_11
  let main_v27 : IVec S64x512x2x128 1 := cmpi .ne main_v25 main_v26
  let main_c_12 : IVec S_ 1 := constantI S_ 1 1#1
  let main_v28 : IVec S_ 1 := (fun x v => Host.reduce IntOp.andi x v reducesTo_S64x512x2x128_S_d0_1_2_3 h_S_) main_v27 main_c_12
  let main_v29 : FVec F S64x512x2 .f32 := Host.absf main_arg7
  let main_cst_13 : FVec F S_ .f32 := constant S_ .f32 0x7F800000#32
  let main_v30 : FVec F S64x512x2 .f32 := broadcastInDim S64x512x2 ![] bcast_S_S64x512x2 main_cst_13
  let main_v31 : IVec S64x512x2 1 := cmpf .olt main_v29 main_v30
  fn_part2 (F := F) main_v5 main_v9 main_v12 main_v18 main_v22 main_v28 main_v31

def fn {F : FTy → Type} [FloatOps F] (main_arg0 : IVec S64x512x12x128 8) (main_arg1 : FVec F S64x512x12 .f32) (main_arg2 : IVec S2048x2x128 8) (main_arg3 : FVec F S2048x2 .f32) (main_arg4 : FVec F S2048x2x128 .fp8e4m3) (main_arg5 : FVec F S2048x2 .f32) (main_arg6 : IVec S64x512x2x128 8) (main_arg7 : FVec F S64x512x2 .f32) (main_arg8 : FVec F S64x512x2x128 .fp8e4m3) (main_arg9 : FVec F S64x512x2 .f32) : IVec S_ 1 × IVec S_ 1 × IVec S_ 1 × IVec S_ 1 × IVec S_ 1 × IVec S_ 1 × IVec S_ 1 :=
  let main_v0 : IVec S64x512x12x128 32 := (extui 32 · natLt_8_32) main_arg0
  let main_c : IVec S_ 32 := constantI S_ 32 127#32
  let main_v1 : IVec S64x512x12x128 32 := broadcastInDim S64x512x12x128 ![] bcast_S_S64x512x12x128 main_c
  let main_v2 : IVec S64x512x12x128 32 := andi main_v0 main_v1
  let main_c_0 : IVec S_ 32 := constantI S_ 32 127#32
  let main_v3 : IVec S64x512x12x128 32 := broadcastInDim S64x512x12x128 ![] bcast_S_S64x512x12x128 main_c_0
  let main_v4 : IVec S64x512x12x128 1 := cmpi .ne main_v2 main_v3
  let main_c_1 : IVec S_ 1 := constantI S_ 1 1#1
  let main_v5 : IVec S_ 1 := (fun x v => Host.reduce IntOp.andi x v reducesTo_S64x512x12x128_S_d0_1_2_3 h_S_) main_v4 main_c_1
  let main_v6 : FVec F S64x512x12 .f32 := Host.absf main_arg1
  let main_cst : FVec F S_ .f32 := constant S_ .f32 0x7F800000#32
  let main_v7 : FVec F S64x512x12 .f32 := broadcastInDim S64x512x12 ![] bcast_S_S64x512x12 main_cst
  let main_v8 : IVec S64x512x12 1 := cmpf .olt main_v6 main_v7
  let main_c_2 : IVec S_ 1 := constantI S_ 1 1#1
  let main_v9 : IVec S_ 1 := (fun x v => Host.reduce IntOp.andi x v reducesTo_S64x512x12_S_d0_1_2 h_S_) main_v8 main_c_2
  let main_cst_3 : FVec F S_ .f32 := constant S_ .f32 0x00000000#32
  let main_v10 : FVec F S64x512x12 .f32 := broadcastInDim S64x512x12 ![] bcast_S_S64x512x12 main_cst_3
  let main_v11 : IVec S64x512x12 1 := cmpf .ogt main_arg1 main_v10
  let main_c_4 : IVec S_ 1 := constantI S_ 1 1#1
  let main_v12 : IVec S_ 1 := (fun x v => Host.reduce IntOp.andi x v reducesTo_S64x512x12_S_d0_1_2 h_S_) main_v11 main_c_4
  let main_v13 : IVec S2048x2x128 32 := (extui 32 · natLt_8_32) main_arg2
  let main_c_5 : IVec S_ 32 := constantI S_ 32 127#32
  let main_v14 : IVec S2048x2x128 32 := broadcastInDim S2048x2x128 ![] bcast_S_S2048x2x128 main_c_5
  let main_v15 : IVec S2048x2x128 32 := andi main_v13 main_v14
  fn_part1 (F := F) main_arg3 main_arg6 main_arg7 main_v5 main_v9 main_v12 main_v15
-- ==== Kernel.lean ====
abbrev S64x512x12x128 : Shape := ⟨4, ![64, 512, 12, 128]⟩
abbrev S64x512x12 : Shape := ⟨3, ![64, 512, 12]⟩
abbrev S2048x2x128 : Shape := ⟨3, ![2048, 2, 128]⟩
abbrev S2048x2 : Shape := ⟨2, ![2048, 2]⟩
abbrev S64x512x2x128 : Shape := ⟨4, ![64, 512, 2, 128]⟩
abbrev S64x512x2 : Shape := ⟨3, ![64, 512, 2]⟩
abbrev S64x512x1536 : Shape := ⟨3, ![64, 512, 1536]⟩
abbrev S64x12x512 : Shape := ⟨3, ![64, 12, 512]⟩
abbrev S2048x256 : Shape := ⟨2, ![2048, 256]⟩
abbrev S64x512x256 : Shape := ⟨3, ![64, 512, 256]⟩
abbrev S1x512x1536 : Shape := ⟨3, ![1, 512, 1536]⟩
abbrev S1x12x512 : Shape := ⟨3, ![1, 12, 512]⟩
abbrev S1x512x256 : Shape := ⟨3, ![1, 512, 256]⟩
abbrev S1x512x2 : Shape := ⟨3, ![1, 512, 2]⟩
abbrev S2x2048x128 : Shape := ⟨3, ![2, 2048, 128]⟩
abbrev S2x128x2048 : Shape := ⟨3, ![2, 128, 2048]⟩
abbrev S2x512x128 : Shape := ⟨3, ![2, 512, 128]⟩
abbrev S2x128x512 : Shape := ⟨3, ![2, 128, 512]⟩
abbrev S2048x1 : Shape := ⟨2, ![2048, 1]⟩
abbrev S2048x128 : Shape := ⟨2, ![2048, 128]⟩
abbrev S1x2048x128 : Shape := ⟨3, ![1, 2048, 128]⟩
abbrev S128x2048 : Shape := ⟨2, ![128, 2048]⟩
abbrev S1x128x2048 : Shape := ⟨3, ![1, 128, 2048]⟩
abbrev S1x512x1 : Shape := ⟨3, ![1, 512, 1]⟩
abbrev S512x1 : Shape := ⟨2, ![512, 1]⟩
abbrev S512x128 : Shape := ⟨2, ![512, 128]⟩
abbrev S1x512x128 : Shape := ⟨3, ![1, 512, 128]⟩
abbrev S128x512 : Shape := ⟨2, ![128, 512]⟩
abbrev S1x128x512 : Shape := ⟨3, ![1, 128, 512]⟩
abbrev S1x256x128 : Shape := ⟨3, ![1, 256, 128]⟩
abbrev S256x128 : Shape := ⟨2, ![256, 128]⟩
abbrev S1x1x256 : Shape := ⟨3, ![1, 1, 256]⟩
abbrev S1x256 : Shape := ⟨2, ![1, 256]⟩
abbrev S256 : Shape := ⟨1, ![256]⟩
abbrev S128x256 : Shape := ⟨2, ![128, 256]⟩
abbrev S256x256 : Shape := ⟨2, ![256, 256]⟩
abbrev S1x128x256 : Shape := ⟨3, ![1, 128, 256]⟩
abbrev S512x256 : Shape := ⟨2, ![512, 256]⟩

abbrev nBuf : Space → Nat
  | .hbm => 22
  | .vmem => 26
  | .smem => 0
  | _ => 0

abbrev bufTy : (tb : Table) → Fin (tcTables nBuf tb) → BufTy
  | .hbm, ⟨0, _⟩ => ⟨S64x512x12x128, .i8⟩
  | .hbm, ⟨1, _⟩ => ⟨S64x512x12, .f32⟩
  | .hbm, ⟨2, _⟩ => ⟨S2048x2x128, .i8⟩
  | .hbm, ⟨3, _⟩ => ⟨S2048x2, .f32⟩
  | .hbm, ⟨4, _⟩ => ⟨S2048x2x128, .fp8e4m3⟩
  | .hbm, ⟨5, _⟩ => ⟨S2048x2, .f32⟩
  | .hbm, ⟨6, _⟩ => ⟨S64x512x2x128, .i8⟩
  | .hbm, ⟨7, _⟩ => ⟨S64x512x2, .f32⟩
  | .hbm, ⟨8, _⟩ => ⟨S64x512x2x128, .fp8e4m3⟩
  | .hbm, ⟨9, _⟩ => ⟨S64x512x2, .f32⟩
  | .hbm, ⟨10, _⟩ => ⟨S64x512x12x128, .fp8e4m3⟩
  | .hbm, ⟨11, _⟩ => ⟨S2048x2x128, .fp8e4m3⟩
  | .hbm, ⟨12, _⟩ => ⟨S64x512x2x128, .fp8e4m3⟩
  | .hbm, ⟨13, _⟩ => ⟨S64x512x1536, .fp8e4m3⟩
  | .hbm, ⟨14, _⟩ => ⟨S64x12x512, .f32⟩
  | .hbm, ⟨15, _⟩ => ⟨S2048x256, .fp8e4m3⟩
  | .hbm, ⟨16, _⟩ => ⟨S2048x256, .fp8e4m3⟩
  | .hbm, ⟨17, _⟩ => ⟨S64x512x256, .fp8e4m3⟩
  | .hbm, ⟨18, _⟩ => ⟨S64x512x256, .fp8e4m3⟩
  | .hbm, ⟨19, _⟩ => ⟨S64x512x1536, .bf16⟩
  | .hbm, ⟨20, _⟩ => ⟨S64x12x512, .f32⟩
  | .hbm, ⟨21, _⟩ => ⟨S64x12x512, .f32⟩
  | .local _ .vmem, ⟨0, _⟩ => ⟨S1x512x1536, .fp8e4m3⟩
  | .local _ .vmem, ⟨1, _⟩ => ⟨S1x512x1536, .fp8e4m3⟩
  | .local _ .vmem, ⟨2, _⟩ => ⟨S1x12x512, .f32⟩
  | .local _ .vmem, ⟨3, _⟩ => ⟨S1x12x512, .f32⟩
  | .local _ .vmem, ⟨4, _⟩ => ⟨S2048x256, .fp8e4m3⟩
  | .local _ .vmem, ⟨5, _⟩ => ⟨S2048x2, .f32⟩
  | .local _ .vmem, ⟨6, _⟩ => ⟨S2048x256, .fp8e4m3⟩
  | .local _ .vmem, ⟨7, _⟩ => ⟨S2048x2, .f32⟩
  | .local _ .vmem, ⟨8, _⟩ => ⟨S1x512x256, .fp8e4m3⟩
  | .local _ .vmem, ⟨9, _⟩ => ⟨S1x512x256, .fp8e4m3⟩
  | .local _ .vmem, ⟨10, _⟩ => ⟨S1x512x2, .f32⟩
  | .local _ .vmem, ⟨11, _⟩ => ⟨S1x512x2, .f32⟩
  | .local _ .vmem, ⟨12, _⟩ => ⟨S1x512x256, .fp8e4m3⟩
  | .local _ .vmem, ⟨13, _⟩ => ⟨S1x512x256, .fp8e4m3⟩
  | .local _ .vmem, ⟨14, _⟩ => ⟨S1x512x2, .f32⟩
  | .local _ .vmem, ⟨15, _⟩ => ⟨S1x512x2, .f32⟩
  | .local _ .vmem, ⟨16, _⟩ => ⟨S1x512x1536, .bf16⟩
  | .local _ .vmem, ⟨17, _⟩ => ⟨S1x512x1536, .bf16⟩
  | .local _ .vmem, ⟨18, _⟩ => ⟨S1x12x512, .f32⟩
  | .local _ .vmem, ⟨19, _⟩ => ⟨S1x12x512, .f32⟩
  | .local _ .vmem, ⟨20, _⟩ => ⟨S1x12x512, .f32⟩
  | .local _ .vmem, ⟨21, _⟩ => ⟨S1x12x512, .f32⟩
  | .local _ .vmem, ⟨22, _⟩ => ⟨S2x2048x128, .f32⟩
  | .local _ .vmem, ⟨23, _⟩ => ⟨S2x128x2048, .bf16⟩
  | .local _ .vmem, ⟨24, _⟩ => ⟨S2x512x128, .f32⟩
  | .local _ .vmem, ⟨25, _⟩ => ⟨S2x128x512, .bf16⟩
  | _, _ => ⟨S64x512x12x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_28 : BitVec 32 := 0#32
  let c12_i32 : BitVec 32 := 12#32
  let v41 : BitVec 32 := Scalar.addi c0_i32_28 c12_i32
  let c1_i32 : BitVec 32 := 1#32
  ⟨c0_i32_28, v41, c1_i32⟩
def k0_mult1 (k0_t1 : Fin k0_t1_loop.trips) : BitVec 32 :=
  let c0_i32_28 : BitVec 32 := 0#32
  let c1_i32 : BitVec 32 := 1#32
  let arg18 : BitVec 32 := Scf.iv c0_i32_28 c1_i32 k0_t1
  let c128_i32 : BitVec 32 := 128#32
  let v59 : BitVec 32 := Scalar.muli arg18 c128_i32
  v59
def k0_mult2 (k0_t1 : Fin k0_t1_loop.trips) : BitVec 32 :=
  let c0_i32_28 : BitVec 32 := 0#32
  let c1_i32 : BitVec 32 := 1#32
  let arg18 : BitVec 32 := Scf.iv c0_i32_28 c1_i32 k0_t1
  let c0_i32_30 : BitVec 32 := 0#32
  let v43 : BitVec 1 := Scalar.cmpi .sgt arg18 c0_i32_30
  let v44 : BitVec 32 := Scalar.extui v43
  let c0_i32_31 : BitVec 32 := 0#32
  let v45 : BitVec 1 := Scalar.cmpi .slt arg18 c0_i32_31
  let v46 : BitVec 32 := Scalar.extui v45
  let v47 : BitVec 32 := Scalar.subi v44 v46
  let c6_i32 : BitVec 32 := 6#32
  let c0_i32_32 : BitVec 32 := 0#32
  let v48 : BitVec 1 := Scalar.cmpi .sgt c6_i32 c0_i32_32
  let v49 : BitVec 32 := Scalar.extui v48
  let c0_i32_33 : BitVec 32 := 0#32
  let v50 : BitVec 1 := Scalar.cmpi .slt c6_i32 c0_i32_33
  let v51 : BitVec 32 := Scalar.extui v50
  let v52 : BitVec 32 := Scalar.subi v49 v51
  let v53 : BitVec 1 := Scalar.cmpi .ne v47 v52
  let v54 : BitVec 32 := Scalar.remsi arg18 c6_i32
  let c0_i32_34 : BitVec 32 := 0#32
  let v55 : BitVec 1 := Scalar.cmpi .ne v54 c0_i32_34
  let v56 : BitVec 1 := Scalar.andi v53 v55
  let v42 : BitVec 32 := Scalar.divsi arg18 c6_i32
  let c1_i32_35 : BitVec 32 := 1#32
  let v57 : BitVec 32 := Scalar.subi v42 c1_i32_35
  let v58 : BitVec 32 := Scalar.select v56 v57 v42
  let c128_i32_36 : BitVec 32 := 128#32
  let v61 : BitVec 32 := Scalar.muli v58 c128_i32_36
  v61
def k0_off1 (k0_t1 : Fin k0_t1_loop.trips) : Fin 3 → Nat :=
  let c0_37 : Index := 0#32
  let c0_38 : Index := 0#32
  let c0_i32_28 : BitVec 32 := 0#32
  let c1_i32 : BitVec 32 := 1#32
  let arg18 : BitVec 32 := Scf.iv c0_i32_28 c1_i32 k0_t1
  let c128_i32 : BitVec 32 := 128#32
  let v59 : BitVec 32 := Scalar.muli arg18 c128_i32
  let v60 : BitVec 32 := v59
  let v63 : Index := Scalar.indexCast v60
  ![0, 0, v63.toNat]
def k0_off2 (k0_t1 : Fin k0_t1_loop.trips) : Fin 3 → Nat :=
  let c0_39 : Index := 0#32
  let c0_i32_28 : BitVec 32 := 0#32
  let c1_i32 : BitVec 32 := 1#32
  let arg18 : BitVec 32 := Scf.iv c0_i32_28 c1_i32 k0_t1
  let v66 : Index := Scalar.indexCast arg18
  let c0_40 : Index := 0#32
  ![0, v66.toNat, 0]
def k0_off3 (k0_t1 : Fin k0_t1_loop.trips) : Fin 2 → Nat :=
  let c0_41 : Index := 0#32
  let c0_i32_28 : BitVec 32 := 0#32
  let c1_i32 : BitVec 32 := 1#32
  let arg18 : BitVec 32 := Scf.iv c0_i32_28 c1_i32 k0_t1
  let c0_i32_30 : BitVec 32 := 0#32
  let v43 : BitVec 1 := Scalar.cmpi .sgt arg18 c0_i32_30
  let v44 : BitVec 32 := Scalar.extui v43
  let c0_i32_31 : BitVec 32 := 0#32
  let v45 : BitVec 1 := Scalar.cmpi .slt arg18 c0_i32_31
  let v46 : BitVec 32 := Scalar.extui v45
  let v47 : BitVec 32 := Scalar.subi v44 v46
  let c6_i32 : BitVec 32 := 6#32
  let c0_i32_32 : BitVec 32 := 0#32
  let v48 : BitVec 1 := Scalar.cmpi .sgt c6_i32 c0_i32_32
  let v49 : BitVec 32 := Scalar.extui v48
  let c0_i32_33 : BitVec 32 := 0#32
  let v50 : BitVec 1 := Scalar.cmpi .slt c6_i32 c0_i32_33
  let v51 : BitVec 32 := Scalar.extui v50
  let v52 : BitVec 32 := Scalar.subi v49 v51
  let v53 : BitVec 1 := Scalar.cmpi .ne v47 v52
  let v54 : BitVec 32 := Scalar.remsi arg18 c6_i32
  let c0_i32_34 : BitVec 32 := 0#32
  let v55 : BitVec 1 := Scalar.cmpi .ne v54 c0_i32_34
  let v56 : BitVec 1 := Scalar.andi v53 v55
  let v42 : BitVec 32 := Scalar.divsi arg18 c6_i32
  let c1_i32_35 : BitVec 32 := 1#32
  let v57 : BitVec 32 := Scalar.subi v42 c1_i32_35
  let v58 : BitVec 32 := Scalar.select v56 v57 v42
  let c128_i32_36 : BitVec 32 := 128#32
  let v61 : BitVec 32 := Scalar.muli v58 c128_i32_36
  let v62 : BitVec 32 := v61
  let v71 : Index := Scalar.indexCast v62
  ![0, v71.toNat]
def k0_off4 (k0_t1 : Fin k0_t1_loop.trips) : Fin 3 → Nat :=
  let c0_i32_28 : BitVec 32 := 0#32
  let c1_i32 : BitVec 32 := 1#32
  let arg18 : BitVec 32 := Scf.iv c0_i32_28 c1_i32 k0_t1
  let c0_i32_30 : BitVec 32 := 0#32
  let v43 : BitVec 1 := Scalar.cmpi .sgt arg18 c0_i32_30
  let v44 : BitVec 32 := Scalar.extui v43
  let c0_i32_31 : BitVec 32 := 0#32
  let v45 : BitVec 1 := Scalar.cmpi .slt arg18 c0_i32_31
  let v46 : BitVec 32 := Scalar.extui v45
  let v47 : BitVec 32 := Scalar.subi v44 v46
  let c6_i32 : BitVec 32 := 6#32
  let c0_i32_32 : BitVec 32 := 0#32
  let v48 : BitVec 1 := Scalar.cmpi .sgt c6_i32 c0_i32_32
  let v49 : BitVec 32 := Scalar.extui v48
  let c0_i32_33 : BitVec 32 := 0#32
  let v50 : BitVec 1 := Scalar.cmpi .slt c6_i32 c0_i32_33
  let v51 : BitVec 32 := Scalar.extui v50
  let v52 : BitVec 32 := Scalar.subi v49 v51
  let v53 : BitVec 1 := Scalar.cmpi .ne v47 v52
  let v54 : BitVec 32 := Scalar.remsi arg18 c6_i32
  let c0_i32_34 : BitVec 32 := 0#32
  let v55 : BitVec 1 := Scalar.cmpi .ne v54 c0_i32_34
  let v56 : BitVec 1 := Scalar.andi v53 v55
  let v42 : BitVec 32 := Scalar.divsi arg18 c6_i32
  let c1_i32_35 : BitVec 32 := 1#32
  let v57 : BitVec 32 := Scalar.subi v42 c1_i32_35
  let v58 : BitVec 32 := Scalar.select v56 v57 v42
  let v74 : Index := Scalar.indexCast v58
  let c0_42 : Index := 0#32
  let c0_43 : Index := 0#32
  ![v74.toNat, 0, 0]
def k0_off5 (k0_t1 : Fin k0_t1_loop.trips) : Fin 3 → Nat :=
  let c0_i32_28 : BitVec 32 := 0#32
  let c1_i32 : BitVec 32 := 1#32
  let arg18 : BitVec 32 := Scf.iv c0_i32_28 c1_i32 k0_t1
  let c0_i32_30 : BitVec 32 := 0#32
  let v43 : BitVec 1 := Scalar.cmpi .sgt arg18 c0_i32_30
  let v44 : BitVec 32 := Scalar.extui v43
  let c0_i32_31 : BitVec 32 := 0#32
  let v45 : BitVec 1 := Scalar.cmpi .slt arg18 c0_i32_31
  let v46 : BitVec 32 := Scalar.extui v45
  let v47 : BitVec 32 := Scalar.subi v44 v46
  let c6_i32 : BitVec 32 := 6#32
  let c0_i32_32 : BitVec 32 := 0#32
  let v48 : BitVec 1 := Scalar.cmpi .sgt c6_i32 c0_i32_32
  let v49 : BitVec 32 := Scalar.extui v48
  let c0_i32_33 : BitVec 32 := 0#32
  let v50 : BitVec 1 := Scalar.cmpi .slt c6_i32 c0_i32_33
  let v51 : BitVec 32 := Scalar.extui v50
  let v52 : BitVec 32 := Scalar.subi v49 v51
  let v53 : BitVec 1 := Scalar.cmpi .ne v47 v52
  let v54 : BitVec 32 := Scalar.remsi arg18 c6_i32
  let c0_i32_34 : BitVec 32 := 0#32
  let v55 : BitVec 1 := Scalar.cmpi .ne v54 c0_i32_34
  let v56 : BitVec 1 := Scalar.andi v53 v55
  let v42 : BitVec 32 := Scalar.divsi arg18 c6_i32
  let c1_i32_35 : BitVec 32 := 1#32
  let v57 : BitVec 32 := Scalar.subi v42 c1_i32_35
  let v58 : BitVec 32 := Scalar.select v56 v57 v42
  let v77 : Index := Scalar.indexCast v58
  let c0_44 : Index := 0#32
  let c0_45 : Index := 0#32
  ![v77.toNat, 0, 0]
def k0_off6 (k0_t1 : Fin k0_t1_loop.trips) : Fin 3 → Nat :=
  let c0_51 : Index := 0#32
  let c0_52 : Index := 0#32
  let c0_i32_28 : BitVec 32 := 0#32
  let c1_i32 : BitVec 32 := 1#32
  let arg18 : BitVec 32 := Scf.iv c0_i32_28 c1_i32 k0_t1
  let c0_i32_30 : BitVec 32 := 0#32
  let v43 : BitVec 1 := Scalar.cmpi .sgt arg18 c0_i32_30
  let v44 : BitVec 32 := Scalar.extui v43
  let c0_i32_31 : BitVec 32 := 0#32
  let v45 : BitVec 1 := Scalar.cmpi .slt arg18 c0_i32_31
  let v46 : BitVec 32 := Scalar.extui v45
  let v47 : BitVec 32 := Scalar.subi v44 v46
  let c6_i32 : BitVec 32 := 6#32
  let c0_i32_32 : BitVec 32 := 0#32
  let v48 : BitVec 1 := Scalar.cmpi .sgt c6_i32 c0_i32_32
  let v49 : BitVec 32 := Scalar.extui v48
  let c0_i32_33 : BitVec 32 := 0#32
  let v50 : BitVec 1 := Scalar.cmpi .slt c6_i32 c0_i32_33
  let v51 : BitVec 32 := Scalar.extui v50
  let v52 : BitVec 32 := Scalar.subi v49 v51
  let v53 : BitVec 1 := Scalar.cmpi .ne v47 v52
  let v54 : BitVec 32 := Scalar.remsi arg18 c6_i32
  let c0_i32_34 : BitVec 32 := 0#32
  let v55 : BitVec 1 := Scalar.cmpi .ne v54 c0_i32_34
  let v56 : BitVec 1 := Scalar.andi v53 v55
  let v42 : BitVec 32 := Scalar.divsi arg18 c6_i32
  let c1_i32_35 : BitVec 32 := 1#32
  let v57 : BitVec 32 := Scalar.subi v42 c1_i32_35
  let v58 : BitVec 32 := Scalar.select v56 v57 v42
  let c128_i32_36 : BitVec 32 := 128#32
  let v61 : BitVec 32 := Scalar.muli v58 c128_i32_36
  let v62 : BitVec 32 := v61
  let v100 : Index := Scalar.indexCast v62
  ![0, 0, v100.toNat]
def k0_off7 (k0_t1 : Fin k0_t1_loop.trips) : Fin 3 → Nat :=
  let c0_i32_28 : BitVec 32 := 0#32
  let c1_i32 : BitVec 32 := 1#32
  let arg18 : BitVec 32 := Scf.iv c0_i32_28 c1_i32 k0_t1
  let c0_i32_30 : BitVec 32 := 0#32
  let v43 : BitVec 1 := Scalar.cmpi .sgt arg18 c0_i32_30
  let v44 : BitVec 32 := Scalar.extui v43
  let c0_i32_31 : BitVec 32 := 0#32
  let v45 : BitVec 1 := Scalar.cmpi .slt arg18 c0_i32_31
  let v46 : BitVec 32 := Scalar.extui v45
  let v47 : BitVec 32 := Scalar.subi v44 v46
  let c6_i32 : BitVec 32 := 6#32
  let c0_i32_32 : BitVec 32 := 0#32
  let v48 : BitVec 1 := Scalar.cmpi .sgt c6_i32 c0_i32_32
  let v49 : BitVec 32 := Scalar.extui v48
  let c0_i32_33 : BitVec 32 := 0#32
  let v50 : BitVec 1 := Scalar.cmpi .slt c6_i32 c0_i32_33
  let v51 : BitVec 32 := Scalar.extui v50
  let v52 : BitVec 32 := Scalar.subi v49 v51
  let v53 : BitVec 1 := Scalar.cmpi .ne v47 v52
  let v54 : BitVec 32 := Scalar.remsi arg18 c6_i32
  let c0_i32_34 : BitVec 32 := 0#32
  let v55 : BitVec 1 := Scalar.cmpi .ne v54 c0_i32_34
  let v56 : BitVec 1 := Scalar.andi v53 v55
  let v42 : BitVec 32 := Scalar.divsi arg18 c6_i32
  let c1_i32_35 : BitVec 32 := 1#32
  let v57 : BitVec 32 := Scalar.subi v42 c1_i32_35
  let v58 : BitVec 32 := Scalar.select v56 v57 v42
  let v103 : Index := Scalar.indexCast v58
  let c0_53 : Index := 0#32
  let c0_54 : Index := 0#32
  ![v103.toNat, 0, 0]
def k0_off8 (k0_t1 : Fin k0_t1_loop.trips) : Fin 3 → Nat :=
  let c0_i32_28 : BitVec 32 := 0#32
  let c1_i32 : BitVec 32 := 1#32
  let arg18 : BitVec 32 := Scf.iv c0_i32_28 c1_i32 k0_t1
  let c0_i32_30 : BitVec 32 := 0#32
  let v43 : BitVec 1 := Scalar.cmpi .sgt arg18 c0_i32_30
  let v44 : BitVec 32 := Scalar.extui v43
  let c0_i32_31 : BitVec 32 := 0#32
  let v45 : BitVec 1 := Scalar.cmpi .slt arg18 c0_i32_31
  let v46 : BitVec 32 := Scalar.extui v45
  let v47 : BitVec 32 := Scalar.subi v44 v46
  let c6_i32 : BitVec 32 := 6#32
  let c0_i32_32 : BitVec 32 := 0#32
  let v48 : BitVec 1 := Scalar.cmpi .sgt c6_i32 c0_i32_32
  let v49 : BitVec 32 := Scalar.extui v48
  let c0_i32_33 : BitVec 32 := 0#32
  let v50 : BitVec 1 := Scalar.cmpi .slt c6_i32 c0_i32_33
  let v51 : BitVec 32 := Scalar.extui v50
  let v52 : BitVec 32 := Scalar.subi v49 v51
  let v53 : BitVec 1 := Scalar.cmpi .ne v47 v52
  let v54 : BitVec 32 := Scalar.remsi arg18 c6_i32
  let c0_i32_34 : BitVec 32 := 0#32
  let v55 : BitVec 1 := Scalar.cmpi .ne v54 c0_i32_34
  let v56 : BitVec 1 := Scalar.andi v53 v55
  let v42 : BitVec 32 := Scalar.divsi arg18 c6_i32
  let c1_i32_35 : BitVec 32 := 1#32
  let v57 : BitVec 32 := Scalar.subi v42 c1_i32_35
  let v58 : BitVec 32 := Scalar.select v56 v57 v42
  let v106 : Index := Scalar.indexCast v58
  let c0_55 : Index := 0#32
  let c0_56 : Index := 0#32
  ![v106.toNat, 0, 0]
def k0_off9 (k0_t1 : Fin k0_t1_loop.trips) : Fin 3 → Nat :=
  let c0_75 : Index := 0#32
  let c256 : Index := 256#32
  let c0_i32_28 : BitVec 32 := 0#32
  let c1_i32 : BitVec 32 := 1#32
  let arg18 : BitVec 32 := Scf.iv c0_i32_28 c1_i32 k0_t1
  let c128_i32 : BitVec 32 := 128#32
  let v59 : BitVec 32 := Scalar.muli arg18 c128_i32
  let v60 : BitVec 32 := v59
  let v177 : Index := Scalar.indexCast v60
  ![0, 256, v177.toNat]
def k0_off10 (k0_t1 : Fin k0_t1_loop.trips) : Fin 3 → Nat :=
  let c0_76 : Index := 0#32
  let c0_i32_28 : BitVec 32 := 0#32
  let c1_i32 : BitVec 32 := 1#32
  let arg18 : BitVec 32 := Scf.iv c0_i32_28 c1_i32 k0_t1
  let v180 : Index := Scalar.indexCast arg18
  let c256_77 : Index := 256#32
  ![0, v180.toNat, 256]
def k0_off11 (k0_t1 : Fin k0_t1_loop.trips) : Fin 3 → Nat :=
  let c0_88 : Index := 0#32
  let c0_89 : Index := 0#32
  let c0_i32_28 : BitVec 32 := 0#32
  let c1_i32 : BitVec 32 := 1#32
  let arg18 : BitVec 32 := Scf.iv c0_i32_28 c1_i32 k0_t1
  let c0_i32_30 : BitVec 32 := 0#32
  let v43 : BitVec 1 := Scalar.cmpi .sgt arg18 c0_i32_30
  let v44 : BitVec 32 := Scalar.extui v43
  let c0_i32_31 : BitVec 32 := 0#32
  let v45 : BitVec 1 := Scalar.cmpi .slt arg18 c0_i32_31
  let v46 : BitVec 32 := Scalar.extui v45
  let v47 : BitVec 32 := Scalar.subi v44 v46
  let c6_i32 : BitVec 32 := 6#32
  let c0_i32_32 : BitVec 32 := 0#32
  let v48 : BitVec 1 := Scalar.cmpi .sgt c6_i32 c0_i32_32
  let v49 : BitVec 32 := Scalar.extui v48
  let c0_i32_33 : BitVec 32 := 0#32
  let v50 : BitVec 1 := Scalar.cmpi .slt c6_i32 c0_i32_33
  let v51 : BitVec 32 := Scalar.extui v50
  let v52 : BitVec 32 := Scalar.subi v49 v51
  let v53 : BitVec 1 := Scalar.cmpi .ne v47 v52
  let v54 : BitVec 32 := Scalar.remsi arg18 c6_i32
  let c0_i32_34 : BitVec 32 := 0#32
  let v55 : BitVec 1 := Scalar.cmpi .ne v54 c0_i32_34
  let v56 : BitVec 1 := Scalar.andi v53 v55
  let v42 : BitVec 32 := Scalar.divsi arg18 c6_i32
  let c1_i32_35 : BitVec 32 := 1#32
  let v57 : BitVec 32 := Scalar.subi v42 c1_i32_35
  let v58 : BitVec 32 := Scalar.select v56 v57 v42
  let c128_i32_36 : BitVec 32 := 128#32
  let v61 : BitVec 32 := Scalar.muli v58 c128_i32_36
  let v62 : BitVec 32 := v61
  let v214 : Index := Scalar.indexCast v62
  ![0, 0, v214.toNat]
def k0_off12 (k0_t1 : Fin k0_t1_loop.trips) : Fin 3 → Nat :=
  let c0_i32_28 : BitVec 32 := 0#32
  let c1_i32 : BitVec 32 := 1#32
  let arg18 : BitVec 32 := Scf.iv c0_i32_28 c1_i32 k0_t1
  let c0_i32_30 : BitVec 32 := 0#32
  let v43 : BitVec 1 := Scalar.cmpi .sgt arg18 c0_i32_30
  let v44 : BitVec 32 := Scalar.extui v43
  let c0_i32_31 : BitVec 32 := 0#32
  let v45 : BitVec 1 := Scalar.cmpi .slt arg18 c0_i32_31
  let v46 : BitVec 32 := Scalar.extui v45
  let v47 : BitVec 32 := Scalar.subi v44 v46
  let c6_i32 : BitVec 32 := 6#32
  let c0_i32_32 : BitVec 32 := 0#32
  let v48 : BitVec 1 := Scalar.cmpi .sgt c6_i32 c0_i32_32
  let v49 : BitVec 32 := Scalar.extui v48
  let c0_i32_33 : BitVec 32 := 0#32
  let v50 : BitVec 1 := Scalar.cmpi .slt c6_i32 c0_i32_33
  let v51 : BitVec 32 := Scalar.extui v50
  let v52 : BitVec 32 := Scalar.subi v49 v51
  let v53 : BitVec 1 := Scalar.cmpi .ne v47 v52
  let v54 : BitVec 32 := Scalar.remsi arg18 c6_i32
  let c0_i32_34 : BitVec 32 := 0#32
  let v55 : BitVec 1 := Scalar.cmpi .ne v54 c0_i32_34
  let v56 : BitVec 1 := Scalar.andi v53 v55
  let v42 : BitVec 32 := Scalar.divsi arg18 c6_i32
  let c1_i32_35 : BitVec 32 := 1#32
  let v57 : BitVec 32 := Scalar.subi v42 c1_i32_35
  let v58 : BitVec 32 := Scalar.select v56 v57 v42
  let v217 : Index := Scalar.indexCast v58
  let c0_90 : Index := 0#32
  let c0_91 : Index := 0#32
  ![v217.toNat, 0, 0]
def k0_off13 (k0_t1 : Fin k0_t1_loop.trips) : Fin 3 → Nat :=
  let c0_i32_28 : BitVec 32 := 0#32
  let c1_i32 : BitVec 32 := 1#32
  let arg18 : BitVec 32 := Scf.iv c0_i32_28 c1_i32 k0_t1
  let c0_i32_30 : BitVec 32 := 0#32
  let v43 : BitVec 1 := Scalar.cmpi .sgt arg18 c0_i32_30
  let v44 : BitVec 32 := Scalar.extui v43
  let c0_i32_31 : BitVec 32 := 0#32
  let v45 : BitVec 1 := Scalar.cmpi .slt arg18 c0_i32_31
  let v46 : BitVec 32 := Scalar.extui v45
  let v47 : BitVec 32 := Scalar.subi v44 v46
  let c6_i32 : BitVec 32 := 6#32
  let c0_i32_32 : BitVec 32 := 0#32
  let v48 : BitVec 1 := Scalar.cmpi .sgt c6_i32 c0_i32_32
  let v49 : BitVec 32 := Scalar.extui v48
  let c0_i32_33 : BitVec 32 := 0#32
  let v50 : BitVec 1 := Scalar.cmpi .slt c6_i32 c0_i32_33
  let v51 : BitVec 32 := Scalar.extui v50
  let v52 : BitVec 32 := Scalar.subi v49 v51
  let v53 : BitVec 1 := Scalar.cmpi .ne v47 v52
  let v54 : BitVec 32 := Scalar.remsi arg18 c6_i32
  let c0_i32_34 : BitVec 32 := 0#32
  let v55 : BitVec 1 := Scalar.cmpi .ne v54 c0_i32_34
  let v56 : BitVec 1 := Scalar.andi v53 v55
  let v42 : BitVec 32 := Scalar.divsi arg18 c6_i32
  let c1_i32_35 : BitVec 32 := 1#32
  let v57 : BitVec 32 := Scalar.subi v42 c1_i32_35
  let v58 : BitVec 32 := Scalar.select v56 v57 v42
  let v220 : Index := Scalar.indexCast v58
  let c0_92 : Index := 0#32
  let c0_93 : Index := 0#32
  ![v220.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x12x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x12x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "ln_2" => some ((Real.log 2 : ℝ) : EReal)
  | "ln_past" => some ((Real.log 2048 : ℝ) : EReal)
  | "log2_e" => some (((Real.log 2)⁻¹ : ℝ) : EReal)
  | "score_scale" => some (((Real.sqrt 128)⁻¹ * (Real.log 2)⁻¹ : ℝ) : EReal)
  | _ => none
-- ==== ReferenceIdeal.lean ====
abbrev S64x512x12x128 : Shape := ⟨4, ![64, 512, 12, 128]⟩
abbrev S64x512x12 : Shape := ⟨3, ![64, 512, 12]⟩
abbrev S2048x2x128 : Shape := ⟨3, ![2048, 2, 128]⟩
abbrev S2048x2 : Shape := ⟨2, ![2048, 2]⟩
abbrev S64x512x2x128 : Shape := ⟨4, ![64, 512, 2, 128]⟩
abbrev S64x512x2 : Shape := ⟨3, ![64, 512, 2]⟩
abbrev S64x512x2x6x128 : Shape := ⟨5, ![64, 512, 2, 6, 128]⟩
abbrev S2x64x512x6x128 : Shape := ⟨5, ![2, 64, 512, 6, 128]⟩
abbrev S64x512x2x6 : Shape := ⟨4, ![64, 512, 2, 6]⟩
abbrev S2x64x512x6 : Shape := ⟨4, ![2, 64, 512, 6]⟩
abbrev S2x64x512x128 : Shape := ⟨4, ![2, 64, 512, 128]⟩
abbrev S2x64x512 : Shape := ⟨3, ![2, 64, 512]⟩
abbrev S2x2048x128 : Shape := ⟨3, ![2, 2048, 128]⟩
abbrev S2x2048 : Shape := ⟨2, ![2, 2048]⟩
abbrev S2x1x1x1x2048 : Shape := ⟨5, ![2, 1, 1, 1, 2048]⟩
abbrev S2x64x512x6x2048 : Shape := ⟨5, ![2, 64, 512, 6, 2048]⟩
abbrev S2x64x512x6x1 : Shape := ⟨5, ![2, 64, 512, 6, 1]⟩
abbrev S_ : Shape := ⟨0, ![]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S2x64x1x1x512 : Shape := ⟨5, ![2, 64, 1, 1, 512]⟩
abbrev S1x1x512x1x512 : Shape := ⟨5, ![1, 1, 512, 1, 512]⟩
abbrev S2x64x512x6x512 : Shape := ⟨5, ![2, 64, 512, 6, 512]⟩
abbrev S64x512x1536 : Shape := ⟨3, ![64, 512, 1536]⟩
abbrev S1x512x1 : Shape := ⟨3, ![1, 512, 1]⟩
abbrev S64x12x512 : Shape := ⟨3, ![64, 12, 512]⟩

abbrev nBuf : Space → Nat
  | .hbm => 144
  | .vmem => 10
  | .smem => 0
  | _ => 0

abbrev hbmTy0_0 (i : Nat) : BufTy := match i % 128 with
  | 0 => ⟨S64x512x12x128, .i8⟩
  | 1 => ⟨S64x512x12, .f32⟩
  | 2 => ⟨S2048x2x128, .i8⟩
  | 3 => ⟨S2048x2, .f32⟩
  | 4 => ⟨S2048x2x128, .fp8e4m3⟩
  | 5 => ⟨S2048x2, .f32⟩
  | 6 => ⟨S64x512x2x128, .i8⟩
  | 7 => ⟨S64x512x2, .f32⟩
  | 8 => ⟨S64x512x2x128, .fp8e4m3⟩
  | 9 => ⟨S64x512x2, .f32⟩
  | 10 => ⟨S64x512x12x128, .fp8e4m3⟩
  | 11 => ⟨S2048x2x128, .fp8e4m3⟩
  | 12 => ⟨S64x512x2x128, .fp8e4m3⟩
  | 13 => ⟨S64x512x12x128, .f32⟩
  | 14 => ⟨S2048x2x128, .f32⟩
  | 15 => ⟨S2048x2x128, .bf16⟩
  | 16 => ⟨S64x512x2x128, .f32⟩
  | 17 => ⟨S64x512x2x128, .bf16⟩
  | 18 => ⟨S64x512x2x6x128, .f32⟩
  | 19 => ⟨S2x64x512x6x128, .f32⟩
  | 20 => ⟨S64x512x2x6, .f32⟩
  | 21 => ⟨S2x64x512x6, .f32⟩
  | 22 => ⟨S2x64x512x128, .f32⟩
  | 23 => ⟨S2x64x512, .f32⟩
  | 24 => ⟨S2x64x512x128, .bf16⟩
  | 25 => ⟨S2x64x512, .f32⟩
  | 26 => ⟨S2x2048x128, .f32⟩
  | 27 => ⟨S2x2048, .f32⟩
  | 28 => ⟨S2x2048x128, .bf16⟩
  | 29 => ⟨S2x2048, .f32⟩
  | 30 => ⟨S2x1x1x1x2048, .f32⟩
  | 31 => ⟨S2x1x1x1x2048, .f32⟩
  | 32 => ⟨S2x64x512x6x2048, .f32⟩
  | 33 => ⟨S2x64x512x6x1, .f32⟩
  | 34 => ⟨S2x64x512x6x2048, .f32⟩
  | 35 => ⟨S2x64x512x6x2048, .f32⟩
  | 36 => ⟨S2x64x512x6x2048, .f32⟩
  | 37 => ⟨S2x64x512x6x2048, .f32⟩
  | 38 => ⟨S_, .f32⟩
  | 39 => ⟨S_, .f32⟩
  | 40 => ⟨S2x64x512x6x2048, .f32⟩
  | 41 => ⟨S2x64x512x6x2048, .f32⟩
  | 42 => ⟨S_, .f32⟩
  | 43 => ⟨S2x64x512x6, .f32⟩
  | 44 => ⟨S2x64x512x6x1, .f32⟩
  | 45 => ⟨S2x64x512x6x2048, .f32⟩
  | 46 => ⟨S2x64x512x6x2048, .f32⟩
  | 47 => ⟨S2x64x512x6x2048, .f32⟩
  | 48 => ⟨S_, .f32⟩
  | 49 => ⟨S2x64x512x6, .f32⟩
  | 50 => ⟨S2x64x512x6x2048, .f32⟩
  | 51 => ⟨S2x64x512x6x2048, .f32⟩
  | 52 => ⟨S2x64x512x6x2048, .bf16⟩
  | 53 => ⟨S2x64x512x6x128, .f32⟩
  | 54 => ⟨S2x64x512x6x1, .f32⟩
  | 55 => ⟨S2x64x512x6x128, .f32⟩
  | 56 => ⟨S2x64x512x6x128, .f32⟩
  | 57 => ⟨S2x64x512x6, .f32⟩
  | 58 => ⟨S2x64x512x6, .f32⟩
  | 59 => ⟨S2x64x512x6, .f32⟩
  | 60 => ⟨S512, .i32⟩
  | 61 => ⟨S1x512, .i32⟩
  | 62 => ⟨S512x1, .i32⟩
  | 63 => ⟨S512x512, .i32⟩
  | 64 => ⟨S512x512, .i32⟩
  | 65 => ⟨S512x512, .i1⟩
  | 66 => ⟨S2x64x1x1x512, .f32⟩
  | 67 => ⟨S2x64x1x1x512, .f32⟩
  | 68 => ⟨S1x1x512x1x512, .i1⟩
  | 69 => ⟨S2x64x512x6x512, .f32⟩
  | 70 => ⟨S2x64x512x6x1, .f32⟩
  | 71 => ⟨S2x64x512x6x512, .f32⟩
  | 72 => ⟨S2x64x512x6x512, .f32⟩
  | 73 => ⟨S2x64x512x6x512, .f32⟩
  | 74 => ⟨S2x64x512x6x512, .f32⟩
  | 75 => ⟨S_, .f32⟩
  | 76 => ⟨S_, .f32⟩
  | 77 => ⟨S2x64x512x6x512, .f32⟩
  | 78 => ⟨S2x64x512x6x512, .f32⟩
  | 79 => ⟨S_, .f32⟩
  | 80 => ⟨S_, .f32⟩
  | 81 => ⟨S2x64x512x6x512, .i1⟩
  | 82 => ⟨S2x64x512x6x512, .f32⟩
  | 83 => ⟨S2x64x512x6x512, .f32⟩
  | 84 => ⟨S_, .f32⟩
  | 85 => ⟨S2x64x512x6, .f32⟩
  | 86 => ⟨S2x64x512x6x1, .f32⟩
  | 87 => ⟨S2x64x512x6x512, .f32⟩
  | 88 => ⟨S2x64x512x6x512, .f32⟩
  | 89 => ⟨S2x64x512x6x512, .f32⟩
  | 90 => ⟨S_, .f32⟩
  | 91 => ⟨S2x64x512x6, .f32⟩
  | 92 => ⟨S2x64x512x6x512, .f32⟩
  | 93 => ⟨S2x64x512x6x512, .f32⟩
  | 94 => ⟨S2x64x512x6x512, .bf16⟩
  | 95 => ⟨S2x64x512x6x128, .f32⟩
  | 96 => ⟨S2x64x512x6x1, .f32⟩
  | 97 => ⟨S2x64x512x6x128, .f32⟩
  | 98 => ⟨S2x64x512x6x128, .f32⟩
  | 99 => ⟨S2x64x512x6, .f32⟩
  | 100 => ⟨S2x64x512x6, .f32⟩
  | 101 => ⟨S2x64x512x6, .f32⟩
  | 102 => ⟨S2x64x512x6, .f32⟩
  | 103 => ⟨S2x64x512x6, .f32⟩
  | 104 => ⟨S2x64x512x6, .i1⟩
  | 105 => ⟨S2x64x512x6, .f32⟩
  | 106 => ⟨S2x64x512x6, .f32⟩
  | 107 => ⟨S2x64x512x6, .f32⟩
  | 108 => ⟨S2x64x512x6, .f32⟩
  | 109 => ⟨S2x64x512x6, .f32⟩
  | 110 => ⟨S2x64x512x6, .f32⟩
  | 111 => ⟨S2x64x512x6, .f32⟩
  | 112 => ⟨S2x64x512x6, .f32⟩
  | 113 => ⟨S2x64x512x6, .f32⟩
  | 114 => ⟨S2x64x512x6x1, .f32⟩
  | 115 => ⟨S2x64x512x6x128, .f32⟩
  | 116 => ⟨S2x64x512x6x128, .f32⟩
  | 117 => ⟨S2x64x512x6, .f32⟩
  | 118 => ⟨S2x64x512x6, .f32⟩
  | 119 => ⟨S2x64x512x6x1, .f32⟩
  | 120 => ⟨S2x64x512x6x128, .f32⟩
  | 121 => ⟨S2x64x512x6x128, .f32⟩
  | 122 => ⟨S2x64x512x6x128, .f32⟩
  | 123 => ⟨S2x64x512x6x128, .bf16⟩
  | 124 => ⟨S64x512x2x6x128, .bf16⟩
  | 125 => ⟨S64x512x1536, .bf16⟩
  | 126 => ⟨S64x512x2x6, .f32⟩
  | 127 => ⟨S64x512x12, .f32⟩
  | _ => ⟨S64x512x12x128, .i8⟩

abbrev hbmTy0_1 (i : Nat) : BufTy := match i % 128 with
  | 0 => ⟨S64x512x2x6, .f32⟩
  | 1 => ⟨S64x512x12, .f32⟩
  | 2 => ⟨S_, .f32⟩
  | 3 => ⟨S_, .f32⟩
  | 4 => ⟨S64x512x12, .f32⟩
  | 5 => ⟨S64x512x12, .f32⟩
  | 6 => ⟨S512, .f32⟩
  | 7 => ⟨S_, .f32⟩
  | 8 => ⟨S512, .f32⟩
  | 9 => ⟨S512, .f32⟩
  | 10 => ⟨S512, .f32⟩
  | 11 => ⟨S1x512x1, .f32⟩
  | 12 => ⟨S64x512x12, .f32⟩
  | 13 => ⟨S64x512x12, .f32⟩
  | 14 => ⟨S64x12x512, .f32⟩
  | 15 => ⟨S64x12x512, .f32⟩
  | _ => ⟨S64x512x12x128, .i8⟩

abbrev hbmTy (i : Nat) : BufTy := match i / 128 with
  | 0 => hbmTy0_0 i
  | 1 => hbmTy0_1 i
  | _ => ⟨S64x512x12x128, .i8⟩

abbrev bufTy : (tb : Table) → Fin (tcTables nBuf tb) → BufTy
  | .hbm, ⟨i, _⟩ => hbmTy i
  | .local _ .vmem, ⟨0, _⟩ => ⟨S64x512x12x128, .fp8e4m3⟩
  | .local _ .vmem, ⟨1, _⟩ => ⟨S2048x2x128, .fp8e4m3⟩
  | .local _ .vmem, ⟨2, _⟩ => ⟨S2048x2x128, .fp8e4m3⟩
  | .local _ .vmem, ⟨3, _⟩ => ⟨S64x512x2x128, .fp8e4m3⟩
  | .local _ .vmem, ⟨4, _⟩ => ⟨S64x512x2x128, .fp8e4m3⟩
  | .local _ .vmem, ⟨5, _⟩ => ⟨S64x512x12x128, .f32⟩
  | .local _ .vmem, ⟨6, _⟩ => ⟨S2048x2x128, .f32⟩
  | .local _ .vmem, ⟨7, _⟩ => ⟨S2048x2x128, .bf16⟩
  | .local _ .vmem, ⟨8, _⟩ => ⟨S64x512x2x128, .f32⟩
  | .local _ .vmem, ⟨9, _⟩ => ⟨S64x512x2x128, .bf16⟩
  | _, _ => ⟨S64x512x12x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_2 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_3 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_v61 : Ref sig .tc := ⟨.hbm, 83, rfl⟩
abbrev main_cst_4 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_5 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_6 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_7 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S64x512x12x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x512x2x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x512x2x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x512x12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x2x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x512x2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x512x2x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KTrip.lean ====
module
public import proofs.«01_k».proof.Proof.Gen.KernelIdeal.Loops
public import Idealize.ShloMosaic.Lib.Pipeline.ValueKit
/-! What one trip of the head loop stores: the six pieces of trip `k`, each a function of the CONTENTS of the
    buffers the trip loads from (the query block, its scales, the prefix keys, the request's keys, and the four
    scratch buffers). Tile 0 is queries 0..255 of the block, tile 1 is queries 256..511. -/
@[expose] public section
set_option maxRecDepth 16384
noncomputable section
namespace Cert.KernelIdeal.Gen
open Idealize.ShloMosaic Idealize.ShloMosaic.TcCoe Idealize.ShloMosaic.Tactic
open Idealize.SL.Sem
variable {F : FTy → Type} [FloatOps F] [Named F]

/-- Trip `k`'s loads, as rectangles of the buffers' contents. -/
abbrev kQ0 (Q : Vec F S1x512x1536 .fp8e4m3) (k : Fin k0_t1_loop.trips) : Vec F S1x256x128 .fp8e4m3 :=
  View.ld Q (Rect.unit (s := S1x512x1536) (k0_off1 k) S1x256x128.size (k0_off1_inb k))
abbrev kQ1 (Q : Vec F S1x512x1536 .fp8e4m3) (k : Fin k0_t1_loop.trips) : Vec F S1x256x128 .fp8e4m3 :=
  View.ld Q (Rect.unit (s := S1x512x1536) (k0_off9 k) S1x256x128.size (k0_off9_inb k))
abbrev kS0 (S : Vec F S1x12x512 .f32) (k : Fin k0_t1_loop.trips) : Vec F S1x1x256 .f32 :=
  View.ld S (Rect.unit (s := S1x12x512) (k0_off2 k) S1x1x256.size (k0_off2_inb k))
abbrev kS1 (S : Vec F S1x12x512 .f32) (k : Fin k0_t1_loop.trips) : Vec F S1x1x256 .f32 :=
  View.ld S (Rect.unit (s := S1x12x512) (k0_off10 k) S1x1x256.size (k0_off10_inb k))
abbrev kPK (P : Vec F S2048x256 .fp8e4m3) (k : Fin k0_t1_loop.trips) : Vec F S2048x128 .fp8e4m3 :=
  View.ld P (Rect.unit (s := S2048x256) (k0_off3 k) S2048x128.size (k0_off3_inb k))
abbrev kPS (P : Vec F S2x2048x128 .f32) (k : Fin k0_t1_loop.trips) : Vec F S1x2048x128 .f32 :=
  View.ld P (Rect.unit (s := S2x2048x128) (k0_off4 k) S1x2048x128.size (k0_off4_inb k))
abbrev kPV (P : Vec F S2x128x2048 .bf16) (k : Fin k0_t1_loop.trips) : Vec F S1x128x2048 .bf16 :=
  View.ld P (Rect.unit (s := S2x128x2048) (k0_off5 k) S1x128x2048.size (k0_off5_inb k))
abbrev kK0 (K : Vec F S1x512x256 .fp8e4m3) (k : Fin k0_t1_loop.trips) : Vec F S1x256x128 .fp8e4m3 :=
  View.ld K (Rect.unit (s := S1x512x256) (k0_off6 k) S1x256x128.size (k0_off6_inb k))
abbrev kKS0 (K : Vec F S2x512x128 .f32) (k : Fin k0_t1_loop.trips) : Vec F S1x256x128 .f32 :=
  View.ld K (Rect.unit (s := S2x512x128) (k0_off7 k) S1x256x128.size (k0_off7_inb k))
abbrev kVT0 (K : Vec F S2x128x512 .bf16) (k : Fin k0_t1_loop.trips) : Vec F S1x128x256 .bf16 :=
  View.ld K (Rect.unit (s := S2x128x512) (k0_off8 k) S1x128x256.size (k0_off8_inb k))
abbrev kK1 (K : Vec F S1x512x256 .fp8e4m3) (k : Fin k0_t1_loop.trips) : Vec F S1x512x128 .fp8e4m3 :=
  View.ld K (Rect.unit (s := S1x512x256) (k0_off11 k) S1x512x128.size (k0_off11_inb k))
abbrev kKS1 (K : Vec F S2x512x128 .f32) (k : Fin k0_t1_loop.trips) : Vec F S1x512x128 .f32 :=
  View.ld K (Rect.unit (s := S2x512x128) (k0_off12 k) S1x512x128.size (k0_off12_inb k))
abbrev kVT1 (K : Vec F S2x128x512 .bf16) (k : Fin k0_t1_loop.trips) : Vec F S1x128x512 .bf16 :=
  View.ld K (Rect.unit (s := S2x128x512) (k0_off13 k) S1x128x512.size (k0_off13_inb k))

/-- The three stores of tile 0, from the vectors it loads. -/
def t0Out (q : Vec F S1x256x128 .fp8e4m3) (s : Vec F S1x1x256 .f32) (pk : Vec F S2048x128 .fp8e4m3)
    (ps : Vec F S1x2048x128 .f32) (pv : Vec F S1x128x2048 .bf16) (kk : Vec F S1x256x128 .fp8e4m3)
    (ks : Vec F S1x256x128 .f32) (vt : Vec F S1x128x256 .bf16) : FVec F S1x256x128 .bf16 :=
  k0_pay26 (k0_pay17 (k0_pay10 s) (k0_pay11 ps) (k0_pay13 q pk))
    (k0_pay18 (k0_pay10 s) (k0_pay11 ps) (k0_pay12 pv) (k0_pay13 q pk))
    (k0_pay19 (k0_pay10 s) (k0_pay11 ps) (k0_pay13 q pk))
    (k0_pay23 (k0_pay9 q) (k0_pay10 s) kk ks) (k0_pay24 (k0_pay9 q) (k0_pay10 s) kk ks vt)
    (k0_pay25 (k0_pay9 q) (k0_pay10 s) kk ks)
def t0Lp (q : Vec F S1x256x128 .fp8e4m3) (s : Vec F S1x1x256 .f32) (pk : Vec F S2048x128 .fp8e4m3)
    (ps : Vec F S1x2048x128 .f32) : FVec F S1x1x256 .f32 :=
  k0_pay27 (k0_pay17 (k0_pay10 s) (k0_pay11 ps) (k0_pay13 q pk)) (k0_pay19 (k0_pay10 s) (k0_pay11 ps) (k0_pay13 q pk))
def t0Lc (q : Vec F S1x256x128 .fp8e4m3) (s : Vec F S1x1x256 .f32) (kk : Vec F S1x256x128 .fp8e4m3)
    (ks : Vec F S1x256x128 .f32) : FVec F S1x1x256 .f32 :=
  k0_pay29 (k0_pay28 (k0_pay23 (k0_pay9 q) (k0_pay10 s) kk ks) (k0_pay25 (k0_pay9 q) (k0_pay10 s) kk ks))

/-- The three stores of tile 1. -/
def t1Out (q : Vec F S1x256x128 .fp8e4m3) (s : Vec F S1x1x256 .f32) (pk : Vec F S2048x128 .fp8e4m3)
    (ps : Vec F S1x2048x128 .f32) (pv : Vec F S1x128x2048 .bf16) (kk : Vec F S1x512x128 .fp8e4m3)
    (ks : Vec F S1x512x128 .f32) (vt : Vec F S1x128x512 .bf16) : FVec F S1x256x128 .bf16 :=
  k0_pay2 (k0_pay44 (k0_pay30 q) (k0_pay31 s) (k0_pay35 q s pk ps) (k0_pay36 q s pk ps pv) (k0_pay37 q s pk ps)
    k0_pay38 kk ks vt)
def t1Lp (q : Vec F S1x256x128 .fp8e4m3) (s : Vec F S1x1x256 .f32) (pk : Vec F S2048x128 .fp8e4m3)
    (ps : Vec F S1x2048x128 .f32) : FVec F S1x1x256 .f32 :=
  k0_pay3 (k0_pay35 q s pk ps) (k0_pay37 q s pk ps)
def t1Lc (q : Vec F S1x256x128 .fp8e4m3) (s : Vec F S1x1x256 .f32) (kk : Vec F S1x512x128 .fp8e4m3)
    (ks : Vec F S1x512x128 .f32) : FVec F S1x1x256 .f32 :=
  k0_pay4 (k0_pay42 (k0_pay30 q) (k0_pay31 s) k0_pay38 kk ks) (k0_pay43 (k0_pay30 q) (k0_pay31 s) k0_pay38 kk ks)

set_option maxHeartbeats 4000000 in
/-- Trip `k`'s pieces of the three outputs, last store first. -/
theorem tripL_eq (𝒱 : Variants) (c : Dev nD) (bd : Option 𝒱.V) (i : grid0.Coords) (arg1 : Memref sig .tc .vmem S1x512x1536 .fp8e4m3) (harg1 : arg1.IsWhole) (arg2 : Memref sig .tc .vmem S1x12x512 .f32) (harg2 : arg2.IsWhole) (arg3 : Memref sig .tc .vmem S2048x256 .fp8e4m3) (harg3 : arg3.IsWhole) (arg4 : Memref sig .tc .vmem S2048x2 .f32) (harg4 : arg4.IsWhole) (arg5 : Memref sig .tc .vmem S2048x256 .fp8e4m3) (harg5 : arg5.IsWhole) (arg6 : Memref sig .tc .vmem S2048x2 .f32) (harg6 : arg6.IsWhole) (arg7 : Memref sig .tc .vmem S1x512x256 .fp8e4m3) (harg7 : arg7.IsWhole) (arg8 : Memref sig .tc .vmem S1x512x2 .f32) (harg8 : arg8.IsWhole) (arg9 : Memref sig .tc .vmem S1x512x256 .fp8e4m3) (harg9 : arg9.IsWhole) (arg10 : Memref sig .tc .vmem S1x512x2 .f32) (harg10 : arg10.IsWhole) (arg11 : Memref sig .tc .vmem S1x512x1536 .bf16) (harg11 : arg11.IsWhole) (arg12 : Memref sig .tc .vmem S1x12x512 .f32) (harg12 : arg12.IsWhole) (arg13 : Memref sig .tc .vmem S1x12x512 .f32) (harg13 : arg13.IsWhole) (arg14 : Memref sig .tc .vmem S2x2048x128 .f32) (harg14 : arg14.IsWhole) (arg15 : Memref sig .tc .vmem S2x128x2048 .bf16) (harg15 : arg15.IsWhole) (arg16 : Memref sig .tc .vmem S2x512x128 .f32) (harg16 : arg16.IsWhole) (arg17 : Memref sig .tc .vmem S2x128x512 .bf16) (harg17 : arg17.IsWhole) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg1 X_arg2 X_arg3 X_arg7 X_arg14 X_arg15 X_arg16 X_arg17 k =
      ([⟨Rect.unit (s := S1x512x1536) (k0_off9 k) S1x256x128.size (k0_off9_inb k),
          t1Out (kQ1 (arg1.view.read (Elt F) X_arg1) k) (kS1 (arg2.view.read (Elt F) X_arg2) k) (kPK (arg3.view.read (Elt F) X_arg3) k) (kPS (arg14.view.read (Elt F) X_arg14) k) (kPV (arg15.view.read (Elt F) X_arg15) k) (kK1 (arg7.view.read (Elt F) X_arg7) k) (kKS1 (arg16.view.read (Elt F) X_arg16) k) (kVT1 (arg17.view.read (Elt F) X_arg17) k)⟩,
        ⟨Rect.unit (s := S1x512x1536) (k0_off1 k) S1x256x128.size (k0_off1_inb k),
          t0Out (kQ0 (arg1.view.read (Elt F) X_arg1) k) (kS0 (arg2.view.read (Elt F) X_arg2) k) (kPK (arg3.view.read (Elt F) X_arg3) k) (kPS (arg14.view.read (Elt F) X_arg14) k) (kPV (arg15.view.read (Elt F) X_arg15) k) (kK0 (arg7.view.read (Elt F) X_arg7) k) (kKS0 (arg16.view.read (Elt F) X_arg16) k) (kVT0 (arg17.view.read (Elt F) X_arg17) k)⟩],
       [⟨Rect.unit (s := S1x12x512) (k0_off10 k) S1x1x256.size (k0_off10_inb k),
          t1Lp (kQ1 (arg1.view.read (Elt F) X_arg1) k) (kS1 (arg2.view.read (Elt F) X_arg2) k) (kPK (arg3.view.read (Elt F) X_arg3) k) (kPS (arg14.view.read (Elt F) X_arg14) k)⟩,
        ⟨Rect.unit (s := S1x12x512) (k0_off2 k) S1x1x256.size (k0_off2_inb k),
          t0Lp (kQ0 (arg1.view.read (Elt F) X_arg1) k) (kS0 (arg2.view.read (Elt F) X_arg2) k) (kPK (arg3.view.read (Elt F) X_arg3) k) (kPS (arg14.view.read (Elt F) X_arg14) k)⟩],
       [⟨Rect.unit (s := S1x12x512) (k0_off10 k) S1x1x256.size (k0_off10_inb k),
          t1Lc (kQ1 (arg1.view.read (Elt F) X_arg1) k) (kS1 (arg2.view.read (Elt F) X_arg2) k) (kK1 (arg7.view.read (Elt F) X_arg7) k) (kKS1 (arg16.view.read (Elt F) X_arg16) k)⟩,
        ⟨Rect.unit (s := S1x12x512) (k0_off2 k) S1x1x256.size (k0_off2_inb k),
          t0Lc (kQ0 (arg1.view.read (Elt F) X_arg1) k) (kS0 (arg2.view.read (Elt F) X_arg2) k) (kK0 (arg7.view.read (Elt F) X_arg7) k) (kKS0 (arg16.view.read (Elt F) X_arg16) k)⟩]) := by
  unfold tripL_k0_t1 trip_k0_t1
  rfl
end Cert.KernelIdeal.Gen
-- ==== Proof.KOff.lean ====
module
public import proofs.«01_k».proof.Proof.KTrip
public import Idealize.ShloMosaic.Lib.Pointwise
public import Idealize.ShloMosaic.Lib.Pipeline.ValueKit
/-! Where a trip's loads and stores lie: trip `k` works on query head `k`, whose key group is `k / 6`; tile 0 is the block's
    queries 0..255 and tile 1 its queries 256..511. -/
@[expose] public section
set_option maxRecDepth 16384
noncomputable section
namespace Cert.KernelIdeal.Gen
open Idealize.ShloMosaic Idealize.ShloMosaic.TcCoe Idealize.ShloMosaic.Tactic
open Idealize.SL.Sem
variable {F : FTy → Type} [FloatOps F] [Named F]

theorem trips12 : k0_t1_loop.trips = 12 := by decide +kernel

/-- Trip `k`'s head. -/
abbrev hd (k : Fin k0_t1_loop.trips) : Fin 12 := ⟨k.val, lt_of_lt_of_eq k.isLt trips12⟩
/-- The key group of head `h`. -/
abbrev gr (h : Fin 12) : Fin 2 := ⟨h.val / 6, by have := h.isLt; omega⟩
/-- Lane `e` of head `h` in a row of 12 heads, and of group `g` in a row of 2. -/
abbrev l12 (h : Fin 12) (e : Fin 128) : Fin 1536 := ⟨128 * h.val + e.val, by have := h.isLt; have := e.isLt; omega⟩
abbrev l2 (g : Fin 2) (e : Fin 128) : Fin 256 := ⟨128 * g.val + e.val, by have := g.isLt; have := e.isLt; omega⟩
/-- Row `i` of tile 0 and of tile 1. -/
abbrev lo (i : Fin 256) : Fin 512 := ⟨i.val, by have := i.isLt; omega⟩
abbrev hi (i : Fin 256) : Fin 512 := ⟨256 + i.val, by have := i.isLt; omega⟩

theorem off1 : ∀ k : Fin k0_t1_loop.trips, k0_off1 k = ![0, 0, 128 * k.val] := by decide +kernel
theorem off2 : ∀ k : Fin k0_t1_loop.trips, k0_off2 k = ![0, k.val, 0] := by decide +kernel
theorem off3 : ∀ k : Fin k0_t1_loop.trips, k0_off3 k = ![0, 128 * (k.val / 6)] := by decide +kernel
theorem off4 : ∀ k : Fin k0_t1_loop.trips, k0_off4 k = ![k.val / 6, 0, 0] := by decide +kernel
theorem off5 : ∀ k : Fin k0_t1_loop.trips, k0_off5 k = ![k.val / 6, 0, 0] := by decide +kernel
theorem off6 : ∀ k : Fin k0_t1_loop.trips, k0_off6 k = ![0, 0, 128 * (k.val / 6)] := by decide +kernel
theorem off7 : ∀ k : Fin k0_t1_loop.trips, k0_off7 k = ![k.val / 6, 0, 0] := by decide +kernel
theorem off8 : ∀ k : Fin k0_t1_loop.trips, k0_off8 k = ![k.val / 6, 0, 0] := by decide +kernel
theorem off9 : ∀ k : Fin k0_t1_loop.trips, k0_off9 k = ![0, 256, 128 * k.val] := by decide +kernel
theorem off10 : ∀ k : Fin k0_t1_loop.trips, k0_off10 k = ![0, k.val, 256] := by decide +kernel
theorem off11 : ∀ k : Fin k0_t1_loop.trips, k0_off11 k = ![0, 0, 128 * (k.val / 6)] := by decide +kernel
theorem off12 : ∀ k : Fin k0_t1_loop.trips, k0_off12 k = ![k.val / 6, 0, 0] := by decide +kernel
theorem off13 : ∀ k : Fin k0_t1_loop.trips, k0_off13 k = ![k.val / 6, 0, 0] := by decide +kernel

theorem kQ0_at (Q : Vec F S1x512x1536 .fp8e4m3) (k : Fin k0_t1_loop.trips) (i : Fin 256) (e : Fin 128) :
    kQ0 Q k (ix3 0 i e) = Q (ix3 0 (lo i) (l12 (hd k) e)) :=
  View.ld_unit_apply_of _ _ _ _ _ _ (by intro a; refine Eq.trans ?_ (congrArg (· + _) (congrFun (off1 k) a).symm); fin_cases a <;> first | rfl | exact (Nat.zero_add _).symm)
theorem kQ1_at (Q : Vec F S1x512x1536 .fp8e4m3) (k : Fin k0_t1_loop.trips) (i : Fin 256) (e : Fin 128) :
    kQ1 Q k (ix3 0 i e) = Q (ix3 0 (hi i) (l12 (hd k) e)) :=
  View.ld_unit_apply_of _ _ _ _ _ _ (by intro a; refine Eq.trans ?_ (congrArg (· + _) (congrFun (off9 k) a).symm); fin_cases a <;> first | rfl | exact (Nat.zero_add _).symm)
theorem kS0_at (S : Vec F S1x12x512 .f32) (k : Fin k0_t1_loop.trips) (i : Fin 256) :
    kS0 S k (ix3 0 0 i) = S (ix3 0 (hd k) (lo i)) :=
  View.ld_unit_apply_of _ _ _ _ _ _ (by intro a; refine Eq.trans ?_ (congrArg (· + _) (congrFun (off2 k) a).symm); fin_cases a <;> first | rfl | exact (Nat.zero_add _).symm)
theorem kS1_at (S : Vec F S1x12x512 .f32) (k : Fin k0_t1_loop.trips) (i : Fin 256) :
    kS1 S k (ix3 0 0 i) = S (ix3 0 (hd k) (hi i)) :=
  View.ld_unit_apply_of _ _ _ _ _ _ (by intro a; refine Eq.trans ?_ (congrArg (· + _) (congrFun (off10 k) a).symm); fin_cases a <;> first | rfl | exact (Nat.zero_add _).symm)
theorem kPK_at (P : Vec F S2048x256 .fp8e4m3) (k : Fin k0_t1_loop.trips) (n : Fin 2048) (e : Fin 128) :
    kPK P k (ix2 n e) = P (ix2 n (l2 (gr (hd k)) e)) :=
  View.ld_unit_apply_of _ _ _ _ _ _ (by intro a; refine Eq.trans ?_ (congrArg (· + _) (congrFun (off3 k) a).symm); fin_cases a <;> first | rfl | exact (Nat.zero_add _).symm)
theorem kPS_at (P : Vec F S2x2048x128 .f32) (k : Fin k0_t1_loop.trips) (n : Fin 2048) (j : Fin 128) :
    kPS P k (ix3 0 n j) = P (ix3 (gr (hd k)) n j) :=
  View.ld_unit_apply_of _ _ _ _ _ _ (by intro a; refine Eq.trans ?_ (congrArg (· + _) (congrFun (off4 k) a).symm); fin_cases a <;> first | rfl | exact (Nat.zero_add _).symm)
theorem kPV_at (P : Vec F S2x128x2048 .bf16) (k : Fin k0_t1_loop.trips) (d : Fin 128) (n : Fin 2048) :
    kPV P k (ix3 0 d n) = P (ix3 (gr (hd k)) d n) :=
  View.ld_unit_apply_of _ _ _ _ _ _ (by intro a; refine Eq.trans ?_ (congrArg (· + _) (congrFun (off5 k) a).symm); fin_cases a <;> first | rfl | exact (Nat.zero_add _).symm)
theorem kK0_at (K : Vec F S1x512x256 .fp8e4m3) (k : Fin k0_t1_loop.trips) (n : Fin 256) (e : Fin 128) :
    kK0 K k (ix3 0 n e) = K (ix3 0 (lo n) (l2 (gr (hd k)) e)) :=
  View.ld_unit_apply_of _ _ _ _ _ _ (by intro a; refine Eq.trans ?_ (congrArg (· + _) (congrFun (off6 k) a).symm); fin_cases a <;> first | rfl | exact (Nat.zero_add _).symm)
theorem kKS0_at (K : Vec F S2x512x128 .f32) (k : Fin k0_t1_loop.trips) (n : Fin 256) (j : Fin 128) :
    kKS0 K k (ix3 0 n j) = K (ix3 (gr (hd k)) (lo n) j) :=
  View.ld_unit_apply_of _ _ _ _ _ _ (by intro a; refine Eq.trans ?_ (congrArg (· + _) (congrFun (off7 k) a).symm); fin_cases a <;> first | rfl | exact (Nat.zero_add _).symm)
theorem kVT0_at (K : Vec F S2x128x512 .bf16) (k : Fin k0_t1_loop.trips) (d : Fin 128) (n : Fin 256) :
    kVT0 K k (ix3 0 d n) = K (ix3 (gr (hd k)) d (lo n)) :=
  View.ld_unit_apply_of _ _ _ _ _ _ (by intro a; refine Eq.trans ?_ (congrArg (· + _) (congrFun (off8 k) a).symm); fin_cases a <;> first | rfl | exact (Nat.zero_add _).symm)
theorem kK1_at (K : Vec F S1x512x256 .fp8e4m3) (k : Fin k0_t1_loop.trips) (n : Fin 512) (e : Fin 128) :
    kK1 K k (ix3 0 n e) = K (ix3 0 n (l2 (gr (hd k)) e)) :=
  View.ld_unit_apply_of _ _ _ _ _ _ (by intro a; refine Eq.trans ?_ (congrArg (· + _) (congrFun (off11 k) a).symm); fin_cases a <;> first | rfl | exact (Nat.zero_add _).symm)
theorem kKS1_at (K : Vec F S2x512x128 .f32) (k : Fin k0_t1_loop.trips) (n : Fin 512) (j : Fin 128) :
    kKS1 K k (ix3 0 n j) = K (ix3 (gr (hd k)) n j) :=
  View.ld_unit_apply_of _ _ _ _ _ _ (by intro a; refine Eq.trans ?_ (congrArg (· + _) (congrFun (off12 k) a).symm); fin_cases a <;> first | rfl | exact (Nat.zero_add _).symm)
theorem kVT1_at (K : Vec F S2x128x512 .bf16) (k : Fin k0_t1_loop.trips) (d : Fin 128) (n : Fin 512) :
    kVT1 K k (ix3 0 d n) = K (ix3 (gr (hd k)) d n) :=
  View.ld_unit_apply_of _ _ _ _ _ _ (by intro a; refine Eq.trans ?_ (congrArg (· + _) (congrFun (off13 k) a).symm); fin_cases a <;> first | rfl | exact (Nat.zero_add _).symm)

/-- Every piece of `L` holds `f` at its place. -/
def PiecesAre {S : Shape} {e : EltTy} (L : List (View.Piece (Elt Ideal) S e)) (f : S.Idx → Elt Ideal e) : Prop :=
  ∀ p ∈ L, ∀ x, p.2 x = f (p.1.emb x)
theorem PiecesAre.nil {S : Shape} {e : EltTy} (f : S.Idx → Elt Ideal e) : PiecesAre [] f := fun p hp => absurd hp List.not_mem_nil
theorem PiecesAre.cons {S : Shape} {e : EltTy} {p : View.Piece (Elt Ideal) S e} {L : List (View.Piece (Elt Ideal) S e)}
    {f : S.Idx → Elt Ideal e} (h : ∀ x, p.2 x = f (p.1.emb x)) (hL : PiecesAre L f) : PiecesAre (p :: L) f := fun q hq x => by
  rcases List.mem_cons.1 hq with e | hq
  · subst e; exact h x
  · exact hL q hq x
theorem PiecesAre.append {S : Shape} {e : EltTy} {L M : List (View.Piece (Elt Ideal) S e)} {f : S.Idx → Elt Ideal e}
    (hL : PiecesAre L f) (hM : PiecesAre M f) : PiecesAre (L ++ M) f := fun p hp x => by
  rcases List.mem_append.1 hp with h | h
  · exact hL p h x
  · exact hM p h x
/-- Pieces that hold `f` and cover the buffer leave it at `f`. -/
theorem PiecesAre.canon {S : Shape} {e : EltTy} {L : List (View.Piece (Elt Ideal) S e)} {f : S.Idx → Elt Ideal e}
    (h : PiecesAre L f) (hc : ∀ y, ∃ p ∈ L, y ∈ p.1.set) : View.canon L = f :=
  funext fun y => View.canon_eq_of_allAt L y (f y) (hc y) fun p hp x e => (h p hp x).trans (congrArg f e)

end Cert.KernelIdeal.Gen
-- ==== Proof.KScr.lean ====
module
public import proofs.«01_k».proof.Proof.Gen.KernelIdeal.Frame.RunA
public import proofs.«01_k».proof.Proof.Gen.KernelIdeal.Frame.RunB
public import proofs.«01_k».proof.Proof.KOff
/-! What the four scratch buffers hold while the loop runs: the key scales, one row per key; and the values times their
    scales, transposed. The first two are filled at the first point of the grid and kept, the other two at every point. -/
@[expose] public section
set_option maxRecDepth 16384
noncomputable section
namespace Cert.KernelIdeal.Gen
open Idealize.ShloMosaic Idealize.ShloMosaic.TcCoe Idealize.ShloMosaic.Tactic
open Idealize.SL.Sem

/-- The four contents. -/
def psArr (x3 : Vec Ideal S2048x2 .f32) : Vec Ideal S2x2048x128 .f32 := fun j => x3 (ix2 (j 1) (j 0))
def pvArr (x4 : Vec Ideal S2048x256 .fp8e4m3) (x5 : Vec Ideal S2048x2 .f32) : Vec Ideal S2x128x2048 .bf16 := fun j =>
  x4 (ix2 (j 2) (l2 (j 0) (j 1))) * x5 (ix2 (j 2) (j 0))
def ksArr (x7 : Vec Ideal S1x512x2 .f32) : Vec Ideal S2x512x128 .f32 := fun j => x7 (ix3 0 (j 1) (j 0))
def vtArr (x8 : Vec Ideal S1x512x256 .fp8e4m3) (x9 : Vec Ideal S1x512x2 .f32) : Vec Ideal S2x128x512 .bf16 := fun j =>
  x8 (ix3 0 (j 2) (l2 (j 0) (j 1))) * x9 (ix3 0 (j 2) (j 0))

/-! The payloads at an index. -/
theorem pay5_at (v : Vec Ideal S2048x1 .f32) (n : Fin 2048) (j : Fin 128) : k0_pay5 v (ix3 (0 : Fin 1) n j) = v (ix2 n 0) := by
  pointwise [k0_pay5]
theorem pay7_at (v : Vec Ideal S2048x1 .f32) (n : Fin 2048) (j : Fin 128) : k0_pay7 v (ix3 (0 : Fin 1) n j) = v (ix2 n 0) := by
  pointwise [k0_pay7]
theorem pay6_at (a : Vec Ideal S2048x128 .fp8e4m3) (v : Vec Ideal S2048x1 .f32) (d : Fin 128) (n : Fin 2048) :
    k0_pay6 a v (ix3 (0 : Fin 1) d n) = a (ix2 n d) * v (ix2 n 0) := by
  pointwise [k0_pay6]
theorem pay8_at (a : Vec Ideal S2048x128 .fp8e4m3) (v : Vec Ideal S2048x1 .f32) (d : Fin 128) (n : Fin 2048) :
    k0_pay45 (k0_pay8 a v) (ix3 (0 : Fin 1) d n) = a (ix2 n d) * v (ix2 n 0) := by
  pointwise [k0_pay8, k0_pay45]
theorem pay46_at (v : Vec Ideal S1x512x1 .f32) (n : Fin 512) (j : Fin 128) : k0_pay46 v (ix3 (0 : Fin 1) n j) = v (ix3 0 n 0) := by
  pointwise [k0_pay46]
theorem pay48_at (v : Vec Ideal S1x512x1 .f32) (n : Fin 512) (j : Fin 128) : k0_pay48 v (ix3 (0 : Fin 1) n j) = v (ix3 0 n 0) := by
  pointwise [k0_pay48]
theorem pay47_at (a : Vec Ideal S1x512x128 .fp8e4m3) (v : Vec Ideal S1x512x1 .f32) (d : Fin 128) (n : Fin 512) :
    k0_pay47 a v (ix3 (0 : Fin 1) d n) = a (ix3 0 n d) * v (ix3 0 n 0) := by
  pointwise [k0_pay47]
theorem pay1_at (a : Vec Ideal S1x512x128 .fp8e4m3) (v : Vec Ideal S1x512x1 .f32) (d : Fin 128) (n : Fin 512) :
    k0_pay1 a v (ix3 (0 : Fin 1) d n) = a (ix3 0 n d) * v (ix3 0 n 0) := by
  pointwise [k0_pay1]

/-- A plane of a three-axis buffer with two planes. -/
theorem embPlane {n1 n2 : ℕ} (g : Fin 2) (inb) (x : (⟨3, ![1, n1, n2]⟩ : Shape).Idx) :
    (Rect.unit (s := ⟨3, ![2, n1, n2]⟩) ![g.val, 0, 0] ![1, n1, n2] inb).emb x = ix3 (n0 := 2) (n1 := n1) (n2 := n2) g (x 1) (x 2) := by
  funext a
  refine Fin.ext ((Rect.idx_unit_val (s := ⟨3, ![2, n1, n2]⟩) ![g.val, 0, 0] ![1, n1, n2] inb x a).trans ?_)
  fin_cases a
  · have : (x 0).val < 1 := (x 0).isLt
    show g.val + (x 0).val = g.val
    omega
  · exact Nat.zero_add _
  · exact Nat.zero_add _
theorem etaPlane {n1 n2 : ℕ} (x : (⟨3, ![1, n1, n2]⟩ : Shape).Idx) : x = ix3 (n0 := 1) (n1 := n1) (n2 := n2) 0 (x 1) (x 2) := by
  funext a; fin_cases a
  · exact Subsingleton.elim (α := Fin 1) _ _
  · rfl
  · rfl

theorem hs0pc1 (x3 : Vec Ideal S2048x2 .f32) (x : S1x2048x128.Idx) : k0_pay7 (F := Ideal) (View.ld x3 (Rect.unit (s := S2048x2) ![0, 1] ![2048, 1] (by decide))) x
    = psArr x3 ((Rect.unit (s := S2x2048x128) ![1, 0, 0] ![1, 2048, 128] (by decide)).emb x) := by
  refine Eq.trans ?_ (congrArg (psArr x3) (embPlane (n1 := 2048) (n2 := 128) 1 (by decide) x).symm)
  refine (congrArg _ (etaPlane (n1 := 2048) (n2 := 128) x)).trans ((pay7_at _ _ _).trans ?_)
  exact View.ld_unit_apply_of _ _ _ _ _ _ (by intro a; fin_cases a <;> first | rfl | exact (Nat.zero_add _).symm)
theorem hs0pc0 (x3 : Vec Ideal S2048x2 .f32) (x : S1x2048x128.Idx) : k0_pay5 (F := Ideal) (View.ld x3 (Rect.unit (s := S2048x2) ![0, 0] ![2048, 1] (by decide))) x
    = psArr x3 ((Rect.unit (s := S2x2048x128) ![0, 0, 0] ![1, 2048, 128] (by decide)).emb x) := by
  refine Eq.trans ?_ (congrArg (psArr x3) (embPlane (n1 := 2048) (n2 := 128) 0 (by decide) x).symm)
  refine (congrArg _ (etaPlane (n1 := 2048) (n2 := 128) x)).trans ((pay5_at _ _ _).trans ?_)
  exact View.ld_unit_apply_of _ _ _ _ _ _ (by intro a; fin_cases a <;> first | rfl | exact (Nat.zero_add _).symm)
theorem hs0_pieces (c : Dev nD) (arg4 : Memref sig .tc .vmem S2048x2 .f32) (harg4 : arg4.IsWhole) (x3 : Vec Ideal S2048x2 .f32) :
    PiecesAre (kernelRun0_A.sl.HS0_2 (F := Ideal) c arg4 harg4 x3) (psArr x3) := by
  have e : kernelRun0_A.sl.HS0_2 (F := Ideal) c arg4 harg4 x3 =
      [⟨Rect.unit (s := S2x2048x128) ![1, 0, 0] ![1, 2048, 128] (by decide),
          k0_pay7 (View.ld x3 (Rect.unit (s := S2048x2) ![0, 1] ![2048, 1] (by decide)))⟩,
        ⟨Rect.unit (s := S2x2048x128) ![0, 0, 0] ![1, 2048, 128] (by decide),
          k0_pay5 (View.ld x3 (Rect.unit (s := S2048x2) ![0, 0] ![2048, 1] (by decide)))⟩] := by
    sl_unfold_words
    simp only [View.readAt_eq_ld, harg4.read_unread]
    rfl
  rw [e]
  exact PiecesAre.cons (hs0pc1 x3) (PiecesAre.cons (hs0pc0 x3) (PiecesAre.nil _))

theorem hs1_pieces (c : Dev nD) (arg5 : Memref sig .tc .vmem S2048x256 .fp8e4m3) (harg5 : arg5.IsWhole)
    (arg6 : Memref sig .tc .vmem S2048x2 .f32) (harg6 : arg6.IsWhole) (x4 : Vec Ideal S2048x256 .fp8e4m3) (x5 : Vec Ideal S2048x2 .f32) :
    PiecesAre (kernelRun0_A.sl.HS1_2 (F := Ideal) c arg5 harg5 arg6 harg6 x4 x5) (pvArr x4 x5) := by
  have e : kernelRun0_A.sl.HS1_2 (F := Ideal) c arg5 harg5 arg6 harg6 x4 x5 =
      [⟨Rect.unit (s := S2x128x2048) ![1, 0, 0] ![1, 128, 2048] (by decide),
          k0_pay45 (k0_pay8 (View.ld x4 (Rect.unit (s := S2048x256) ![0, 128] ![2048, 128] (by decide)))
            (View.ld x5 (Rect.unit (s := S2048x2) ![0, 1] ![2048, 1] (by decide))))⟩,
        ⟨Rect.unit (s := S2x128x2048) ![0, 0, 0] ![1, 128, 2048] (by decide),
          k0_pay6 (View.ld x4 (Rect.unit (s := S2048x256) ![0, 0] ![2048, 128] (by decide)))
            (View.ld x5 (Rect.unit (s := S2048x2) ![0, 0] ![2048, 1] (by decide)))⟩] := by
    sl_unfold_words
    simp only [View.readAt_eq_ld, harg5.read_unread, harg6.read_unread]
    rfl
  rw [e]
  refine PiecesAre.cons (fun x => ?_) (PiecesAre.cons (fun x => ?_) (PiecesAre.nil _))
  · refine Eq.trans ?_ (congrArg (pvArr x4 x5) (embPlane (n1 := 128) (n2 := 2048) 1 (by decide) x).symm)
    refine (congrArg _ (etaPlane (n1 := 128) (n2 := 2048) x)).trans ((pay8_at _ _ _ _).trans ?_)
    exact congrArg₂ (· * ·)
      (View.ld_unit_apply_of _ _ _ _ _ _ (by intro a; fin_cases a <;> first | rfl | exact (Nat.zero_add _).symm))
      (View.ld_unit_apply_of _ _ _ _ _ _ (by intro a; fin_cases a <;> first | rfl | exact (Nat.zero_add _).symm))
  · refine Eq.trans ?_ (congrArg (pvArr x4 x5) (embPlane (n1 := 128) (n2 := 2048) 0 (by decide) x).symm)
    refine (congrArg _ (etaPlane (n1 := 128) (n2 := 2048) x)).trans ((pay6_at _ _ _ _).trans ?_)
    exact congrArg₂ (· * ·)
      (View.ld_unit_apply_of _ _ _ _ _ _ (by intro a; fin_cases a <;> first | rfl | exact (Nat.zero_add _).symm))
      (View.ld_unit_apply_of _ _ _ _ _ _ (by intro a; fin_cases a <;> first | rfl | exact (Nat.zero_add _).symm))

theorem hs2pc1 (x7 : Vec Ideal S1x512x2 .f32) (x : S1x512x128.Idx) : k0_pay48 (F := Ideal) (View.ld x7 (Rect.unit (s := S1x512x2) ![0, 0, 1] ![1, 512, 1] (by decide))) x
    = ksArr x7 ((Rect.unit (s := S2x512x128) ![1, 0, 0] ![1, 512, 128] (by decide)).emb x) := by
  refine Eq.trans ?_ (congrArg (ksArr x7) (embPlane (n1 := 512) (n2 := 128) 1 (by decide) x).symm)
  refine (congrArg _ (etaPlane (n1 := 512) (n2 := 128) x)).trans ((pay48_at _ _ _).trans ?_)
  exact View.ld_unit_apply_of _ _ _ _ _ _ (by intro a; fin_cases a <;> first | rfl | exact (Nat.zero_add _).symm)
theorem hs2pc0 (x7 : Vec Ideal S1x512x2 .f32) (x : S1x512x128.Idx) : k0_pay46 (F := Ideal) (View.ld x7 (Rect.unit (s := S1x512x2) ![0, 0, 0] ![1, 512, 1] (by decide))) x
    = ksArr x7 ((Rect.unit (s := S2x512x128) ![0, 0, 0] ![1, 512, 128] (by decide)).emb x) := by
  refine Eq.trans ?_ (congrArg (ksArr x7) (embPlane (n1 := 512) (n2 := 128) 0 (by decide) x).symm)
  refine (congrArg _ (etaPlane (n1 := 512) (n2 := 128) x)).trans ((pay46_at _ _ _).trans ?_)
  exact View.ld_unit_apply_of _ _ _ _ _ _ (by intro a; fin_cases a <;> first | rfl | exact (Nat.zero_add _).symm)
theorem hs2_pieces (c : Dev nD) (arg8 : Memref sig .tc .vmem S1x512x2 .f32) (harg8 : arg8.IsWhole) (x7 : Vec Ideal S1x512x2 .f32) :
    PiecesAre (kernelRun0_A.sl.HS2_2 (F := Ideal) c arg8 harg8 x7) (ksArr x7) := by
  have e : kernelRun0_A.sl.HS2_2 (F := Ideal) c arg8 harg8 x7 =
      [⟨Rect.unit (s := S2x512x128) ![1, 0, 0] ![1, 512, 128] (by decide),
          k0_pay48 (View.ld x7 (Rect.unit (s := S1x512x2) ![0, 0, 1] ![1, 512, 1] (by decide)))⟩,
        ⟨Rect.unit (s := S2x512x128) ![0, 0, 0] ![1, 512, 128] (by decide),
          k0_pay46 (View.ld x7 (Rect.unit (s := S1x512x2) ![0, 0, 0] ![1, 512, 1] (by decide)))⟩] := by
    sl_unfold_words
    simp only [View.readAt_eq_ld, harg8.read_unread]
  rw [e]
  exact PiecesAre.cons (hs2pc1 x7) (PiecesAre.cons (hs2pc0 x7) (PiecesAre.nil _))

theorem hs3_pieces (c : Dev nD) (arg9 : Memref sig .tc .vmem S1x512x256 .fp8e4m3) (harg9 : arg9.IsWhole)
    (arg10 : Memref sig .tc .vmem S1x512x2 .f32) (harg10 : arg10.IsWhole) (x8 : Vec Ideal S1x512x256 .fp8e4m3) (x9 : Vec Ideal S1x512x2 .f32) :
    PiecesAre (kernelRun0_A.sl.HS3_2 (F := Ideal) c arg9 harg9 arg10 harg10 x8 x9) (vtArr x8 x9) := by
  have e : kernelRun0_A.sl.HS3_2 (F := Ideal) c arg9 harg9 arg10 harg10 x8 x9 =
      [⟨Rect.unit (s := S2x128x512) ![1, 0, 0] ![1, 128, 512] (by decide),
          k0_pay1 (View.ld x8 (Rect.unit (s := S1x512x256) ![0, 0, 128] ![1, 512, 128] (by decide)))
            (View.ld x9 (Rect.unit (s := S1x512x2) ![0, 0, 1] ![1, 512, 1] (by decide)))⟩,
        ⟨Rect.unit (s := S2x128x512) ![0, 0, 0] ![1, 128, 512] (by decide),
          k0_pay47 (View.ld x8 (Rect.unit (s := S1x512x256) ![0, 0, 0] ![1, 512, 128] (by decide)))
            (View.ld x9 (Rect.unit (s := S1x512x2) ![0, 0, 0] ![1, 512, 1] (by decide)))⟩] := by
    sl_unfold_words
    simp only [View.readAt_eq_ld, harg9.read_unread, harg10.read_unread]
  rw [e]
  refine PiecesAre.cons (fun x => ?_) (PiecesAre.cons (fun x => ?_) (PiecesAre.nil _))
  · refine Eq.trans ?_ (congrArg (vtArr x8 x9) (embPlane (n1 := 128) (n2 := 512) 1 (by decide) x).symm)
    refine (congrArg _ (etaPlane (n1 := 128) (n2 := 512) x)).trans ((pay1_at _ _ _ _).trans ?_)
    exact congrArg₂ (· * ·)
      (View.ld_unit_apply_of _ _ _ _ _ _ (by intro a; fin_cases a <;> first | rfl | exact (Nat.zero_add _).symm))
      (View.ld_unit_apply_of _ _ _ _ _ _ (by intro a; fin_cases a <;> first | rfl | exact (Nat.zero_add _).symm))
  · refine Eq.trans ?_ (congrArg (vtArr x8 x9) (embPlane (n1 := 128) (n2 := 512) 0 (by decide) x).symm)
    refine (congrArg _ (etaPlane (n1 := 128) (n2 := 512) x)).trans ((pay47_at _ _ _ _).trans ?_)
    exact congrArg₂ (· * ·)
      (View.ld_unit_apply_of _ _ _ _ _ _ (by intro a; fin_cases a <;> first | rfl | exact (Nat.zero_add _).symm))
      (View.ld_unit_apply_of _ _ _ _ _ _ (by intro a; fin_cases a <;> first | rfl | exact (Nat.zero_add _).symm))

/-- So each scratch buffer ends at its contents. -/
theorem hs0_canon (c : Dev nD) (arg4 : Memref sig .tc .vmem S2048x2 .f32) (harg4 : arg4.IsWhole) (x3 : Vec Ideal S2048x2 .f32) :
    View.canon (kernelRun0_A.sl.HS0_2 (F := Ideal) c arg4 harg4 x3) = psArr x3 :=
  (hs0_pieces c arg4 harg4 x3).canon fun y => View.cover_of_tiledL (s := S2x2048x128) _ S1x2048x128.size (by sl_kernel_rfl) y
theorem hs1_canon (c : Dev nD) (arg5 : Memref sig .tc .vmem S2048x256 .fp8e4m3) (harg5 : arg5.IsWhole)
    (arg6 : Memref sig .tc .vmem S2048x2 .f32) (harg6 : arg6.IsWhole) (x4 : Vec Ideal S2048x256 .fp8e4m3) (x5 : Vec Ideal S2048x2 .f32) :
    View.canon (kernelRun0_A.sl.HS1_2 (F := Ideal) c arg5 harg5 arg6 harg6 x4 x5) = pvArr x4 x5 :=
  (hs1_pieces c arg5 harg5 arg6 harg6 x4 x5).canon fun y => View.cover_of_tiledL (s := S2x128x2048) _ S1x128x2048.size (by sl_kernel_rfl) y
theorem hs2_canon (c : Dev nD) (arg8 : Memref sig .tc .vmem S1x512x2 .f32) (harg8 : arg8.IsWhole) (x7 : Vec Ideal S1x512x2 .f32) :
    View.canon (kernelRun0_A.sl.HS2_2 (F := Ideal) c arg8 harg8 x7) = ksArr x7 :=
  (hs2_pieces c arg8 harg8 x7).canon fun y => View.cover_of_tiledL (s := S2x512x128) _ S1x512x128.size (by sl_kernel_rfl) y
theorem hs3_canon (c : Dev nD) (arg9 : Memref sig .tc .vmem S1x512x256 .fp8e4m3) (harg9 : arg9.IsWhole)
    (arg10 : Memref sig .tc .vmem S1x512x2 .f32) (harg10 : arg10.IsWhole) (x8 : Vec Ideal S1x512x256 .fp8e4m3) (x9 : Vec Ideal S1x512x2 .f32) :
    View.canon (kernelRun0_A.sl.HS3_2 (F := Ideal) c arg9 harg9 arg10 harg10 x8 x9) = vtArr x8 x9 :=
  (hs3_pieces c arg9 harg9 arg10 harg10 x8 x9).canon fun y => View.cover_of_tiledL (s := S2x128x512) _ S1x128x512.size (by sl_kernel_rfl) y
end Cert.KernelIdeal.Gen
-- ==== Proof.Att.lean ====
module
public import Idealize.ShloMosaic.PureOps.Ideal
public import Idealize.ShloMosaic.PureOps.Ideal.Laws
public import Mathlib.Analysis.SpecialFunctions.Pow.Real
/-! The equation of the two attention programs at ONE query, one head and one lane, on extended reals.

    `k…` is the arithmetic of the kernel: a maximum over UNSCALED scores `u`, weights in base two, one division for
    the combined softmax. `r…` is the arithmetic of the reference: scaled scores `s`, weights in base e, each half
    divided by its own sum, the halves joined by their log-sum-exps. A masked key has the score `⊥`. -/
@[expose] public section
noncomputable section
namespace Cert.Att
open Idealize.ShloMosaic

section Defs
variable {ι : Type} [Fintype ι]

/-- The largest score. -/
def kMax (u : ι → EReal) : EReal := Finset.univ.fold max ⊥ u
/-- The kernel's weight of key `n`: `2 ^ ((u n - max u) * S)`. -/
def kW (S : EReal) (u : ι → EReal) (n : ι) : EReal := Ideal.exp2 ((u n - kMax u) * S)
/-- The kernel's sum of weights. -/
def kL (S : EReal) (u : ι → EReal) : EReal := ∑ n, kW S u n
/-- The kernel's weighted sum of a lane of the values. -/
def kO (S : EReal) (u : ι → EReal) (v : ι → EReal) : EReal := ∑ n, v n * kW S u n
/-- The kernel's largest score in base-two units. -/
def kA (S : EReal) (u : ι → EReal) : EReal := kMax u * S
/-- The kernel's log-sum-exp. -/
def kLse (ln2 log2e a l : EReal) : EReal := ln2 * (a + Ideal.log l * log2e)
/-- The kernel's combined result. -/
def kOut (ap lp op as ls os : EReal) : EReal :=
  Ideal.exp2 (ap - max ap as) *
      Ideal.div 1 (Ideal.exp2 (ap - max ap as) * lp + Ideal.exp2 (as - max ap as) * ls) * op +
    Ideal.exp2 (as - max ap as) *
      Ideal.div 1 (Ideal.exp2 (ap - max ap as) * lp + Ideal.exp2 (as - max ap as) * ls) * os

/-- The reference's weight of key `n`: `e ^ (s n - max s)`. -/
def rW (s : ι → EReal) (n : ι) : EReal := Ideal.exp (s n - kMax s)
/-- The reference's sum of weights. -/
def rL (s : ι → EReal) : EReal := ∑ n, rW s n
/-- The reference's weighted sum of a lane of the values, each weight scaled by its key's value scale. -/
def rO (s : ι → EReal) (vs v : ι → EReal) : EReal := ∑ n, (rW s n * vs n) * v n
/-- The reference's log-sum-exp. -/
def rLse (s : ι → EReal) : EReal := kMax s + Ideal.log (rL s)
/-- The reference's `logaddexp`. -/
def rLae (x y : EReal) : EReal := max x y + Ideal.log1p (Ideal.exp (-(max (x - y) (-(x - y)))))
/-- The reference's combined result. -/
def rOut (ep lp op es ls os : EReal) : EReal :=
  Ideal.exp (ep - rLae ep es) * Ideal.div op lp + Ideal.exp (es - rLae ep es) * Ideal.div os ls
end Defs

section Facts
variable {ι : Type} [Fintype ι]

theorem kMax_eq_sup (u : ι → EReal) : kMax u = Finset.univ.sup u := by
  unfold kMax; rfl

theorem le_kMax (u : ι → EReal) (n : ι) : u n ≤ kMax u := by
  rw [kMax_eq_sup]; exact Finset.le_sup (Finset.mem_univ n)

/-- The largest of finite scores, the masked ones at `⊥`, is attained at an unmasked key. -/
theorem kMax_masked (P : ι → Prop) [DecidablePred P] (U : ι → ℝ) (hP : ∃ n, P n) :
    ∃ n0, P n0 ∧ (∀ n, P n → U n ≤ U n0) ∧ ∀ a : ℝ, 0 ≤ a →
      kMax (fun n => if P n then ((a * U n : ℝ) : EReal) else ⊥) = ((a * U n0 : ℝ) : EReal) := by
  obtain ⟨n0, h0, hm⟩ := Finset.exists_max_image (Finset.univ.filter P) U
    (by obtain ⟨n, hn⟩ := hP; exact ⟨n, by simp [hn]⟩)
  have h0' : P n0 := by simpa using h0
  have hm' : ∀ n, P n → U n ≤ U n0 := fun n hn => hm n (by simp [hn])
  refine ⟨n0, h0', hm', fun a ha => le_antisymm ?_ ?_⟩
  · rw [kMax_eq_sup]
    refine Finset.sup_le fun n _ => ?_
    by_cases hn : P n
    · simp only [hn, if_true]
      exact EReal.coe_le_coe_iff.mpr (mul_le_mul_of_nonneg_left (hm' n hn) ha)
    · simp [hn]
  · have := le_kMax (fun n => if P n then ((a * U n : ℝ) : EReal) else ⊥) n0
    simpa [h0'] using this

/-- The weights of one half, on the reals. -/
def wt (P : ι → Prop) [DecidablePred P] (U : ι → ℝ) (β : ℝ) (M : ℝ) (n : ι) : ℝ :=
  if P n then Real.exp ((U n - M) * β) else 0

theorem coe_sum_real (f : ι → ℝ) : ∑ n, ((f n : ℝ) : EReal) = ((∑ n, f n : ℝ) : EReal) := by
  classical
  induction (Finset.univ : Finset ι) using Finset.induction_on with
  | empty => simp
  | insert a s ha ih => rw [Finset.sum_insert ha, Finset.sum_insert ha, ih, EReal.coe_add]

theorem bot_mul_pos {S : ℝ} (hS : 0 < S) : (⊥ : EReal) * (S : EReal) = ⊥ :=
  EReal.bot_mul_of_pos (EReal.coe_pos.mpr hS)

/-- One half on the reals: with finite unmasked scores `U`, a positive `β`, the kernel's quantities at
    `S = β / log 2` and the reference's at `s = U * β` are the same weights, the same sum, and log-sum-exps that agree. -/
theorem half (P : ι → Prop) [DecidablePred P] (U : ι → ℝ) (hP : ∃ n, P n) (β : ℝ) (hβ : 0 < β) :
    ∃ (M : ℝ) (E : ι → ℝ) (L : ℝ), 0 < L ∧
      (∀ n, ¬ P n → E n = 0) ∧
      (∀ n, kW ((β * (Real.log 2)⁻¹ : ℝ) : EReal) (fun n => if P n then (U n : EReal) else ⊥) n = (E n : EReal)) ∧
      (∀ n, rW (fun n => if P n then ((β * U n : ℝ) : EReal) else ⊥) n = (E n : EReal)) ∧
      kL ((β * (Real.log 2)⁻¹ : ℝ) : EReal) (fun n => if P n then (U n : EReal) else ⊥) = (L : EReal) ∧
      rL (fun n => if P n then ((β * U n : ℝ) : EReal) else ⊥) = (L : EReal) ∧
      kA ((β * (Real.log 2)⁻¹ : ℝ) : EReal) (fun n => if P n then (U n : EReal) else ⊥) = ((M * β * (Real.log 2)⁻¹ : ℝ) : EReal) ∧
      rLse (fun n => if P n then ((β * U n : ℝ) : EReal) else ⊥) = ((M * β + Real.log L : ℝ) : EReal) := by
  have hl2 : 0 < Real.log 2 := Real.log_pos (by norm_num)
  have hS : 0 < β * (Real.log 2)⁻¹ := mul_pos hβ (inv_pos.mpr hl2)
  obtain ⟨n0, h0, hmax, hk⟩ := kMax_masked P U hP
  have hk1 : kMax (fun n => if P n then ((U n : ℝ) : EReal) else ⊥) = ((U n0 : ℝ) : EReal) := by
    have := hk 1 zero_le_one; simpa using this
  have hkβ := hk β hβ.le
  have e1 : ∀ n, kW ((β * (Real.log 2)⁻¹ : ℝ) : EReal) (fun n => if P n then (U n : EReal) else ⊥) n
      = (wt P U β (U n0) n : EReal) := by
    intro n
    unfold kW wt
    rw [hk1]
    by_cases hn : P n
    · simp only [hn, if_true]
      rw [← EReal.coe_sub, ← EReal.coe_mul, Ideal.exp2_coe]
      congr 1
      rw [Real.rpow_eq_pow, Real.rpow_def_of_pos (by norm_num)]
      congr 1
      field_simp
    · simp only [hn, if_false]
      rw [EReal.bot_sub, bot_mul_pos hS]; simp
  have e2 : ∀ n, rW (fun n => if P n then ((β * U n : ℝ) : EReal) else ⊥) n = (wt P U β (U n0) n : EReal) := by
    intro n
    unfold rW wt
    rw [hkβ]
    by_cases hn : P n
    · simp only [hn, if_true]
      rw [← EReal.coe_sub]
      show ((Real.exp _ : ℝ) : EReal) = _
      congr 2; ring
    · simp only [hn, if_false]
      rw [EReal.bot_sub]; rfl
  have hL : 0 < ∑ n, wt P U β (U n0) n := by
    refine Finset.sum_pos' (fun n _ => ?_) ⟨n0, Finset.mem_univ _, ?_⟩
    · unfold wt; split_ifs; exacts [(Real.exp_pos _).le, le_rfl]
    · unfold wt; rw [if_pos h0]; exact Real.exp_pos _
  have hr : rL (fun n => if P n then ((β * U n : ℝ) : EReal) else ⊥) = ((∑ n, wt P U β (U n0) n : ℝ) : EReal) := by
    unfold rL; rw [← coe_sum_real]; exact Finset.sum_congr rfl fun n _ => e2 n
  refine ⟨U n0, wt P U β (U n0), ∑ n, wt P U β (U n0) n, hL, fun n hn => by simp [wt, hn], e1, e2, ?_, hr, ?_, ?_⟩
  · unfold kL; rw [← coe_sum_real]; exact Finset.sum_congr rfl fun n _ => e1 n
  · unfold kA; rw [hk1, ← EReal.coe_mul, mul_assoc]
  · unfold rLse; rw [hr, hkβ]
    show _ + (if _ ≤ 0 then ⊥ else ((Real.log _ : ℝ) : EReal)) = _
    rw [if_neg (not_le.mpr hL), ← EReal.coe_add, mul_comm β]

/-- The kernel's log-sum-exp on the reals. -/
theorem kLse_real (A L : ℝ) (hL : 0 < L) :
    kLse ((Real.log 2 : ℝ) : EReal) (((Real.log 2)⁻¹ : ℝ) : EReal) ((A * (Real.log 2)⁻¹ : ℝ) : EReal) (L : EReal)
      = ((A + Real.log L : ℝ) : EReal) := by
  have hl2 : 0 < Real.log 2 := Real.log_pos (by norm_num)
  have hlog : Ideal.log (L : EReal) = ((Real.log L : ℝ) : EReal) := by
    show (if L ≤ 0 then ⊥ else ((Real.log L : ℝ) : EReal)) = _
    rw [if_neg (not_le.mpr hL)]
  unfold kLse
  rw [hlog, ← EReal.coe_mul, ← EReal.coe_add, ← EReal.coe_mul]
  congr 1; field_simp

/-- `logaddexp` on the reals. -/
theorem rLae_real (x y : ℝ) : rLae (x : EReal) (y : EReal) = ((Real.log (Real.exp x + Real.exp y) : ℝ) : EReal) := by
  have key : ∀ a b : ℝ, b ≤ a → (a + Real.log (1 + Real.exp (b - a))) = Real.log (Real.exp a + Real.exp b) := by
    intro a b _
    have : Real.exp a + Real.exp b = Real.exp a * (1 + Real.exp (b - a)) := by
      rw [mul_add, ← Real.exp_add]; simp
    rw [this, Real.log_mul (Real.exp_pos a).ne' (by positivity), Real.log_exp]
  have hl1p : ∀ t : ℝ, Ideal.log1p (Ideal.exp (t : EReal)) = ((Real.log (1 + Real.exp t) : ℝ) : EReal) := by
    intro t
    show Ideal.log (1 + ((Real.exp t : ℝ) : EReal)) = _
    rw [← EReal.coe_one, ← EReal.coe_add]
    show (if 1 + Real.exp t ≤ 0 then ⊥ else ((Real.log (1 + Real.exp t) : ℝ) : EReal)) = _
    rw [if_neg (not_le.mpr (by positivity))]
  unfold rLae
  rw [← EReal.coe_sub, ← EReal.coe_neg]
  rcases le_total y x with h | h
  · rw [max_eq_left (EReal.coe_le_coe_iff.mpr h), max_eq_left (EReal.coe_le_coe_iff.mpr (by linarith)), ← EReal.coe_neg,
      hl1p, ← EReal.coe_add]
    congr 1
    rw [← key x y h]; congr 3; ring_nf
  · rw [max_eq_right (EReal.coe_le_coe_iff.mpr h), max_eq_right (EReal.coe_le_coe_iff.mpr (by linarith)), ← EReal.coe_neg,
      hl1p, ← EReal.coe_add]
    congr 1
    rw [add_comm (Real.exp x), ← key y x h]; congr 3; ring_nf

theorem exp2_real (x : ℝ) : Ideal.exp2 ((x * (Real.log 2)⁻¹ : ℝ) : EReal) = ((Real.exp x : ℝ) : EReal) := by
  have hl2 : 0 < Real.log 2 := Real.log_pos (by norm_num)
  rw [Ideal.exp2_coe]
  congr 1
  rw [Real.rpow_eq_pow, Real.rpow_def_of_pos (by norm_num)]
  congr 1; field_simp

/-- The combination: the kernel's coefficients are the reference's, divided by the half's own sum. -/
theorem combine (Ap As Lp Ls : ℝ) (hLp : 0 < Lp) (hLs : 0 < Ls) (op os : EReal) :
    kOut ((Ap * (Real.log 2)⁻¹ : ℝ) : EReal) (Lp : EReal) op ((As * (Real.log 2)⁻¹ : ℝ) : EReal) (Ls : EReal) os
      = rOut ((Ap + Real.log Lp : ℝ) : EReal) (Lp : EReal) op ((As + Real.log Ls : ℝ) : EReal) (Ls : EReal) os := by
  have hl2 : 0 < Real.log 2 := Real.log_pos (by norm_num)
  unfold kOut rOut
  rw [rLae_real]
  set m : ℝ := max Ap As with hm
  have hmax : max ((Ap * (Real.log 2)⁻¹ : ℝ) : EReal) ((As * (Real.log 2)⁻¹ : ℝ) : EReal) = ((m * (Real.log 2)⁻¹ : ℝ) : EReal) := by
    rcases le_total As Ap with h | h
    · rw [hm, max_eq_left h, max_eq_left (EReal.coe_le_coe_iff.mpr (mul_le_mul_of_nonneg_right h (inv_pos.mpr hl2).le))]
    · rw [hm, max_eq_right h, max_eq_right (EReal.coe_le_coe_iff.mpr (mul_le_mul_of_nonneg_right h (inv_pos.mpr hl2).le))]
  rw [hmax]
  have hd : ∀ x : ℝ, Ideal.exp2 (((x * (Real.log 2)⁻¹ : ℝ) : EReal) - ((m * (Real.log 2)⁻¹ : ℝ) : EReal)) = ((Real.exp (x - m) : ℝ) : EReal) := by
    intro x; rw [← EReal.coe_sub, ← sub_mul, exp2_real]
  rw [hd, hd]
  have hD : 0 < Real.exp (Ap - m) * Lp + Real.exp (As - m) * Ls := by positivity
  have hdiv : ∀ (x : EReal) (r : ℝ), 0 < r → Ideal.div x (r : EReal) = x * ((r⁻¹ : ℝ) : EReal) := by
    intro x r hr
    unfold Ideal.div
    rw [if_neg (by rw [EReal.coe_eq_zero]; exact hr.ne'), EReal.coe_inv]
  rw [← EReal.coe_mul, ← EReal.coe_mul, ← EReal.coe_add, hdiv _ _ hD, hdiv _ _ hLp, hdiv _ _ hLs, one_mul]
  rw [← EReal.coe_mul, ← EReal.coe_mul, ← EReal.coe_sub, ← EReal.coe_sub]
  have hexp : ∀ t : ℝ, Ideal.exp (t : EReal) = ((Real.exp t : ℝ) : EReal) := fun _ => rfl
  rw [hexp, hexp]
  rw [Real.exp_add, Real.exp_add, Real.exp_log hLp, Real.exp_log hLs]
  have hT : 0 < Real.exp Ap * Lp + Real.exp As * Ls := by positivity
  rw [mul_comm op, mul_comm os, ← mul_assoc, ← mul_assoc, ← EReal.coe_mul, ← EReal.coe_mul]
  have hem := Real.exp_pos m
  have hc : ∀ (A L : ℝ), 0 < L → Real.exp (A - m) * (Real.exp (Ap - m) * Lp + Real.exp (As - m) * Ls)⁻¹
      = Real.exp (A + Real.log L - Real.log (Real.exp Ap * Lp + Real.exp As * Ls)) * L⁻¹ := by
    intro A L hL
    have hD' : Real.exp (Ap - m) * Lp + Real.exp (As - m) * Ls = (Real.exp Ap * Lp + Real.exp As * Ls) * (Real.exp m)⁻¹ := by
      rw [Real.exp_sub, Real.exp_sub]; field_simp
    rw [hD', Real.exp_sub (A + _), Real.exp_log hT, Real.exp_add, Real.exp_log hL, Real.exp_sub]
    field_simp
  rw [hc Ap Lp hLp, hc As Ls hLs]

/-- A half's weighted values: the kernel's `∑ (v * vs) * p` is the reference's `∑ (p * vs) * v`. -/
theorem kO_eq_rO (S : EReal) (u s v vs : ι → EReal) (h : ∀ n, kW S u n = rW s n) :
    kO S u (fun n => v n * vs n) = rO s vs v := by
  unfold kO rO
  refine Finset.sum_congr rfl fun n _ => ?_
  rw [h n, mul_comm (rW s n), mul_assoc, mul_assoc, mul_comm (v n), ← mul_assoc (vs n), mul_assoc (vs n), mul_comm (rW s n) (v n)]
end Facts

section Main
variable {ι κ : Type} [Fintype ι] [Fintype κ]

/-- THE EQUATION of the first result at one query, head and lane. -/
theorem out_eq (P : ι → Prop) [DecidablePred P] (Q : κ → Prop) [DecidablePred Q] (U : ι → ℝ) (V : κ → ℝ)
    (hP : ∃ n, P n) (hQ : ∃ n, Q n) (β : ℝ) (hβ : 0 < β) (v vs : ι → EReal) (w ws : κ → EReal)
    (S : EReal) (hS : S = ((β * (Real.log 2)⁻¹ : ℝ) : EReal)) (u s : ι → EReal) (x y : κ → EReal)
    (hu : u = fun n => if P n then (U n : EReal) else ⊥) (hs : s = fun n => if P n then ((β * U n : ℝ) : EReal) else ⊥)
    (hx : x = fun n => if Q n then (V n : EReal) else ⊥) (hy : y = fun n => if Q n then ((β * V n : ℝ) : EReal) else ⊥) :
    kOut (kA S u) (kL S u) (kO S u fun n => v n * vs n) (kA S x) (kL S x) (kO S x fun n => w n * ws n)
      = rOut (rLse s) (rL s) (rO s vs v) (rLse y) (rL y) (rO y ws w) := by
  subst hS hu hs hx hy
  obtain ⟨M, E, L, hL, -, h1, h2, h3, h4, h5, h6⟩ := half P U hP β hβ
  obtain ⟨M', E', L', hL', -, g1, g2, g3, g4, g5, g6⟩ := half Q V hQ β hβ
  rw [kO_eq_rO _ _ _ v vs fun n => (h1 n).trans (h2 n).symm, kO_eq_rO _ _ _ w ws fun n => (g1 n).trans (g2 n).symm,
    h3, h4, h5, h6, g3, g4, g5, g6]
  exact combine _ _ _ _ hL hL' _ _

/-- THE EQUATION of the log-sum-exps. -/
theorem lse_eq (P : ι → Prop) [DecidablePred P] (U : ι → ℝ) (hP : ∃ n, P n) (β : ℝ) (hβ : 0 < β)
    (S : EReal) (hS : S = ((β * (Real.log 2)⁻¹ : ℝ) : EReal)) (u s : ι → EReal)
    (hu : u = fun n => if P n then (U n : EReal) else ⊥) (hs : s = fun n => if P n then ((β * U n : ℝ) : EReal) else ⊥) :
    kLse ((Real.log 2 : ℝ) : EReal) (((Real.log 2)⁻¹ : ℝ) : EReal) (kA S u) (kL S u) = rLse s := by
  subst hS hu hs
  obtain ⟨M, E, L, hL, -, h1, h2, h3, h4, h5, h6⟩ := half P U hP β hβ
  rw [h3, h5, h6]
  exact kLse_real _ _ hL
end Main

section Short
/-- The kernel looks only at the first 256 keys of 512 when the others are masked: nothing is lost. -/
theorem kMax_short (u : Fin 512 → EReal) (hu : ∀ n : Fin 512, 256 ≤ n.val → u n = ⊥) :
    kMax (fun n : Fin 256 => u ⟨n.val, by omega⟩) = kMax u := by
  rw [kMax_eq_sup, kMax_eq_sup]
  refine le_antisymm (Finset.sup_le fun n _ => Finset.le_sup (f := u) (Finset.mem_univ _)) (Finset.sup_le fun n _ => ?_)
  by_cases hn : n.val < 256
  · exact Finset.le_sup (f := fun n : Fin 256 => u ⟨n.val, by omega⟩) (Finset.mem_univ (⟨n.val, hn⟩ : Fin 256))
  · rw [hu n (by omega)]; exact bot_le

theorem sum_short (f : Fin 512 → EReal) (hf : ∀ n : Fin 512, 256 ≤ n.val → f n = 0) :
    ∑ n : Fin 256, f ⟨n.val, by omega⟩ = ∑ n, f n := by
  have h := Fin.sum_univ_add (a := 256) (b := 256) (fun n : Fin (256 + 256) => f n)
  have h2 : ∑ n : Fin 256, f (Fin.natAdd 256 n) = 0 :=
    Finset.sum_eq_zero fun n _ => hf _ (by simp)
  rw [h2, add_zero] at h
  exact h.symm

theorem kW_short (S : ℝ) (u : Fin 512 → EReal) (hu : ∀ n : Fin 512, 256 ≤ n.val → u n = ⊥) (n : Fin 256) :
    kW (S : EReal) (fun n : Fin 256 => u ⟨n.val, by omega⟩) n = kW (S : EReal) u ⟨n.val, by omega⟩ := by
  unfold kW; rw [kMax_short u hu]

theorem kW_masked (S : ℝ) (hS : 0 < S) (u : Fin 512 → EReal) (n : Fin 512) (h : u n = ⊥) : kW (S : EReal) u n = 0 := by
  unfold kW; rw [h, EReal.bot_sub, bot_mul_pos hS]; rfl

theorem kA_short (S : ℝ) (u : Fin 512 → EReal) (hu : ∀ n : Fin 512, 256 ≤ n.val → u n = ⊥) :
    kA (S : EReal) (fun n : Fin 256 => u ⟨n.val, by omega⟩) = kA (S : EReal) u := by
  unfold kA; rw [kMax_short u hu]

theorem kL_short (S : ℝ) (hS : 0 < S) (u : Fin 512 → EReal) (hu : ∀ n : Fin 512, 256 ≤ n.val → u n = ⊥) :
    kL (S : EReal) (fun n : Fin 256 => u ⟨n.val, by omega⟩) = kL (S : EReal) u := by
  unfold kL
  rw [← sum_short (kW (S : EReal) u) fun n hn => kW_masked S hS u n (hu n hn)]
  exact Finset.sum_congr rfl fun n _ => kW_short S u hu n

theorem kO_short (S : ℝ) (hS : 0 < S) (u v : Fin 512 → EReal) (hu : ∀ n : Fin 512, 256 ≤ n.val → u n = ⊥) :
    kO (S : EReal) (fun n : Fin 256 => u ⟨n.val, by omega⟩) (fun n : Fin 256 => v ⟨n.val, by omega⟩) = kO (S : EReal) u v := by
  unfold kO
  rw [← sum_short (fun n => v n * kW (S : EReal) u n) fun n hn => by rw [kW_masked S hS u n (hu n hn), mul_zero]]
  exact Finset.sum_congr rfl fun n _ => by rw [kW_short S u hu n]
end Short
end Cert.Att
-- ==== Proof.KConst.lean ====
module
public import proofs.«01_k».proof.Proof.KTrip
public import proofs.«01_k».proof.Proof.Att
public import Idealize.ShloMosaic.Lib.WordCmp
/-! The kernel's named constants, its mask's comparison and its key counts, over the extended reals. -/
@[expose] public section
set_option maxRecDepth 16384
noncomputable section
namespace Cert.KernelIdeal.Gen
open Idealize.ShloMosaic Idealize.ShloMosaic.TcCoe Idealize.ShloMosaic.Tactic
open Idealize.SL.Sem

/-- The named constants, on the extended reals. -/
abbrev cScale : EReal := ((Real.sqrt 128)⁻¹ * (Real.log 2)⁻¹ : ℝ)
theorem named_scale : (Named.named (F := Ideal) (φ := .f32) κ "score_scale" 0x3E0293EE#32 : EReal) = cScale :=
  (IdealRules.named_const.statement κ _ _ _ _ rfl).2.2
theorem named_log2e : (Named.named (F := Ideal) (φ := .f32) κ "log2_e" 0x3FB8AA3B#32 : EReal) = (((Real.log 2)⁻¹ : ℝ) : EReal) :=
  (IdealRules.named_const.statement κ _ _ _ _ rfl).2.2
theorem named_ln2 : (Named.named (F := Ideal) (φ := .f32) κ "ln_2" 0x3F317218#32 : EReal) = ((Real.log 2 : ℝ) : EReal) :=
  (IdealRules.named_const.statement κ _ _ _ _ rfl).2.2
theorem named_lnpast : (Named.named (F := Ideal) (φ := .f32) κ "ln_past" 0x40F3FCE1#32 : EReal) = ((Real.log 2048 : ℝ) : EReal) :=
  (IdealRules.named_const.statement κ _ _ _ _ rfl).2.2
theorem ofBits_neg_inf : Ideal.ofBits .f32 0xFF800000#32 = (⊥ : EReal) := by simp [Ideal.ofBits, Ideal.ieee]

/-- A masked score. -/
theorem sel_mask (n i b : Nat) (hn : n < 512) (hi : i < 256) (hb : b ≤ 256) (x y : EReal) :
    Scalar.select (IntOp.cmpi CmpIPredicate.sgt (BitVec.ofNat 32 n) (IntOp.addi (BitVec.ofNat 32 i) (BitVec.ofNat 32 b))) x y
      = if n ≤ i + b then y else x := by
  have h : (IntOp.cmpi CmpIPredicate.sgt (BitVec.ofNat 32 n) (IntOp.addi (BitVec.ofNat 32 i) (BitVec.ofNat 32 b)))
      = BitVec.ofBool (decide (i + b < n)) := by
    have e : IntOp.addi (BitVec.ofNat 32 i) (BitVec.ofNat 32 b) = BitVec.ofNat 32 (i + b) := (BitVec.ofNat_add i b).symm
    rw [e, Idealize.ShloMosaic.WordCmp.cmpi_sgt_ofNat (by norm_num; omega) (by norm_num; omega)]
  rw [h]
  by_cases hc : n ≤ i + b
  · rw [if_pos hc, decide_eq_false (by omega)]; rfl
  · rw [if_neg hc, decide_eq_true (by omega)]; rfl

/-- The count of a query's own keys, as the kernel's integer word converts. -/
theorem cnt (n b : Nat) (hn : n < 256) (hb : b ≤ 257) :
    (FloatOps.sitofp (F := Ideal) FTy.f32 (IntOp.addi (BitVec.ofNat 32 n) (BitVec.ofNat 32 b)) : EReal) = (((n + b : ℕ) : ℝ) : EReal) := by
  have e : IntOp.addi (BitVec.ofNat 32 n) (BitVec.ofNat 32 b) = BitVec.ofNat 32 (n + b) := (BitVec.ofNat_add n b).symm
  rw [e]
  show ((((BitVec.ofNat 32 (n + b)).toInt : ℤ) : ℝ) : EReal) = _
  have h : (BitVec.ofNat 32 (n + b)).toInt = ((n + b : ℕ) : ℤ) := by
    rw [BitVec.toInt_eq_toNat_of_lt] <;> simp only [BitVec.toNat_ofNat] <;> omega
  rw [h, Int.cast_natCast]

end Cert.KernelIdeal.Gen
-- ==== Proof.KPay.lean ====
module
public import proofs.«01_k».proof.Proof.KTrip
public import proofs.«01_k».proof.Proof.KConst
public import Idealize.ShloMosaic.Lib.Pointwise
/-! What the six stores of a trip hold at an index, over the extended reals, as the arithmetic of `Att` of the loaded
    vectors. -/
@[expose] public section
set_option maxRecDepth 16384
noncomputable section
namespace Cert.KernelIdeal.Gen
open Idealize.ShloMosaic Idealize.ShloMosaic.TcCoe Idealize.ShloMosaic.Tactic
open Idealize.SL.Sem

theorem pay13_at (q : Vec Ideal S1x256x128 .fp8e4m3) (pk : Vec Ideal S2048x128 .fp8e4m3) (n : Fin 2048) (i : Fin 256) :
    k0_pay13 q pk (ix2 n i) = ∑ e : Fin 128, pk (ix2 n e) * q (ix3 0 i e) := by
  pointwise [k0_pay13, k0_pay9]

theorem pay10_at (s : Vec Ideal S1x1x256 .f32) (i : Fin 256) : k0_pay10 s (ix2 (0 : Fin 1) i) = s (ix3 0 0 i) * cScale := by
  pointwise [k0_pay10]; rw [named_scale]

theorem pay31_at (s : Vec Ideal S1x1x256 .f32) (i : Fin 256) : k0_pay31 s (ix2 (0 : Fin 1) i) = s (ix3 0 0 i) * cScale := by
  pointwise [k0_pay31]; rw [named_scale]

section Prefix0
variable (q : Vec Ideal S1x256x128 .fp8e4m3) (s : Vec Ideal S1x1x256 .f32) (pk : Vec Ideal S2048x128 .fp8e4m3)
  (ps : Vec Ideal S1x2048x128 .f32) (pv : Vec Ideal S1x128x2048 .bf16) (sc : Fin 2048 → EReal)
  (hps : ∀ (n : Fin 2048) (j : Fin 128), ps (ix3 0 n j) = sc n)
include hps

/-- The unscaled prefix score of key `n` for query `i`. -/
abbrev upre (q : Vec Ideal S1x256x128 .fp8e4m3) (pk : Vec Ideal S2048x128 .fp8e4m3) (sc : Fin 2048 → EReal) (i : Fin 256) :
    Fin 2048 → EReal := fun n => (∑ e : Fin 128, pk (ix2 n e) * q (ix3 0 i e)) * sc n

theorem pay14_at (n : Fin 2048) (i : Fin 256) : k0_pay14 (k0_pay11 ps) (k0_pay13 q pk) (ix2 n i) = upre q pk sc i n := by
  pointwise [k0_pay14, k0_pay11, k0_pay13, k0_pay9]
  split_ifs <;> rw [hps]

theorem pay15_at (i : Fin 256) : k0_pay15 (k0_pay11 ps) (k0_pay13 q pk) (ix2 (0 : Fin 1) i) = Att.kMax (upre q pk sc i) := by
  pointwise [k0_pay15]
  rw [ofBits_neg_inf]; unfold Att.kMax
  congr 1; funext n; exact pay14_at q pk ps sc hps n i

theorem pay16_at (n : Fin 2048) (i : Fin 256) : k0_pay16 (k0_pay10 s) (k0_pay11 ps) (k0_pay13 q pk) (ix2 n i)
    = Att.kW (s (ix3 0 0 i) * cScale) (upre q pk sc i) n := by
  pointwise [k0_pay16]
  rw [pay14_at q pk ps sc hps, pay15_at q pk ps sc hps, pay10_at]; rfl

theorem pay17_at (i : Fin 256) : k0_pay17 (k0_pay10 s) (k0_pay11 ps) (k0_pay13 q pk) (ix2 (0 : Fin 1) i)
    = Att.kL (s (ix3 0 0 i) * cScale) (upre q pk sc i) := by
  pointwise [k0_pay17]
  exact Finset.sum_congr rfl fun n _ => pay16_at q s pk ps sc hps n i

theorem pay18_at (d : Fin 128) (i : Fin 256) : k0_pay18 (k0_pay10 s) (k0_pay11 ps) (k0_pay12 pv) (k0_pay13 q pk) (ix2 d i)
    = Att.kO (s (ix3 0 0 i) * cScale) (upre q pk sc i) fun n => pv (ix3 0 d n) := by
  pointwise [k0_pay18, k0_pay12]
  exact Finset.sum_congr rfl fun n _ => by rw [pay16_at q s pk ps sc hps n i]

theorem pay19_at (i : Fin 256) : k0_pay19 (k0_pay10 s) (k0_pay11 ps) (k0_pay13 q pk) (ix2 (0 : Fin 1) i)
    = Att.kA (s (ix3 0 0 i) * cScale) (upre q pk sc i) := by
  pointwise [k0_pay19]
  rw [pay15_at q pk ps sc hps, pay10_at]; rfl

theorem pay32_at (n : Fin 2048) (i : Fin 256) : k0_pay32 q pk ps (ix2 n i) = upre q pk sc i n := by
  pointwise [k0_pay32, k0_pay30]
  split_ifs <;> rw [hps]

theorem pay33_at (i : Fin 256) : k0_pay33 q pk ps (ix2 (0 : Fin 1) i) = Att.kMax (upre q pk sc i) := by
  pointwise [k0_pay33]
  rw [ofBits_neg_inf]; unfold Att.kMax
  congr 1; funext n; exact pay32_at q pk ps sc hps n i

theorem pay34_at (n : Fin 2048) (i : Fin 256) : k0_pay34 q s pk ps (ix2 n i)
    = Att.kW (s (ix3 0 0 i) * cScale) (upre q pk sc i) n := by
  pointwise [k0_pay34]
  rw [pay32_at q pk ps sc hps, pay33_at q pk ps sc hps, pay31_at]; rfl

theorem pay35_at (i : Fin 256) : k0_pay35 q s pk ps (ix2 (0 : Fin 1) i)
    = Att.kL (s (ix3 0 0 i) * cScale) (upre q pk sc i) := by
  pointwise [k0_pay35]
  exact Finset.sum_congr rfl fun n _ => pay34_at q s pk ps sc hps n i

theorem pay36_at (d : Fin 128) (i : Fin 256) : k0_pay36 q s pk ps pv (ix2 d i)
    = Att.kO (s (ix3 0 0 i) * cScale) (upre q pk sc i) fun n => pv (ix3 0 d n) := by
  pointwise [k0_pay36]
  exact Finset.sum_congr rfl fun n _ => by rw [pay34_at q s pk ps sc hps n i]

theorem pay37_at (i : Fin 256) : k0_pay37 q s pk ps (ix2 (0 : Fin 1) i)
    = Att.kA (s (ix3 0 0 i) * cScale) (upre q pk sc i) := by
  pointwise [k0_pay37]
  rw [pay33_at q pk ps sc hps, pay31_at]; rfl
end Prefix0

section Compl0
variable (q : Vec Ideal S1x256x128 .fp8e4m3) (s : Vec Ideal S1x1x256 .f32) (kk : Vec Ideal S1x256x128 .fp8e4m3)
  (ks : Vec Ideal S1x256x128 .f32) (vt : Vec Ideal S1x128x256 .bf16) (sc : Fin 256 → EReal)
  (hks : ∀ (n : Fin 256) (j : Fin 128), ks (ix3 0 n j) = sc n)
include hks

/-- The unscaled score of the request's own key `n` for query `i` of tile 0, `⊥` after the query. -/
abbrev ucom0 (q : Vec Ideal S1x256x128 .fp8e4m3) (kk : Vec Ideal S1x256x128 .fp8e4m3) (sc : Fin 256 → EReal) (i : Fin 256) :
    Fin 256 → EReal := fun n => if n.val ≤ i.val + 0 then (∑ e : Fin 128, kk (ix3 0 n e) * q (ix3 0 i e)) * sc n else ⊥

theorem pay20_at (n : Fin 256) (i : Fin 256) : k0_pay20 (k0_pay9 q) kk ks (ix2 n i) = ucom0 q kk sc i n := by
  pointwise [k0_pay20, k0_pay9]
  rw [ofBits_neg_inf]
  refine (sel_mask n.val i.val 0 (by omega) i.isLt (by omega) _ _).trans ?_
  split_ifs <;> first | rfl | rw [hks]

theorem pay21_at (i : Fin 256) : k0_pay21 (k0_pay9 q) kk ks (ix2 (0 : Fin 1) i) = Att.kMax (ucom0 q kk sc i) := by
  pointwise [k0_pay21]
  rw [ofBits_neg_inf]; unfold Att.kMax
  congr 1; funext n; exact pay20_at q kk ks sc hks n i

theorem pay22_at (n : Fin 256) (i : Fin 256) : k0_pay22 (k0_pay9 q) (k0_pay10 s) kk ks (ix2 n i)
    = Att.kW (s (ix3 0 0 i) * cScale) (ucom0 q kk sc i) n := by
  pointwise [k0_pay22]
  rw [pay20_at q kk ks sc hks, pay21_at q kk ks sc hks, pay10_at]; rfl

theorem pay23_at (i : Fin 256) : k0_pay23 (k0_pay9 q) (k0_pay10 s) kk ks (ix2 (0 : Fin 1) i)
    = Att.kL (s (ix3 0 0 i) * cScale) (ucom0 q kk sc i) := by
  pointwise [k0_pay23]
  exact Finset.sum_congr rfl fun n _ => pay22_at q s kk ks sc hks n i

theorem pay24_at (d : Fin 128) (i : Fin 256) : k0_pay24 (k0_pay9 q) (k0_pay10 s) kk ks vt (ix2 d i)
    = Att.kO (s (ix3 0 0 i) * cScale) (ucom0 q kk sc i) fun n => vt (ix3 0 d n) := by
  pointwise [k0_pay24]
  exact Finset.sum_congr rfl fun n _ => by rw [pay22_at q s kk ks sc hks n i]

theorem pay25_at (i : Fin 256) : k0_pay25 (k0_pay9 q) (k0_pay10 s) kk ks (ix2 (0 : Fin 1) i)
    = Att.kA (s (ix3 0 0 i) * cScale) (ucom0 q kk sc i) := by
  pointwise [k0_pay25]
  rw [pay21_at q kk ks sc hks, pay10_at]; rfl
end Compl0

section Compl1
variable (q : Vec Ideal S1x256x128 .fp8e4m3) (s : Vec Ideal S1x1x256 .f32) (kk : Vec Ideal S1x512x128 .fp8e4m3)
  (ks : Vec Ideal S1x512x128 .f32) (vt : Vec Ideal S1x128x512 .bf16) (sc : Fin 512 → EReal)
  (hks : ∀ (n : Fin 512) (j : Fin 128), ks (ix3 0 n j) = sc n)
include hks

/-- The same for query `i` of tile 1 (query `i + 256` of the block), over all 512 keys. -/
abbrev ucom1 (q : Vec Ideal S1x256x128 .fp8e4m3) (kk : Vec Ideal S1x512x128 .fp8e4m3) (sc : Fin 512 → EReal) (i : Fin 256) :
    Fin 512 → EReal := fun n => if n.val ≤ i.val + 256 then (∑ e : Fin 128, kk (ix3 0 n e) * q (ix3 0 i e)) * sc n else ⊥

theorem pay39_at (n : Fin 512) (i : Fin 256) : k0_pay39 (k0_pay30 q) k0_pay38 kk ks (ix2 n i) = ucom1 q kk sc i n := by
  pointwise [k0_pay39, k0_pay38, k0_pay30]
  rw [ofBits_neg_inf]
  refine (sel_mask n.val i.val 256 (by omega) i.isLt (by omega) _ _).trans ?_
  split_ifs <;> first | rfl | rw [hks]

theorem pay40_at (i : Fin 256) : k0_pay40 (k0_pay30 q) k0_pay38 kk ks (ix2 (0 : Fin 1) i) = Att.kMax (ucom1 q kk sc i) := by
  pointwise [k0_pay40]
  rw [ofBits_neg_inf]; unfold Att.kMax
  congr 1; funext n; exact pay39_at q kk ks sc hks n i

theorem pay41_at (n : Fin 512) (i : Fin 256) : k0_pay41 (k0_pay30 q) (k0_pay31 s) k0_pay38 kk ks (ix2 n i)
    = Att.kW (s (ix3 0 0 i) * cScale) (ucom1 q kk sc i) n := by
  pointwise [k0_pay41]
  rw [pay39_at q kk ks sc hks, pay40_at q kk ks sc hks, pay31_at]; rfl

theorem pay42_at (i : Fin 256) : k0_pay42 (k0_pay30 q) (k0_pay31 s) k0_pay38 kk ks (ix2 (0 : Fin 1) i)
    = Att.kL (s (ix3 0 0 i) * cScale) (ucom1 q kk sc i) := by
  pointwise [k0_pay42]
  exact Finset.sum_congr rfl fun n _ => pay41_at q s kk ks sc hks n i

theorem pay43_at (i : Fin 256) : k0_pay43 (k0_pay30 q) (k0_pay31 s) k0_pay38 kk ks (ix2 (0 : Fin 1) i)
    = Att.kA (s (ix3 0 0 i) * cScale) (ucom1 q kk sc i) := by
  pointwise [k0_pay43]
  rw [pay40_at q kk ks sc hks, pay31_at]; rfl
end Compl1

/-! The six stores. -/

section Stores
variable (q : Vec Ideal S1x256x128 .fp8e4m3) (s : Vec Ideal S1x1x256 .f32) (pk : Vec Ideal S2048x128 .fp8e4m3)
  (ps : Vec Ideal S1x2048x128 .f32) (pv : Vec Ideal S1x128x2048 .bf16) (sc : Fin 2048 → EReal)
  (hps : ∀ (n : Fin 2048) (j : Fin 128), ps (ix3 0 n j) = sc n)
include hps

theorem t0Lp_at (i : Fin 256) : t0Lp q s pk ps (ix3 (0 : Fin 1) (0 : Fin 1) i)
    = Att.kLse ((Real.log 2 : ℝ) : EReal) (((Real.log 2)⁻¹ : ℝ) : EReal) (Att.kA (s (ix3 0 0 i) * cScale) (upre q pk sc i))
        (Att.kL (s (ix3 0 0 i) * cScale) (upre q pk sc i)) - ((Real.log 2048 : ℝ) : EReal) := by
  unfold t0Lp
  pointwise [k0_pay27]
  rw [named_ln2, named_log2e, named_lnpast, pay17_at q s pk ps sc hps, pay19_at q s pk ps sc hps]; rfl

theorem t1Lp_at (i : Fin 256) : t1Lp q s pk ps (ix3 (0 : Fin 1) (0 : Fin 1) i)
    = Att.kLse ((Real.log 2 : ℝ) : EReal) (((Real.log 2)⁻¹ : ℝ) : EReal) (Att.kA (s (ix3 0 0 i) * cScale) (upre q pk sc i))
        (Att.kL (s (ix3 0 0 i) * cScale) (upre q pk sc i)) - ((Real.log 2048 : ℝ) : EReal) := by
  unfold t1Lp
  pointwise [k0_pay3]
  rw [named_ln2, named_log2e, named_lnpast, pay35_at q s pk ps sc hps, pay37_at q s pk ps sc hps]; rfl

theorem t0Out_at (kk : Vec Ideal S1x256x128 .fp8e4m3) (ks : Vec Ideal S1x256x128 .f32) (vt : Vec Ideal S1x128x256 .bf16)
    (kc : Fin 256 → EReal) (hks : ∀ (n : Fin 256) (j : Fin 128), ks (ix3 0 n j) = kc n) (i : Fin 256) (d : Fin 128) :
    t0Out q s pk ps pv kk ks vt (ix3 (0 : Fin 1) i d)
      = Att.kOut (Att.kA (s (ix3 0 0 i) * cScale) (upre q pk sc i)) (Att.kL (s (ix3 0 0 i) * cScale) (upre q pk sc i))
          (Att.kO (s (ix3 0 0 i) * cScale) (upre q pk sc i) fun n => pv (ix3 0 d n))
          (Att.kA (s (ix3 0 0 i) * cScale) (ucom0 q kk kc i)) (Att.kL (s (ix3 0 0 i) * cScale) (ucom0 q kk kc i))
          (Att.kO (s (ix3 0 0 i) * cScale) (ucom0 q kk kc i) fun n => vt (ix3 0 d n)) := by
  unfold t0Out
  pointwise [k0_pay26]
  rw [pay17_at q s pk ps sc hps, pay18_at q s pk ps pv sc hps, pay19_at q s pk ps sc hps, pay23_at q s kk ks kc hks,
    pay24_at q s kk ks vt kc hks, pay25_at q s kk ks kc hks]; rfl

theorem t1Out_at (kk : Vec Ideal S1x512x128 .fp8e4m3) (ks : Vec Ideal S1x512x128 .f32) (vt : Vec Ideal S1x128x512 .bf16)
    (kc : Fin 512 → EReal) (hks : ∀ (n : Fin 512) (j : Fin 128), ks (ix3 0 n j) = kc n) (i : Fin 256) (d : Fin 128) :
    t1Out q s pk ps pv kk ks vt (ix3 (0 : Fin 1) i d)
      = Att.kOut (Att.kA (s (ix3 0 0 i) * cScale) (upre q pk sc i)) (Att.kL (s (ix3 0 0 i) * cScale) (upre q pk sc i))
          (Att.kO (s (ix3 0 0 i) * cScale) (upre q pk sc i) fun n => pv (ix3 0 d n))
          (Att.kA (s (ix3 0 0 i) * cScale) (ucom1 q kk kc i)) (Att.kL (s (ix3 0 0 i) * cScale) (ucom1 q kk kc i))
          (Att.kO (s (ix3 0 0 i) * cScale) (ucom1 q kk kc i) fun n => vt (ix3 0 d n)) := by
  unfold t1Out
  pointwise [k0_pay2, k0_pay44]
  have h : (∑ x : Fin 512, vt (ix3 0 d x) * k0_pay41 (k0_pay30 q) (k0_pay31 s) k0_pay38 kk ks (ix2 x i))
      = Att.kO (s (ix3 0 0 i) * cScale) (ucom1 q kk kc i) fun n => vt (ix3 0 d n) :=
    Finset.sum_congr rfl fun n _ => by rw [pay41_at q s kk ks kc hks n i]
  rw [h, pay35_at q s pk ps sc hps, pay36_at q s pk ps pv sc hps, pay37_at q s pk ps sc hps, pay42_at q s kk ks kc hks,
    pay43_at q s kk ks kc hks]; rfl
end Stores

theorem t0Lc_at (q : Vec Ideal S1x256x128 .fp8e4m3) (s : Vec Ideal S1x1x256 .f32) (kk : Vec Ideal S1x256x128 .fp8e4m3)
    (ks : Vec Ideal S1x256x128 .f32) (kc : Fin 256 → EReal) (hks : ∀ (n : Fin 256) (j : Fin 128), ks (ix3 0 n j) = kc n) (i : Fin 256) :
    t0Lc q s kk ks (ix3 (0 : Fin 1) (0 : Fin 1) i)
    = Att.kLse ((Real.log 2 : ℝ) : EReal) (((Real.log 2)⁻¹ : ℝ) : EReal) (Att.kA (s (ix3 0 0 i) * cScale) (ucom0 q kk kc i))
        (Att.kL (s (ix3 0 0 i) * cScale) (ucom0 q kk kc i)) - Ideal.log (((i.val + 1 : ℕ) : ℝ) : EReal) := by
  unfold t0Lc
  pointwise [k0_pay28, k0_pay29]
  rw [named_ln2, named_log2e, pay23_at q s kk ks kc hks, pay25_at q s kk ks kc hks, ← cnt i.val 1 i.isLt (by omega)]; rfl

theorem t1Lc_at (q : Vec Ideal S1x256x128 .fp8e4m3) (s : Vec Ideal S1x1x256 .f32) (kk : Vec Ideal S1x512x128 .fp8e4m3)
    (ks : Vec Ideal S1x512x128 .f32) (kc : Fin 512 → EReal) (hks : ∀ (n : Fin 512) (j : Fin 128), ks (ix3 0 n j) = kc n) (i : Fin 256) :
    t1Lc q s kk ks (ix3 (0 : Fin 1) (0 : Fin 1) i)
    = Att.kLse ((Real.log 2 : ℝ) : EReal) (((Real.log 2)⁻¹ : ℝ) : EReal) (Att.kA (s (ix3 0 0 i) * cScale) (ucom1 q kk kc i))
        (Att.kL (s (ix3 0 0 i) * cScale) (ucom1 q kk kc i)) - Ideal.log (((i.val + 257 : ℕ) : ℝ) : EReal) := by
  unfold t1Lc
  pointwise [k0_pay4]
  rw [named_ln2, named_log2e, pay42_at q s kk ks kc hks, pay43_at q s kk ks kc hks, ← cnt i.val 257 i.isLt (by omega)]; rfl
end Cert.KernelIdeal.Gen
-- ==== Proof.KBlock.lean ====
module
public import proofs.«01_k».proof.Proof.KOff
public import proofs.«01_k».proof.Proof.KPay
/-! What a trip stores, as one function of the query's row in its block of 512 and of the head: tile 0 sees only the first
    256 keys of the request, which is all that its mask keeps, so both tiles store the same function. -/
@[expose] public section
set_option maxRecDepth 16384
noncomputable section
namespace Cert.KernelIdeal.Gen
open Idealize.ShloMosaic Idealize.ShloMosaic.TcCoe Idealize.ShloMosaic.Tactic
open Idealize.SL.Sem

/-- The buffers a block is computed from: queries, query scales, prefix keys, prefix key scales, scaled prefix values, the
    request's keys, their scales, the request's scaled values. -/
structure Blk where
  Q : Vec Ideal S1x512x1536 .fp8e4m3
  S : Vec Ideal S1x12x512 .f32
  PK : Vec Ideal S2048x256 .fp8e4m3
  sc : Fin 2 → Fin 2048 → EReal
  PV : Vec Ideal S2x128x2048 .bf16
  K : Vec Ideal S1x512x256 .fp8e4m3
  kc : Fin 2 → Fin 512 → EReal
  VT : Vec Ideal S2x128x512 .bf16

namespace Blk
variable (b : Blk) (h : Fin 12) (s : Fin 512)
/-- The exponent's scale of query `s` in head `h`. -/
def scale : EReal := b.S (ix3 0 h s) * cScale
/-- The prefix scores of that query. -/
def up : Fin 2048 → EReal := fun n =>
  (∑ e : Fin 128, b.PK (ix2 n (l2 (gr h) e)) * b.Q (ix3 0 s (l12 h e))) * b.sc (gr h) n
/-- The request's scores of that query, `⊥` after it. -/
def us : Fin 512 → EReal := fun n =>
  if n.val ≤ s.val then (∑ e : Fin 128, b.K (ix3 0 n (l2 (gr h) e)) * b.Q (ix3 0 s (l12 h e))) * b.kc (gr h) n else ⊥
/-- The three results of that query. -/
def out (d : Fin 128) : EReal :=
  Att.kOut (Att.kA (b.scale h s) (b.up h s)) (Att.kL (b.scale h s) (b.up h s))
    (Att.kO (b.scale h s) (b.up h s) fun n => b.PV (ix3 (gr h) d n))
    (Att.kA (b.scale h s) (b.us h s)) (Att.kL (b.scale h s) (b.us h s))
    (Att.kO (b.scale h s) (b.us h s) fun n => b.VT (ix3 (gr h) d n))
def lp : EReal :=
  Att.kLse ((Real.log 2 : ℝ) : EReal) (((Real.log 2)⁻¹ : ℝ) : EReal) (Att.kA (b.scale h s) (b.up h s))
    (Att.kL (b.scale h s) (b.up h s)) - ((Real.log 2048 : ℝ) : EReal)
def lc : EReal :=
  Att.kLse ((Real.log 2 : ℝ) : EReal) (((Real.log 2)⁻¹ : ℝ) : EReal) (Att.kA (b.scale h s) (b.us h s))
    (Att.kL (b.scale h s) (b.us h s)) - Ideal.log (((s.val + 1 : ℕ) : ℝ) : EReal)
end Blk

section
variable (b : Blk) (PS : Vec Ideal S2x2048x128 .f32) (hPS : ∀ g n j, PS (ix3 g n j) = b.sc g n)
  (KS : Vec Ideal S2x512x128 .f32) (hKS : ∀ g n j, KS (ix3 g n j) = b.kc g n)
  (hS : ∀ h s, ∃ r : ℝ, 0 < r ∧ b.S (ix3 0 h s) = (r : EReal)) (k : Fin k0_t1_loop.trips) (i : Fin 256)

include hPS in
theorem hps (n : Fin 2048) (j : Fin 128) : kPS PS k (ix3 0 n j) = b.sc (gr (hd k)) n := by rw [kPS_at, hPS]
include hKS in
theorem hks0 (n : Fin 256) (j : Fin 128) : kKS0 KS k (ix3 0 n j) = b.kc (gr (hd k)) (lo n) := by rw [kKS0_at, hKS]
include hKS in
theorem hks1 (n : Fin 512) (j : Fin 128) : kKS1 KS k (ix3 0 n j) = b.kc (gr (hd k)) n := by rw [kKS1_at, hKS]

theorem up0 : upre (kQ0 b.Q k) (kPK b.PK k) (b.sc (gr (hd k))) i = b.up (hd k) (lo i) := by
  funext n; unfold Blk.up; exact congrArg (· * _) (Finset.sum_congr rfl fun e _ => by rw [kPK_at, kQ0_at])
theorem up1 : upre (kQ1 b.Q k) (kPK b.PK k) (b.sc (gr (hd k))) i = b.up (hd k) (hi i) := by
  funext n; unfold Blk.up; exact congrArg (· * _) (Finset.sum_congr rfl fun e _ => by rw [kPK_at, kQ1_at])
theorem us0 : ucom0 (kQ0 b.Q k) (kK0 b.K k) (fun n => b.kc (gr (hd k)) (lo n)) i
    = fun n : Fin 256 => b.us (hd k) (lo i) (lo n) := by
  funext n; unfold Blk.us
  refine if_congr Iff.rfl ?_ rfl
  exact congrArg (· * _) (Finset.sum_congr rfl fun e _ => by rw [kK0_at, kQ0_at])
theorem us1 : ucom1 (kQ1 b.Q k) (kK1 b.K k) (b.kc (gr (hd k))) i = b.us (hd k) (hi i) := by
  funext n; unfold Blk.us
  refine if_congr (by rw [Nat.add_comm]) ?_ rfl
  exact congrArg (· * _) (Finset.sum_congr rfl fun e _ => by rw [kK1_at, kQ1_at])

/-- The scale of the exponent is a positive real. -/
theorem cReal_pos : 0 < (Real.sqrt 128)⁻¹ * (Real.log 2)⁻¹ :=
  mul_pos (inv_pos.2 (Real.sqrt_pos.2 (by norm_num))) (inv_pos.2 (Real.log_pos (by norm_num)))
include hS in
theorem scale_real (h : Fin 12) (s : Fin 512) : ∃ r : ℝ, 0 < r ∧ b.scale h s = (r : EReal) := by
  obtain ⟨r, hr, e⟩ := hS h s
  exact ⟨r * ((Real.sqrt 128)⁻¹ * (Real.log 2)⁻¹), mul_pos hr cReal_pos, by unfold Blk.scale cScale; rw [e, EReal.coe_mul r]⟩

theorem us_late (n : Fin 512) (hn : 256 ≤ n.val) : b.us (hd k) (lo i) n = ⊥ :=
  if_neg (fun h => by have := i.isLt; have h' : n.val ≤ i.val := h; omega)

include hPS hKS hS in
theorem t0Out_blk (d : Fin 128) : t0Out (kQ0 b.Q k) (kS0 b.S k) (kPK b.PK k) (kPS PS k) (kPV b.PV k) (kK0 b.K k) (kKS0 KS k)
    (kVT0 b.VT k) (ix3 (0 : Fin 1) i d) = b.out (hd k) (lo i) d := by
  obtain ⟨r, hr, e⟩ := scale_real b hS (hd k) (lo i)
  rw [t0Out_at _ _ _ _ _ _ (hps b PS hPS k) _ _ _ _ (hks0 b KS hKS k), up0, us0, kS0_at]
  have e' : b.S (ix3 0 (hd k) (lo i)) * cScale = (r : EReal) := e
  unfold Blk.out
  rw [e', e]
  have h1 := Att.kA_short r (b.us (hd k) (lo i)) (us_late b k i)
  have h2 := Att.kL_short r hr (b.us (hd k) (lo i)) (us_late b k i)
  have h3 := Att.kO_short r hr (b.us (hd k) (lo i)) (fun n => b.VT (ix3 (gr (hd k)) d n)) (us_late b k i)
  have p : (fun n => kPV b.PV k (ix3 0 d n)) = fun n => b.PV (ix3 (gr (hd k)) d n) := funext fun n => kPV_at _ _ _ _
  have v : (fun n => kVT0 b.VT k (ix3 0 d n)) = fun n => b.VT (ix3 (gr (hd k)) d (lo n)) := funext fun n => kVT0_at _ _ _ _
  rw [← h1, ← h2, ← h3, p, v]

include hPS hKS in
theorem t1Out_blk (d : Fin 128) : t1Out (kQ1 b.Q k) (kS1 b.S k) (kPK b.PK k) (kPS PS k) (kPV b.PV k) (kK1 b.K k) (kKS1 KS k)
    (kVT1 b.VT k) (ix3 (0 : Fin 1) i d) = b.out (hd k) (hi i) d := by
  rw [t1Out_at _ _ _ _ _ _ (hps b PS hPS k) _ _ _ _ (hks1 b KS hKS k), up1, us1, kS1_at]
  have p : (fun n => kPV b.PV k (ix3 0 d n)) = fun n => b.PV (ix3 (gr (hd k)) d n) := funext fun n => kPV_at _ _ _ _
  have v : (fun n => kVT1 b.VT k (ix3 0 d n)) = fun n => b.VT (ix3 (gr (hd k)) d n) := funext fun n => kVT1_at _ _ _ _
  rw [p, v]; rfl

include hPS in
theorem t0Lp_blk : t0Lp (kQ0 b.Q k) (kS0 b.S k) (kPK b.PK k) (kPS PS k) (ix3 (0 : Fin 1) (0 : Fin 1) i) = b.lp (hd k) (lo i) := by
  rw [t0Lp_at _ _ _ _ _ (hps b PS hPS k), up0, kS0_at]; rfl
include hPS in
theorem t1Lp_blk : t1Lp (kQ1 b.Q k) (kS1 b.S k) (kPK b.PK k) (kPS PS k) (ix3 (0 : Fin 1) (0 : Fin 1) i) = b.lp (hd k) (hi i) := by
  rw [t1Lp_at _ _ _ _ _ (hps b PS hPS k), up1, kS1_at]; rfl

include hKS hS in
theorem t0Lc_blk : t0Lc (kQ0 b.Q k) (kS0 b.S k) (kK0 b.K k) (kKS0 KS k) (ix3 (0 : Fin 1) (0 : Fin 1) i) = b.lc (hd k) (lo i) := by
  obtain ⟨r, hr, e⟩ := scale_real b hS (hd k) (lo i)
  rw [t0Lc_at _ _ _ _ _ (hks0 b KS hKS k), us0, kS0_at]
  have e' : b.S (ix3 0 (hd k) (lo i)) * cScale = (r : EReal) := e
  unfold Blk.lc
  rw [e', e, ← Att.kA_short r (b.us (hd k) (lo i)) (us_late b k i), ← Att.kL_short r hr (b.us (hd k) (lo i)) (us_late b k i)]
include hKS in
theorem t1Lc_blk : t1Lc (kQ1 b.Q k) (kS1 b.S k) (kK1 b.K k) (kKS1 KS k) (ix3 (0 : Fin 1) (0 : Fin 1) i) = b.lc (hd k) (hi i) := by
  rw [t1Lc_at _ _ _ _ _ (hks1 b KS hKS k), us1, kS1_at]
  unfold Blk.lc Blk.scale
  have e : (hi i).val + 1 = i.val + 257 := by show 256 + i.val + 1 = _; omega
  rw [e]
end
end Cert.KernelIdeal.Gen
-- ==== Proof.KPieces.lean ====
module
public import proofs.«01_k».proof.Proof.KBlock
public import Idealize.ShloMosaic.Lib.Pipeline.ValueKit
/-! The pieces that the head loop leaves of a block's three results: each holds the block's function at its place. -/
@[expose] public section
set_option maxRecDepth 16384
noncomputable section
namespace Cert.KernelIdeal.Gen
open Idealize.ShloMosaic Idealize.ShloMosaic.TcCoe Idealize.ShloMosaic.Tactic
open Idealize.SL.Sem

/-- The three results of a block, as arrays of the block. -/
def fOut (b : Blk) : S1x512x1536.Idx → EReal := fun y =>
  b.out ⟨(y 2).val / 128, by have h : (y 2).val < 1536 := (y 2).isLt; omega⟩ (y 1) ⟨(y 2).val % 128, by omega⟩
def fLp (b : Blk) : S1x12x512.Idx → EReal := fun y => b.lp (y 1) (y 2)
def fLc (b : Blk) : S1x12x512.Idx → EReal := fun y => b.lc (y 1) (y 2)

theorem fOut_at (b : Blk) (s : Fin 512) (h : Fin 12) (d : Fin 128) : fOut b (ix3 0 s (l12 h d)) = b.out h s d := by
  have e1 : (⟨(128 * h.val + d.val) / 128, by have := h.isLt; have := d.isLt; omega⟩ : Fin 12) = h := by
    apply Fin.ext; have := d.isLt; show (128 * h.val + d.val) / 128 = h.val; omega
  have e2 : (⟨(128 * h.val + d.val) % 128, by omega⟩ : Fin 128) = d := by
    apply Fin.ext; have := d.isLt; show (128 * h.val + d.val) % 128 = d.val; omega
  show b.out ⟨(128 * h.val + d.val) / 128, _⟩ s ⟨(128 * h.val + d.val) % 128, _⟩ = _
  rw [e1, e2]

theorem emb1 (k : Fin k0_t1_loop.trips) (x : S1x256x128.Idx) :
    (Rect.unit (s := S1x512x1536) (k0_off1 k) S1x256x128.size (k0_off1_inb k)).emb x = ix3 0 (lo (x 1)) (l12 (hd k) (x 2)) := by
  funext a
  refine Fin.ext ((Rect.idx_unit_val _ _ _ x a).trans ((congrArg (· + _) (congrFun (off1 k) a)).trans ?_))
  fin_cases a <;> first | rfl | exact Nat.zero_add _ | (have h : (x 0).val < 1 := (x 0).isLt; show 0 + (x 0).val = 0; omega) | (have h : (x 1).val < 1 := (x 1).isLt; show k.val + (x 1).val = k.val; omega)
theorem emb9 (k : Fin k0_t1_loop.trips) (x : S1x256x128.Idx) :
    (Rect.unit (s := S1x512x1536) (k0_off9 k) S1x256x128.size (k0_off9_inb k)).emb x = ix3 0 (hi (x 1)) (l12 (hd k) (x 2)) := by
  funext a
  refine Fin.ext ((Rect.idx_unit_val _ _ _ x a).trans ((congrArg (· + _) (congrFun (off9 k) a)).trans ?_))
  fin_cases a <;> first | rfl | exact Nat.zero_add _ | (have h : (x 0).val < 1 := (x 0).isLt; show 0 + (x 0).val = 0; omega) | (have h : (x 1).val < 1 := (x 1).isLt; show k.val + (x 1).val = k.val; omega)
theorem emb2 (k : Fin k0_t1_loop.trips) (x : S1x1x256.Idx) :
    (Rect.unit (s := S1x12x512) (k0_off2 k) S1x1x256.size (k0_off2_inb k)).emb x = ix3 0 (hd k) (lo (x 2)) := by
  funext a
  refine Fin.ext ((Rect.idx_unit_val _ _ _ x a).trans ((congrArg (· + _) (congrFun (off2 k) a)).trans ?_))
  fin_cases a <;> first | rfl | exact Nat.zero_add _ | (have h : (x 0).val < 1 := (x 0).isLt; show 0 + (x 0).val = 0; omega) | (have h : (x 1).val < 1 := (x 1).isLt; show k.val + (x 1).val = k.val; omega)
theorem emb10 (k : Fin k0_t1_loop.trips) (x : S1x1x256.Idx) :
    (Rect.unit (s := S1x12x512) (k0_off10 k) S1x1x256.size (k0_off10_inb k)).emb x = ix3 0 (hd k) (hi (x 2)) := by
  funext a
  refine Fin.ext ((Rect.idx_unit_val _ _ _ x a).trans ((congrArg (· + _) (congrFun (off10 k) a)).trans ?_))
  fin_cases a <;> first | rfl | exact Nat.zero_add _ | (have h : (x 0).val < 1 := (x 0).isLt; show 0 + (x 0).val = 0; omega) | (have h : (x 1).val < 1 := (x 1).isLt; show k.val + (x 1).val = k.val; omega)

theorem eta1 (x : S1x256x128.Idx) : x = ix3 (0 : Fin 1) (x 1) (x 2) := by
  funext a; fin_cases a
  · exact Subsingleton.elim (α := Fin 1) _ _
  · rfl
  · rfl
theorem eta2 (x : S1x1x256.Idx) : x = ix3 (0 : Fin 1) (0 : Fin 1) (x 2) := by
  funext a; fin_cases a
  · exact Subsingleton.elim (α := Fin 1) _ _
  · exact Subsingleton.elim (α := Fin 1) _ _
  · rfl

section
variable (b : Blk) (PS : Vec Ideal S2x2048x128 .f32) (hPS : ∀ g n j, PS (ix3 g n j) = b.sc g n)
  (KS : Vec Ideal S2x512x128 .f32) (hKS : ∀ g n j, KS (ix3 g n j) = b.kc g n)
  (hS : ∀ h s, ∃ r : ℝ, 0 < r ∧ b.S (ix3 0 h s) = (r : EReal)) (k : Fin k0_t1_loop.trips)

include hPS hKS in
theorem pieceOut1 (x : S1x256x128.Idx) : t1Out (kQ1 b.Q k) (kS1 b.S k) (kPK b.PK k) (kPS PS k) (kPV b.PV k) (kK1 b.K k)
    (kKS1 KS k) (kVT1 b.VT k) x
      = fOut b ((Rect.unit (s := S1x512x1536) (k0_off9 k) S1x256x128.size (k0_off9_inb k)).emb x) := by
  refine Eq.trans ?_ (((congrArg (fOut b) (emb9 k x)).trans (fOut_at b (hi (x 1)) (hd k) (x 2))).symm)
  exact (congrArg _ (eta1 x)).trans (t1Out_blk b PS hPS KS hKS k (x 1) (x 2))
include hPS hKS hS in
theorem pieceOut0 (x : S1x256x128.Idx) : t0Out (kQ0 b.Q k) (kS0 b.S k) (kPK b.PK k) (kPS PS k) (kPV b.PV k) (kK0 b.K k)
    (kKS0 KS k) (kVT0 b.VT k) x
      = fOut b ((Rect.unit (s := S1x512x1536) (k0_off1 k) S1x256x128.size (k0_off1_inb k)).emb x) := by
  refine Eq.trans ?_ (((congrArg (fOut b) (emb1 k x)).trans (fOut_at b (lo (x 1)) (hd k) (x 2))).symm)
  exact (congrArg _ (eta1 x)).trans (t0Out_blk b PS hPS KS hKS hS k (x 1) (x 2))
include hPS in
theorem pieceLp1 (x : S1x1x256.Idx) : t1Lp (kQ1 b.Q k) (kS1 b.S k) (kPK b.PK k) (kPS PS k) x
      = fLp b ((Rect.unit (s := S1x12x512) (k0_off10 k) S1x1x256.size (k0_off10_inb k)).emb x) := by
  refine Eq.trans ?_ (congrArg (fLp b) (emb10 k x)).symm
  exact (congrArg _ (eta2 x)).trans (t1Lp_blk b PS hPS k (x 2))
include hPS in
theorem pieceLp0 (x : S1x1x256.Idx) : t0Lp (kQ0 b.Q k) (kS0 b.S k) (kPK b.PK k) (kPS PS k) x
      = fLp b ((Rect.unit (s := S1x12x512) (k0_off2 k) S1x1x256.size (k0_off2_inb k)).emb x) := by
  refine Eq.trans ?_ (congrArg (fLp b) (emb2 k x)).symm
  exact (congrArg _ (eta2 x)).trans (t0Lp_blk b PS hPS k (x 2))
include hKS in
theorem pieceLc1 (x : S1x1x256.Idx) : t1Lc (kQ1 b.Q k) (kS1 b.S k) (kK1 b.K k) (kKS1 KS k) x
      = fLc b ((Rect.unit (s := S1x12x512) (k0_off10 k) S1x1x256.size (k0_off10_inb k)).emb x) := by
  refine Eq.trans ?_ (congrArg (fLc b) (emb10 k x)).symm
  exact (congrArg _ (eta2 x)).trans (t1Lc_blk b KS hKS k (x 2))
include hKS hS in
theorem pieceLc0 (x : S1x1x256.Idx) : t0Lc (kQ0 b.Q k) (kS0 b.S k) (kK0 b.K k) (kKS0 KS k) x
      = fLc b ((Rect.unit (s := S1x12x512) (k0_off2 k) S1x1x256.size (k0_off2_inb k)).emb x) := by
  refine Eq.trans ?_ (congrArg (fLc b) (emb2 k x)).symm
  exact (congrArg _ (eta2 x)).trans (t0Lc_blk b KS hKS hS k (x 2))
end

/-- The pieces of the trips before `n`, of buffers whose contents are the block's. -/
theorem pb_pieces (𝒱 : Variants) (c : Dev nD) (bd : Option 𝒱.V) (i : grid0.Coords) (arg1 : Memref sig .tc .vmem S1x512x1536 .fp8e4m3) (harg1 : arg1.IsWhole) (arg2 : Memref sig .tc .vmem S1x12x512 .f32) (harg2 : arg2.IsWhole) (arg3 : Memref sig .tc .vmem S2048x256 .fp8e4m3) (harg3 : arg3.IsWhole) (arg4 : Memref sig .tc .vmem S2048x2 .f32) (harg4 : arg4.IsWhole) (arg5 : Memref sig .tc .vmem S2048x256 .fp8e4m3) (harg5 : arg5.IsWhole) (arg6 : Memref sig .tc .vmem S2048x2 .f32) (harg6 : arg6.IsWhole) (arg7 : Memref sig .tc .vmem S1x512x256 .fp8e4m3) (harg7 : arg7.IsWhole) (arg8 : Memref sig .tc .vmem S1x512x2 .f32) (harg8 : arg8.IsWhole) (arg9 : Memref sig .tc .vmem S1x512x256 .fp8e4m3) (harg9 : arg9.IsWhole) (arg10 : Memref sig .tc .vmem S1x512x2 .f32) (harg10 : arg10.IsWhole) (arg11 : Memref sig .tc .vmem S1x512x1536 .bf16) (harg11 : arg11.IsWhole) (arg12 : Memref sig .tc .vmem S1x12x512 .f32) (harg12 : arg12.IsWhole) (arg13 : Memref sig .tc .vmem S1x12x512 .f32) (harg13 : arg13.IsWhole) (arg14 : Memref sig .tc .vmem S2x2048x128 .f32) (harg14 : arg14.IsWhole) (arg15 : Memref sig .tc .vmem S2x128x2048 .bf16) (harg15 : arg15.IsWhole) (arg16 : Memref sig .tc .vmem S2x512x128 .f32) (harg16 : arg16.IsWhole) (arg17 : Memref sig .tc .vmem S2x128x512 .bf16) (harg17 : arg17.IsWhole) (X_arg1 : BufTy.Contents (Elt Ideal) arg1.view.ty) (X_arg2 : BufTy.Contents (Elt Ideal) arg2.view.ty) (X_arg3 : BufTy.Contents (Elt Ideal) arg3.view.ty) (X_arg7 : BufTy.Contents (Elt Ideal) arg7.view.ty) (X_arg14 : BufTy.Contents (Elt Ideal) arg14.view.ty) (X_arg15 : BufTy.Contents (Elt Ideal) arg15.view.ty) (X_arg16 : BufTy.Contents (Elt Ideal) arg16.view.ty) (X_arg17 : BufTy.Contents (Elt Ideal) arg17.view.ty)
    (b : Blk) (hS : ∀ h s, ∃ r : ℝ, 0 < r ∧ b.S (ix3 0 h s) = (r : EReal))
    (h1 : arg1.view.read (Elt Ideal) X_arg1 = b.Q) (h2 : arg2.view.read (Elt Ideal) X_arg2 = b.S)
    (h3 : arg3.view.read (Elt Ideal) X_arg3 = b.PK) (h7 : arg7.view.read (Elt Ideal) X_arg7 = b.K)
    (h14 : ∀ g n j, arg14.view.read (Elt Ideal) X_arg14 (ix3 g n j) = b.sc g n)
    (h15 : arg15.view.read (Elt Ideal) X_arg15 = b.PV)
    (h16 : ∀ g n j, arg16.view.read (Elt Ideal) X_arg16 (ix3 g n j) = b.kc g n)
    (h17 : arg17.view.read (Elt Ideal) X_arg17 = b.VT) (n : ℕ) (hn : n ≤ k0_t1_loop.trips) :
    PiecesAre (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg1 X_arg2 X_arg3 X_arg7 X_arg14 X_arg15 X_arg16 X_arg17 n).1 (fOut b)
    ∧ PiecesAre (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg1 X_arg2 X_arg3 X_arg7 X_arg14 X_arg15 X_arg16 X_arg17 n).2.1 (fLp b)
    ∧ PiecesAre (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg1 X_arg2 X_arg3 X_arg7 X_arg14 X_arg15 X_arg16 X_arg17 n).2.2 (fLc b) := by
  induction n with
  | zero => rw [pb_k0_t1.eq_1]; exact ⟨PiecesAre.nil _, PiecesAre.nil _, PiecesAre.nil _⟩
  | succ n ih =>
    obtain ⟨i1, i2, i3⟩ := ih (by omega)
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg1 X_arg2 X_arg3 X_arg7 X_arg14 X_arg15 X_arg16 X_arg17 ⟨n, by omega⟩]
    rw [tripL_eq, h1, h2, h3, h7, h15, h17]
    refine ⟨PiecesAre.append ?_ i1, PiecesAre.append ?_ i2, PiecesAre.append ?_ i3⟩
    · exact PiecesAre.cons (pieceOut1 b _ h14 _ h16 _) (PiecesAre.cons (pieceOut0 b _ h14 _ h16 hS _) (PiecesAre.nil _))
    · exact PiecesAre.cons (pieceLp1 b _ h14 _) (PiecesAre.cons (pieceLp0 b _ h14 _) (PiecesAre.nil _))
    · exact PiecesAre.cons (pieceLc1 b _ h16 _) (PiecesAre.cons (pieceLc0 b _ h16 hS _) (PiecesAre.nil _))
end Cert.KernelIdeal.Gen
-- ==== Proof.KOut.lean ====
module
public import proofs.«01_k».proof.Proof.KScr
public import proofs.«01_k».proof.Proof.KPieces
public import proofs.«01_k».proof.Proof.Gen.KernelIdeal.Frame
/-! What one grid point leaves in its outputs and in the carried scratch, as functions of its blocks. -/
@[expose] public section
set_option maxRecDepth 16384
noncomputable section
namespace Cert.KernelIdeal.Gen
open Idealize.ShloMosaic Idealize.ShloMosaic.TcCoe Idealize.ShloMosaic.Tactic
open Idealize.SL.Sem

/-- A grid point's operands, as the head loop reads them. -/
def blkOf (x0 : Vec Ideal S1x512x1536 .fp8e4m3) (x1 : Vec Ideal S1x12x512 .f32) (x2 : Vec Ideal S2048x256 .fp8e4m3) (x3 : Vec Ideal S2048x2 .f32) (x4 : Vec Ideal S2048x256 .fp8e4m3) (x5 : Vec Ideal S2048x2 .f32) (x6 : Vec Ideal S1x512x256 .fp8e4m3) (x7 : Vec Ideal S1x512x2 .f32) (x8 : Vec Ideal S1x512x256 .fp8e4m3) (x9 : Vec Ideal S1x512x2 .f32) : Blk where
  Q := x0
  S := x1
  PK := x2
  sc g n := x3 (ix2 n g)
  PV := pvArr x4 x5
  K := x6
  kc g n := x7 (ix3 0 n g)
  VT := vtArr x8 x9

theorem hs2B (c : Dev nD) (arg8 : Memref sig .tc .vmem S1x512x2 .f32) (harg8 : arg8.IsWhole) (x7 : Vec Ideal S1x512x2 .f32) :
    kernelRun0_B.sl.HS2_2 (F := Ideal) c arg8 harg8 x7 = kernelRun0_A.sl.HS2_2 (F := Ideal) c arg8 harg8 x7 := rfl
theorem hs3B (c : Dev nD) (arg9 : Memref sig .tc .vmem S1x512x256 .fp8e4m3) (harg9 : arg9.IsWhole)
    (arg10 : Memref sig .tc .vmem S1x512x2 .f32) (harg10 : arg10.IsWhole) (x8 : Vec Ideal S1x512x256 .fp8e4m3) (x9 : Vec Ideal S1x512x2 .f32) :
    kernelRun0_B.sl.HS3_2 (F := Ideal) c arg9 harg9 arg10 harg10 x8 x9 = kernelRun0_A.sl.HS3_2 (F := Ideal) c arg9 harg9 arg10 harg10 x8 x9 := rfl

set_option maxHeartbeats 4000000 in
theorem runA_pieces (c : Dev nD) (i : grid0.Coords) (arg1 : Memref sig .tc .vmem S1x512x1536 .fp8e4m3) (harg1 : arg1.IsWhole) (arg2 : Memref sig .tc .vmem S1x12x512 .f32) (harg2 : arg2.IsWhole) (arg3 : Memref sig .tc .vmem S2048x256 .fp8e4m3) (harg3 : arg3.IsWhole) (arg4 : Memref sig .tc .vmem S2048x2 .f32) (harg4 : arg4.IsWhole) (arg5 : Memref sig .tc .vmem S2048x256 .fp8e4m3) (harg5 : arg5.IsWhole) (arg6 : Memref sig .tc .vmem S2048x2 .f32) (harg6 : arg6.IsWhole) (arg7 : Memref sig .tc .vmem S1x512x256 .fp8e4m3) (harg7 : arg7.IsWhole) (arg8 : Memref sig .tc .vmem S1x512x2 .f32) (harg8 : arg8.IsWhole) (arg9 : Memref sig .tc .vmem S1x512x256 .fp8e4m3) (harg9 : arg9.IsWhole) (arg10 : Memref sig .tc .vmem S1x512x2 .f32) (harg10 : arg10.IsWhole) (arg11 : Memref sig .tc .vmem S1x512x1536 .bf16) (harg11 : arg11.IsWhole) (arg12 : Memref sig .tc .vmem S1x12x512 .f32) (harg12 : arg12.IsWhole) (arg13 : Memref sig .tc .vmem S1x12x512 .f32) (harg13 : arg13.IsWhole) (arg14 : Memref sig .tc .vmem S2x2048x128 .f32) (harg14 : arg14.IsWhole) (arg15 : Memref sig .tc .vmem S2x128x2048 .bf16) (harg15 : arg15.IsWhole) (arg16 : Memref sig .tc .vmem S2x512x128 .f32) (harg16 : arg16.IsWhole) (arg17 : Memref sig .tc .vmem S2x128x512 .bf16) (harg17 : arg17.IsWhole) (hc0 : cond0_0 i) (x0 : Vec Ideal S1x512x1536 .fp8e4m3) (x1 : Vec Ideal S1x12x512 .f32) (x2 : Vec Ideal S2048x256 .fp8e4m3) (x3 : Vec Ideal S2048x2 .f32) (x4 : Vec Ideal S2048x256 .fp8e4m3) (x5 : Vec Ideal S2048x2 .f32) (x6 : Vec Ideal S1x512x256 .fp8e4m3) (x7 : Vec Ideal S1x512x2 .f32) (x8 : Vec Ideal S1x512x256 .fp8e4m3) (x9 : Vec Ideal S1x512x2 .f32)  (hS : ∀ h s, ∃ r : ℝ, 0 < r ∧ x1 (ix3 0 h s) = (r : EReal)) :
    PiecesAre (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).1 (fOut (blkOf x0 x1 x2 x3 x4 x5 x6 x7 x8 x9)) ∧ PiecesAre (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.1 (fLp (blkOf x0 x1 x2 x3 x4 x5 x6 x7 x8 x9)) ∧ PiecesAre (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.2.1 (fLc (blkOf x0 x1 x2 x3 x4 x5 x6 x7 x8 x9)) := by
  unfold kernelRun0_A
  dsimp only
  exact pb_pieces Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ (blkOf x0 x1 x2 x3 x4 x5 x6 x7 x8 x9) hS (harg1.read_unread _) (harg2.read_unread _) (harg3.read_unread _) (harg7.read_unread _)
    (fun g n j => congrFun ((View.read_writes_junk_eq_canon _ _).trans (hs0_canon c arg4 harg4 x3)) (ix3 g n j))
    ((View.read_writes_junk_eq_canon _ _).trans (hs1_canon c arg5 harg5 arg6 harg6 x4 x5))
    (fun g n j => congrFun ((View.read_writes_junk_eq_canon _ _).trans ((hs2_canon c arg8 harg8 x7))) (ix3 g n j))
    ((View.read_writes_junk_eq_canon _ _).trans ((hs3_canon c arg9 harg9 arg10 harg10 x8 x9))) _ (le_of_eq rfl)
theorem outA10 (c : Dev nD) (i : grid0.Coords) (arg1 : Memref sig .tc .vmem S1x512x1536 .fp8e4m3) (harg1 : arg1.IsWhole) (arg2 : Memref sig .tc .vmem S1x12x512 .f32) (harg2 : arg2.IsWhole) (arg3 : Memref sig .tc .vmem S2048x256 .fp8e4m3) (harg3 : arg3.IsWhole) (arg4 : Memref sig .tc .vmem S2048x2 .f32) (harg4 : arg4.IsWhole) (arg5 : Memref sig .tc .vmem S2048x256 .fp8e4m3) (harg5 : arg5.IsWhole) (arg6 : Memref sig .tc .vmem S2048x2 .f32) (harg6 : arg6.IsWhole) (arg7 : Memref sig .tc .vmem S1x512x256 .fp8e4m3) (harg7 : arg7.IsWhole) (arg8 : Memref sig .tc .vmem S1x512x2 .f32) (harg8 : arg8.IsWhole) (arg9 : Memref sig .tc .vmem S1x512x256 .fp8e4m3) (harg9 : arg9.IsWhole) (arg10 : Memref sig .tc .vmem S1x512x2 .f32) (harg10 : arg10.IsWhole) (arg11 : Memref sig .tc .vmem S1x512x1536 .bf16) (harg11 : arg11.IsWhole) (arg12 : Memref sig .tc .vmem S1x12x512 .f32) (harg12 : arg12.IsWhole) (arg13 : Memref sig .tc .vmem S1x12x512 .f32) (harg13 : arg13.IsWhole) (arg14 : Memref sig .tc .vmem S2x2048x128 .f32) (harg14 : arg14.IsWhole) (arg15 : Memref sig .tc .vmem S2x128x2048 .bf16) (harg15 : arg15.IsWhole) (arg16 : Memref sig .tc .vmem S2x512x128 .f32) (harg16 : arg16.IsWhole) (arg17 : Memref sig .tc .vmem S2x128x512 .bf16) (harg17 : arg17.IsWhole) (hc0 : cond0_0 i) (x0 : Vec Ideal S1x512x1536 .fp8e4m3) (x1 : Vec Ideal S1x12x512 .f32) (x2 : Vec Ideal S2048x256 .fp8e4m3) (x3 : Vec Ideal S2048x2 .f32) (x4 : Vec Ideal S2048x256 .fp8e4m3) (x5 : Vec Ideal S2048x2 .f32) (x6 : Vec Ideal S1x512x256 .fp8e4m3) (x7 : Vec Ideal S1x512x2 .f32) (x8 : Vec Ideal S1x512x256 .fp8e4m3) (x9 : Vec Ideal S1x512x2 .f32)  (hS : ∀ h s, ∃ r : ℝ, 0 < r ∧ x1 (ix3 0 h s) = (r : EReal)) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = fOut (blkOf x0 x1 x2 x3 x4 x5 x6 x7 x8 x9) := by
  unfold out0_A_10
  rw [View.read_writes_junk_eq_canon]
  exact (runA_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 hS).1.canon (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)
theorem outA11 (c : Dev nD) (i : grid0.Coords) (arg1 : Memref sig .tc .vmem S1x512x1536 .fp8e4m3) (harg1 : arg1.IsWhole) (arg2 : Memref sig .tc .vmem S1x12x512 .f32) (harg2 : arg2.IsWhole) (arg3 : Memref sig .tc .vmem S2048x256 .fp8e4m3) (harg3 : arg3.IsWhole) (arg4 : Memref sig .tc .vmem S2048x2 .f32) (harg4 : arg4.IsWhole) (arg5 : Memref sig .tc .vmem S2048x256 .fp8e4m3) (harg5 : arg5.IsWhole) (arg6 : Memref sig .tc .vmem S2048x2 .f32) (harg6 : arg6.IsWhole) (arg7 : Memref sig .tc .vmem S1x512x256 .fp8e4m3) (harg7 : arg7.IsWhole) (arg8 : Memref sig .tc .vmem S1x512x2 .f32) (harg8 : arg8.IsWhole) (arg9 : Memref sig .tc .vmem S1x512x256 .fp8e4m3) (harg9 : arg9.IsWhole) (arg10 : Memref sig .tc .vmem S1x512x2 .f32) (harg10 : arg10.IsWhole) (arg11 : Memref sig .tc .vmem S1x512x1536 .bf16) (harg11 : arg11.IsWhole) (arg12 : Memref sig .tc .vmem S1x12x512 .f32) (harg12 : arg12.IsWhole) (arg13 : Memref sig .tc .vmem S1x12x512 .f32) (harg13 : arg13.IsWhole) (arg14 : Memref sig .tc .vmem S2x2048x128 .f32) (harg14 : arg14.IsWhole) (arg15 : Memref sig .tc .vmem S2x128x2048 .bf16) (harg15 : arg15.IsWhole) (arg16 : Memref sig .tc .vmem S2x512x128 .f32) (harg16 : arg16.IsWhole) (arg17 : Memref sig .tc .vmem S2x128x512 .bf16) (harg17 : arg17.IsWhole) (hc0 : cond0_0 i) (x0 : Vec Ideal S1x512x1536 .fp8e4m3) (x1 : Vec Ideal S1x12x512 .f32) (x2 : Vec Ideal S2048x256 .fp8e4m3) (x3 : Vec Ideal S2048x2 .f32) (x4 : Vec Ideal S2048x256 .fp8e4m3) (x5 : Vec Ideal S2048x2 .f32) (x6 : Vec Ideal S1x512x256 .fp8e4m3) (x7 : Vec Ideal S1x512x2 .f32) (x8 : Vec Ideal S1x512x256 .fp8e4m3) (x9 : Vec Ideal S1x512x2 .f32)  (hS : ∀ h s, ∃ r : ℝ, 0 < r ∧ x1 (ix3 0 h s) = (r : EReal)) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = fLp (blkOf x0 x1 x2 x3 x4 x5 x6 x7 x8 x9) := by
  unfold out0_A_11
  rw [View.read_writes_junk_eq_canon]
  exact (runA_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 hS).2.1.canon (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)
theorem outA12 (c : Dev nD) (i : grid0.Coords) (arg1 : Memref sig .tc .vmem S1x512x1536 .fp8e4m3) (harg1 : arg1.IsWhole) (arg2 : Memref sig .tc .vmem S1x12x512 .f32) (harg2 : arg2.IsWhole) (arg3 : Memref sig .tc .vmem S2048x256 .fp8e4m3) (harg3 : arg3.IsWhole) (arg4 : Memref sig .tc .vmem S2048x2 .f32) (harg4 : arg4.IsWhole) (arg5 : Memref sig .tc .vmem S2048x256 .fp8e4m3) (harg5 : arg5.IsWhole) (arg6 : Memref sig .tc .vmem S2048x2 .f32) (harg6 : arg6.IsWhole) (arg7 : Memref sig .tc .vmem S1x512x256 .fp8e4m3) (harg7 : arg7.IsWhole) (arg8 : Memref sig .tc .vmem S1x512x2 .f32) (harg8 : arg8.IsWhole) (arg9 : Memref sig .tc .vmem S1x512x256 .fp8e4m3) (harg9 : arg9.IsWhole) (arg10 : Memref sig .tc .vmem S1x512x2 .f32) (harg10 : arg10.IsWhole) (arg11 : Memref sig .tc .vmem S1x512x1536 .bf16) (harg11 : arg11.IsWhole) (arg12 : Memref sig .tc .vmem S1x12x512 .f32) (harg12 : arg12.IsWhole) (arg13 : Memref sig .tc .vmem S1x12x512 .f32) (harg13 : arg13.IsWhole) (arg14 : Memref sig .tc .vmem S2x2048x128 .f32) (harg14 : arg14.IsWhole) (arg15 : Memref sig .tc .vmem S2x128x2048 .bf16) (harg15 : arg15.IsWhole) (arg16 : Memref sig .tc .vmem S2x512x128 .f32) (harg16 : arg16.IsWhole) (arg17 : Memref sig .tc .vmem S2x128x512 .bf16) (harg17 : arg17.IsWhole) (hc0 : cond0_0 i) (x0 : Vec Ideal S1x512x1536 .fp8e4m3) (x1 : Vec Ideal S1x12x512 .f32) (x2 : Vec Ideal S2048x256 .fp8e4m3) (x3 : Vec Ideal S2048x2 .f32) (x4 : Vec Ideal S2048x256 .fp8e4m3) (x5 : Vec Ideal S2048x2 .f32) (x6 : Vec Ideal S1x512x256 .fp8e4m3) (x7 : Vec Ideal S1x512x2 .f32) (x8 : Vec Ideal S1x512x256 .fp8e4m3) (x9 : Vec Ideal S1x512x2 .f32)  (hS : ∀ h s, ∃ r : ℝ, 0 < r ∧ x1 (ix3 0 h s) = (r : EReal)) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = fLc (blkOf x0 x1 x2 x3 x4 x5 x6 x7 x8 x9) := by
  unfold out0_A_12
  rw [View.read_writes_junk_eq_canon]
  exact (runA_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 hS).2.2.canon (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)
set_option maxHeartbeats 4000000 in
theorem runB_pieces (c : Dev nD) (i : grid0.Coords) (arg1 : Memref sig .tc .vmem S1x512x1536 .fp8e4m3) (harg1 : arg1.IsWhole) (arg2 : Memref sig .tc .vmem S1x12x512 .f32) (harg2 : arg2.IsWhole) (arg3 : Memref sig .tc .vmem S2048x256 .fp8e4m3) (harg3 : arg3.IsWhole) (arg4 : Memref sig .tc .vmem S2048x2 .f32) (harg4 : arg4.IsWhole) (arg5 : Memref sig .tc .vmem S2048x256 .fp8e4m3) (harg5 : arg5.IsWhole) (arg6 : Memref sig .tc .vmem S2048x2 .f32) (harg6 : arg6.IsWhole) (arg7 : Memref sig .tc .vmem S1x512x256 .fp8e4m3) (harg7 : arg7.IsWhole) (arg8 : Memref sig .tc .vmem S1x512x2 .f32) (harg8 : arg8.IsWhole) (arg9 : Memref sig .tc .vmem S1x512x256 .fp8e4m3) (harg9 : arg9.IsWhole) (arg10 : Memref sig .tc .vmem S1x512x2 .f32) (harg10 : arg10.IsWhole) (arg11 : Memref sig .tc .vmem S1x512x1536 .bf16) (harg11 : arg11.IsWhole) (arg12 : Memref sig .tc .vmem S1x12x512 .f32) (harg12 : arg12.IsWhole) (arg13 : Memref sig .tc .vmem S1x12x512 .f32) (harg13 : arg13.IsWhole) (arg14 : Memref sig .tc .vmem S2x2048x128 .f32) (harg14 : arg14.IsWhole) (arg15 : Memref sig .tc .vmem S2x128x2048 .bf16) (harg15 : arg15.IsWhole) (arg16 : Memref sig .tc .vmem S2x512x128 .f32) (harg16 : arg16.IsWhole) (arg17 : Memref sig .tc .vmem S2x128x512 .bf16) (harg17 : arg17.IsWhole) (hc0 : ¬cond0_0 i) (x0 : Vec Ideal S1x512x1536 .fp8e4m3) (x1 : Vec Ideal S1x12x512 .f32) (x2 : Vec Ideal S2048x256 .fp8e4m3) (x3 : Vec Ideal S2048x2 .f32) (x4 : Vec Ideal S2048x256 .fp8e4m3) (x5 : Vec Ideal S2048x2 .f32) (x6 : Vec Ideal S1x512x256 .fp8e4m3) (x7 : Vec Ideal S1x512x2 .f32) (x8 : Vec Ideal S1x512x256 .fp8e4m3) (x9 : Vec Ideal S1x512x2 .f32) (xs0 : Vec Ideal S2x2048x128 .f32) (xs1 : Vec Ideal S2x128x2048 .bf16) (e0 : xs0 = psArr x3) (e1 : xs1 = pvArr x4 x5) (hS : ∀ h s, ∃ r : ℝ, 0 < r ∧ x1 (ix3 0 h s) = (r : EReal)) :
    PiecesAre (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1).1 (fOut (blkOf x0 x1 x2 x3 x4 x5 x6 x7 x8 x9)) ∧ PiecesAre (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1).2.1 (fLp (blkOf x0 x1 x2 x3 x4 x5 x6 x7 x8 x9)) ∧ PiecesAre (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1).2.2.1 (fLc (blkOf x0 x1 x2 x3 x4 x5 x6 x7 x8 x9)) := by
  unfold kernelRun0_B
  dsimp only
  exact pb_pieces Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ (blkOf x0 x1 x2 x3 x4 x5 x6 x7 x8 x9) hS (harg1.read_unread _) (harg2.read_unread _) (harg3.read_unread _) (harg7.read_unread _)
    (fun g n j => congrFun ((harg14.read_unread _).trans e0) (ix3 g n j))
    ((harg15.read_unread _).trans e1)
    (fun g n j => congrFun ((View.read_writes_junk_eq_canon _ _).trans ((congrArg View.canon (hs2B c arg8 harg8 x7)).trans (hs2_canon c arg8 harg8 x7))) (ix3 g n j))
    ((View.read_writes_junk_eq_canon _ _).trans ((congrArg View.canon (hs3B c arg9 harg9 arg10 harg10 x8 x9)).trans (hs3_canon c arg9 harg9 arg10 harg10 x8 x9))) _ (le_of_eq rfl)
theorem outB10 (c : Dev nD) (i : grid0.Coords) (arg1 : Memref sig .tc .vmem S1x512x1536 .fp8e4m3) (harg1 : arg1.IsWhole) (arg2 : Memref sig .tc .vmem S1x12x512 .f32) (harg2 : arg2.IsWhole) (arg3 : Memref sig .tc .vmem S2048x256 .fp8e4m3) (harg3 : arg3.IsWhole) (arg4 : Memref sig .tc .vmem S2048x2 .f32) (harg4 : arg4.IsWhole) (arg5 : Memref sig .tc .vmem S2048x256 .fp8e4m3) (harg5 : arg5.IsWhole) (arg6 : Memref sig .tc .vmem S2048x2 .f32) (harg6 : arg6.IsWhole) (arg7 : Memref sig .tc .vmem S1x512x256 .fp8e4m3) (harg7 : arg7.IsWhole) (arg8 : Memref sig .tc .vmem S1x512x2 .f32) (harg8 : arg8.IsWhole) (arg9 : Memref sig .tc .vmem S1x512x256 .fp8e4m3) (harg9 : arg9.IsWhole) (arg10 : Memref sig .tc .vmem S1x512x2 .f32) (harg10 : arg10.IsWhole) (arg11 : Memref sig .tc .vmem S1x512x1536 .bf16) (harg11 : arg11.IsWhole) (arg12 : Memref sig .tc .vmem S1x12x512 .f32) (harg12 : arg12.IsWhole) (arg13 : Memref sig .tc .vmem S1x12x512 .f32) (harg13 : arg13.IsWhole) (arg14 : Memref sig .tc .vmem S2x2048x128 .f32) (harg14 : arg14.IsWhole) (arg15 : Memref sig .tc .vmem S2x128x2048 .bf16) (harg15 : arg15.IsWhole) (arg16 : Memref sig .tc .vmem S2x512x128 .f32) (harg16 : arg16.IsWhole) (arg17 : Memref sig .tc .vmem S2x128x512 .bf16) (harg17 : arg17.IsWhole) (hc0 : ¬cond0_0 i) (x0 : Vec Ideal S1x512x1536 .fp8e4m3) (x1 : Vec Ideal S1x12x512 .f32) (x2 : Vec Ideal S2048x256 .fp8e4m3) (x3 : Vec Ideal S2048x2 .f32) (x4 : Vec Ideal S2048x256 .fp8e4m3) (x5 : Vec Ideal S2048x2 .f32) (x6 : Vec Ideal S1x512x256 .fp8e4m3) (x7 : Vec Ideal S1x512x2 .f32) (x8 : Vec Ideal S1x512x256 .fp8e4m3) (x9 : Vec Ideal S1x512x2 .f32) (xs0 : Vec Ideal S2x2048x128 .f32) (xs1 : Vec Ideal S2x128x2048 .bf16) (e0 : xs0 = psArr x3) (e1 : xs1 = pvArr x4 x5) (hS : ∀ h s, ∃ r : ℝ, 0 < r ∧ x1 (ix3 0 h s) = (r : EReal)) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1 = fOut (blkOf x0 x1 x2 x3 x4 x5 x6 x7 x8 x9) := by
  unfold out0_B_10
  rw [View.read_writes_junk_eq_canon]
  exact (runB_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1 e0 e1 hS).1.canon (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1)
theorem outB11 (c : Dev nD) (i : grid0.Coords) (arg1 : Memref sig .tc .vmem S1x512x1536 .fp8e4m3) (harg1 : arg1.IsWhole) (arg2 : Memref sig .tc .vmem S1x12x512 .f32) (harg2 : arg2.IsWhole) (arg3 : Memref sig .tc .vmem S2048x256 .fp8e4m3) (harg3 : arg3.IsWhole) (arg4 : Memref sig .tc .vmem S2048x2 .f32) (harg4 : arg4.IsWhole) (arg5 : Memref sig .tc .vmem S2048x256 .fp8e4m3) (harg5 : arg5.IsWhole) (arg6 : Memref sig .tc .vmem S2048x2 .f32) (harg6 : arg6.IsWhole) (arg7 : Memref sig .tc .vmem S1x512x256 .fp8e4m3) (harg7 : arg7.IsWhole) (arg8 : Memref sig .tc .vmem S1x512x2 .f32) (harg8 : arg8.IsWhole) (arg9 : Memref sig .tc .vmem S1x512x256 .fp8e4m3) (harg9 : arg9.IsWhole) (arg10 : Memref sig .tc .vmem S1x512x2 .f32) (harg10 : arg10.IsWhole) (arg11 : Memref sig .tc .vmem S1x512x1536 .bf16) (harg11 : arg11.IsWhole) (arg12 : Memref sig .tc .vmem S1x12x512 .f32) (harg12 : arg12.IsWhole) (arg13 : Memref sig .tc .vmem S1x12x512 .f32) (harg13 : arg13.IsWhole) (arg14 : Memref sig .tc .vmem S2x2048x128 .f32) (harg14 : arg14.IsWhole) (arg15 : Memref sig .tc .vmem S2x128x2048 .bf16) (harg15 : arg15.IsWhole) (arg16 : Memref sig .tc .vmem S2x512x128 .f32) (harg16 : arg16.IsWhole) (arg17 : Memref sig .tc .vmem S2x128x512 .bf16) (harg17 : arg17.IsWhole) (hc0 : ¬cond0_0 i) (x0 : Vec Ideal S1x512x1536 .fp8e4m3) (x1 : Vec Ideal S1x12x512 .f32) (x2 : Vec Ideal S2048x256 .fp8e4m3) (x3 : Vec Ideal S2048x2 .f32) (x4 : Vec Ideal S2048x256 .fp8e4m3) (x5 : Vec Ideal S2048x2 .f32) (x6 : Vec Ideal S1x512x256 .fp8e4m3) (x7 : Vec Ideal S1x512x2 .f32) (x8 : Vec Ideal S1x512x256 .fp8e4m3) (x9 : Vec Ideal S1x512x2 .f32) (xs0 : Vec Ideal S2x2048x128 .f32) (xs1 : Vec Ideal S2x128x2048 .bf16) (e0 : xs0 = psArr x3) (e1 : xs1 = pvArr x4 x5) (hS : ∀ h s, ∃ r : ℝ, 0 < r ∧ x1 (ix3 0 h s) = (r : EReal)) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1 = fLp (blkOf x0 x1 x2 x3 x4 x5 x6 x7 x8 x9) := by
  unfold out0_B_11
  rw [View.read_writes_junk_eq_canon]
  exact (runB_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1 e0 e1 hS).2.1.canon (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1)
theorem outB12 (c : Dev nD) (i : grid0.Coords) (arg1 : Memref sig .tc .vmem S1x512x1536 .fp8e4m3) (harg1 : arg1.IsWhole) (arg2 : Memref sig .tc .vmem S1x12x512 .f32) (harg2 : arg2.IsWhole) (arg3 : Memref sig .tc .vmem S2048x256 .fp8e4m3) (harg3 : arg3.IsWhole) (arg4 : Memref sig .tc .vmem S2048x2 .f32) (harg4 : arg4.IsWhole) (arg5 : Memref sig .tc .vmem S2048x256 .fp8e4m3) (harg5 : arg5.IsWhole) (arg6 : Memref sig .tc .vmem S2048x2 .f32) (harg6 : arg6.IsWhole) (arg7 : Memref sig .tc .vmem S1x512x256 .fp8e4m3) (harg7 : arg7.IsWhole) (arg8 : Memref sig .tc .vmem S1x512x2 .f32) (harg8 : arg8.IsWhole) (arg9 : Memref sig .tc .vmem S1x512x256 .fp8e4m3) (harg9 : arg9.IsWhole) (arg10 : Memref sig .tc .vmem S1x512x2 .f32) (harg10 : arg10.IsWhole) (arg11 : Memref sig .tc .vmem S1x512x1536 .bf16) (harg11 : arg11.IsWhole) (arg12 : Memref sig .tc .vmem S1x12x512 .f32) (harg12 : arg12.IsWhole) (arg13 : Memref sig .tc .vmem S1x12x512 .f32) (harg13 : arg13.IsWhole) (arg14 : Memref sig .tc .vmem S2x2048x128 .f32) (harg14 : arg14.IsWhole) (arg15 : Memref sig .tc .vmem S2x128x2048 .bf16) (harg15 : arg15.IsWhole) (arg16 : Memref sig .tc .vmem S2x512x128 .f32) (harg16 : arg16.IsWhole) (arg17 : Memref sig .tc .vmem S2x128x512 .bf16) (harg17 : arg17.IsWhole) (hc0 : ¬cond0_0 i) (x0 : Vec Ideal S1x512x1536 .fp8e4m3) (x1 : Vec Ideal S1x12x512 .f32) (x2 : Vec Ideal S2048x256 .fp8e4m3) (x3 : Vec Ideal S2048x2 .f32) (x4 : Vec Ideal S2048x256 .fp8e4m3) (x5 : Vec Ideal S2048x2 .f32) (x6 : Vec Ideal S1x512x256 .fp8e4m3) (x7 : Vec Ideal S1x512x2 .f32) (x8 : Vec Ideal S1x512x256 .fp8e4m3) (x9 : Vec Ideal S1x512x2 .f32) (xs0 : Vec Ideal S2x2048x128 .f32) (xs1 : Vec Ideal S2x128x2048 .bf16) (e0 : xs0 = psArr x3) (e1 : xs1 = pvArr x4 x5) (hS : ∀ h s, ∃ r : ℝ, 0 < r ∧ x1 (ix3 0 h s) = (r : EReal)) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1 = fLc (blkOf x0 x1 x2 x3 x4 x5 x6 x7 x8 x9) := by
  unfold out0_B_12
  rw [View.read_writes_junk_eq_canon]
  exact (runB_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1 e0 e1 hS).2.2.canon (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1)
theorem soutA0 (c : Dev nD) (i : grid0.Coords) (arg1 : Memref sig .tc .vmem S1x512x1536 .fp8e4m3) (harg1 : arg1.IsWhole) (arg2 : Memref sig .tc .vmem S1x12x512 .f32) (harg2 : arg2.IsWhole) (arg3 : Memref sig .tc .vmem S2048x256 .fp8e4m3) (harg3 : arg3.IsWhole) (arg4 : Memref sig .tc .vmem S2048x2 .f32) (harg4 : arg4.IsWhole) (arg5 : Memref sig .tc .vmem S2048x256 .fp8e4m3) (harg5 : arg5.IsWhole) (arg6 : Memref sig .tc .vmem S2048x2 .f32) (harg6 : arg6.IsWhole) (arg7 : Memref sig .tc .vmem S1x512x256 .fp8e4m3) (harg7 : arg7.IsWhole) (arg8 : Memref sig .tc .vmem S1x512x2 .f32) (harg8 : arg8.IsWhole) (arg9 : Memref sig .tc .vmem S1x512x256 .fp8e4m3) (harg9 : arg9.IsWhole) (arg10 : Memref sig .tc .vmem S1x512x2 .f32) (harg10 : arg10.IsWhole) (arg11 : Memref sig .tc .vmem S1x512x1536 .bf16) (harg11 : arg11.IsWhole) (arg12 : Memref sig .tc .vmem S1x12x512 .f32) (harg12 : arg12.IsWhole) (arg13 : Memref sig .tc .vmem S1x12x512 .f32) (harg13 : arg13.IsWhole) (arg14 : Memref sig .tc .vmem S2x2048x128 .f32) (harg14 : arg14.IsWhole) (arg15 : Memref sig .tc .vmem S2x128x2048 .bf16) (harg15 : arg15.IsWhole) (arg16 : Memref sig .tc .vmem S2x512x128 .f32) (harg16 : arg16.IsWhole) (arg17 : Memref sig .tc .vmem S2x128x512 .bf16) (harg17 : arg17.IsWhole) (hc0 : cond0_0 i) (x0 : Vec Ideal S1x512x1536 .fp8e4m3) (x1 : Vec Ideal S1x12x512 .f32) (x2 : Vec Ideal S2048x256 .fp8e4m3) (x3 : Vec Ideal S2048x2 .f32) (x4 : Vec Ideal S2048x256 .fp8e4m3) (x5 : Vec Ideal S2048x2 .f32) (x6 : Vec Ideal S1x512x256 .fp8e4m3) (x7 : Vec Ideal S1x512x2 .f32) (x8 : Vec Ideal S1x512x256 .fp8e4m3) (x9 : Vec Ideal S1x512x2 .f32) : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = psArr x3 := by
  unfold sout0_A_0
  rw [View.read_writes_junk_eq_canon]
  unfold kernelRun0_A
  dsimp only
  exact hs0_canon c arg4 harg4 x3
theorem soutA1 (c : Dev nD) (i : grid0.Coords) (arg1 : Memref sig .tc .vmem S1x512x1536 .fp8e4m3) (harg1 : arg1.IsWhole) (arg2 : Memref sig .tc .vmem S1x12x512 .f32) (harg2 : arg2.IsWhole) (arg3 : Memref sig .tc .vmem S2048x256 .fp8e4m3) (harg3 : arg3.IsWhole) (arg4 : Memref sig .tc .vmem S2048x2 .f32) (harg4 : arg4.IsWhole) (arg5 : Memref sig .tc .vmem S2048x256 .fp8e4m3) (harg5 : arg5.IsWhole) (arg6 : Memref sig .tc .vmem S2048x2 .f32) (harg6 : arg6.IsWhole) (arg7 : Memref sig .tc .vmem S1x512x256 .fp8e4m3) (harg7 : arg7.IsWhole) (arg8 : Memref sig .tc .vmem S1x512x2 .f32) (harg8 : arg8.IsWhole) (arg9 : Memref sig .tc .vmem S1x512x256 .fp8e4m3) (harg9 : arg9.IsWhole) (arg10 : Memref sig .tc .vmem S1x512x2 .f32) (harg10 : arg10.IsWhole) (arg11 : Memref sig .tc .vmem S1x512x1536 .bf16) (harg11 : arg11.IsWhole) (arg12 : Memref sig .tc .vmem S1x12x512 .f32) (harg12 : arg12.IsWhole) (arg13 : Memref sig .tc .vmem S1x12x512 .f32) (harg13 : arg13.IsWhole) (arg14 : Memref sig .tc .vmem S2x2048x128 .f32) (harg14 : arg14.IsWhole) (arg15 : Memref sig .tc .vmem S2x128x2048 .bf16) (harg15 : arg15.IsWhole) (arg16 : Memref sig .tc .vmem S2x512x128 .f32) (harg16 : arg16.IsWhole) (arg17 : Memref sig .tc .vmem S2x128x512 .bf16) (harg17 : arg17.IsWhole) (hc0 : cond0_0 i) (x0 : Vec Ideal S1x512x1536 .fp8e4m3) (x1 : Vec Ideal S1x12x512 .f32) (x2 : Vec Ideal S2048x256 .fp8e4m3) (x3 : Vec Ideal S2048x2 .f32) (x4 : Vec Ideal S2048x256 .fp8e4m3) (x5 : Vec Ideal S2048x2 .f32) (x6 : Vec Ideal S1x512x256 .fp8e4m3) (x7 : Vec Ideal S1x512x2 .f32) (x8 : Vec Ideal S1x512x256 .fp8e4m3) (x9 : Vec Ideal S1x512x2 .f32) : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = pvArr x4 x5 := by
  unfold sout0_A_1
  rw [View.read_writes_junk_eq_canon]
  unfold kernelRun0_A
  dsimp only
  exact hs1_canon c arg5 harg5 arg6 harg6 x4 x5
end Cert.KernelIdeal.Gen
-- ==== Proof.KArr.lean ====
module
public import proofs.«01_k».proof.Proof.KOut
public import Idealize.ShloMosaic.Lib.Pointwise
public import Idealize.ShloMosaic.Lib.StableHlo.Run
/-! A grid point's input blocks, at an index, as entries of the program's arguments. -/
@[expose] public section
set_option maxRecDepth 16384
noncomputable section
namespace Cert.KernelIdeal.Gen
open Idealize.ShloMosaic Idealize.ShloMosaic.TcCoe Idealize.ShloMosaic.Tactic
open Idealize.SL.Sem
variable (m : (ℓ : Loc nD τ sig) → Buf (Elt Ideal) ℓ)

/-- A point's number, as a batch index. -/
abbrev bt (t : Fin cfg0.N) : Fin 64 := ⟨t.val, Nat.lt_of_lt_of_eq t.isLt N_0⟩

theorem V_v3 (c : Dev nD) : V (F := Ideal) m c main_v3 = shapeCast S64x512x1536 (bitcastToFloat (F := Ideal) .fp8e4m3 (m ((c : Thread nD τ).loc main_arg0)) : Vec Ideal S64x512x12x128 .fp8e4m3) shapeCasts_S64x512x12x128_S64x512x1536 := by
  show StableHlo.after hostOps0 _ _ = _
  simp only [hostOps0]
  after_results_simp <;> rfl
theorem V_v4 (c : Dev nD) : V (F := Ideal) m c main_v4 = transpose S64x12x512 [0, 2, 1] (m ((c : Thread nD τ).loc main_arg1)) transposes_S64x512x12_S64x12x512_0_2_1 := by
  show StableHlo.after hostOps0 _ _ = _
  simp only [hostOps0]
  after_results_simp <;> rfl
theorem V_v5 (c : Dev nD) : V (F := Ideal) m c main_v5 = shapeCast S2048x256 (bitcastToFloat (F := Ideal) .fp8e4m3 (m ((c : Thread nD τ).loc main_arg2)) : Vec Ideal S2048x2x128 .fp8e4m3) shapeCasts_S2048x2x128_S2048x256 := by
  show StableHlo.after hostOps0 _ _ = _
  simp only [hostOps0]
  after_results_simp <;> rfl
theorem V_v6 (c : Dev nD) : V (F := Ideal) m c main_v6 = shapeCast S2048x256 (m ((c : Thread nD τ).loc main_arg4)) shapeCasts_S2048x2x128_S2048x256 := by
  show StableHlo.after hostOps0 _ _ = _
  simp only [hostOps0]
  after_results_simp <;> rfl
theorem V_v7 (c : Dev nD) : V (F := Ideal) m c main_v7 = shapeCast S64x512x256 (bitcastToFloat (F := Ideal) .fp8e4m3 (m ((c : Thread nD τ).loc main_arg6)) : Vec Ideal S64x512x2x128 .fp8e4m3) shapeCasts_S64x512x2x128_S64x512x256 := by
  show StableHlo.after hostOps0 _ _ = _
  simp only [hostOps0]
  after_results_simp <;> rfl
theorem V_v8 (c : Dev nD) : V (F := Ideal) m c main_v8 = shapeCast S64x512x256 (m ((c : Thread nD τ).loc main_arg8)) shapeCasts_S64x512x2x128_S64x512x256 := by
  show StableHlo.after hostOps0 _ _ = _
  simp only [hostOps0]
  after_results_simp <;> rfl
theorem index0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem iblk0 (c : Dev nD) (t : Fin cfg0.N) (x : Fin 512) (y : Fin 1536) :
    iblk (F := Ideal) m c 0 t (ix3 0 x y : S1x512x1536.Idx) = V (F := Ideal) m c main_v3 (ix3 (bt t) x y : S64x512x1536.Idx) := by
  obtain ⟨i0, i1, i2⟩ := index0 t
  show V (F := Ideal) m c main_v3 (((cfg0.win 0).blk t).view.emb (ix3 0 x y : S1x512x1536.Idx)) = _
  refine congrArg (V (F := Ideal) m c main_v3) (funext fun a => Fin.ext ?_)
  match a with
  | ⟨0, _⟩ => show win0_0.index t (0 : Fin 3) * 1 + 1 * 0 = t.val; omega
  | ⟨1, _⟩ => show win0_0.index t (1 : Fin 3) * 512 + 1 * x.val = x.val; omega
  | ⟨2, _⟩ => show win0_0.index t (2 : Fin 3) * 1536 + 1 * y.val = y.val; omega
theorem index1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
theorem iblk1 (c : Dev nD) (t : Fin cfg0.N) (x : Fin 12) (y : Fin 512) :
    iblk (F := Ideal) m c 1 t (ix3 0 x y : S1x12x512.Idx) = V (F := Ideal) m c main_v4 (ix3 (bt t) x y : S64x12x512.Idx) := by
  obtain ⟨i0, i1, i2⟩ := index1 t
  show V (F := Ideal) m c main_v4 (((cfg0.win 1).blk t).view.emb (ix3 0 x y : S1x12x512.Idx)) = _
  refine congrArg (V (F := Ideal) m c main_v4) (funext fun a => Fin.ext ?_)
  match a with
  | ⟨0, _⟩ => show win0_1.index t (0 : Fin 3) * 1 + 1 * 0 = t.val; omega
  | ⟨1, _⟩ => show win0_1.index t (1 : Fin 3) * 12 + 1 * x.val = x.val; omega
  | ⟨2, _⟩ => show win0_1.index t (2 : Fin 3) * 512 + 1 * y.val = y.val; omega
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem iblk2 (c : Dev nD) (t : Fin cfg0.N) (x : S2048x256.Idx) : iblk (F := Ideal) m c 2 t x = V (F := Ideal) m c main_v5 x := by
  obtain ⟨i0, i1⟩ := index2 t
  show V (F := Ideal) m c main_v5 (((cfg0.win 2).blk t).view.emb x) = _
  refine congrArg (V (F := Ideal) m c main_v5) (funext fun a => Fin.ext ?_)
  match a with
  | ⟨0, _⟩ => show win0_2.index t (0 : Fin 2) * 2048 + 1 * (x 0).val = (x 0).val; omega
  | ⟨1, _⟩ => show win0_2.index t (1 : Fin 2) * 256 + 1 * (x 1).val = (x 1).val; omega
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem iblk3 (c : Dev nD) (t : Fin cfg0.N) (x : S2048x2.Idx) : iblk (F := Ideal) m c 3 t x = V (F := Ideal) m c main_arg3 x := by
  obtain ⟨i0, i1⟩ := index3 t
  show V (F := Ideal) m c main_arg3 (((cfg0.win 3).blk t).view.emb x) = _
  refine congrArg (V (F := Ideal) m c main_arg3) (funext fun a => Fin.ext ?_)
  match a with
  | ⟨0, _⟩ => show win0_3.index t (0 : Fin 2) * 2048 + 1 * (x 0).val = (x 0).val; omega
  | ⟨1, _⟩ => show win0_3.index t (1 : Fin 2) * 2 + 1 * (x 1).val = (x 1).val; omega
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem iblk4 (c : Dev nD) (t : Fin cfg0.N) (x : S2048x256.Idx) : iblk (F := Ideal) m c 4 t x = V (F := Ideal) m c main_v6 x := by
  obtain ⟨i0, i1⟩ := index4 t
  show V (F := Ideal) m c main_v6 (((cfg0.win 4).blk t).view.emb x) = _
  refine congrArg (V (F := Ideal) m c main_v6) (funext fun a => Fin.ext ?_)
  match a with
  | ⟨0, _⟩ => show win0_4.index t (0 : Fin 2) * 2048 + 1 * (x 0).val = (x 0).val; omega
  | ⟨1, _⟩ => show win0_4.index t (1 : Fin 2) * 256 + 1 * (x 1).val = (x 1).val; omega
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem iblk5 (c : Dev nD) (t : Fin cfg0.N) (x : S2048x2.Idx) : iblk (F := Ideal) m c 5 t x = V (F := Ideal) m c main_arg5 x := by
  obtain ⟨i0, i1⟩ := index5 t
  show V (F := Ideal) m c main_arg5 (((cfg0.win 5).blk t).view.emb x) = _
  refine congrArg (V (F := Ideal) m c main_arg5) (funext fun a => Fin.ext ?_)
  match a with
  | ⟨0, _⟩ => show win0_5.index t (0 : Fin 2) * 2048 + 1 * (x 0).val = (x 0).val; omega
  | ⟨1, _⟩ => show win0_5.index t (1 : Fin 2) * 2 + 1 * (x 1).val = (x 1).val; omega
theorem index6 : ∀ t : Fin cfg0.N, win0_6.index t (0 : Fin 3) = t.val ∧ win0_6.index t (1 : Fin 3) = 0 ∧ win0_6.index t (2 : Fin 3) = 0 :=
  (by decide +kernel : ∀ t : Fin grid0.N, win0_6.index t (0 : Fin 3) = t.val ∧ win0_6.index t (1 : Fin 3) = 0 ∧ win0_6.index t (2 : Fin 3) = 0)
theorem iblk6 (c : Dev nD) (t : Fin cfg0.N) (x : Fin 512) (y : Fin 256) :
    iblk (F := Ideal) m c 6 t (ix3 0 x y : S1x512x256.Idx) = V (F := Ideal) m c main_v7 (ix3 (bt t) x y : S64x512x256.Idx) := by
  obtain ⟨i0, i1, i2⟩ := index6 t
  show V (F := Ideal) m c main_v7 (((cfg0.win 6).blk t).view.emb (ix3 0 x y : S1x512x256.Idx)) = _
  refine congrArg (V (F := Ideal) m c main_v7) (funext fun a => Fin.ext ?_)
  match a with
  | ⟨0, _⟩ => show win0_6.index t (0 : Fin 3) * 1 + 1 * 0 = t.val; omega
  | ⟨1, _⟩ => show win0_6.index t (1 : Fin 3) * 512 + 1 * x.val = x.val; omega
  | ⟨2, _⟩ => show win0_6.index t (2 : Fin 3) * 256 + 1 * y.val = y.val; omega
theorem index7 : ∀ t : Fin cfg0.N, win0_7.index t (0 : Fin 3) = t.val ∧ win0_7.index t (1 : Fin 3) = 0 ∧ win0_7.index t (2 : Fin 3) = 0 :=
  (by decide +kernel : ∀ t : Fin grid0.N, win0_7.index t (0 : Fin 3) = t.val ∧ win0_7.index t (1 : Fin 3) = 0 ∧ win0_7.index t (2 : Fin 3) = 0)
theorem iblk7 (c : Dev nD) (t : Fin cfg0.N) (x : Fin 512) (y : Fin 2) :
    iblk (F := Ideal) m c 7 t (ix3 0 x y : S1x512x2.Idx) = V (F := Ideal) m c main_arg7 (ix3 (bt t) x y : S64x512x2.Idx) := by
  obtain ⟨i0, i1, i2⟩ := index7 t
  show V (F := Ideal) m c main_arg7 (((cfg0.win 7).blk t).view.emb (ix3 0 x y : S1x512x2.Idx)) = _
  refine congrArg (V (F := Ideal) m c main_arg7) (funext fun a => Fin.ext ?_)
  match a with
  | ⟨0, _⟩ => show win0_7.index t (0 : Fin 3) * 1 + 1 * 0 = t.val; omega
  | ⟨1, _⟩ => show win0_7.index t (1 : Fin 3) * 512 + 1 * x.val = x.val; omega
  | ⟨2, _⟩ => show win0_7.index t (2 : Fin 3) * 2 + 1 * y.val = y.val; omega
theorem index8 : ∀ t : Fin cfg0.N, win0_8.index t (0 : Fin 3) = t.val ∧ win0_8.index t (1 : Fin 3) = 0 ∧ win0_8.index t (2 : Fin 3) = 0 :=
  (by decide +kernel : ∀ t : Fin grid0.N, win0_8.index t (0 : Fin 3) = t.val ∧ win0_8.index t (1 : Fin 3) = 0 ∧ win0_8.index t (2 : Fin 3) = 0)
theorem iblk8 (c : Dev nD) (t : Fin cfg0.N) (x : Fin 512) (y : Fin 256) :
    iblk (F := Ideal) m c 8 t (ix3 0 x y : S1x512x256.Idx) = V (F := Ideal) m c main_v8 (ix3 (bt t) x y : S64x512x256.Idx) := by
  obtain ⟨i0, i1, i2⟩ := index8 t
  show V (F := Ideal) m c main_v8 (((cfg0.win 8).blk t).view.emb (ix3 0 x y : S1x512x256.Idx)) = _
  refine congrArg (V (F := Ideal) m c main_v8) (funext fun a => Fin.ext ?_)
  match a with
  | ⟨0, _⟩ => show win0_8.index t (0 : Fin 3) * 1 + 1 * 0 = t.val; omega
  | ⟨1, _⟩ => show win0_8.index t (1 : Fin 3) * 512 + 1 * x.val = x.val; omega
  | ⟨2, _⟩ => show win0_8.index t (2 : Fin 3) * 256 + 1 * y.val = y.val; omega
theorem index9 : ∀ t : Fin cfg0.N, win0_9.index t (0 : Fin 3) = t.val ∧ win0_9.index t (1 : Fin 3) = 0 ∧ win0_9.index t (2 : Fin 3) = 0 :=
  (by decide +kernel : ∀ t : Fin grid0.N, win0_9.index t (0 : Fin 3) = t.val ∧ win0_9.index t (1 : Fin 3) = 0 ∧ win0_9.index t (2 : Fin 3) = 0)
theorem iblk9 (c : Dev nD) (t : Fin cfg0.N) (x : Fin 512) (y : Fin 2) :
    iblk (F := Ideal) m c 9 t (ix3 0 x y : S1x512x2.Idx) = V (F := Ideal) m c main_arg9 (ix3 (bt t) x y : S64x512x2.Idx) := by
  obtain ⟨i0, i1, i2⟩ := index9 t
  show V (F := Ideal) m c main_arg9 (((cfg0.win 9).blk t).view.emb (ix3 0 x y : S1x512x2.Idx)) = _
  refine congrArg (V (F := Ideal) m c main_arg9) (funext fun a => Fin.ext ?_)
  match a with
  | ⟨0, _⟩ => show win0_9.index t (0 : Fin 3) * 1 + 1 * 0 = t.val; omega
  | ⟨1, _⟩ => show win0_9.index t (1 : Fin 3) * 512 + 1 * x.val = x.val; omega
  | ⟨2, _⟩ => show win0_9.index t (2 : Fin 3) * 2 + 1 * y.val = y.val; omega

/-- The arguments' entries: the codes that come as bytes, read as numbers, and the scales. -/
def aQ (c : Dev nD) (b : Fin 64) (s : Fin 512) (h : Fin 12) (d : Fin 128) : EReal := FloatOps.ofBits (F := Ideal) .fp8e4m3 ((m ((c : Thread nD τ).loc main_arg0) : S64x512x12x128.Idx → BitVec 8) (ix4 b s h d))
def aS (c : Dev nD) (b : Fin 64) (s : Fin 512) (h : Fin 12) : EReal := (m ((c : Thread nD τ).loc main_arg1) : S64x512x12.Idx → EReal) (ix3 b s h)
def aPK (c : Dev nD) (n : Fin 2048) (g : Fin 2) (d : Fin 128) : EReal := FloatOps.ofBits (F := Ideal) .fp8e4m3 ((m ((c : Thread nD τ).loc main_arg2) : S2048x2x128.Idx → BitVec 8) (ix3 n g d))
def aPS (c : Dev nD) (n : Fin 2048) (g : Fin 2) : EReal := (m ((c : Thread nD τ).loc main_arg3) : S2048x2.Idx → EReal) (ix2 n g)
def aPV (c : Dev nD) (n : Fin 2048) (g : Fin 2) (d : Fin 128) : EReal := (m ((c : Thread nD τ).loc main_arg4) : S2048x2x128.Idx → EReal) (ix3 n g d)
def aPW (c : Dev nD) (n : Fin 2048) (g : Fin 2) : EReal := (m ((c : Thread nD τ).loc main_arg5) : S2048x2.Idx → EReal) (ix2 n g)
def aK (c : Dev nD) (b : Fin 64) (n : Fin 512) (g : Fin 2) (d : Fin 128) : EReal := FloatOps.ofBits (F := Ideal) .fp8e4m3 ((m ((c : Thread nD τ).loc main_arg6) : S64x512x2x128.Idx → BitVec 8) (ix4 b n g d))
def aKS (c : Dev nD) (b : Fin 64) (n : Fin 512) (g : Fin 2) : EReal := (m ((c : Thread nD τ).loc main_arg7) : S64x512x2.Idx → EReal) (ix3 b n g)
def aV (c : Dev nD) (b : Fin 64) (n : Fin 512) (g : Fin 2) (d : Fin 128) : EReal := (m ((c : Thread nD τ).loc main_arg8) : S64x512x2x128.Idx → EReal) (ix4 b n g d)
def aVS (c : Dev nD) (b : Fin 64) (n : Fin 512) (g : Fin 2) : EReal := (m ((c : Thread nD τ).loc main_arg9) : S64x512x2.Idx → EReal) (ix3 b n g)

theorem blkQ (c : Dev nD) (t : Fin cfg0.N) (s : Fin 512) (h : Fin 12) (d : Fin 128) :
    iblk (F := Ideal) m c 0 t (ix3 0 s (l12 h d) : S1x512x1536.Idx) = aQ m c (bt t) s h d := by
  rw [iblk0, V_v3]
  refine (shapeCast_apply _ _ _ (ix4 (bt t) s h d : S64x512x12x128.Idx) ?_).trans rfl
  rw [Shape.rowMajor_val_four, Shape.rowMajor_val_three]
  show ((t.val * 512 + s.val) * 12 + h.val) * 128 + d.val = (t.val * 512 + s.val) * 1536 + (128 * h.val + d.val)
  omega
theorem blkS (c : Dev nD) (t : Fin cfg0.N) (s : Fin 512) (h : Fin 12) :
    iblk (F := Ideal) m c 1 t (ix3 0 h s : S1x12x512.Idx) = aS m c (bt t) s h := by
  rw [iblk1, V_v4]
  exact transpose_apply [0, 2, 1] _ transposes_S64x512x12_S64x12x512_0_2_1 _ (ix3 (bt t) s h : S64x512x12.Idx) (fun b => match b with
    | ⟨0, _⟩ => rfl
    | ⟨1, _⟩ => rfl
    | ⟨2, _⟩ => rfl)
theorem blkPS (c : Dev nD) (t : Fin cfg0.N) (n : Fin 2048) (g : Fin 2) : iblk (F := Ideal) m c 3 t (ix2 n g : S2048x2.Idx) = aPS m c n g := by
  rw [iblk3, V_main_arg3]; rfl
theorem blkPW (c : Dev nD) (t : Fin cfg0.N) (n : Fin 2048) (g : Fin 2) : iblk (F := Ideal) m c 5 t (ix2 n g : S2048x2.Idx) = aPW m c n g := by
  rw [iblk5, V_main_arg5]; rfl
theorem blkKS (c : Dev nD) (t : Fin cfg0.N) (n : Fin 512) (g : Fin 2) : iblk (F := Ideal) m c 7 t (ix3 0 n g : S1x512x2.Idx) = aKS m c (bt t) n g := by
  rw [iblk7, V_main_arg7]; rfl
theorem blkVS (c : Dev nD) (t : Fin cfg0.N) (n : Fin 512) (g : Fin 2) : iblk (F := Ideal) m c 9 t (ix3 0 n g : S1x512x2.Idx) = aVS m c (bt t) n g := by
  rw [iblk9, V_main_arg9]; rfl
theorem blkPK (c : Dev nD) (t : Fin cfg0.N) (n : Fin 2048) (g : Fin 2) (d : Fin 128) :
    iblk (F := Ideal) m c 2 t (ix2 n (l2 g d) : S2048x256.Idx) = aPK m c n g d := by
  rw [iblk2, V_v5]
  refine (shapeCast_apply _ _ _ (ix3 n g d : S2048x2x128.Idx) ?_).trans rfl
  rw [Shape.rowMajor_val_three, Shape.rowMajor_val_two]
  show (n.val * 2 + g.val) * 128 + d.val = n.val * 256 + (128 * g.val + d.val)
  omega
theorem blkPV (c : Dev nD) (t : Fin cfg0.N) (n : Fin 2048) (g : Fin 2) (d : Fin 128) :
    iblk (F := Ideal) m c 4 t (ix2 n (l2 g d) : S2048x256.Idx) = aPV m c n g d := by
  rw [iblk4, V_v6]
  refine (shapeCast_apply _ _ _ (ix3 n g d : S2048x2x128.Idx) ?_).trans rfl
  rw [Shape.rowMajor_val_three, Shape.rowMajor_val_two]
  show (n.val * 2 + g.val) * 128 + d.val = n.val * 256 + (128 * g.val + d.val)
  omega
theorem blkK (c : Dev nD) (t : Fin cfg0.N) (n : Fin 512) (g : Fin 2) (d : Fin 128) :
    iblk (F := Ideal) m c 6 t (ix3 0 n (l2 g d) : S1x512x256.Idx) = aK m c (bt t) n g d := by
  rw [iblk6, V_v7]
  refine (shapeCast_apply _ _ _ (ix4 (bt t) n g d : S64x512x2x128.Idx) ?_).trans rfl
  rw [Shape.rowMajor_val_four, Shape.rowMajor_val_three]
  show ((t.val * 512 + n.val) * 2 + g.val) * 128 + d.val = (t.val * 512 + n.val) * 256 + (128 * g.val + d.val)
  omega
theorem blkV (c : Dev nD) (t : Fin cfg0.N) (n : Fin 512) (g : Fin 2) (d : Fin 128) :
    iblk (F := Ideal) m c 8 t (ix3 0 n (l2 g d) : S1x512x256.Idx) = aV m c (bt t) n g d := by
  rw [iblk8, V_v8]
  refine (shapeCast_apply _ _ _ (ix4 (bt t) n g d : S64x512x2x128.Idx) ?_).trans rfl
  rw [Shape.rowMajor_val_four, Shape.rowMajor_val_three]
  show ((t.val * 512 + n.val) * 2 + g.val) * 128 + d.val = (t.val * 512 + n.val) * 256 + (128 * g.val + d.val)
  omega
end Cert.KernelIdeal.Gen
-- ==== Proof.KVal.lean ====
module
public import proofs.«01_k».proof.Proof.KArr
public import proofs.«01_k».proof.Proof.Gen.KernelIdeal.Value
/-! The program's three results, at an index, in terms of the arguments' entries. -/
@[expose] public section
set_option maxRecDepth 16384
noncomputable section
namespace Cert.KernelIdeal.Gen
open Idealize.ShloMosaic Idealize.ShloMosaic.TcCoe Idealize.ShloMosaic.Tactic
open Idealize.SL.Sem
variable (m : (ℓ : Loc nD τ sig) → Buf (Elt Ideal) ℓ) (c : Dev nD)

/-- The block a grid point works on. -/
abbrev blkAt (t : Fin cfg0.N) : Blk := blkOf (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t)

theorem ps_const (t u : Fin cfg0.N) : psArr (iblk (F := Ideal) m c 3 t) = psArr (iblk (F := Ideal) m c 3 u) := by
  refine congrArg psArr (funext fun x => ?_)
  exact (iblk3 m c t x).trans (iblk3 m c u x).symm
theorem pv_const (t u : Fin cfg0.N) :
    pvArr (iblk (F := Ideal) m c 4 t) (iblk (F := Ideal) m c 5 t) = pvArr (iblk (F := Ideal) m c 4 u) (iblk (F := Ideal) m c 5 u) :=
  congrArg₂ pvArr (funext fun x => (iblk4 m c t x).trans (iblk4 m c u x).symm) (funext fun x => (iblk5 m c t x).trans (iblk5 m c u x).symm)

set_option maxHeartbeats 4000000 in
theorem scrA (t : Fin cfg0.N) (h0 : t.val % 64 = 0) :
    (outsAt0 (F := Ideal) m c t.val t.isLt).2.2.2.1 = psArr (iblk (F := Ideal) m c 3 t)
    ∧ (outsAt0 (F := Ideal) m c t.val t.isLt).2.2.2.2 = pvArr (iblk (F := Ideal) m c 4 t) (iblk (F := Ideal) m c 5 t) := by
  have e := outsAt0_A (F := Ideal) m c t h0
  have e1 := congrArg (fun p => p.2.2.2.1) e
  have e2 := congrArg (fun p => p.2.2.2.2) e
  dsimp only at e1 e2
  rw [e1, e2]
  exact ⟨(soutA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t)), (soutA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t))⟩
theorem scrB (t : Fin cfg0.N) (h0 : ¬ t.val % 64 = 0) :
    (outsAt0 (F := Ideal) m c t.val t.isLt).2.2.2 = (outsAt0 (F := Ideal) m c (t.val - 1) (Nat.lt_of_le_of_lt (Nat.sub_le _ _) t.isLt)).2.2.2 :=
  congrArg (fun p => p.2.2.2) (outsAt0_B (F := Ideal) m c t h0)
/-- The carried scratch holds the prefix's scales and scaled values after every point. -/
theorem scratch (n : ℕ) : ∀ hn : n < cfg0.N,
    (outsAt0 (F := Ideal) m c n hn).2.2.2.1 = psArr (iblk (F := Ideal) m c 3 ⟨n, hn⟩)
    ∧ (outsAt0 (F := Ideal) m c n hn).2.2.2.2 = pvArr (iblk (F := Ideal) m c 4 ⟨n, hn⟩) (iblk (F := Ideal) m c 5 ⟨n, hn⟩) := by
  induction n with
  | zero => exact fun hn => scrA m c ⟨0, hn⟩ (Nat.zero_mod _)
  | succ n ih =>
    intro hn
    have h64 : n + 1 < 64 := Nat.lt_of_lt_of_eq hn N_0
    have e := scrB m c ⟨n + 1, hn⟩ (by show ¬ (n + 1) % 64 = 0; omega)
    obtain ⟨i1, i2⟩ := ih (Nat.lt_of_succ_lt hn)
    exact ⟨(congrArg (fun p => p.1) e).trans (i1.trans (ps_const m c _ _)),
      (congrArg (fun p => p.2) e).trans (i2.trans (pv_const m c _ _))⟩

section
variable (hS : ∀ b s h, ∃ r : ℝ, 0 < r ∧ aS m c b s h = (r : EReal))
include hS
theorem hSblk (t : Fin cfg0.N) : ∀ h s, ∃ r : ℝ, 0 < r ∧ (iblk (F := Ideal) m c 1 t : S1x12x512.Idx → EReal) (ix3 0 h s) = (r : EReal) := by
  intro h s
  obtain ⟨r, hr, e⟩ := hS (bt t) s h
  exact ⟨r, hr, (blkS m c t s h).trans e⟩

/-- What every point leaves in the three outputs. -/
theorem outs (t : Fin cfg0.N) : (outsAt0 (F := Ideal) m c t.val t.isLt).1 = fOut (blkAt m c t)
    ∧ (outsAt0 (F := Ideal) m c t.val t.isLt).2.1 = fLp (blkAt m c t)
    ∧ (outsAt0 (F := Ideal) m c t.val t.isLt).2.2.1 = fLc (blkAt m c t) := by
  by_cases h0 : t.val % 64 = 0
  · have e := outsAt0_A (F := Ideal) m c t h0
    exact ⟨(congrArg (fun p => p.1) e).trans (outA10 (hS := hSblk m c hS t) ..), (congrArg (fun p => p.2.1) e).trans (outA11 (hS := hSblk m c hS t) ..),
      (congrArg (fun p => p.2.2.1) e).trans (outA12 (hS := hSblk m c hS t) ..)⟩
  · have e := outsAt0_B (F := Ideal) m c t h0
    have hl : t.val - 1 < cfg0.N := Nat.lt_of_le_of_lt (Nat.sub_le _ _) t.isLt
    obtain ⟨i1, i2⟩ := scratch m c (t.val - 1) hl
    have e1 := i1.trans (ps_const m c ⟨t.val - 1, hl⟩ t)
    have e2 := i2.trans (pv_const m c ⟨t.val - 1, hl⟩ t)
    exact ⟨(congrArg (fun p => p.1) e).trans (outB10 (hS := hSblk m c hS t) (e0 := e1) (e1 := e2) ..), (congrArg (fun p => p.2.1) e).trans (outB11 (hS := hSblk m c hS t) (e0 := e1) (e1 := e2) ..),
      (congrArg (fun p => p.2.2.1) e).trans (outB12 (hS := hSblk m c hS t) (e0 := e1) (e1 := e2) ..)⟩
end

/-- The scores and the exponent's scale, of the arguments. -/
def kScale (b : Fin 64) (h : Fin 12) (s : Fin 512) : EReal := aS m c b s h * cScale
def kUp (b : Fin 64) (h : Fin 12) (s : Fin 512) : Fin 2048 → EReal := fun n =>
  (∑ e : Fin 128, aPK m c n (gr h) e * aQ m c b s h e) * aPS m c n (gr h)
def kUs (b : Fin 64) (h : Fin 12) (s : Fin 512) : Fin 512 → EReal := fun n =>
  if n.val ≤ s.val then (∑ e : Fin 128, aK m c b n (gr h) e * aQ m c b s h e) * aKS m c b n (gr h) else ⊥

section
variable (t : Fin cfg0.N) (h : Fin 12) (s : Fin 512)
theorem scaleAt : (blkAt m c t).scale h s = kScale m c (bt t) h s := by
  exact congrArg (· * cScale) (blkS m c t s h)
theorem upAt : (blkAt m c t).up h s = kUp m c (bt t) h s := by
  funext n
  exact congrArg₂ (· * ·) (Finset.sum_congr rfl fun e _ => congrArg₂ (· * ·) (blkPK m c t n (gr h) e) (blkQ m c t s h e)) (blkPS m c t n (gr h))
theorem usAt : (blkAt m c t).us h s = kUs m c (bt t) h s := by
  funext n
  refine if_congr Iff.rfl ?_ rfl
  exact congrArg₂ (· * ·) (Finset.sum_congr rfl fun e _ => congrArg₂ (· * ·) (blkK m c t n (gr h) e) (blkQ m c t s h e)) (blkKS m c t n (gr h))
theorem pvAt (d : Fin 128) (n : Fin 2048) : (blkAt m c t).PV (ix3 (gr h) d n) = aPV m c n (gr h) d * aPW m c n (gr h) :=
  congrArg₂ (· * ·) (blkPV m c t n (gr h) d) (blkPW m c t n (gr h))
theorem vtAt (d : Fin 128) (n : Fin 512) : (blkAt m c t).VT (ix3 (gr h) d n) = aV m c (bt t) n (gr h) d * aVS m c (bt t) n (gr h) :=
  congrArg₂ (· * ·) (blkV m c t n (gr h) d) (blkVS m c t n (gr h))
end

/-- The three results, of the arguments. -/
def kRes (b : Fin 64) (s : Fin 512) (h : Fin 12) (d : Fin 128) : EReal :=
  Att.kOut (Att.kA (kScale m c b h s) (kUp m c b h s)) (Att.kL (kScale m c b h s) (kUp m c b h s))
    (Att.kO (kScale m c b h s) (kUp m c b h s) fun n => aPV m c n (gr h) d * aPW m c n (gr h))
    (Att.kA (kScale m c b h s) (kUs m c b h s)) (Att.kL (kScale m c b h s) (kUs m c b h s))
    (Att.kO (kScale m c b h s) (kUs m c b h s) fun n => aV m c b n (gr h) d * aVS m c b n (gr h))
def kLp (b : Fin 64) (h : Fin 12) (s : Fin 512) : EReal :=
  Att.kLse ((Real.log 2 : ℝ) : EReal) (((Real.log 2)⁻¹ : ℝ) : EReal) (Att.kA (kScale m c b h s) (kUp m c b h s))
    (Att.kL (kScale m c b h s) (kUp m c b h s)) - ((Real.log 2048 : ℝ) : EReal)
def kLc (b : Fin 64) (h : Fin 12) (s : Fin 512) : EReal :=
  Att.kLse ((Real.log 2 : ℝ) : EReal) (((Real.log 2)⁻¹ : ℝ) : EReal) (Att.kA (kScale m c b h s) (kUs m c b h s))
    (Att.kL (kScale m c b h s) (kUs m c b h s)) - Ideal.log (((s.val + 1 : ℕ) : ℝ) : EReal)

variable (hS : ∀ b s h, ∃ r : ℝ, 0 < r ∧ aS m c b s h = (r : EReal))
include hS
theorem G10_at (t : Fin cfg0.N) (s : Fin 512) (h : Fin 12) (d : Fin 128) :
    Value.G10 (F := Ideal) m c (ix3 (bt t) s (l12 h d) : S64x512x1536.Idx) = kRes m c (bt t) s h d := by
  have hl : (128 * h.val + d.val) < 1536 := (l12 h d).isLt
  have hp : Value.pt10Of (ix3 (bt t) s (l12 h d) : S64x512x1536.Idx) = t.val := by
    show 1 * (t.val / 1 - 0) + 1 * (s.val / 512 - 0) + 1 * ((128 * h.val + d.val) / 1536 - 0) = t.val
    have := s.isLt; omega
  have hc : Value.loc10Of (ix3 (bt t) s (l12 h d) : S64x512x1536.Idx) = (ix3 0 s (l12 h d) : S1x512x1536.Idx) := by
    funext a; apply Fin.ext
    match a with
    | ⟨0, _⟩ => show t.val % 1 = 0; omega
    | ⟨1, _⟩ => show s.val % 512 = s.val; have := s.isLt; omega
    | ⟨2, _⟩ => show (128 * h.val + d.val) % 1536 = 128 * h.val + d.val; omega
  unfold Value.G10
  rw [dif_pos (by rw [hp]; exact t.isLt), hc]
  simp only [hp]
  rw [← Value.outsAt0_sweep m c t.val t.isLt]
  refine (congrFun (outs m c hS t).1 _).trans ((fOut_at _ _ _ _).trans ?_)
  unfold Blk.out kRes
  rw [scaleAt, upAt, usAt]
  simp only [pvAt, vtAt]
theorem G11_at (t : Fin cfg0.N) (h : Fin 12) (s : Fin 512) :
    Value.G11 (F := Ideal) m c (ix3 (bt t) h s : S64x12x512.Idx) = kLp m c (bt t) h s := by
  have hp : Value.pt11Of (ix3 (bt t) h s : S64x12x512.Idx) = t.val := by
    show 1 * (t.val / 1 - 0) + 1 * (h.val / 12 - 0) + 1 * (s.val / 512 - 0) = t.val
    have := s.isLt; have := h.isLt; omega
  have hc : Value.loc11Of (ix3 (bt t) h s : S64x12x512.Idx) = (ix3 0 h s : S1x12x512.Idx) := by
    funext a; apply Fin.ext
    match a with
    | ⟨0, _⟩ => show t.val % 1 = 0; omega
    | ⟨1, _⟩ => show h.val % 12 = h.val; have := h.isLt; omega
    | ⟨2, _⟩ => show s.val % 512 = s.val; have := s.isLt; omega
  unfold Value.G11
  rw [dif_pos (by rw [hp]; exact t.isLt), hc]
  simp only [hp]
  rw [← Value.outsAt0_sweep m c t.val t.isLt]
  refine (congrFun (outs m c hS t).2.1 _).trans ?_
  show (blkAt m c t).lp h s = _
  unfold Blk.lp kLp
  rw [scaleAt, upAt]
theorem G12_at (t : Fin cfg0.N) (h : Fin 12) (s : Fin 512) :
    Value.G12 (F := Ideal) m c (ix3 (bt t) h s : S64x12x512.Idx) = kLc m c (bt t) h s := by
  have hp : Value.pt12Of (ix3 (bt t) h s : S64x12x512.Idx) = t.val := by
    show 1 * (t.val / 1 - 0) + 1 * (h.val / 12 - 0) + 1 * (s.val / 512 - 0) = t.val
    have := s.isLt; have := h.isLt; omega
  have hc : Value.loc12Of (ix3 (bt t) h s : S64x12x512.Idx) = (ix3 0 h s : S1x12x512.Idx) := by
    funext a; apply Fin.ext
    match a with
    | ⟨0, _⟩ => show t.val % 1 = 0; omega
    | ⟨1, _⟩ => show h.val % 12 = h.val; have := h.isLt; omega
    | ⟨2, _⟩ => show s.val % 512 = s.val; have := s.isLt; omega
  unfold Value.G12
  rw [dif_pos (by rw [hp]; exact t.isLt), hc]
  simp only [hp]
  rw [← Value.outsAt0_sweep m c t.val t.isLt]
  refine (congrFun (outs m c hS t).2.2 _).trans ?_
  show (blkAt m c t).lc h s = _
  unfold Blk.lc kLc
  rw [scaleAt, usAt]
end Cert.KernelIdeal.Gen
-- ==== Proof.RefTail.lean ====
/- The reference's host operations after its decoding region, as one list, and the buffers read back after them:
   each result buffer holds the operations' composed pure term of the decoded arrays and of the scales. -/
module

public import proofs.«01_k».proof.Proof.Gen.ReferenceIdeal.Frame
public import Idealize.ShloMosaic.Lib.StableHlo.Run
public import Idealize.ShloMosaic.Lib.Pipeline.Frame

@[expose] public section

set_option Elab.async false

noncomputable section

namespace Cert.ReferenceIdeal.Tail

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 of 126 (window `main_part0`). -/
abbrev ops_part0 : List (HloOp τ sig (Elt F)) :=
  [ reshape main_v3_0 main_v4 (rfl : (.f32 : EltTy) = .f32) shapeCasts_S64x512x12x128_S64x512x2x6x128,
    unary main_v4 main_v5 ((transpose S2x64x512x6x128 [2, 0, 1, 3, 4] · transposes_S64x512x2x6x128_S2x64x512x6x128_2_0_1_3_4) : (⟨S64x512x2x6x128, .f32⟩ : BufTy).Contents (Elt F) → (⟨S2x64x512x6x128, .f32⟩ : BufTy).Contents (Elt F)),
    reshape main_arg1 main_v6 (rfl : (.f32 : EltTy) = .f32) shapeCasts_S64x512x12_S64x512x2x6,
    unary main_v6 main_v7 ((transpose S2x64x512x6 [2, 0, 1, 3] · transposes_S64x512x2x6_S2x64x512x6_2_0_1_3) : (⟨S64x512x2x6, .f32⟩ : BufTy).Contents (Elt F) → (⟨S2x64x512x6, .f32⟩ : BufTy).Contents (Elt F)),
    unary main_v3_3 main_v8 ((transpose S2x64x512x128 [2, 0, 1, 3] · transposes_S64x512x2x128_S2x64x512x128_2_0_1_3) : (⟨S64x512x2x128, .f32⟩ : BufTy).Contents (Elt F) → (⟨S2x64x512x128, .f32⟩ : BufTy).Contents (Elt F)),
    unary main_arg7 main_v9 ((transpose S2x64x512 [2, 0, 1] · transposes_S64x512x2_S2x64x512_2_0_1) : (⟨S64x512x2, .f32⟩ : BufTy).Contents (Elt F) → (⟨S2x64x512, .f32⟩ : BufTy).Contents (Elt F)),
    unary main_v3_4 main_v10 ((transpose S2x64x512x128 [2, 0, 1, 3] · transposes_S64x512x2x128_S2x64x512x128_2_0_1_3) : (⟨S64x512x2x128, .bf16⟩ : BufTy).Contents (Elt F) → (⟨S2x64x512x128, .bf16⟩ : BufTy).Contents (Elt F)),
    unary main_arg9 main_v11 ((transpose S2x64x512 [2, 0, 1] · transposes_S64x512x2_S2x64x512_2_0_1) : (⟨S64x512x2, .f32⟩ : BufTy).Contents (Elt F) → (⟨S2x64x512, .f32⟩ : BufTy).Contents (Elt F)),
    unary main_v3_1 main_v12 ((transpose S2x2048x128 [1, 0, 2] · transposes_S2048x2x128_S2x2048x128_1_0_2) : (⟨S2048x2x128, .f32⟩ : BufTy).Contents (Elt F) → (⟨S2x2048x128, .f32⟩ : BufTy).Contents (Elt F)),
    unary main_arg3 main_v13 ((transpose S2x2048 [1, 0] · transposes_S2048x2_S2x2048_1_0) : (⟨S2048x2, .f32⟩ : BufTy).Contents (Elt F) → (⟨S2x2048, .f32⟩ : BufTy).Contents (Elt F)),
    unary main_v3_2 main_v14 ((transpose S2x2048x128 [1, 0, 2] · transposes_S2048x2x128_S2x2048x128_1_0_2) : (⟨S2048x2x128, .bf16⟩ : BufTy).Contents (Elt F) → (⟨S2x2048x128, .bf16⟩ : BufTy).Contents (Elt F)),
    unary main_arg5 main_v15 ((transpose S2x2048 [1, 0] · transposes_S2048x2_S2x2048_1_0) : (⟨S2048x2, .f32⟩ : BufTy).Contents (Elt F) → (⟨S2x2048, .f32⟩ : BufTy).Contents (Elt F)),
    unary main_v13 main_v16 (broadcastInDim S2x1x1x1x2048 ![0, 4] bcast_S2x2048_S2x1x1x1x2048_0_4 : (⟨S2x2048, .f32⟩ : BufTy).Contents (Elt F) → (⟨S2x1x1x1x2048, .f32⟩ : BufTy).Contents (Elt F)),
    unary main_v15 main_v17 (broadcastInDim S2x1x1x1x2048 ![0, 4] bcast_S2x2048_S2x1x1x1x2048_0_4 : (⟨S2x2048, .f32⟩ : BufTy).Contents (Elt F) → (⟨S2x1x1x1x2048, .f32⟩ : BufTy).Contents (Elt F)),
    binary main_v5 main_v12 main_v18 ((fun l r => Host.dotGeneral dot_S2x64x512x6x128_S2x2048x128_S2x64x512x6x2048_4_2_123_1_0_0 none l r) : (⟨S2x64x512x6x128, .f32⟩ : BufTy).Contents (Elt F) → (⟨S2x2048x128, .f32⟩ : BufTy).Contents (Elt F) → (⟨S2x64x512x6x2048, .f32⟩ : BufTy).Contents (Elt F)),
    unary main_v7 main_v19 (broadcastInDim S2x64x512x6x1 ![0, 1, 2, 3] bcast_S2x64x512x6_S2x64x512x6x1_0_1_2_3 : (⟨S2x64x512x6, .f32⟩ : BufTy).Contents (Elt F) → (⟨S2x64x512x6x1, .f32⟩ : BufTy).Contents (Elt F)),
    unary main_v19 main_v20 (broadcastInDim S2x64x512x6x2048 ![0, 1, 2, 3, 4] bcast_S2x64x512x6x1_S2x64x512x6x2048_0_1_2_3_4 : (⟨S2x64x512x6x1, .f32⟩ : BufTy).Contents (Elt F) → (⟨S2x64x512x6x2048, .f32⟩ : BufTy).Contents (Elt F)),
    binary main_v18 main_v20 main_v21 (mulf : (⟨S2x64x512x6x2048, .f32⟩ : BufTy).Contents (Elt F) → (⟨S2x64x512x6x2048, .f32⟩ : BufTy).Contents (Elt F) → (⟨S2x64x512x6x2048, .f32⟩ : BufTy).Contents (Elt F)),
    unary main_v16 main_v22 (broadcastInDim S2x64x512x6x2048 ![0, 1, 2, 3, 4] bcast_S2x1x1x1x2048_S2x64x512x6x2048_0_1_2_3_4 : (⟨S2x1x1x1x2048, .f32⟩ : BufTy).Contents (Elt F) → (⟨S2x64x512x6x2048, .f32⟩ : BufTy).Contents (Elt F)),
    binary main_v21 main_v22 main_v23 (mulf : (⟨S2x64x512x6x2048, .f32⟩ : BufTy).Contents (Elt F) → (⟨S2x64x512x6x2048, .f32⟩ : BufTy).Contents (Elt F) → (⟨S2x64x512x6x2048, .f32⟩ : BufTy).Contents (Elt F)),
    nullary main_cst (constant S_ .f32 0x43000000#32),
    unary main_cst main_v24 (Host.sqrt : (⟨S_, .f32⟩ : BufTy).Contents (Elt F) → (⟨S_, .f32⟩ : BufTy).Contents (Elt F)),
    unary main_v24 main_v25 (broadcastInDim S2x64x512x6x2048 ![] bcast_S_S2x64x512x6x2048 : (⟨S_, .f32⟩ : BufTy).Contents (Elt F) → (⟨S2x64x512x6x2048, .f32⟩ : BufTy).Contents (Elt F)),
    binary main_v23 main_v25 main_v26 (Host.divf : (⟨S2x64x512x6x2048, .f32⟩ : BufTy).Contents (Elt F) → (⟨S2x64x512x6x2048, .f32⟩ : BufTy).Contents (Elt F) → (⟨S2x64x512x6x2048, .f32⟩ : BufTy).Contents (Elt F)),
    nullary main_cst_0 (constant S_ .f32 0xFF800000#32),
    binary main_v26 main_cst_0 main_v27 ((fun x v => Host.reduce FloatOps.maximumf x v reducesTo_S2x64x512x6x2048_S2x64x512x6_d4 h_S_) : (⟨S2x64x512x6x2048, .f32⟩ : BufTy).Contents (Elt F) → (⟨S_, .f32⟩ : BufTy).Contents (Elt F) → (⟨S2x64x512x6, .f32⟩ : BufTy).Contents (Elt F)),
    unary main_v27 main_v28 (broadcastInDim S2x64x512x6x1 ![0, 1, 2, 3] bcast_S2x64x512x6_S2x64x512x6x1_0_1_2_3 : (⟨S2x64x512x6, .f32⟩ : BufTy).Contents (Elt F) → (⟨S2x64x512x6x1, .f32⟩ : BufTy).Contents (Elt F)),
    unary main_v28 main_v29 (broadcastInDim S2x64x512x6x2048 ![0, 1, 2, 3, 4] bcast_S2x64x512x6x1_S2x64x512x6x2048_0_1_2_3_4 : (⟨S2x64x512x6x1, .f32⟩ : BufTy).Contents (Elt F) → (⟨S2x64x512x6x2048, .f32⟩ : BufTy).Contents (Elt F)),
    binary main_v26 main_v29 main_v30 (subf : (⟨S2x64x512x6x2048, .f32⟩ : BufTy).Contents (Elt F) → (⟨S2x64x512x6x2048, .f32⟩ : BufTy).Contents (Elt F) → (⟨S2x64x512x6x2048, .f32⟩ : BufTy).Contents (Elt F)),
    unary main_v30 main_v31 (Host.exp : (⟨S2x64x512x6x2048, .f32⟩ : BufTy).Contents (Elt F) → (⟨S2x64x512x6x2048, .f32⟩ : BufTy).Contents (Elt F)),
    nullary main_cst_1 (constant S_ .f32 0x00000000#32),
    binary main_v31 main_cst_1 main_v32 ((fun x v => Host.reduceAdd x v reducesTo_S2x64x512x6x2048_S2x64x512x6_d4 h_S_) : (⟨S2x64x512x6x2048, .f32⟩ : BufTy).Contents (Elt F) → (⟨S_, .f32⟩ : BufTy).Contents (Elt F) → (⟨S2x64x512x6, .f32⟩ : BufTy).Contents (Elt F)),
    unary main_v17 main_v33 (broadcastInDim S2x64x512x6x2048 ![0, 1, 2, 3, 4] bcast_S2x1x1x1x2048_S2x64x512x6x2048_0_1_2_3_4 : (⟨S2x1x1x1x2048, .f32⟩ : BufTy).Contents (Elt F) → (⟨S2x64x512x6x2048, .f32⟩ : BufTy).Contents (Elt F)),
    binary main_v31 main_v33 main_v34 (mulf : (⟨S2x64x512x6x2048, .f32⟩ : BufTy).Contents (Elt F) → (⟨S2x64x512x6x2048, .f32⟩ : BufTy).Contents (Elt F) → (⟨S2x64x512x6x2048, .f32⟩ : BufTy).Contents (Elt F)),
    unary main_v34 main_v35 ((truncf .bf16 · bitsLt_bf16_f32) : (⟨S2x64x512x6x2048, .f32⟩ : BufTy).Contents (Elt F) → (⟨S2x64x512x6x2048, .bf16⟩ : BufTy).Contents (Elt F)),
    binary main_v35 main_v14 main_v36 ((fun l r => Host.dotGeneral dot_S2x64x512x6x2048_S2x2048x128_S2x64x512x6x128_4_1_123_2_0_0 none l r) : (⟨S2x64x512x6x2048, .bf16⟩ : BufTy).Contents (Elt F) → (⟨S2x2048x128, .bf16⟩ : BufTy).Contents (Elt F) → (⟨S2x64x512x6x128, .f32⟩ : BufTy).Contents (Elt F)),
    unary main_v32 main_v37 (broadcastInDim S2x64x512x6x1 ![0, 1, 2, 3] bcast_S2x64x512x6_S2x64x512x6x1_0_1_2_3 : (⟨S2x64x512x6, .f32⟩ : BufTy).Contents (Elt F) → (⟨S2x64x512x6x1, .f32⟩ : BufTy).Contents (Elt F)),
    unary main_v37 main_v38 (broadcastInDim S2x64x512x6x128 ![0, 1, 2, 3, 4] bcast_S2x64x512x6x1_S2x64x512x6x128_0_1_2_3_4 : (⟨S2x64x512x6x1, .f32⟩ : BufTy).Contents (Elt F) → (⟨S2x64x512x6x128, .f32⟩ : BufTy).Contents (Elt F)),
    binary main_v36 main_v38 main_v39 (Host.divf : (⟨S2x64x512x6x128, .f32⟩ : BufTy).Contents (Elt F) → (⟨S2x64x512x6x128, .f32⟩ : BufTy).Contents (Elt F) → (⟨S2x64x512x6x128, .f32⟩ : BufTy).Contents (Elt F)),
    reshape main_v28 main_v40 (rfl : (.f32 : EltTy) = .f32) shapeCasts_S2x64x512x6x1_S2x64x512x6,
    unary main_v32 main_v41 (Host.log : (⟨S2x64x512x6, .f32⟩ : BufTy).Contents (Elt F) → (⟨S2x64x512x6, .f32⟩ : BufTy).Contents (Elt F)),
    binary main_v40 main_v41 main_v42 (addf : (⟨S2x64x512x6, .f32⟩ : BufTy).Contents (Elt F) → (⟨S2x64x512x6, .f32⟩ : BufTy).Contents (Elt F) → (⟨S2x64x512x6, .f32⟩ : BufTy).Contents (Elt F)),
    nullary main_v43 (iotaInDim S512 32 0),
    unary main_v43 main_v44 (broadcastInDim S1x512 ![1] bcast_S512_S1x512_1 : (⟨S512, .i32⟩ : BufTy).Contents (Elt F) → (⟨S1x512, .i32⟩ : BufTy).Contents (Elt F)),
    unary main_v43 main_v45 (broadcastInDim S512x1 ![0] bcast_S512_S512x1_0 : (⟨S512, .i32⟩ : BufTy).Contents (Elt F) → (⟨S512x1, .i32⟩ : BufTy).Contents (Elt F)),
    unary main_v44 main_v46 (broadcastInDim S512x512 ![0, 1] bcast_S1x512_S512x512_0_1 : (⟨S1x512, .i32⟩ : BufTy).Contents (Elt F) → (⟨S512x512, .i32⟩ : BufTy).Contents (Elt F)),
    unary main_v45 main_v47 (broadcastInDim S512x512 ![0, 1] bcast_S512x1_S512x512_0_1 : (⟨S512x1, .i32⟩ : BufTy).Contents (Elt F) → (⟨S512x512, .i32⟩ : BufTy).Contents (Elt F)),
    binary main_v46 main_v47 main_v48 (cmpi .sgt : (⟨S512x512, .i32⟩ : BufTy).Contents (Elt F) → (⟨S512x512, .i32⟩ : BufTy).Contents (Elt F) → (⟨S512x512, .i1⟩ : BufTy).Contents (Elt F)),
    unary main_v9 main_v49 (broadcastInDim S2x64x1x1x512 ![0, 1, 4] bcast_S2x64x512_S2x64x1x1x512_0_1_4 : (⟨S2x64x512, .f32⟩ : BufTy).Contents (Elt F) → (⟨S2x64x1x1x512, .f32⟩ : BufTy).Contents (Elt F)),
    unary main_v11 main_v50 (broadcastInDim S2x64x1x1x512 ![0, 1, 4] bcast_S2x64x512_S2x64x1x1x512_0_1_4 : (⟨S2x64x512, .f32⟩ : BufTy).Contents (Elt F) → (⟨S2x64x1x1x512, .f32⟩ : BufTy).Contents (Elt F)),
    unary main_v48 main_v51 (broadcastInDim S1x1x512x1x512 ![2, 4] bcast_S512x512_S1x1x512x1x512_2_4 : (⟨S512x512, .i1⟩ : BufTy).Contents (Elt F) → (⟨S1x1x512x1x512, .i1⟩ : BufTy).Contents (Elt F)),
    binary main_v5 main_v8 main_v52 ((fun l r => Host.dotGeneral dot_S2x64x512x6x128_S2x64x512x128_S2x64x512x6x512_4_3_23_2_01_01 none l r) : (⟨S2x64x512x6x128, .f32⟩ : BufTy).Contents (Elt F) → (⟨S2x64x512x128, .f32⟩ : BufTy).Contents (Elt F) → (⟨S2x64x512x6x512, .f32⟩ : BufTy).Contents (Elt F)),
    unary main_v7 main_v53 (broadcastInDim S2x64x512x6x1 ![0, 1, 2, 3] bcast_S2x64x512x6_S2x64x512x6x1_0_1_2_3 : (⟨S2x64x512x6, .f32⟩ : BufTy).Contents (Elt F) → (⟨S2x64x512x6x1, .f32⟩ : BufTy).Contents (Elt F)),
    unary main_v53 main_v54 (broadcastInDim S2x64x512x6x512 ![0, 1, 2, 3, 4] bcast_S2x64x512x6x1_S2x64x512x6x512_0_1_2_3_4 : (⟨S2x64x512x6x1, .f32⟩ : BufTy).Contents (Elt F) → (⟨S2x64x512x6x512, .f32⟩ : BufTy).Contents (Elt F)),
    binary main_v52 main_v54 main_v55 (mulf : (⟨S2x64x512x6x512, .f32⟩ : BufTy).Contents (Elt F) → (⟨S2x64x512x6x512, .f32⟩ : BufTy).Contents (Elt F) → (⟨S2x64x512x6x512, .f32⟩ : BufTy).Contents (Elt F)),
    unary main_v49 main_v56 (broadcastInDim S2x64x512x6x512 ![0, 1, 2, 3, 4] bcast_S2x64x1x1x512_S2x64x512x6x512_0_1_2_3_4 : (⟨S2x64x1x1x512, .f32⟩ : BufTy).Contents (Elt F) → (⟨S2x64x512x6x512, .f32⟩ : BufTy).Contents (Elt F)),
    binary main_v55 main_v56 main_v57 (mulf : (⟨S2x64x512x6x512, .f32⟩ : BufTy).Contents (Elt F) → (⟨S2x64x512x6x512, .f32⟩ : BufTy).Contents (Elt F) → (⟨S2x64x512x6x512, .f32⟩ : BufTy).Contents (Elt F)),
    nullary main_cst_2 (constant S_ .f32 0x43000000#32),
    unary main_cst_2 main_v58 (Host.sqrt : (⟨S_, .f32⟩ : BufTy).Contents (Elt F) → (⟨S_, .f32⟩ : BufTy).Contents (Elt F)),
    unary main_v58 main_v59 (broadcastInDim S2x64x512x6x512 ![] bcast_S_S2x64x512x6x512 : (⟨S_, .f32⟩ : BufTy).Contents (Elt F) → (⟨S2x64x512x6x512, .f32⟩ : BufTy).Contents (Elt F)) ]

/-- @main's operations 61 … 90 of 126 (window `main_part1`). -/
abbrev ops_part1_0 : List (HloOp τ sig (Elt F)) :=
  [ binary main_v57 main_v59 main_v60 (Host.divf : (⟨S2x64x512x6x512, .f32⟩ : BufTy).Contents (Elt F) → (⟨S2x64x512x6x512, .f32⟩ : BufTy).Contents (Elt F) → (⟨S2x64x512x6x512, .f32⟩ : BufTy).Contents (Elt F)),
    nullary main_cst_3 (constant S_ .f32 0xFF800000#32),
    TRef.unary (TRef.of (T := ⟨S_, .f32⟩) main_cst_3) (TRef.of (T := ⟨S_, .f32⟩) main_call0_v0) id,
    TRef.unary (TRef.of (T := ⟨S1x1x512x1x512, .i1⟩) main_v51) (TRef.of (T := ⟨S2x64x512x6x512, .i1⟩) main_call0_v1) (broadcastInDim S2x64x512x6x512 ![0, 1, 2, 3, 4] bcast_S1x1x512x1x512_S2x64x512x6x512_0_1_2_3_4),
    TRef.unary (TRef.of (T := ⟨S_, .f32⟩) main_call0_v0) (TRef.of (T := ⟨S2x64x512x6x512, .f32⟩) main_call0_v2) (broadcastInDim S2x64x512x6x512 ![] bcast_S_S2x64x512x6x512),
    TRef.ternary (TRef.of (T := ⟨S2x64x512x6x512, .i1⟩) main_call0_v1) (TRef.of (T := ⟨S2x64x512x6x512, .f32⟩) main_call0_v2) (TRef.of (T := ⟨S2x64x512x6x512, .f32⟩) main_v60) (TRef.of (T := ⟨S2x64x512x6x512, .f32⟩) main_v61) select,
    nullary main_cst_4 (constant S_ .f32 0xFF800000#32),
    binary main_v61 main_cst_4 main_v62 ((fun x v => Host.reduce FloatOps.maximumf x v reducesTo_S2x64x512x6x512_S2x64x512x6_d4 h_S_) : (⟨S2x64x512x6x512, .f32⟩ : BufTy).Contents (Elt F) → (⟨S_, .f32⟩ : BufTy).Contents (Elt F) → (⟨S2x64x512x6, .f32⟩ : BufTy).Contents (Elt F)),
    unary main_v62 main_v63 (broadcastInDim S2x64x512x6x1 ![0, 1, 2, 3] bcast_S2x64x512x6_S2x64x512x6x1_0_1_2_3 : (⟨S2x64x512x6, .f32⟩ : BufTy).Contents (Elt F) → (⟨S2x64x512x6x1, .f32⟩ : BufTy).Contents (Elt F)),
    unary main_v63 main_v64 (broadcastInDim S2x64x512x6x512 ![0, 1, 2, 3, 4] bcast_S2x64x512x6x1_S2x64x512x6x512_0_1_2_3_4 : (⟨S2x64x512x6x1, .f32⟩ : BufTy).Contents (Elt F) → (⟨S2x64x512x6x512, .f32⟩ : BufTy).Contents (Elt F)),
    binary main_v61 main_v64 main_v65 (subf : (⟨S2x64x512x6x512, .f32⟩ : BufTy).Contents (Elt F) → (⟨S2x64x512x6x512, .f32⟩ : BufTy).Contents (Elt F) → (⟨S2x64x512x6x512, .f32⟩ : BufTy).Contents (Elt F)),
    unary main_v65 main_v66 (Host.exp : (⟨S2x64x512x6x512, .f32⟩ : BufTy).Contents (Elt F) → (⟨S2x64x512x6x512, .f32⟩ : BufTy).Contents (Elt F)),
    nullary main_cst_5 (constant S_ .f32 0x00000000#32),
    binary main_v66 main_cst_5 main_v67 ((fun x v => Host.reduceAdd x v reducesTo_S2x64x512x6x512_S2x64x512x6_d4 h_S_) : (⟨S2x64x512x6x512, .f32⟩ : BufTy).Contents (Elt F) → (⟨S_, .f32⟩ : BufTy).Contents (Elt F) → (⟨S2x64x512x6, .f32⟩ : BufTy).Contents (Elt F)),
    unary main_v50 main_v68 (broadcastInDim S2x64x512x6x512 ![0, 1, 2, 3, 4] bcast_S2x64x1x1x512_S2x64x512x6x512_0_1_2_3_4 : (⟨S2x64x1x1x512, .f32⟩ : BufTy).Contents (Elt F) → (⟨S2x64x512x6x512, .f32⟩ : BufTy).Contents (Elt F)),
    binary main_v66 main_v68 main_v69 (mulf : (⟨S2x64x512x6x512, .f32⟩ : BufTy).Contents (Elt F) → (⟨S2x64x512x6x512, .f32⟩ : BufTy).Contents (Elt F) → (⟨S2x64x512x6x512, .f32⟩ : BufTy).Contents (Elt F)),
    unary main_v69 main_v70 ((truncf .bf16 · bitsLt_bf16_f32) : (⟨S2x64x512x6x512, .f32⟩ : BufTy).Contents (Elt F) → (⟨S2x64x512x6x512, .bf16⟩ : BufTy).Contents (Elt F)),
    binary main_v70 main_v10 main_v71 ((fun l r => Host.dotGeneral dot_S2x64x512x6x512_S2x64x512x128_S2x64x512x6x128_4_2_23_3_01_01 none l r) : (⟨S2x64x512x6x512, .bf16⟩ : BufTy).Contents (Elt F) → (⟨S2x64x512x128, .bf16⟩ : BufTy).Contents (Elt F) → (⟨S2x64x512x6x128, .f32⟩ : BufTy).Contents (Elt F)),
    unary main_v67 main_v72 (broadcastInDim S2x64x512x6x1 ![0, 1, 2, 3] bcast_S2x64x512x6_S2x64x512x6x1_0_1_2_3 : (⟨S2x64x512x6, .f32⟩ : BufTy).Contents (Elt F) → (⟨S2x64x512x6x1, .f32⟩ : BufTy).Contents (Elt F)),
    unary main_v72 main_v73 (broadcastInDim S2x64x512x6x128 ![0, 1, 2, 3, 4] bcast_S2x64x512x6x1_S2x64x512x6x128_0_1_2_3_4 : (⟨S2x64x512x6x1, .f32⟩ : BufTy).Contents (Elt F) → (⟨S2x64x512x6x128, .f32⟩ : BufTy).Contents (Elt F)),
    binary main_v71 main_v73 main_v74 (Host.divf : (⟨S2x64x512x6x128, .f32⟩ : BufTy).Contents (Elt F) → (⟨S2x64x512x6x128, .f32⟩ : BufTy).Contents (Elt F) → (⟨S2x64x512x6x128, .f32⟩ : BufTy).Contents (Elt F)),
    reshape main_v63 main_v75 (rfl : (.f32 : EltTy) = .f32) shapeCasts_S2x64x512x6x1_S2x64x512x6,
    unary main_v67 main_v76 (Host.log : (⟨S2x64x512x6, .f32⟩ : BufTy).Contents (Elt F) → (⟨S2x64x512x6, .f32⟩ : BufTy).Contents (Elt F)),
    binary main_v75 main_v76 main_v77 (addf : (⟨S2x64x512x6, .f32⟩ : BufTy).Contents (Elt F) → (⟨S2x64x512x6, .f32⟩ : BufTy).Contents (Elt F) → (⟨S2x64x512x6, .f32⟩ : BufTy).Contents (Elt F)),
    binary main_v42 main_v77 main_v78 (maximumf : (⟨S2x64x512x6, .f32⟩ : BufTy).Contents (Elt F) → (⟨S2x64x512x6, .f32⟩ : BufTy).Contents (Elt F) → (⟨S2x64x512x6, .f32⟩ : BufTy).Contents (Elt F)),
    binary main_v42 main_v77 main_v79 (subf : (⟨S2x64x512x6, .f32⟩ : BufTy).Contents (Elt F) → (⟨S2x64x512x6, .f32⟩ : BufTy).Contents (Elt F) → (⟨S2x64x512x6, .f32⟩ : BufTy).Contents (Elt F)),
    binary main_v79 main_v79 main_v80 (cmpf .une : (⟨S2x64x512x6, .f32⟩ : BufTy).Contents (Elt F) → (⟨S2x64x512x6, .f32⟩ : BufTy).Contents (Elt F) → (⟨S2x64x512x6, .i1⟩ : BufTy).Contents (Elt F)),
    binary main_v42 main_v77 main_v81 (addf : (⟨S2x64x512x6, .f32⟩ : BufTy).Contents (Elt F) → (⟨S2x64x512x6, .f32⟩ : BufTy).Contents (Elt F) → (⟨S2x64x512x6, .f32⟩ : BufTy).Contents (Elt F)),
    unary main_v79 main_v82 (Host.absf : (⟨S2x64x512x6, .f32⟩ : BufTy).Contents (Elt F) → (⟨S2x64x512x6, .f32⟩ : BufTy).Contents (Elt F)),
    unary main_v82 main_v83 (Host.negf : (⟨S2x64x512x6, .f32⟩ : BufTy).Contents (Elt F) → (⟨S2x64x512x6, .f32⟩ : BufTy).Contents (Elt F)) ]

/-- @main's operations 91 … 120 of 126 (window `main_part1`). -/
abbrev ops_part1_1 : List (HloOp τ sig (Elt F)) :=
  [ unary main_v83 main_v84 (Host.exp : (⟨S2x64x512x6, .f32⟩ : BufTy).Contents (Elt F) → (⟨S2x64x512x6, .f32⟩ : BufTy).Contents (Elt F)),
    unary main_v84 main_v85 (Host.log1p : (⟨S2x64x512x6, .f32⟩ : BufTy).Contents (Elt F) → (⟨S2x64x512x6, .f32⟩ : BufTy).Contents (Elt F)),
    binary main_v78 main_v85 main_v86 (addf : (⟨S2x64x512x6, .f32⟩ : BufTy).Contents (Elt F) → (⟨S2x64x512x6, .f32⟩ : BufTy).Contents (Elt F) → (⟨S2x64x512x6, .f32⟩ : BufTy).Contents (Elt F)),
    ternary main_v80 main_v81 main_v86 main_v87 (select : (⟨S2x64x512x6, .i1⟩ : BufTy).Contents (Elt F) → (⟨S2x64x512x6, .f32⟩ : BufTy).Contents (Elt F) → (⟨S2x64x512x6, .f32⟩ : BufTy).Contents (Elt F) → (⟨S2x64x512x6, .f32⟩ : BufTy).Contents (Elt F)),
    binary main_v42 main_v87 main_v88 (subf : (⟨S2x64x512x6, .f32⟩ : BufTy).Contents (Elt F) → (⟨S2x64x512x6, .f32⟩ : BufTy).Contents (Elt F) → (⟨S2x64x512x6, .f32⟩ : BufTy).Contents (Elt F)),
    unary main_v88 main_v89 (Host.exp : (⟨S2x64x512x6, .f32⟩ : BufTy).Contents (Elt F) → (⟨S2x64x512x6, .f32⟩ : BufTy).Contents (Elt F)),
    unary main_v89 main_v90 (broadcastInDim S2x64x512x6x1 ![0, 1, 2, 3] bcast_S2x64x512x6_S2x64x512x6x1_0_1_2_3 : (⟨S2x64x512x6, .f32⟩ : BufTy).Contents (Elt F) → (⟨S2x64x512x6x1, .f32⟩ : BufTy).Contents (Elt F)),
    unary main_v90 main_v91 (broadcastInDim S2x64x512x6x128 ![0, 1, 2, 3, 4] bcast_S2x64x512x6x1_S2x64x512x6x128_0_1_2_3_4 : (⟨S2x64x512x6x1, .f32⟩ : BufTy).Contents (Elt F) → (⟨S2x64x512x6x128, .f32⟩ : BufTy).Contents (Elt F)),
    binary main_v91 main_v39 main_v92 (mulf : (⟨S2x64x512x6x128, .f32⟩ : BufTy).Contents (Elt F) → (⟨S2x64x512x6x128, .f32⟩ : BufTy).Contents (Elt F) → (⟨S2x64x512x6x128, .f32⟩ : BufTy).Contents (Elt F)),
    binary main_v77 main_v87 main_v93 (subf : (⟨S2x64x512x6, .f32⟩ : BufTy).Contents (Elt F) → (⟨S2x64x512x6, .f32⟩ : BufTy).Contents (Elt F) → (⟨S2x64x512x6, .f32⟩ : BufTy).Contents (Elt F)),
    unary main_v93 main_v94 (Host.exp : (⟨S2x64x512x6, .f32⟩ : BufTy).Contents (Elt F) → (⟨S2x64x512x6, .f32⟩ : BufTy).Contents (Elt F)),
    unary main_v94 main_v95 (broadcastInDim S2x64x512x6x1 ![0, 1, 2, 3] bcast_S2x64x512x6_S2x64x512x6x1_0_1_2_3 : (⟨S2x64x512x6, .f32⟩ : BufTy).Contents (Elt F) → (⟨S2x64x512x6x1, .f32⟩ : BufTy).Contents (Elt F)),
    unary main_v95 main_v96 (broadcastInDim S2x64x512x6x128 ![0, 1, 2, 3, 4] bcast_S2x64x512x6x1_S2x64x512x6x128_0_1_2_3_4 : (⟨S2x64x512x6x1, .f32⟩ : BufTy).Contents (Elt F) → (⟨S2x64x512x6x128, .f32⟩ : BufTy).Contents (Elt F)),
    binary main_v96 main_v74 main_v97 (mulf : (⟨S2x64x512x6x128, .f32⟩ : BufTy).Contents (Elt F) → (⟨S2x64x512x6x128, .f32⟩ : BufTy).Contents (Elt F) → (⟨S2x64x512x6x128, .f32⟩ : BufTy).Contents (Elt F)),
    binary main_v92 main_v97 main_v98 (addf : (⟨S2x64x512x6x128, .f32⟩ : BufTy).Contents (Elt F) → (⟨S2x64x512x6x128, .f32⟩ : BufTy).Contents (Elt F) → (⟨S2x64x512x6x128, .f32⟩ : BufTy).Contents (Elt F)),
    unary main_v98 main_v99 ((truncf .bf16 · bitsLt_bf16_f32) : (⟨S2x64x512x6x128, .f32⟩ : BufTy).Contents (Elt F) → (⟨S2x64x512x6x128, .bf16⟩ : BufTy).Contents (Elt F)),
    unary main_v99 main_v100 ((transpose S64x512x2x6x128 [1, 2, 0, 3, 4] · transposes_S2x64x512x6x128_S64x512x2x6x128_1_2_0_3_4) : (⟨S2x64x512x6x128, .bf16⟩ : BufTy).Contents (Elt F) → (⟨S64x512x2x6x128, .bf16⟩ : BufTy).Contents (Elt F)),
    reshape main_v100 main_v101 (rfl : (.bf16 : EltTy) = .bf16) shapeCasts_S64x512x2x6x128_S64x512x1536,
    unary main_v42 main_v102 ((transpose S64x512x2x6 [1, 2, 0, 3] · transposes_S2x64x512x6_S64x512x2x6_1_2_0_3) : (⟨S2x64x512x6, .f32⟩ : BufTy).Contents (Elt F) → (⟨S64x512x2x6, .f32⟩ : BufTy).Contents (Elt F)),
    reshape main_v102 main_v103 (rfl : (.f32 : EltTy) = .f32) shapeCasts_S64x512x2x6_S64x512x12,
    unary main_v77 main_v104 ((transpose S64x512x2x6 [1, 2, 0, 3] · transposes_S2x64x512x6_S64x512x2x6_1_2_0_3) : (⟨S2x64x512x6, .f32⟩ : BufTy).Contents (Elt F) → (⟨S64x512x2x6, .f32⟩ : BufTy).Contents (Elt F)),
    reshape main_v104 main_v105 (rfl : (.f32 : EltTy) = .f32) shapeCasts_S64x512x2x6_S64x512x12,
    nullary main_cst_6 (constant S_ .f32 0x45000000#32),
    unary main_cst_6 main_v106 (Host.log : (⟨S_, .f32⟩ : BufTy).Contents (Elt F) → (⟨S_, .f32⟩ : BufTy).Contents (Elt F)),
    unary main_v106 main_v107 (broadcastInDim S64x512x12 ![] bcast_S_S64x512x12 : (⟨S_, .f32⟩ : BufTy).Contents (Elt F) → (⟨S64x512x12, .f32⟩ : BufTy).Contents (Elt F)),
    binary main_v103 main_v107 main_v108 (subf : (⟨S64x512x12, .f32⟩ : BufTy).Contents (Elt F) → (⟨S64x512x12, .f32⟩ : BufTy).Contents (Elt F) → (⟨S64x512x12, .f32⟩ : BufTy).Contents (Elt F)),
    nullary main_v109 (sitofp .f32 (iotaInDim S512 32 0)),
    nullary main_cst_7 (constant S_ .f32 0x3F800000#32),
    unary main_cst_7 main_v110 (broadcastInDim S512 ![] bcast_S_S512 : (⟨S_, .f32⟩ : BufTy).Contents (Elt F) → (⟨S512, .f32⟩ : BufTy).Contents (Elt F)),
    binary main_v110 main_v109 main_v111 (addf : (⟨S512, .f32⟩ : BufTy).Contents (Elt F) → (⟨S512, .f32⟩ : BufTy).Contents (Elt F) → (⟨S512, .f32⟩ : BufTy).Contents (Elt F)) ]

/-- @main's operations 121 … 123 of 126 (window `main_part1`). -/
abbrev ops_part1_2 : List (HloOp τ sig (Elt F)) :=
  [ unary main_v111 main_v112 (Host.log : (⟨S512, .f32⟩ : BufTy).Contents (Elt F) → (⟨S512, .f32⟩ : BufTy).Contents (Elt F)),
    unary main_v112 main_v113 (broadcastInDim S1x512x1 ![1] bcast_S512_S1x512x1_1 : (⟨S512, .f32⟩ : BufTy).Contents (Elt F) → (⟨S1x512x1, .f32⟩ : BufTy).Contents (Elt F)),
    unary main_v113 main_v114 (broadcastInDim S64x512x12 ![0, 1, 2] bcast_S1x512x1_S64x512x12_0_1_2 : (⟨S1x512x1, .f32⟩ : BufTy).Contents (Elt F) → (⟨S64x512x12, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 124 … 126 of 126 (window `main_part2`). -/
abbrev ops_part2 : List (HloOp τ sig (Elt F)) :=
  [ binary main_v105 main_v114 main_v115 (subf : (⟨S64x512x12, .f32⟩ : BufTy).Contents (Elt F) → (⟨S64x512x12, .f32⟩ : BufTy).Contents (Elt F) → (⟨S64x512x12, .f32⟩ : BufTy).Contents (Elt F)),
    unary main_v108 main_v116 ((transpose S64x12x512 [0, 2, 1] · transposes_S64x512x12_S64x12x512_0_2_1) : (⟨S64x512x12, .f32⟩ : BufTy).Contents (Elt F) → (⟨S64x12x512, .f32⟩ : BufTy).Contents (Elt F)),
    unary main_v115 main_v117 ((transpose S64x12x512 [0, 2, 1] · transposes_S64x512x12_S64x12x512_0_2_1) : (⟨S64x512x12, .f32⟩ : BufTy).Contents (Elt F) → (⟨S64x12x512, .f32⟩ : BufTy).Contents (Elt F)) ]

/-- @main's 126 operations, in order (a called function's operations stand in its call's place, spelt `TRef.…`). -/
abbrev ops : List (HloOp τ sig (Elt F)) :=
  ops_part0 ++ (ops_part1 ++ (ops_part2))

set_option maxRecDepth 8192 in
/-- `main_v5`'s composed term of the arguments (named: it is used 2 times). -/
def res_main_v5 (V0 : Valuation τ sig (Elt F)) : (Proc.devRef .tc main_v5 : DevRef τ sig).ty.Contents (Elt F) :=
  transpose S2x64x512x6x128 [2, 0, 1, 3, 4] (shapeCast _ (V0 (Proc.devRef .tc main_v3_0)) shapeCasts_S64x512x12x128_S64x512x2x6x128) transposes_S64x512x2x6x128_S2x64x512x6x128_2_0_1_3_4

set_option maxRecDepth 8192 in
/-- `main_v7`'s composed term of the arguments (named: it is used 2 times). -/
def res_main_v7 (V0 : Valuation τ sig (Elt F)) : (Proc.devRef .tc main_v7 : DevRef τ sig).ty.Contents (Elt F) :=
  transpose S2x64x512x6 [2, 0, 1, 3] (shapeCast _ (V0 (Proc.devRef .tc main_arg1)) shapeCasts_S64x512x12_S64x512x2x6) transposes_S64x512x2x6_S2x64x512x6_2_0_1_3

set_option maxRecDepth 8192 in
/-- `main_v26`'s composed term of the arguments (named: it is used 2 times). -/
def res_main_v26 (V0 : Valuation τ sig (Elt F)) : (Proc.devRef .tc main_v26 : DevRef τ sig).ty.Contents (Elt F) :=
  Host.divf (mulf (mulf (Host.dotGeneral dot_S2x64x512x6x128_S2x2048x128_S2x64x512x6x2048_4_2_123_1_0_0 none (res_main_v5 V0) (transpose S2x2048x128 [1, 0, 2] (V0 (Proc.devRef .tc main_v3_1)) transposes_S2048x2x128_S2x2048x128_1_0_2)) (broadcastInDim S2x64x512x6x2048 ![0, 1, 2, 3, 4] bcast_S2x64x512x6x1_S2x64x512x6x2048_0_1_2_3_4 (broadcastInDim S2x64x512x6x1 ![0, 1, 2, 3] bcast_S2x64x512x6_S2x64x512x6x1_0_1_2_3 (res_main_v7 V0)))) (broadcastInDim S2x64x512x6x2048 ![0, 1, 2, 3, 4] bcast_S2x1x1x1x2048_S2x64x512x6x2048_0_1_2_3_4 (broadcastInDim S2x1x1x1x2048 ![0, 4] bcast_S2x2048_S2x1x1x1x2048_0_4 (transpose S2x2048 [1, 0] (V0 (Proc.devRef .tc main_arg3)) transposes_S2048x2_S2x2048_1_0)))) (broadcastInDim S2x64x512x6x2048 ![] bcast_S_S2x64x512x6x2048 (Host.sqrt (constant S_ .f32 0x43000000#32)))

set_option maxRecDepth 8192 in
/-- `main_v28`'s composed term of the arguments (named: it is used 2 times). -/
def res_main_v28 (V0 : Valuation τ sig (Elt F)) : (Proc.devRef .tc main_v28 : DevRef τ sig).ty.Contents (Elt F) :=
  broadcastInDim S2x64x512x6x1 ![0, 1, 2, 3] bcast_S2x64x512x6_S2x64x512x6x1_0_1_2_3 (Host.reduce FloatOps.maximumf (res_main_v26 V0) (constant S_ .f32 0xFF800000#32) reducesTo_S2x64x512x6x2048_S2x64x512x6_d4 h_S_)

set_option maxRecDepth 8192 in
/-- `main_v31`'s composed term of the arguments (named: it is used 2 times). -/
def res_main_v31 (V0 : Valuation τ sig (Elt F)) : (Proc.devRef .tc main_v31 : DevRef τ sig).ty.Contents (Elt F) :=
  Host.exp (subf (res_main_v26 V0) (broadcastInDim S2x64x512x6x2048 ![0, 1, 2, 3, 4] bcast_S2x64x512x6x1_S2x64x512x6x2048_0_1_2_3_4 (res_main_v28 V0)))

set_option maxRecDepth 8192 in
/-- `main_v32`'s composed term of the arguments (named: it is used 2 times). -/
def res_main_v32 (V0 : Valuation τ sig (Elt F)) : (Proc.devRef .tc main_v32 : DevRef τ sig).ty.Contents (Elt F) :=
  Host.reduceAdd (res_main_v31 V0) (constant S_ .f32 0x00000000#32) reducesTo_S2x64x512x6x2048_S2x64x512x6_d4 h_S_

set_option maxRecDepth 8192 in
/-- `main_v42`'s composed term of the arguments (named: it is used 5 times). -/
def res_main_v42 (V0 : Valuation τ sig (Elt F)) : (Proc.devRef .tc main_v42 : DevRef τ sig).ty.Contents (Elt F) :=
  addf (shapeCast _ (res_main_v28 V0) shapeCasts_S2x64x512x6x1_S2x64x512x6) (Host.log (res_main_v32 V0))

set_option maxRecDepth 8192 in
/-- `main_v43`'s composed term of the arguments (named: it is used 2 times). -/
def res_main_v43 (V0 : Valuation τ sig (Elt F)) : (Proc.devRef .tc main_v43 : DevRef τ sig).ty.Contents (Elt F) :=
  iotaInDim S512 32 0

set_option maxRecDepth 8192 in
/-- `main_v61`'s composed term of the arguments (named: it is used 2 times). -/
def res_main_v61 (V0 : Valuation τ sig (Elt F)) : (Proc.devRef .tc main_v61 : DevRef τ sig).ty.Contents (Elt F) :=
  select (broadcastInDim S2x64x512x6x512 ![0, 1, 2, 3, 4] bcast_S1x1x512x1x512_S2x64x512x6x512_0_1_2_3_4 (broadcastInDim S1x1x512x1x512 ![2, 4] bcast_S512x512_S1x1x512x1x512_2_4 (cmpi .sgt (broadcastInDim S512x512 ![0, 1] bcast_S1x512_S512x512_0_1 (broadcastInDim S1x512 ![1] bcast_S512_S1x512_1 (res_main_v43 V0))) (broadcastInDim S512x512 ![0, 1] bcast_S512x1_S512x512_0_1 (broadcastInDim S512x1 ![0] bcast_S512_S512x1_0 (res_main_v43 V0)))))) (broadcastInDim S2x64x512x6x512 ![] bcast_S_S2x64x512x6x512 (id (constant S_ .f32 0xFF800000#32))) (Host.divf (mulf (mulf (Host.dotGeneral dot_S2x64x512x6x128_S2x64x512x128_S2x64x512x6x512_4_3_23_2_01_01 none (res_main_v5 V0) (transpose S2x64x512x128 [2, 0, 1, 3] (V0 (Proc.devRef .tc main_v3_3)) transposes_S64x512x2x128_S2x64x512x128_2_0_1_3)) (broadcastInDim S2x64x512x6x512 ![0, 1, 2, 3, 4] bcast_S2x64x512x6x1_S2x64x512x6x512_0_1_2_3_4 (broadcastInDim S2x64x512x6x1 ![0, 1, 2, 3] bcast_S2x64x512x6_S2x64x512x6x1_0_1_2_3 (res_main_v7 V0)))) (broadcastInDim S2x64x512x6x512 ![0, 1, 2, 3, 4] bcast_S2x64x1x1x512_S2x64x512x6x512_0_1_2_3_4 (broadcastInDim S2x64x1x1x512 ![0, 1, 4] bcast_S2x64x512_S2x64x1x1x512_0_1_4 (transpose S2x64x512 [2, 0, 1] (V0 (Proc.devRef .tc main_arg7)) transposes_S64x512x2_S2x64x512_2_0_1)))) (broadcastInDim S2x64x512x6x512 ![] bcast_S_S2x64x512x6x512 (Host.sqrt (constant S_ .f32 0x43000000#32))))

set_option maxRecDepth 8192 in
/-- `main_v63`'s composed term of the arguments (named: it is used 2 times). -/
def res_main_v63 (V0 : Valuation τ sig (Elt F)) : (Proc.devRef .tc main_v63 : DevRef τ sig).ty.Contents (Elt F) :=
  broadcastInDim S2x64x512x6x1 ![0, 1, 2, 3] bcast_S2x64x512x6_S2x64x512x6x1_0_1_2_3 (Host.reduce FloatOps.maximumf (res_main_v61 V0) (constant S_ .f32 0xFF800000#32) reducesTo_S2x64x512x6x512_S2x64x512x6_d4 h_S_)

set_option maxRecDepth 8192 in
/-- `main_v66`'s composed term of the arguments (named: it is used 2 times). -/
def res_main_v66 (V0 : Valuation τ sig (Elt F)) : (Proc.devRef .tc main_v66 : DevRef τ sig).ty.Contents (Elt F) :=
  Host.exp (subf (res_main_v61 V0) (broadcastInDim S2x64x512x6x512 ![0, 1, 2, 3, 4] bcast_S2x64x512x6x1_S2x64x512x6x512_0_1_2_3_4 (res_main_v63 V0)))

set_option maxRecDepth 8192 in
/-- `main_v67`'s composed term of the arguments (named: it is used 2 times). -/
def res_main_v67 (V0 : Valuation τ sig (Elt F)) : (Proc.devRef .tc main_v67 : DevRef τ sig).ty.Contents (Elt F) :=
  Host.reduceAdd (res_main_v66 V0) (constant S_ .f32 0x00000000#32) reducesTo_S2x64x512x6x512_S2x64x512x6_d4 h_S_

set_option maxRecDepth 8192 in
/-- `main_v77`'s composed term of the arguments (named: it is used 5 times). -/
def res_main_v77 (V0 : Valuation τ sig (Elt F)) : (Proc.devRef .tc main_v77 : DevRef τ sig).ty.Contents (Elt F) :=
  addf (shapeCast _ (res_main_v63 V0) shapeCasts_S2x64x512x6x1_S2x64x512x6) (Host.log (res_main_v67 V0))

set_option maxRecDepth 8192 in
/-- `main_v79`'s composed term of the arguments (named: it is used 3 times). -/
def res_main_v79 (V0 : Valuation τ sig (Elt F)) : (Proc.devRef .tc main_v79 : DevRef τ sig).ty.Contents (Elt F) :=
  subf (res_main_v42 V0) (res_main_v77 V0)

set_option maxRecDepth 8192 in
/-- `main_v87`'s composed term of the arguments (named: it is used 2 times). -/
def res_main_v87 (V0 : Valuation τ sig (Elt F)) : (Proc.devRef .tc main_v87 : DevRef τ sig).ty.Contents (Elt F) :=
  select (cmpf .une (res_main_v79 V0) (res_main_v79 V0)) (addf (res_main_v42 V0) (res_main_v77 V0)) (addf (maximumf (res_main_v42 V0) (res_main_v77 V0)) (Host.log1p (Host.exp (Host.negf (Host.absf (res_main_v79 V0))))))

/-- The device's buffer contents before @main's first window. -/
def val0 (V0 : Valuation τ sig (Elt F)) : Valuation τ sig (Elt F) := V0
theorem val0_main_v3_0 (V0 : Valuation τ sig (Elt F)) : val0 V0 (no_index (Proc.devRef .tc main_v3_0)) = V0 (Proc.devRef .tc main_v3_0) := rfl
theorem val0_main_arg1 (V0 : Valuation τ sig (Elt F)) : val0 V0 (no_index (Proc.devRef .tc main_arg1)) = V0 (Proc.devRef .tc main_arg1) := rfl
theorem val0_main_v3_1 (V0 : Valuation τ sig (Elt F)) : val0 V0 (no_index (Proc.devRef .tc main_v3_1)) = V0 (Proc.devRef .tc main_v3_1) := rfl
theorem val0_main_arg3 (V0 : Valuation τ sig (Elt F)) : val0 V0 (no_index (Proc.devRef .tc main_arg3)) = V0 (Proc.devRef .tc main_arg3) := rfl
theorem val0_main_v3_2 (V0 : Valuation τ sig (Elt F)) : val0 V0 (no_index (Proc.devRef .tc main_v3_2)) = V0 (Proc.devRef .tc main_v3_2) := rfl
theorem val0_main_arg5 (V0 : Valuation τ sig (Elt F)) : val0 V0 (no_index (Proc.devRef .tc main_arg5)) = V0 (Proc.devRef .tc main_arg5) := rfl
theorem val0_main_v3_3 (V0 : Valuation τ sig (Elt F)) : val0 V0 (no_index (Proc.devRef .tc main_v3_3)) = V0 (Proc.devRef .tc main_v3_3) := rfl
theorem val0_main_arg7 (V0 : Valuation τ sig (Elt F)) : val0 V0 (no_index (Proc.devRef .tc main_arg7)) = V0 (Proc.devRef .tc main_arg7) := rfl
theorem val0_main_v3_4 (V0 : Valuation τ sig (Elt F)) : val0 V0 (no_index (Proc.devRef .tc main_v3_4)) = V0 (Proc.devRef .tc main_v3_4) := rfl
theorem val0_main_arg9 (V0 : Valuation τ sig (Elt F)) : val0 V0 (no_index (Proc.devRef .tc main_arg9)) = V0 (Proc.devRef .tc main_arg9) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v4, main_v5, main_v6, main_v7, main_v8, main_v9, main_v10, main_v11, main_v12, main_v13, main_v14, main_v15, main_v16, main_v17, main_v18, main_v19, main_v20, main_v21, main_v22, main_v23, main_cst, main_v24, main_v25, main_v26, main_cst_0, main_v27, main_v28, main_v29, main_v30, main_v31, main_cst_1, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_cst_2, main_v58, main_v59]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_v3_0 (V0 : Valuation τ sig (Elt F)) : val1 V0 (no_index (Proc.devRef .tc main_v3_0)) = V0 (Proc.devRef .tc main_v3_0) :=
  (val1_keep V0 main_v3_0 (by decide)).trans (val0_main_v3_0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_v3_1 (V0 : Valuation τ sig (Elt F)) : val1 V0 (no_index (Proc.devRef .tc main_v3_1)) = V0 (Proc.devRef .tc main_v3_1) :=
  (val1_keep V0 main_v3_1 (by decide)).trans (val0_main_v3_1 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_v3_2 (V0 : Valuation τ sig (Elt F)) : val1 V0 (no_index (Proc.devRef .tc main_v3_2)) = V0 (Proc.devRef .tc main_v3_2) :=
  (val1_keep V0 main_v3_2 (by decide)).trans (val0_main_v3_2 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_v3_3 (V0 : Valuation τ sig (Elt F)) : val1 V0 (no_index (Proc.devRef .tc main_v3_3)) = V0 (Proc.devRef .tc main_v3_3) :=
  (val1_keep V0 main_v3_3 (by decide)).trans (val0_main_v3_3 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_v3_4 (V0 : Valuation τ sig (Elt F)) : val1 V0 (no_index (Proc.devRef .tc main_v3_4)) = V0 (Proc.devRef .tc main_v3_4) :=
  (val1_keep V0 main_v3_4 (by decide)).trans (val0_main_v3_4 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
set_option maxRecDepth 8192 in
set_option maxHeartbeats 2000000 in
theorem val1_main_v10 (V0 : Valuation τ sig (Elt F)) : val1 V0 (no_index (Proc.devRef .tc main_v10)) = transpose S2x64x512x128 [2, 0, 1, 3] (V0 (Proc.devRef .tc main_v3_4)) transposes_S64x512x2x128_S2x64x512x128_2_0_1_3 := by
  unfold val1
  simp only [ops_part0]
  after_results_simp
  simp only [val0_main_v3_4] <;> rfl
set_option maxRecDepth 8192 in
set_option maxHeartbeats 2000000 in
theorem val1_main_v39 (V0 : Valuation τ sig (Elt F)) : val1 V0 (no_index (Proc.devRef .tc main_v39)) = Host.divf (Host.dotGeneral dot_S2x64x512x6x2048_S2x2048x128_S2x64x512x6x128_4_1_123_2_0_0 none (truncf .bf16 (mulf (res_main_v31 V0) (broadcastInDim S2x64x512x6x2048 ![0, 1, 2, 3, 4] bcast_S2x1x1x1x2048_S2x64x512x6x2048_0_1_2_3_4 (broadcastInDim S2x1x1x1x2048 ![0, 4] bcast_S2x2048_S2x1x1x1x2048_0_4 (transpose S2x2048 [1, 0] (V0 (Proc.devRef .tc main_arg5)) transposes_S2048x2_S2x2048_1_0)))) bitsLt_bf16_f32) (transpose S2x2048x128 [1, 0, 2] (V0 (Proc.devRef .tc main_v3_2)) transposes_S2048x2x128_S2x2048x128_1_0_2)) (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (res_main_v32 V0))) := by
  unfold val1
  simp only [ops_part0]
  after_results_simp
  simp only [val0_main_arg3, val0_main_arg1, val0_main_v3_1, val0_main_v3_0, val0_main_v3_2, val0_main_arg5] <;> rfl
set_option maxRecDepth 8192 in
set_option maxHeartbeats 2000000 in
theorem val1_main_v42 (V0 : Valuation τ sig (Elt F)) : val1 V0 (no_index (Proc.devRef .tc main_v42)) = res_main_v42 V0 := by
  unfold val1
  simp only [ops_part0]
  after_results_simp
  simp only [val0_main_arg3, val0_main_arg1, val0_main_v3_1, val0_main_v3_0] <;> rfl
set_option maxRecDepth 8192 in
set_option maxHeartbeats 2000000 in
theorem val1_main_v50 (V0 : Valuation τ sig (Elt F)) : val1 V0 (no_index (Proc.devRef .tc main_v50)) = broadcastInDim S2x64x1x1x512 ![0, 1, 4] bcast_S2x64x512_S2x64x1x1x512_0_1_4 (transpose S2x64x512 [2, 0, 1] (V0 (Proc.devRef .tc main_arg9)) transposes_S64x512x2_S2x64x512_2_0_1) := by
  unfold val1
  simp only [ops_part0]
  after_results_simp
  simp only [val0_main_arg9] <;> rfl
set_option maxRecDepth 8192 in
set_option maxHeartbeats 2000000 in
theorem val1_main_v51 (V0 : Valuation τ sig (Elt F)) : val1 V0 (no_index (Proc.devRef .tc main_v51)) = broadcastInDim S1x1x512x1x512 ![2, 4] bcast_S512x512_S1x1x512x1x512_2_4 (cmpi .sgt (broadcastInDim S512x512 ![0, 1] bcast_S1x512_S512x512_0_1 (broadcastInDim S1x512 ![1] bcast_S512_S1x512_1 (res_main_v43 V0))) (broadcastInDim S512x512 ![0, 1] bcast_S512x1_S512x512_0_1 (broadcastInDim S512x1 ![0] bcast_S512_S512x1_0 (res_main_v43 V0)))) := by
  unfold val1
  simp only [ops_part0]
  after_results_simp
  all_goals rfl
set_option maxRecDepth 8192 in
set_option maxHeartbeats 2000000 in
theorem val1_main_v57 (V0 : Valuation τ sig (Elt F)) : val1 V0 (no_index (Proc.devRef .tc main_v57)) = mulf (mulf (Host.dotGeneral dot_S2x64x512x6x128_S2x64x512x128_S2x64x512x6x512_4_3_23_2_01_01 none (res_main_v5 V0) (transpose S2x64x512x128 [2, 0, 1, 3] (V0 (Proc.devRef .tc main_v3_3)) transposes_S64x512x2x128_S2x64x512x128_2_0_1_3)) (broadcastInDim S2x64x512x6x512 ![0, 1, 2, 3, 4] bcast_S2x64x512x6x1_S2x64x512x6x512_0_1_2_3_4 (broadcastInDim S2x64x512x6x1 ![0, 1, 2, 3] bcast_S2x64x512x6_S2x64x512x6x1_0_1_2_3 (res_main_v7 V0)))) (broadcastInDim S2x64x512x6x512 ![0, 1, 2, 3, 4] bcast_S2x64x1x1x512_S2x64x512x6x512_0_1_2_3_4 (broadcastInDim S2x64x1x1x512 ![0, 1, 4] bcast_S2x64x512_S2x64x1x1x512_0_1_4 (transpose S2x64x512 [2, 0, 1] (V0 (Proc.devRef .tc main_arg7)) transposes_S64x512x2_S2x64x512_2_0_1))) := by
  unfold val1
  simp only [ops_part0]
  after_results_simp
  simp only [val0_main_arg7, val0_main_arg1, val0_main_v3_3, val0_main_v3_0] <;> rfl
set_option maxRecDepth 8192 in
set_option maxHeartbeats 2000000 in
theorem val1_main_v59 (V0 : Valuation τ sig (Elt F)) : val1 V0 (no_index (Proc.devRef .tc main_v59)) = broadcastInDim S2x64x512x6x512 ![] bcast_S_S2x64x512x6x512 (Host.sqrt (constant S_ .f32 0x43000000#32)) := by
  unfold val1
  simp only [ops_part0]
  after_results_simp
  all_goals rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v60, main_cst_3, main_call0_v0, main_call0_v1, main_call0_v2, main_v61, main_cst_4, main_v62, main_v63, main_v64, main_v65, main_v66, main_cst_5, main_v67, main_v68, main_v69, main_v70, main_v71, main_v72, main_v73, main_v74, main_v75, main_v76, main_v77, main_v78, main_v79, main_v80, main_v81, main_v82, main_v83]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_v3_0 (V0 : Valuation τ sig (Elt F)) : val1_1 V0 (no_index (Proc.devRef .tc main_v3_0)) = V0 (Proc.devRef .tc main_v3_0) :=
  (val1_1_keep V0 main_v3_0 (by decide)).trans (val1_main_v3_0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_v3_1 (V0 : Valuation τ sig (Elt F)) : val1_1 V0 (no_index (Proc.devRef .tc main_v3_1)) = V0 (Proc.devRef .tc main_v3_1) :=
  (val1_1_keep V0 main_v3_1 (by decide)).trans (val1_main_v3_1 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_v3_2 (V0 : Valuation τ sig (Elt F)) : val1_1 V0 (no_index (Proc.devRef .tc main_v3_2)) = V0 (Proc.devRef .tc main_v3_2) :=
  (val1_1_keep V0 main_v3_2 (by decide)).trans (val1_main_v3_2 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_v3_3 (V0 : Valuation τ sig (Elt F)) : val1_1 V0 (no_index (Proc.devRef .tc main_v3_3)) = V0 (Proc.devRef .tc main_v3_3) :=
  (val1_1_keep V0 main_v3_3 (by decide)).trans (val1_main_v3_3 V0)
theorem val1_1_main_arg7 (V0 : Valuation τ sig (Elt F)) : val1_1 V0 (no_index (Proc.devRef .tc main_arg7)) = V0 (Proc.devRef .tc main_arg7) :=
  (val1_1_keep V0 main_arg7 (by decide)).trans (val1_main_arg7 V0)
theorem val1_1_main_v3_4 (V0 : Valuation τ sig (Elt F)) : val1_1 V0 (no_index (Proc.devRef .tc main_v3_4)) = V0 (Proc.devRef .tc main_v3_4) :=
  (val1_1_keep V0 main_v3_4 (by decide)).trans (val1_main_v3_4 V0)
theorem val1_1_main_arg9 (V0 : Valuation τ sig (Elt F)) : val1_1 V0 (no_index (Proc.devRef .tc main_arg9)) = V0 (Proc.devRef .tc main_arg9) :=
  (val1_1_keep V0 main_arg9 (by decide)).trans (val1_main_arg9 V0)
theorem val1_1_main_v39 (V0 : Valuation τ sig (Elt F)) : val1_1 V0 (no_index (Proc.devRef .tc main_v39)) = Host.divf (Host.dotGeneral dot_S2x64x512x6x2048_S2x2048x128_S2x64x512x6x128_4_1_123_2_0_0 none (truncf .bf16 (mulf (res_main_v31 V0) (broadcastInDim S2x64x512x6x2048 ![0, 1, 2, 3, 4] bcast_S2x1x1x1x2048_S2x64x512x6x2048_0_1_2_3_4 (broadcastInDim S2x1x1x1x2048 ![0, 4] bcast_S2x2048_S2x1x1x1x2048_0_4 (transpose S2x2048 [1, 0] (V0 (Proc.devRef .tc main_arg5)) transposes_S2048x2_S2x2048_1_0)))) bitsLt_bf16_f32) (transpose S2x2048x128 [1, 0, 2] (V0 (Proc.devRef .tc main_v3_2)) transposes_S2048x2x128_S2x2048x128_1_0_2)) (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (res_main_v32 V0))) :=
  (val1_1_keep V0 main_v39 (by decide)).trans (val1_main_v39 V0)
theorem val1_1_main_v42 (V0 : Valuation τ sig (Elt F)) : val1_1 V0 (no_index (Proc.devRef .tc main_v42)) = res_main_v42 V0 :=
  (val1_1_keep V0 main_v42 (by decide)).trans (val1_main_v42 V0)
set_option maxRecDepth 8192 in
set_option maxHeartbeats 2000000 in
theorem val1_1_main_v74 (V0 : Valuation τ sig (Elt F)) : val1_1 V0 (no_index (Proc.devRef .tc main_v74)) = Host.divf (Host.dotGeneral dot_S2x64x512x6x512_S2x64x512x128_S2x64x512x6x128_4_2_23_3_01_01 none (truncf .bf16 (mulf (res_main_v66 V0) (broadcastInDim S2x64x512x6x512 ![0, 1, 2, 3, 4] bcast_S2x64x1x1x512_S2x64x512x6x512_0_1_2_3_4 (broadcastInDim S2x64x1x1x512 ![0, 1, 4] bcast_S2x64x512_S2x64x1x1x512_0_1_4 (transpose S2x64x512 [2, 0, 1] (V0 (Proc.devRef .tc main_arg9)) transposes_S64x512x2_S2x64x512_2_0_1)))) bitsLt_bf16_f32) (transpose S2x64x512x128 [2, 0, 1, 3] (V0 (Proc.devRef .tc main_v3_4)) transposes_S64x512x2x128_S2x64x512x128_2_0_1_3)) (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (res_main_v67 V0))) := by
  unfold val1_1
  simp only [ops_part1_0, TRef.ternary, TRef.unary, TRef.toBuf, TRef.ofBuf, cast_eq]
  after_results_simp
  simp only [val1_main_v59, val1_main_v57, val1_main_v51, val1_main_v10, val1_main_v50] <;> rfl
set_option maxRecDepth 8192 in
set_option maxHeartbeats 2000000 in
theorem val1_1_main_v77 (V0 : Valuation τ sig (Elt F)) : val1_1 V0 (no_index (Proc.devRef .tc main_v77)) = res_main_v77 V0 := by
  unfold val1_1
  simp only [ops_part1_0, TRef.ternary, TRef.unary, TRef.toBuf, TRef.ofBuf, cast_eq]
  after_results_simp
  simp only [val1_main_v59, val1_main_v57, val1_main_v51] <;> rfl
set_option maxRecDepth 8192 in
set_option maxHeartbeats 2000000 in
theorem val1_1_main_v78 (V0 : Valuation τ sig (Elt F)) : val1_1 V0 (no_index (Proc.devRef .tc main_v78)) = maximumf (res_main_v42 V0) (res_main_v77 V0) := by
  unfold val1_1
  simp only [ops_part1_0, TRef.ternary, TRef.unary, TRef.toBuf, TRef.ofBuf, cast_eq]
  after_results_simp
  simp only [val1_main_v59, val1_main_v57, val1_main_v51, val1_main_v42] <;> rfl
set_option maxRecDepth 8192 in
set_option maxHeartbeats 2000000 in
theorem val1_1_main_v80 (V0 : Valuation τ sig (Elt F)) : val1_1 V0 (no_index (Proc.devRef .tc main_v80)) = cmpf .une (res_main_v79 V0) (res_main_v79 V0) := by
  unfold val1_1
  simp only [ops_part1_0, TRef.ternary, TRef.unary, TRef.toBuf, TRef.ofBuf, cast_eq]
  after_results_simp
  simp only [val1_main_v59, val1_main_v57, val1_main_v51, val1_main_v42] <;> rfl
set_option maxRecDepth 8192 in
set_option maxHeartbeats 2000000 in
theorem val1_1_main_v81 (V0 : Valuation τ sig (Elt F)) : val1_1 V0 (no_index (Proc.devRef .tc main_v81)) = addf (res_main_v42 V0) (res_main_v77 V0) := by
  unfold val1_1
  simp only [ops_part1_0, TRef.ternary, TRef.unary, TRef.toBuf, TRef.ofBuf, cast_eq]
  after_results_simp
  simp only [val1_main_v59, val1_main_v57, val1_main_v51, val1_main_v42] <;> rfl
set_option maxRecDepth 8192 in
set_option maxHeartbeats 2000000 in
theorem val1_1_main_v83 (V0 : Valuation τ sig (Elt F)) : val1_1 V0 (no_index (Proc.devRef .tc main_v83)) = Host.negf (Host.absf (res_main_v79 V0)) := by
  unfold val1_1
  simp only [ops_part1_0, TRef.ternary, TRef.unary, TRef.toBuf, TRef.ofBuf, cast_eq]
  after_results_simp
  simp only [val1_main_v59, val1_main_v57, val1_main_v51, val1_main_v42] <;> rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v84, main_v85, main_v86, main_v87, main_v88, main_v89, main_v90, main_v91, main_v92, main_v93, main_v94, main_v95, main_v96, main_v97, main_v98, main_v99, main_v100, main_v101, main_v102, main_v103, main_v104, main_v105, main_cst_6, main_v106, main_v107, main_v108, main_v109, main_cst_7, main_v110, main_v111]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_v3_0 (V0 : Valuation τ sig (Elt F)) : val1_2 V0 (no_index (Proc.devRef .tc main_v3_0)) = V0 (Proc.devRef .tc main_v3_0) :=
  (val1_2_keep V0 main_v3_0 (by decide)).trans (val1_1_main_v3_0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_v3_1 (V0 : Valuation τ sig (Elt F)) : val1_2 V0 (no_index (Proc.devRef .tc main_v3_1)) = V0 (Proc.devRef .tc main_v3_1) :=
  (val1_2_keep V0 main_v3_1 (by decide)).trans (val1_1_main_v3_1 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_v3_2 (V0 : Valuation τ sig (Elt F)) : val1_2 V0 (no_index (Proc.devRef .tc main_v3_2)) = V0 (Proc.devRef .tc main_v3_2) :=
  (val1_2_keep V0 main_v3_2 (by decide)).trans (val1_1_main_v3_2 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_v3_3 (V0 : Valuation τ sig (Elt F)) : val1_2 V0 (no_index (Proc.devRef .tc main_v3_3)) = V0 (Proc.devRef .tc main_v3_3) :=
  (val1_2_keep V0 main_v3_3 (by decide)).trans (val1_1_main_v3_3 V0)
theorem val1_2_main_arg7 (V0 : Valuation τ sig (Elt F)) : val1_2 V0 (no_index (Proc.devRef .tc main_arg7)) = V0 (Proc.devRef .tc main_arg7) :=
  (val1_2_keep V0 main_arg7 (by decide)).trans (val1_1_main_arg7 V0)
theorem val1_2_main_v3_4 (V0 : Valuation τ sig (Elt F)) : val1_2 V0 (no_index (Proc.devRef .tc main_v3_4)) = V0 (Proc.devRef .tc main_v3_4) :=
  (val1_2_keep V0 main_v3_4 (by decide)).trans (val1_1_main_v3_4 V0)
theorem val1_2_main_arg9 (V0 : Valuation τ sig (Elt F)) : val1_2 V0 (no_index (Proc.devRef .tc main_arg9)) = V0 (Proc.devRef .tc main_arg9) :=
  (val1_2_keep V0 main_arg9 (by decide)).trans (val1_1_main_arg9 V0)
set_option maxRecDepth 8192 in
set_option maxHeartbeats 2000000 in
theorem val1_2_main_v101 (V0 : Valuation τ sig (Elt F)) : val1_2 V0 (no_index (Proc.devRef .tc main_v101)) = shapeCast _ (transpose S64x512x2x6x128 [1, 2, 0, 3, 4] (truncf .bf16 (addf (mulf (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (Host.exp (subf (res_main_v42 V0) (res_main_v87 V0))))) (Host.divf (Host.dotGeneral dot_S2x64x512x6x2048_S2x2048x128_S2x64x512x6x128_4_1_123_2_0_0 none (truncf .bf16 (mulf (res_main_v31 V0) (broadcastInDim S2x64x512x6x2048 ![0, 1, 2, 3, 4] bcast_S2x1x1x1x2048_S2x64x512x6x2048_0_1_2_3_4 (broadcastInDim S2x1x1x1x2048 ![0, 4] bcast_S2x2048_S2x1x1x1x2048_0_4 (transpose S2x2048 [1, 0] (V0 (Proc.devRef .tc main_arg5)) transposes_S2048x2_S2x2048_1_0)))) bitsLt_bf16_f32) (transpose S2x2048x128 [1, 0, 2] (V0 (Proc.devRef .tc main_v3_2)) transposes_S2048x2x128_S2x2048x128_1_0_2)) (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (res_main_v32 V0))))) (mulf (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (Host.exp (subf (res_main_v77 V0) (res_main_v87 V0))))) (Host.divf (Host.dotGeneral dot_S2x64x512x6x512_S2x64x512x128_S2x64x512x6x128_4_2_23_3_01_01 none (truncf .bf16 (mulf (res_main_v66 V0) (broadcastInDim S2x64x512x6x512 ![0, 1, 2, 3, 4] bcast_S2x64x1x1x512_S2x64x512x6x512_0_1_2_3_4 (broadcastInDim S2x64x1x1x512 ![0, 1, 4] bcast_S2x64x512_S2x64x1x1x512_0_1_4 (transpose S2x64x512 [2, 0, 1] (V0 (Proc.devRef .tc main_arg9)) transposes_S64x512x2_S2x64x512_2_0_1)))) bitsLt_bf16_f32) (transpose S2x64x512x128 [2, 0, 1, 3] (V0 (Proc.devRef .tc main_v3_4)) transposes_S64x512x2x128_S2x64x512x128_2_0_1_3)) (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (res_main_v67 V0)))))) bitsLt_bf16_f32) transposes_S2x64x512x6x128_S64x512x2x6x128_1_2_0_3_4) shapeCasts_S64x512x2x6x128_S64x512x1536 := by
  unfold val1_2
  simp only [ops_part1_1]
  after_results_simp
  simp only [val1_1_main_v74, val1_1_main_v83, val1_1_main_v78, val1_1_main_v81, val1_1_main_v80, val1_1_main_v77, val1_1_main_v39, val1_1_main_v42] <;> rfl
set_option maxRecDepth 8192 in
set_option maxHeartbeats 2000000 in
theorem val1_2_main_v105 (V0 : Valuation τ sig (Elt F)) : val1_2 V0 (no_index (Proc.devRef .tc main_v105)) = shapeCast _ (transpose S64x512x2x6 [1, 2, 0, 3] (res_main_v77 V0) transposes_S2x64x512x6_S64x512x2x6_1_2_0_3) shapeCasts_S64x512x2x6_S64x512x12 := by
  unfold val1_2
  simp only [ops_part1_1]
  after_results_simp
  simp only [val1_1_main_v77] <;> rfl
set_option maxRecDepth 8192 in
set_option maxHeartbeats 2000000 in
theorem val1_2_main_v108 (V0 : Valuation τ sig (Elt F)) : val1_2 V0 (no_index (Proc.devRef .tc main_v108)) = subf (shapeCast _ (transpose S64x512x2x6 [1, 2, 0, 3] (res_main_v42 V0) transposes_S2x64x512x6_S64x512x2x6_1_2_0_3) shapeCasts_S64x512x2x6_S64x512x12) (broadcastInDim S64x512x12 ![] bcast_S_S64x512x12 (Host.log (constant S_ .f32 0x45000000#32))) := by
  unfold val1_2
  simp only [ops_part1_1]
  after_results_simp
  simp only [val1_1_main_v42] <;> rfl
set_option maxRecDepth 8192 in
set_option maxHeartbeats 2000000 in
theorem val1_2_main_v111 (V0 : Valuation τ sig (Elt F)) : val1_2 V0 (no_index (Proc.devRef .tc main_v111)) = addf (broadcastInDim S512 ![] bcast_S_S512 (constant S_ .f32 0x3F800000#32)) (sitofp .f32 (iotaInDim S512 32 0)) := by
  unfold val1_2
  simp only [ops_part1_1]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v112, main_v113, main_v114]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_v3_0 (V0 : Valuation τ sig (Elt F)) : val2 V0 (no_index (Proc.devRef .tc main_v3_0)) = V0 (Proc.devRef .tc main_v3_0) :=
  (val2_keep V0 main_v3_0 (by decide)).trans (val1_2_main_v3_0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_v3_1 (V0 : Valuation τ sig (Elt F)) : val2 V0 (no_index (Proc.devRef .tc main_v3_1)) = V0 (Proc.devRef .tc main_v3_1) :=
  (val2_keep V0 main_v3_1 (by decide)).trans (val1_2_main_v3_1 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_v3_2 (V0 : Valuation τ sig (Elt F)) : val2 V0 (no_index (Proc.devRef .tc main_v3_2)) = V0 (Proc.devRef .tc main_v3_2) :=
  (val2_keep V0 main_v3_2 (by decide)).trans (val1_2_main_v3_2 V0)
theorem val2_main_arg5 (V0 : Valuation τ sig (Elt F)) : val2 V0 (no_index (Proc.devRef .tc main_arg5)) = V0 (Proc.devRef .tc main_arg5) :=
  (val2_keep V0 main_arg5 (by decide)).trans (val1_2_main_arg5 V0)
theorem val2_main_v3_3 (V0 : Valuation τ sig (Elt F)) : val2 V0 (no_index (Proc.devRef .tc main_v3_3)) = V0 (Proc.devRef .tc main_v3_3) :=
  (val2_keep V0 main_v3_3 (by decide)).trans (val1_2_main_v3_3 V0)
theorem val2_main_arg7 (V0 : Valuation τ sig (Elt F)) : val2 V0 (no_index (Proc.devRef .tc main_arg7)) = V0 (Proc.devRef .tc main_arg7) :=
  (val2_keep V0 main_arg7 (by decide)).trans (val1_2_main_arg7 V0)
theorem val2_main_v3_4 (V0 : Valuation τ sig (Elt F)) : val2 V0 (no_index (Proc.devRef .tc main_v3_4)) = V0 (Proc.devRef .tc main_v3_4) :=
  (val2_keep V0 main_v3_4 (by decide)).trans (val1_2_main_v3_4 V0)
theorem val2_main_arg9 (V0 : Valuation τ sig (Elt F)) : val2 V0 (no_index (Proc.devRef .tc main_arg9)) = V0 (Proc.devRef .tc main_arg9) :=
  (val2_keep V0 main_arg9 (by decide)).trans (val1_2_main_arg9 V0)
theorem val2_main_v101 (V0 : Valuation τ sig (Elt F)) : val2 V0 (no_index (Proc.devRef .tc main_v101)) = shapeCast _ (transpose S64x512x2x6x128 [1, 2, 0, 3, 4] (truncf .bf16 (addf (mulf (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (Host.exp (subf (res_main_v42 V0) (res_main_v87 V0))))) (Host.divf (Host.dotGeneral dot_S2x64x512x6x2048_S2x2048x128_S2x64x512x6x128_4_1_123_2_0_0 none (truncf .bf16 (mulf (res_main_v31 V0) (broadcastInDim S2x64x512x6x2048 ![0, 1, 2, 3, 4] bcast_S2x1x1x1x2048_S2x64x512x6x2048_0_1_2_3_4 (broadcastInDim S2x1x1x1x2048 ![0, 4] bcast_S2x2048_S2x1x1x1x2048_0_4 (transpose S2x2048 [1, 0] (V0 (Proc.devRef .tc main_arg5)) transposes_S2048x2_S2x2048_1_0)))) bitsLt_bf16_f32) (transpose S2x2048x128 [1, 0, 2] (V0 (Proc.devRef .tc main_v3_2)) transposes_S2048x2x128_S2x2048x128_1_0_2)) (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (res_main_v32 V0))))) (mulf (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (Host.exp (subf (res_main_v77 V0) (res_main_v87 V0))))) (Host.divf (Host.dotGeneral dot_S2x64x512x6x512_S2x64x512x128_S2x64x512x6x128_4_2_23_3_01_01 none (truncf .bf16 (mulf (res_main_v66 V0) (broadcastInDim S2x64x512x6x512 ![0, 1, 2, 3, 4] bcast_S2x64x1x1x512_S2x64x512x6x512_0_1_2_3_4 (broadcastInDim S2x64x1x1x512 ![0, 1, 4] bcast_S2x64x512_S2x64x1x1x512_0_1_4 (transpose S2x64x512 [2, 0, 1] (V0 (Proc.devRef .tc main_arg9)) transposes_S64x512x2_S2x64x512_2_0_1)))) bitsLt_bf16_f32) (transpose S2x64x512x128 [2, 0, 1, 3] (V0 (Proc.devRef .tc main_v3_4)) transposes_S64x512x2x128_S2x64x512x128_2_0_1_3)) (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (res_main_v67 V0)))))) bitsLt_bf16_f32) transposes_S2x64x512x6x128_S64x512x2x6x128_1_2_0_3_4) shapeCasts_S64x512x2x6x128_S64x512x1536 :=
  (val2_keep V0 main_v101 (by decide)).trans (val1_2_main_v101 V0)
theorem val2_main_v105 (V0 : Valuation τ sig (Elt F)) : val2 V0 (no_index (Proc.devRef .tc main_v105)) = shapeCast _ (transpose S64x512x2x6 [1, 2, 0, 3] (res_main_v77 V0) transposes_S2x64x512x6_S64x512x2x6_1_2_0_3) shapeCasts_S64x512x2x6_S64x512x12 :=
  (val2_keep V0 main_v105 (by decide)).trans (val1_2_main_v105 V0)
theorem val2_main_v108 (V0 : Valuation τ sig (Elt F)) : val2 V0 (no_index (Proc.devRef .tc main_v108)) = subf (shapeCast _ (transpose S64x512x2x6 [1, 2, 0, 3] (res_main_v42 V0) transposes_S2x64x512x6_S64x512x2x6_1_2_0_3) shapeCasts_S64x512x2x6_S64x512x12) (broadcastInDim S64x512x12 ![] bcast_S_S64x512x12 (Host.log (constant S_ .f32 0x45000000#32))) :=
  (val2_keep V0 main_v108 (by decide)).trans (val1_2_main_v108 V0)
set_option maxRecDepth 8192 in
theorem val2_main_v114 (V0 : Valuation τ sig (Elt F)) : val2 V0 (no_index (Proc.devRef .tc main_v114)) = broadcastInDim S64x512x12 ![0, 1, 2] bcast_S1x512x1_S64x512x12_0_1_2 (broadcastInDim S1x512x1 ![1] bcast_S512_S1x512x1_1 (Host.log (addf (broadcastInDim S512 ![] bcast_S_S512 (constant S_ .f32 0x3F800000#32)) (sitofp .f32 (iotaInDim S512 32 0))))) := by
  unfold val2
  simp only [ops_part1_2]
  after_results_simp
  simp only [val1_2_main_v111] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v115, main_v116, main_v117]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_v3_0 (V0 : Valuation τ sig (Elt F)) : val3 V0 (no_index (Proc.devRef .tc main_v3_0)) = V0 (Proc.devRef .tc main_v3_0) :=
  (val3_keep V0 main_v3_0 (by decide)).trans (val2_main_v3_0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_v3_1 (V0 : Valuation τ sig (Elt F)) : val3 V0 (no_index (Proc.devRef .tc main_v3_1)) = V0 (Proc.devRef .tc main_v3_1) :=
  (val3_keep V0 main_v3_1 (by decide)).trans (val2_main_v3_1 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_v3_2 (V0 : Valuation τ sig (Elt F)) : val3 V0 (no_index (Proc.devRef .tc main_v3_2)) = V0 (Proc.devRef .tc main_v3_2) :=
  (val3_keep V0 main_v3_2 (by decide)).trans (val2_main_v3_2 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_v3_3 (V0 : Valuation τ sig (Elt F)) : val3 V0 (no_index (Proc.devRef .tc main_v3_3)) = V0 (Proc.devRef .tc main_v3_3) :=
  (val3_keep V0 main_v3_3 (by decide)).trans (val2_main_v3_3 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_v3_4 (V0 : Valuation τ sig (Elt F)) : val3 V0 (no_index (Proc.devRef .tc main_v3_4)) = V0 (Proc.devRef .tc main_v3_4) :=
  (val3_keep V0 main_v3_4 (by decide)).trans (val2_main_v3_4 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_v101 (V0 : Valuation τ sig (Elt F)) : val3 V0 (no_index (Proc.devRef .tc main_v101)) = shapeCast _ (transpose S64x512x2x6x128 [1, 2, 0, 3, 4] (truncf .bf16 (addf (mulf (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (Host.exp (subf (res_main_v42 V0) (res_main_v87 V0))))) (Host.divf (Host.dotGeneral dot_S2x64x512x6x2048_S2x2048x128_S2x64x512x6x128_4_1_123_2_0_0 none (truncf .bf16 (mulf (res_main_v31 V0) (broadcastInDim S2x64x512x6x2048 ![0, 1, 2, 3, 4] bcast_S2x1x1x1x2048_S2x64x512x6x2048_0_1_2_3_4 (broadcastInDim S2x1x1x1x2048 ![0, 4] bcast_S2x2048_S2x1x1x1x2048_0_4 (transpose S2x2048 [1, 0] (V0 (Proc.devRef .tc main_arg5)) transposes_S2048x2_S2x2048_1_0)))) bitsLt_bf16_f32) (transpose S2x2048x128 [1, 0, 2] (V0 (Proc.devRef .tc main_v3_2)) transposes_S2048x2x128_S2x2048x128_1_0_2)) (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (res_main_v32 V0))))) (mulf (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (Host.exp (subf (res_main_v77 V0) (res_main_v87 V0))))) (Host.divf (Host.dotGeneral dot_S2x64x512x6x512_S2x64x512x128_S2x64x512x6x128_4_2_23_3_01_01 none (truncf .bf16 (mulf (res_main_v66 V0) (broadcastInDim S2x64x512x6x512 ![0, 1, 2, 3, 4] bcast_S2x64x1x1x512_S2x64x512x6x512_0_1_2_3_4 (broadcastInDim S2x64x1x1x512 ![0, 1, 4] bcast_S2x64x512_S2x64x1x1x512_0_1_4 (transpose S2x64x512 [2, 0, 1] (V0 (Proc.devRef .tc main_arg9)) transposes_S64x512x2_S2x64x512_2_0_1)))) bitsLt_bf16_f32) (transpose S2x64x512x128 [2, 0, 1, 3] (V0 (Proc.devRef .tc main_v3_4)) transposes_S64x512x2x128_S2x64x512x128_2_0_1_3)) (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (res_main_v67 V0)))))) bitsLt_bf16_f32) transposes_S2x64x512x6x128_S64x512x2x6x128_1_2_0_3_4) shapeCasts_S64x512x2x6x128_S64x512x1536 :=
  (val3_keep V0 main_v101 (by decide)).trans (val2_main_v101 V0)
set_option maxRecDepth 8192 in
theorem val3_main_v116 (V0 : Valuation τ sig (Elt F)) : val3 V0 (no_index (Proc.devRef .tc main_v116)) = transpose S64x12x512 [0, 2, 1] (subf (shapeCast _ (transpose S64x512x2x6 [1, 2, 0, 3] (res_main_v42 V0) transposes_S2x64x512x6_S64x512x2x6_1_2_0_3) shapeCasts_S64x512x2x6_S64x512x12) (broadcastInDim S64x512x12 ![] bcast_S_S64x512x12 (Host.log (constant S_ .f32 0x45000000#32)))) transposes_S64x512x12_S64x12x512_0_2_1 := by
  unfold val3
  simp only [ops_part2]
  after_results_simp
  simp only [val2_main_v108] <;> rfl
set_option maxRecDepth 8192 in
theorem val3_main_v117 (V0 : Valuation τ sig (Elt F)) : val3 V0 (no_index (Proc.devRef .tc main_v117)) = transpose S64x12x512 [0, 2, 1] (subf (shapeCast _ (transpose S64x512x2x6 [1, 2, 0, 3] (res_main_v77 V0) transposes_S2x64x512x6_S64x512x2x6_1_2_0_3) shapeCasts_S64x512x2x6_S64x512x12) (broadcastInDim S64x512x12 ![0, 1, 2] bcast_S1x512x1_S64x512x12_0_1_2 (broadcastInDim S1x512x1 ![1] bcast_S512_S1x512x1_1 (Host.log (addf (broadcastInDim S512 ![] bcast_S_S512 (constant S_ .f32 0x3F800000#32)) (sitofp .f32 (iotaInDim S512 32 0))))))) transposes_S64x512x12_S64x12x512_0_2_1 := by
  unfold val3
  simp only [ops_part2]
  after_results_simp
  simp only [val2_main_v114, val2_main_v105] <;> rfl

theorem after_ops (V0 : Valuation τ sig (Elt F)) : after ops V0 = val3 V0 := by
  simp only [ops, ops_part1, after_append]
  rfl

end Cert.ReferenceIdeal.Tail

end
-- ==== Proof.RefRead.lean ====
/- The first stages of the reference after its decoding, each operation a named stage read at an index. -/
module

public import proofs.«01_k».proof.Proof.RefTail
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v4 (x0 : (⟨S64x512x12x128, .f32⟩ : BufTy).Contents (Elt F)) : (⟨S64x512x2x6x128, .f32⟩ : BufTy).Contents (Elt F) :=
  shapeCast _ (x0) shapeCasts_S64x512x12x128_S64x512x2x6x128
set_option backward.proofsInPublic true in
abbrev idx_main_v4 (i : S64x512x2x6x128.Idx) : S64x512x12x128.Idx := fun a => match a with
  | ⟨0, _⟩ => ⟨(((((i 0).val * 512 + (i 1).val) * 2 + (i 2).val) * 6 + (i 3).val) * 128 + (i 4).val) / 786432, by have h0 : (i 0).val < 64 := (i 0).isLt; have h1 : (i 1).val < 512 := (i 1).isLt; have h2 : (i 2).val < 2 := (i 2).isLt; have h3 : (i 3).val < 6 := (i 3).isLt; have h4 : (i 4).val < 128 := (i 4).isLt; show (((((i 0).val * 512 + (i 1).val) * 2 + (i 2).val) * 6 + (i 3).val) * 128 + (i 4).val) / 786432 < 64; omega⟩
  | ⟨1, _⟩ => ⟨(((((i 0).val * 512 + (i 1).val) * 2 + (i 2).val) * 6 + (i 3).val) * 128 + (i 4).val) / 1536 % 512, by have h0 : (i 0).val < 64 := (i 0).isLt; have h1 : (i 1).val < 512 := (i 1).isLt; have h2 : (i 2).val < 2 := (i 2).isLt; have h3 : (i 3).val < 6 := (i 3).isLt; have h4 : (i 4).val < 128 := (i 4).isLt; show (((((i 0).val * 512 + (i 1).val) * 2 + (i 2).val) * 6 + (i 3).val) * 128 + (i 4).val) / 1536 % 512 < 512; omega⟩
  | ⟨2, _⟩ => ⟨(((((i 0).val * 512 + (i 1).val) * 2 + (i 2).val) * 6 + (i 3).val) * 128 + (i 4).val) / 128 % 12, by have h0 : (i 0).val < 64 := (i 0).isLt; have h1 : (i 1).val < 512 := (i 1).isLt; have h2 : (i 2).val < 2 := (i 2).isLt; have h3 : (i 3).val < 6 := (i 3).isLt; have h4 : (i 4).val < 128 := (i 4).isLt; show (((((i 0).val * 512 + (i 1).val) * 2 + (i 2).val) * 6 + (i 3).val) * 128 + (i 4).val) / 128 % 12 < 12; omega⟩
  | ⟨3, _⟩ => ⟨(((((i 0).val * 512 + (i 1).val) * 2 + (i 2).val) * 6 + (i 3).val) * 128 + (i 4).val) % 128, by have h0 : (i 0).val < 64 := (i 0).isLt; have h1 : (i 1).val < 512 := (i 1).isLt; have h2 : (i 2).val < 2 := (i 2).isLt; have h3 : (i 3).val < 6 := (i 3).isLt; have h4 : (i 4).val < 128 := (i 4).isLt; show (((((i 0).val * 512 + (i 1).val) * 2 + (i 2).val) * 6 + (i 3).val) * 128 + (i 4).val) % 128 < 128; omega⟩
theorem val_main_v4_apply (x0 : (⟨S64x512x12x128, .f32⟩ : BufTy).Contents (Elt F)) (i : S64x512x2x6x128.Idx) :
    val_main_v4 (F := F) x0 i = x0 (idx_main_v4 i) := by
  unfold val_main_v4
  exact shapeCast_apply x0 shapeCasts_S64x512x12x128_S64x512x2x6x128 i (idx_main_v4 i)
    (by rewrite [Shape.rowMajor_val_four, Shape.rowMajor_val_five]; have h0 : (i 0).val < 64 := (i 0).isLt; have h1 : (i 1).val < 512 := (i 1).isLt; have h2 : (i 2).val < 2 := (i 2).isLt; have h3 : (i 3).val < 6 := (i 3).isLt; have h4 : (i 4).val < 128 := (i 4).isLt; show (((((((i 0).val * 512 + (i 1).val) * 2 + (i 2).val) * 6 + (i 3).val) * 128 + (i 4).val) / 786432 * 512 + (((((i 0).val * 512 + (i 1).val) * 2 + (i 2).val) * 6 + (i 3).val) * 128 + (i 4).val) / 1536 % 512) * 12 + (((((i 0).val * 512 + (i 1).val) * 2 + (i 2).val) * 6 + (i 3).val) * 128 + (i 4).val) / 128 % 12) * 128 + (((((i 0).val * 512 + (i 1).val) * 2 + (i 2).val) * 6 + (i 3).val) * 128 + (i 4).val) % 128 = ((((i 0).val * 512 + (i 1).val) * 2 + (i 2).val) * 6 + (i 3).val) * 128 + (i 4).val; omega)

def val_main_v5 (x0 : (⟨S64x512x12x128, .f32⟩ : BufTy).Contents (Elt F)) : (⟨S2x64x512x6x128, .f32⟩ : BufTy).Contents (Elt F) :=
  transpose S2x64x512x6x128 [2, 0, 1, 3, 4] (val_main_v4 (F := F) x0) transposes_S64x512x2x6x128_S2x64x512x6x128_2_0_1_3_4
abbrev idx_main_v5 (i : S2x64x512x6x128.Idx) : S64x512x2x6x128.Idx := fun a => match a with
  | ⟨0, _⟩ => ⟨(i 1).val, (i 1).isLt⟩
  | ⟨1, _⟩ => ⟨(i 2).val, (i 2).isLt⟩
  | ⟨2, _⟩ => ⟨(i 0).val, (i 0).isLt⟩
  | ⟨3, _⟩ => ⟨(i 3).val, (i 3).isLt⟩
  | ⟨4, _⟩ => ⟨(i 4).val, (i 4).isLt⟩
theorem val_main_v5_apply (x0 : (⟨S64x512x12x128, .f32⟩ : BufTy).Contents (Elt F)) (i : S2x64x512x6x128.Idx) :
    val_main_v5 (F := F) x0 i = val_main_v4 (F := F) x0 (idx_main_v5 i) := by
  unfold val_main_v5
  generalize val_main_v4 (F := F) x0 = y
  exact transpose_apply [2, 0, 1, 3, 4] y transposes_S64x512x2x6x128_S2x64x512x6x128_2_0_1_3_4 i (idx_main_v5 i) (fun b => match b with
    | ⟨0, _⟩ => rfl
    | ⟨1, _⟩ => rfl
    | ⟨2, _⟩ => rfl
    | ⟨3, _⟩ => rfl
    | ⟨4, _⟩ => rfl)

def val_main_v6 (x1 : (⟨S64x512x12, .f32⟩ : BufTy).Contents (Elt F)) : (⟨S64x512x2x6, .f32⟩ : BufTy).Contents (Elt F) :=
  shapeCast _ (x1) shapeCasts_S64x512x12_S64x512x2x6
set_option backward.proofsInPublic true in
abbrev idx_main_v6 (i : S64x512x2x6.Idx) : S64x512x12.Idx := fun a => match a with
  | ⟨0, _⟩ => ⟨((((i 0).val * 512 + (i 1).val) * 2 + (i 2).val) * 6 + (i 3).val) / 6144, by have h0 : (i 0).val < 64 := (i 0).isLt; have h1 : (i 1).val < 512 := (i 1).isLt; have h2 : (i 2).val < 2 := (i 2).isLt; have h3 : (i 3).val < 6 := (i 3).isLt; show ((((i 0).val * 512 + (i 1).val) * 2 + (i 2).val) * 6 + (i 3).val) / 6144 < 64; omega⟩
  | ⟨1, _⟩ => ⟨((((i 0).val * 512 + (i 1).val) * 2 + (i 2).val) * 6 + (i 3).val) / 12 % 512, by have h0 : (i 0).val < 64 := (i 0).isLt; have h1 : (i 1).val < 512 := (i 1).isLt; have h2 : (i 2).val < 2 := (i 2).isLt; have h3 : (i 3).val < 6 := (i 3).isLt; show ((((i 0).val * 512 + (i 1).val) * 2 + (i 2).val) * 6 + (i 3).val) / 12 % 512 < 512; omega⟩
  | ⟨2, _⟩ => ⟨((((i 0).val * 512 + (i 1).val) * 2 + (i 2).val) * 6 + (i 3).val) % 12, by have h0 : (i 0).val < 64 := (i 0).isLt; have h1 : (i 1).val < 512 := (i 1).isLt; have h2 : (i 2).val < 2 := (i 2).isLt; have h3 : (i 3).val < 6 := (i 3).isLt; show ((((i 0).val * 512 + (i 1).val) * 2 + (i 2).val) * 6 + (i 3).val) % 12 < 12; omega⟩
theorem val_main_v6_apply (x1 : (⟨S64x512x12, .f32⟩ : BufTy).Contents (Elt F)) (i : S64x512x2x6.Idx) :
    val_main_v6 (F := F) x1 i = x1 (idx_main_v6 i) := by
  unfold val_main_v6
  exact shapeCast_apply x1 shapeCasts_S64x512x12_S64x512x2x6 i (idx_main_v6 i)
    (by rewrite [Shape.rowMajor_val_three, Shape.rowMajor_val_four]; have h0 : (i 0).val < 64 := (i 0).isLt; have h1 : (i 1).val < 512 := (i 1).isLt; have h2 : (i 2).val < 2 := (i 2).isLt; have h3 : (i 3).val < 6 := (i 3).isLt; show (((((i 0).val * 512 + (i 1).val) * 2 + (i 2).val) * 6 + (i 3).val) / 6144 * 512 + ((((i 0).val * 512 + (i 1).val) * 2 + (i 2).val) * 6 + (i 3).val) / 12 % 512) * 12 + ((((i 0).val * 512 + (i 1).val) * 2 + (i 2).val) * 6 + (i 3).val) % 12 = (((i 0).val * 512 + (i 1).val) * 2 + (i 2).val) * 6 + (i 3).val; omega)

def val_main_v7 (x1 : (⟨S64x512x12, .f32⟩ : BufTy).Contents (Elt F)) : (⟨S2x64x512x6, .f32⟩ : BufTy).Contents (Elt F) :=
  transpose S2x64x512x6 [2, 0, 1, 3] (val_main_v6 (F := F) x1) transposes_S64x512x2x6_S2x64x512x6_2_0_1_3
abbrev idx_main_v7 (i : S2x64x512x6.Idx) : S64x512x2x6.Idx := fun a => match a with
  | ⟨0, _⟩ => ⟨(i 1).val, (i 1).isLt⟩
  | ⟨1, _⟩ => ⟨(i 2).val, (i 2).isLt⟩
  | ⟨2, _⟩ => ⟨(i 0).val, (i 0).isLt⟩
  | ⟨3, _⟩ => ⟨(i 3).val, (i 3).isLt⟩
theorem val_main_v7_apply (x1 : (⟨S64x512x12, .f32⟩ : BufTy).Contents (Elt F)) (i : S2x64x512x6.Idx) :
    val_main_v7 (F := F) x1 i = val_main_v6 (F := F) x1 (idx_main_v7 i) := by
  unfold val_main_v7
  generalize val_main_v6 (F := F) x1 = y
  exact transpose_apply [2, 0, 1, 3] y transposes_S64x512x2x6_S2x64x512x6_2_0_1_3 i (idx_main_v7 i) (fun b => match b with
    | ⟨0, _⟩ => rfl
    | ⟨1, _⟩ => rfl
    | ⟨2, _⟩ => rfl
    | ⟨3, _⟩ => rfl)

def val_main_v8 (x6 : (⟨S64x512x2x128, .f32⟩ : BufTy).Contents (Elt F)) : (⟨S2x64x512x128, .f32⟩ : BufTy).Contents (Elt F) :=
  transpose S2x64x512x128 [2, 0, 1, 3] (x6) transposes_S64x512x2x128_S2x64x512x128_2_0_1_3
abbrev idx_main_v8 (i : S2x64x512x128.Idx) : S64x512x2x128.Idx := fun a => match a with
  | ⟨0, _⟩ => ⟨(i 1).val, (i 1).isLt⟩
  | ⟨1, _⟩ => ⟨(i 2).val, (i 2).isLt⟩
  | ⟨2, _⟩ => ⟨(i 0).val, (i 0).isLt⟩
  | ⟨3, _⟩ => ⟨(i 3).val, (i 3).isLt⟩
theorem val_main_v8_apply (x6 : (⟨S64x512x2x128, .f32⟩ : BufTy).Contents (Elt F)) (i : S2x64x512x128.Idx) :
    val_main_v8 (F := F) x6 i = x6 (idx_main_v8 i) := by
  unfold val_main_v8
  exact transpose_apply [2, 0, 1, 3] x6 transposes_S64x512x2x128_S2x64x512x128_2_0_1_3 i (idx_main_v8 i) (fun b => match b with
    | ⟨0, _⟩ => rfl
    | ⟨1, _⟩ => rfl
    | ⟨2, _⟩ => rfl
    | ⟨3, _⟩ => rfl)

def val_main_v9 (x7 : (⟨S64x512x2, .f32⟩ : BufTy).Contents (Elt F)) : (⟨S2x64x512, .f32⟩ : BufTy).Contents (Elt F) :=
  transpose S2x64x512 [2, 0, 1] (x7) transposes_S64x512x2_S2x64x512_2_0_1
abbrev idx_main_v9 (i : S2x64x512.Idx) : S64x512x2.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem val_main_v9_apply (x7 : (⟨S64x512x2, .f32⟩ : BufTy).Contents (Elt F)) (i : S2x64x512.Idx) :
    val_main_v9 (F := F) x7 i = x7 (idx_main_v9 i) := by
  unfold val_main_v9
  exact transpose_apply [2, 0, 1] x7 transposes_S64x512x2_S2x64x512_2_0_1 i (idx_main_v9 i) (fun b => match b with
    | ⟨0, _⟩ => rfl
    | ⟨1, _⟩ => rfl
    | ⟨2, _⟩ => rfl)

def val_main_v10 (x8 : (⟨S64x512x2x128, .bf16⟩ : BufTy).Contents (Elt F)) : (⟨S2x64x512x128, .bf16⟩ : BufTy).Contents (Elt F) :=
  transpose S2x64x512x128 [2, 0, 1, 3] (x8) transposes_S64x512x2x128_S2x64x512x128_2_0_1_3
abbrev idx_main_v10 (i : S2x64x512x128.Idx) : S64x512x2x128.Idx := fun a => match a with
  | ⟨0, _⟩ => ⟨(i 1).val, (i 1).isLt⟩
  | ⟨1, _⟩ => ⟨(i 2).val, (i 2).isLt⟩
  | ⟨2, _⟩ => ⟨(i 0).val, (i 0).isLt⟩
  | ⟨3, _⟩ => ⟨(i 3).val, (i 3).isLt⟩
theorem val_main_v10_apply (x8 : (⟨S64x512x2x128, .bf16⟩ : BufTy).Contents (Elt F)) (i : S2x64x512x128.Idx) :
    val_main_v10 (F := F) x8 i = x8 (idx_main_v10 i) := by
  unfold val_main_v10
  exact transpose_apply [2, 0, 1, 3] x8 transposes_S64x512x2x128_S2x64x512x128_2_0_1_3 i (idx_main_v10 i) (fun b => match b with
    | ⟨0, _⟩ => rfl
    | ⟨1, _⟩ => rfl
    | ⟨2, _⟩ => rfl
    | ⟨3, _⟩ => rfl)

def val_main_v11 (x9 : (⟨S64x512x2, .f32⟩ : BufTy).Contents (Elt F)) : (⟨S2x64x512, .f32⟩ : BufTy).Contents (Elt F) :=
  transpose S2x64x512 [2, 0, 1] (x9) transposes_S64x512x2_S2x64x512_2_0_1
abbrev idx_main_v11 (i : S2x64x512.Idx) : S64x512x2.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem val_main_v11_apply (x9 : (⟨S64x512x2, .f32⟩ : BufTy).Contents (Elt F)) (i : S2x64x512.Idx) :
    val_main_v11 (F := F) x9 i = x9 (idx_main_v11 i) := by
  unfold val_main_v11
  exact transpose_apply [2, 0, 1] x9 transposes_S64x512x2_S2x64x512_2_0_1 i (idx_main_v11 i) (fun b => match b with
    | ⟨0, _⟩ => rfl
    | ⟨1, _⟩ => rfl
    | ⟨2, _⟩ => rfl)

def val_main_v12 (x2 : (⟨S2048x2x128, .f32⟩ : BufTy).Contents (Elt F)) : (⟨S2x2048x128, .f32⟩ : BufTy).Contents (Elt F) :=
  transpose S2x2048x128 [1, 0, 2] (x2) transposes_S2048x2x128_S2x2048x128_1_0_2
abbrev idx_main_v12 (i : S2x2048x128.Idx) : S2048x2x128.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v12_apply (x2 : (⟨S2048x2x128, .f32⟩ : BufTy).Contents (Elt F)) (i : S2x2048x128.Idx) :
    val_main_v12 (F := F) x2 i = x2 (idx_main_v12 i) := by
  unfold val_main_v12
  exact transpose_apply [1, 0, 2] x2 transposes_S2048x2x128_S2x2048x128_1_0_2 i (idx_main_v12 i) (fun b => match b with
    | ⟨0, _⟩ => rfl
    | ⟨1, _⟩ => rfl
    | ⟨2, _⟩ => rfl)

def val_main_v13 (x3 : (⟨S2048x2, .f32⟩ : BufTy).Contents (Elt F)) : (⟨S2x2048, .f32⟩ : BufTy).Contents (Elt F) :=
  transpose S2x2048 [1, 0] (x3) transposes_S2048x2_S2x2048_1_0
abbrev idx_main_v13 (i : S2x2048.Idx) : S2048x2.Idx := fun a => match a with
  | ⟨0, _⟩ => ⟨(i 1).val, (i 1).isLt⟩
  | ⟨1, _⟩ => ⟨(i 0).val, (i 0).isLt⟩
theorem val_main_v13_apply (x3 : (⟨S2048x2, .f32⟩ : BufTy).Contents (Elt F)) (i : S2x2048.Idx) :
    val_main_v13 (F := F) x3 i = x3 (idx_main_v13 i) := by
  unfold val_main_v13
  exact transpose_apply [1, 0] x3 transposes_S2048x2_S2x2048_1_0 i (idx_main_v13 i) (fun b => match b with
    | ⟨0, _⟩ => rfl
    | ⟨1, _⟩ => rfl)

def val_main_v14 (x4 : (⟨S2048x2x128, .bf16⟩ : BufTy).Contents (Elt F)) : (⟨S2x2048x128, .bf16⟩ : BufTy).Contents (Elt F) :=
  transpose S2x2048x128 [1, 0, 2] (x4) transposes_S2048x2x128_S2x2048x128_1_0_2
abbrev idx_main_v14 (i : S2x2048x128.Idx) : S2048x2x128.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v14_apply (x4 : (⟨S2048x2x128, .bf16⟩ : BufTy).Contents (Elt F)) (i : S2x2048x128.Idx) :
    val_main_v14 (F := F) x4 i = x4 (idx_main_v14 i) := by
  unfold val_main_v14
  exact transpose_apply [1, 0, 2] x4 transposes_S2048x2x128_S2x2048x128_1_0_2 i (idx_main_v14 i) (fun b => match b with
    | ⟨0, _⟩ => rfl
    | ⟨1, _⟩ => rfl
    | ⟨2, _⟩ => rfl)

def val_main_v15 (x5 : (⟨S2048x2, .f32⟩ : BufTy).Contents (Elt F)) : (⟨S2x2048, .f32⟩ : BufTy).Contents (Elt F) :=
  transpose S2x2048 [1, 0] (x5) transposes_S2048x2_S2x2048_1_0
abbrev idx_main_v15 (i : S2x2048.Idx) : S2048x2.Idx := fun a => match a with
  | ⟨0, _⟩ => ⟨(i 1).val, (i 1).isLt⟩
  | ⟨1, _⟩ => ⟨(i 0).val, (i 0).isLt⟩
theorem val_main_v15_apply (x5 : (⟨S2048x2, .f32⟩ : BufTy).Contents (Elt F)) (i : S2x2048.Idx) :
    val_main_v15 (F := F) x5 i = x5 (idx_main_v15 i) := by
  unfold val_main_v15
  exact transpose_apply [1, 0] x5 transposes_S2048x2_S2x2048_1_0 i (idx_main_v15 i) (fun b => match b with
    | ⟨0, _⟩ => rfl
    | ⟨1, _⟩ => rfl)

def val_main_v16 (x3 : (⟨S2048x2, .f32⟩ : BufTy).Contents (Elt F)) : (⟨S2x1x1x1x2048, .f32⟩ : BufTy).Contents (Elt F) :=
  broadcastInDim S2x1x1x1x2048 ![0, 4] bcast_S2x2048_S2x1x1x1x2048_0_4 (val_main_v13 (F := F) x3)
abbrev idx_main_v16 (i : S2x1x1x1x2048.Idx) : S2x2048.Idx := fun a => match a with
  | ⟨0, _⟩ => ⟨(i 0).val, (i 0).isLt⟩
  | ⟨1, _⟩ => ⟨(i 4).val, (i 4).isLt⟩
theorem val_main_v16_apply (x3 : (⟨S2048x2, .f32⟩ : BufTy).Contents (Elt F)) (i : S2x1x1x1x2048.Idx) :
    val_main_v16 (F := F) x3 i = val_main_v13 (F := F) x3 (idx_main_v16 i) := by
  unfold val_main_v16
  generalize val_main_v13 (F := F) x3 = y
  exact broadcastInDim_apply _ bcast_S2x2048_S2x1x1x1x2048_0_4 y i (idx_main_v16 i) (fun a => match a with
    | ⟨0, _⟩ => by show (i 0).val = if (2 : Nat) = 1 then 0 else (i 0).val; rw [if_neg (by decide)]
    | ⟨1, _⟩ => by show (i 4).val = if (2048 : Nat) = 1 then 0 else (i 4).val; rw [if_neg (by decide)])

def val_main_v17 (x5 : (⟨S2048x2, .f32⟩ : BufTy).Contents (Elt F)) : (⟨S2x1x1x1x2048, .f32⟩ : BufTy).Contents (Elt F) :=
  broadcastInDim S2x1x1x1x2048 ![0, 4] bcast_S2x2048_S2x1x1x1x2048_0_4 (val_main_v15 (F := F) x5)
abbrev idx_main_v17 (i : S2x1x1x1x2048.Idx) : S2x2048.Idx := fun a => match a with
  | ⟨0, _⟩ => ⟨(i 0).val, (i 0).isLt⟩
  | ⟨1, _⟩ => ⟨(i 4).val, (i 4).isLt⟩
theorem val_main_v17_apply (x5 : (⟨S2048x2, .f32⟩ : BufTy).Contents (Elt F)) (i : S2x1x1x1x2048.Idx) :
    val_main_v17 (F := F) x5 i = val_main_v15 (F := F) x5 (idx_main_v17 i) := by
  unfold val_main_v17
  generalize val_main_v15 (F := F) x5 = y
  exact broadcastInDim_apply _ bcast_S2x2048_S2x1x1x1x2048_0_4 y i (idx_main_v17 i) (fun a => match a with
    | ⟨0, _⟩ => by show (i 0).val = if (2 : Nat) = 1 then 0 else (i 0).val; rw [if_neg (by decide)]
    | ⟨1, _⟩ => by show (i 4).val = if (2048 : Nat) = 1 then 0 else (i 4).val; rw [if_neg (by decide)])

def val_main_v18 (x0 : (⟨S64x512x12x128, .f32⟩ : BufTy).Contents (Elt F)) (x2 : (⟨S2048x2x128, .f32⟩ : BufTy).Contents (Elt F)) : (⟨S2x64x512x6x2048, .f32⟩ : BufTy).Contents (Elt F) :=
  Host.dotGeneral dot_S2x64x512x6x128_S2x2048x128_S2x64x512x6x2048_4_2_123_1_0_0 none (val_main_v5 (F := F) x0) (val_main_v12 (F := F) x2)
theorem lhs_main_v18_0 (i : S2x64x512x6x2048.Idx) (q : dot_S2x64x512x6x128_S2x2048x128_S2x64x512x6x2048_4_2_123_1_0_0.contr.Idx) :
    (dot_S2x64x512x6x128_S2x2048x128_S2x64x512x6x2048_4_2_123_1_0_0.lhsIdx i q 0).val = (i 0).val := by
  unfold DotDims.lhsIdx
  rw [dif_pos (show (0 : Fin S2x64x512x6x128.rank) ∈ dot_S2x64x512x6x128_S2x2048x128_S2x64x512x6x2048_4_2_123_1_0_0.lhsBatch by decide)]
  rfl
theorem lhs_main_v18_1 (i : S2x64x512x6x2048.Idx) (q : dot_S2x64x512x6x128_S2x2048x128_S2x64x512x6x2048_4_2_123_1_0_0.contr.Idx) :
    (dot_S2x64x512x6x128_S2x2048x128_S2x64x512x6x2048_4_2_123_1_0_0.lhsIdx i q 1).val = (i 1).val := by
  unfold DotDims.lhsIdx
  rw [dif_neg (show ¬(1 : Fin S2x64x512x6x128.rank) ∈ dot_S2x64x512x6x128_S2x2048x128_S2x64x512x6x2048_4_2_123_1_0_0.lhsBatch by decide), dif_pos (show (1 : Fin S2x64x512x6x128.rank) ∈ dot_S2x64x512x6x128_S2x2048x128_S2x64x512x6x2048_4_2_123_1_0_0.lhsNonContracting by decide)]
  rfl
theorem lhs_main_v18_2 (i : S2x64x512x6x2048.Idx) (q : dot_S2x64x512x6x128_S2x2048x128_S2x64x512x6x2048_4_2_123_1_0_0.contr.Idx) :
    (dot_S2x64x512x6x128_S2x2048x128_S2x64x512x6x2048_4_2_123_1_0_0.lhsIdx i q 2).val = (i 2).val := by
  unfold DotDims.lhsIdx
  rw [dif_neg (show ¬(2 : Fin S2x64x512x6x128.rank) ∈ dot_S2x64x512x6x128_S2x2048x128_S2x64x512x6x2048_4_2_123_1_0_0.lhsBatch by decide), dif_pos (show (2 : Fin S2x64x512x6x128.rank) ∈ dot_S2x64x512x6x128_S2x2048x128_S2x64x512x6x2048_4_2_123_1_0_0.lhsNonContracting by decide)]
  rfl
theorem lhs_main_v18_3 (i : S2x64x512x6x2048.Idx) (q : dot_S2x64x512x6x128_S2x2048x128_S2x64x512x6x2048_4_2_123_1_0_0.contr.Idx) :
    (dot_S2x64x512x6x128_S2x2048x128_S2x64x512x6x2048_4_2_123_1_0_0.lhsIdx i q 3).val = (i 3).val := by
  unfold DotDims.lhsIdx
  rw [dif_neg (show ¬(3 : Fin S2x64x512x6x128.rank) ∈ dot_S2x64x512x6x128_S2x2048x128_S2x64x512x6x2048_4_2_123_1_0_0.lhsBatch by decide), dif_pos (show (3 : Fin S2x64x512x6x128.rank) ∈ dot_S2x64x512x6x128_S2x2048x128_S2x64x512x6x2048_4_2_123_1_0_0.lhsNonContracting by decide)]
  rfl
theorem lhs_main_v18_4 (i : S2x64x512x6x2048.Idx) (q : dot_S2x64x512x6x128_S2x2048x128_S2x64x512x6x2048_4_2_123_1_0_0.contr.Idx) :
    (dot_S2x64x512x6x128_S2x2048x128_S2x64x512x6x2048_4_2_123_1_0_0.lhsIdx i q 4).val = (q ⟨0, by decide⟩).val :=
  dot_S2x64x512x6x128_S2x2048x128_S2x64x512x6x2048_4_2_123_1_0_0.lhsIdx_val_of_single rfl i q
theorem rhs_main_v18_0 (i : S2x64x512x6x2048.Idx) (q : dot_S2x64x512x6x128_S2x2048x128_S2x64x512x6x2048_4_2_123_1_0_0.contr.Idx) :
    (dot_S2x64x512x6x128_S2x2048x128_S2x64x512x6x2048_4_2_123_1_0_0.rhsIdx i q 0).val = (i 0).val := by
  unfold DotDims.rhsIdx
  rw [dif_pos (show (0 : Fin S2x2048x128.rank) ∈ dot_S2x64x512x6x128_S2x2048x128_S2x64x512x6x2048_4_2_123_1_0_0.rhsBatch by decide)]
  rfl
theorem rhs_main_v18_1 (i : S2x64x512x6x2048.Idx) (q : dot_S2x64x512x6x128_S2x2048x128_S2x64x512x6x2048_4_2_123_1_0_0.contr.Idx) :
    (dot_S2x64x512x6x128_S2x2048x128_S2x64x512x6x2048_4_2_123_1_0_0.rhsIdx i q 1).val = (i 4).val := by
  unfold DotDims.rhsIdx
  rw [dif_neg (show ¬(1 : Fin S2x2048x128.rank) ∈ dot_S2x64x512x6x128_S2x2048x128_S2x64x512x6x2048_4_2_123_1_0_0.rhsBatch by decide), dif_pos (show (1 : Fin S2x2048x128.rank) ∈ dot_S2x64x512x6x128_S2x2048x128_S2x64x512x6x2048_4_2_123_1_0_0.rhsNonContracting by decide)]
  rfl
theorem rhs_main_v18_2 (i : S2x64x512x6x2048.Idx) (q : dot_S2x64x512x6x128_S2x2048x128_S2x64x512x6x2048_4_2_123_1_0_0.contr.Idx) :
    (dot_S2x64x512x6x128_S2x2048x128_S2x64x512x6x2048_4_2_123_1_0_0.rhsIdx i q 2).val = (q ⟨0, by decide⟩).val :=
  dot_S2x64x512x6x128_S2x2048x128_S2x64x512x6x2048_4_2_123_1_0_0.rhsIdx_val_of_single rfl i q
abbrev lidx_main_v18 (i : S2x64x512x6x2048.Idx) (k : Fin 128) : S2x64x512x6x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
abbrev ridx_main_v18 (i : S2x64x512x6x2048.Idx) (k : Fin 128) : S2x2048x128.Idx := fun a => match a with
  | ⟨0, _⟩ => ⟨(i 0).val, (i 0).isLt⟩
  | ⟨1, _⟩ => ⟨(i 4).val, (i 4).isLt⟩
  | ⟨2, _⟩ => ⟨k.val, k.isLt⟩
/-- Stated at `F := Ideal`, where the host's `dot_general` is this sum; at a bit-exact instance it is an opaque function of its operands. -/
theorem val_main_v18_apply (x0 : (⟨S64x512x12x128, .f32⟩ : BufTy).Contents (Elt Ideal)) (x2 : (⟨S2048x2x128, .f32⟩ : BufTy).Contents (Elt Ideal)) (i : S2x64x512x6x2048.Idx) :
    val_main_v18 (F := Ideal) x0 x2 i = ∑ k : Fin 128, (val_main_v5 (F := Ideal) x0) (lidx_main_v18 i k) * (val_main_v12 (F := Ideal) x2) (ridx_main_v18 i k) := by
  unfold val_main_v18
  generalize val_main_v5 (F := Ideal) x0 = y0
  generalize val_main_v12 (F := Ideal) x2 = y1
  simp only [Host.dotGeneral]
  rw [Ideal.dotGeneral_apply, ← Equiv.sum_comp (ValueIdx.contrEquiv1 dot_S2x64x512x6x128_S2x2048x128_S2x64x512x6x2048_4_2_123_1_0_0 128 rfl rfl).symm]
  refine Finset.sum_congr rfl fun k _ => ?_
  have hk := ValueIdx.contrEquiv1_symm_val dot_S2x64x512x6x128_S2x2048x128_S2x64x512x6x2048_4_2_123_1_0_0 128 rfl rfl k
  have el : dot_S2x64x512x6x128_S2x2048x128_S2x64x512x6x2048_4_2_123_1_0_0.lhsIdx i ((ValueIdx.contrEquiv1 dot_S2x64x512x6x128_S2x2048x128_S2x64x512x6x2048_4_2_123_1_0_0 128 rfl rfl).symm k) = lidx_main_v18 i k := funext fun a => Fin.ext (by
    match a with
    | ⟨0, _⟩ => exact lhs_main_v18_0 _ _
    | ⟨1, _⟩ => exact lhs_main_v18_1 _ _
    | ⟨2, _⟩ => exact lhs_main_v18_2 _ _
    | ⟨3, _⟩ => exact lhs_main_v18_3 _ _
    | ⟨4, _⟩ => exact (lhs_main_v18_4 _ _).trans hk)
  have er : dot_S2x64x512x6x128_S2x2048x128_S2x64x512x6x2048_4_2_123_1_0_0.rhsIdx i ((ValueIdx.contrEquiv1 dot_S2x64x512x6x128_S2x2048x128_S2x64x512x6x2048_4_2_123_1_0_0 128 rfl rfl).symm k) = ridx_main_v18 i k := funext fun a => Fin.ext (by
    match a with
    | ⟨0, _⟩ => exact rhs_main_v18_0 _ _
    | ⟨1, _⟩ => exact rhs_main_v18_1 _ _
    | ⟨2, _⟩ => exact (rhs_main_v18_2 _ _).trans hk)
  rw [el, er]

def val_main_v19 (x1 : (⟨S64x512x12, .f32⟩ : BufTy).Contents (Elt F)) : (⟨S2x64x512x6x1, .f32⟩ : BufTy).Contents (Elt F) :=
  broadcastInDim S2x64x512x6x1 ![0, 1, 2, 3] bcast_S2x64x512x6_S2x64x512x6x1_0_1_2_3 (val_main_v7 (F := F) x1)
abbrev idx_main_v19 (i : S2x64x512x6x1.Idx) : S2x64x512x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v19_apply (x1 : (⟨S64x512x12, .f32⟩ : BufTy).Contents (Elt F)) (i : S2x64x512x6x1.Idx) :
    val_main_v19 (F := F) x1 i = val_main_v7 (F := F) x1 (idx_main_v19 i) := by
  unfold val_main_v19
  generalize val_main_v7 (F := F) x1 = y
  exact broadcastInDim_apply _ bcast_S2x64x512x6_S2x64x512x6x1_0_1_2_3 y i (idx_main_v19 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)])

def val_main_v20 (x1 : (⟨S64x512x12, .f32⟩ : BufTy).Contents (Elt F)) : (⟨S2x64x512x6x2048, .f32⟩ : BufTy).Contents (Elt F) :=
  broadcastInDim S2x64x512x6x2048 ![0, 1, 2, 3, 4] bcast_S2x64x512x6x1_S2x64x512x6x2048_0_1_2_3_4 (val_main_v19 (F := F) x1)
abbrev idx_main_v20 (i : S2x64x512x6x2048.Idx) : S2x64x512x6x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v20_apply (x1 : (⟨S64x512x12, .f32⟩ : BufTy).Contents (Elt F)) (i : S2x64x512x6x2048.Idx) :
    val_main_v20 (F := F) x1 i = val_main_v19 (F := F) x1 (idx_main_v20 i) := by
  unfold val_main_v20
  generalize val_main_v19 (F := F) x1 = y
  exact broadcastInDim_apply _ bcast_S2x64x512x6x1_S2x64x512x6x2048_0_1_2_3_4 y i (idx_main_v20 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)]
    | ⟨4, _⟩ => by show 0 = if (1 : Nat) = 1 then 0 else (i 4).val; rw [if_pos rfl])

def val_main_v21 (x0 : (⟨S64x512x12x128, .f32⟩ : BufTy).Contents (Elt F)) (x1 : (⟨S64x512x12, .f32⟩ : BufTy).Contents (Elt F)) (x2 : (⟨S2048x2x128, .f32⟩ : BufTy).Contents (Elt F)) : (⟨S2x64x512x6x2048, .f32⟩ : BufTy).Contents (Elt F) :=
  mulf (val_main_v18 (F := F) x0 x2) (val_main_v20 (F := F) x1)
theorem val_main_v21_apply (x0 : (⟨S64x512x12x128, .f32⟩ : BufTy).Contents (Elt F)) (x1 : (⟨S64x512x12, .f32⟩ : BufTy).Contents (Elt F)) (x2 : (⟨S2048x2x128, .f32⟩ : BufTy).Contents (Elt F)) (i : S2x64x512x6x2048.Idx) :
    val_main_v21 (F := F) x0 x1 x2 i = FloatOps.mulf (val_main_v18 (F := F) x0 x2 i) (val_main_v20 (F := F) x1 i) := rfl

def val_main_v22 (x3 : (⟨S2048x2, .f32⟩ : BufTy).Contents (Elt F)) : (⟨S2x64x512x6x2048, .f32⟩ : BufTy).Contents (Elt F) :=
  broadcastInDim S2x64x512x6x2048 ![0, 1, 2, 3, 4] bcast_S2x1x1x1x2048_S2x64x512x6x2048_0_1_2_3_4 (val_main_v16 (F := F) x3)
abbrev idx_main_v22 (i : S2x64x512x6x2048.Idx) : S2x1x1x1x2048.Idx := fun a => match a with
  | ⟨0, _⟩ => ⟨(i 0).val, (i 0).isLt⟩
  | ⟨1, _⟩ => ⟨0, Nat.one_pos⟩
  | ⟨2, _⟩ => ⟨0, Nat.one_pos⟩
  | ⟨3, _⟩ => ⟨0, Nat.one_pos⟩
  | ⟨4, _⟩ => ⟨(i 4).val, (i 4).isLt⟩
theorem val_main_v22_apply (x3 : (⟨S2048x2, .f32⟩ : BufTy).Contents (Elt F)) (i : S2x64x512x6x2048.Idx) :
    val_main_v22 (F := F) x3 i = val_main_v16 (F := F) x3 (idx_main_v22 i) := by
  unfold val_main_v22
  generalize val_main_v16 (F := F) x3 = y
  exact broadcastInDim_apply _ bcast_S2x1x1x1x2048_S2x64x512x6x2048_0_1_2_3_4 y i (idx_main_v22 i) (fun a => match a with
    | ⟨0, _⟩ => by show (i 0).val = if (2 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (2048 : Nat) = 1 then 0 else (i 4).val; rw [if_neg (by decide)])

def val_main_v23 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S2x64x512x6x2048, .f32⟩ : BufTy).Contents (Elt F) :=
  mulf (val_main_v21 (F := F) x0 x1 x2) (val_main_v22 (F := F) x3)
theorem val_main_v23_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S2x64x512x6x2048.Idx) :
    val_main_v23 (F := F) x0 x1 x2 x3 i = FloatOps.mulf (val_main_v21 (F := F) x0 x1 x2 i) (val_main_v22 (F := F) x3 i) := rfl

def val_main_cst : (⟨S_, .f32⟩ : BufTy).Contents (Elt F) :=
  constant S_ .f32 0x43000000#32
theorem val_main_cst_apply (i : S_.Idx) :
    val_main_cst (F := F) i = FloatOps.ofBits .f32 0x43000000#32 := rfl

def val_main_v24 : (⟨S_, .f32⟩ : BufTy).Contents (Elt F) :=
  Host.sqrt (val_main_cst (F := F))
theorem val_main_v24_apply (i : S_.Idx) :
    val_main_v24 (F := F) i = FloatOps.hostUnary .sqrt (val_main_cst (F := F) i) := rfl

def val_main_v25 : (⟨S2x64x512x6x2048, .f32⟩ : BufTy).Contents (Elt F) :=
  broadcastInDim S2x64x512x6x2048 ![] bcast_S_S2x64x512x6x2048 (val_main_v24 (F := F))
abbrev idx_main_v25 (i : S2x64x512x6x2048.Idx) : S_.Idx := fun a => a.elim0
theorem val_main_v25_apply (i : S2x64x512x6x2048.Idx) :
    val_main_v25 (F := F) i = val_main_v24 (F := F) (idx_main_v25 i) := by
  unfold val_main_v25
  generalize val_main_v24 (F := F) = y
  exact broadcastInDim_apply _ bcast_S_S2x64x512x6x2048 y i (idx_main_v25 i) (fun a => a.elim0)

def val_main_v26 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S2x64x512x6x2048, .f32⟩ : BufTy).Contents (Elt F) :=
  Host.divf (val_main_v23 (F := F) x0 x1 x2 x3) (val_main_v25 (F := F))
theorem val_main_v26_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S2x64x512x6x2048.Idx) :
    val_main_v26 (F := F) x0 x1 x2 x3 i = FloatOps.hostDivf (val_main_v23 (F := F) x0 x1 x2 x3 i) (val_main_v25 (F := F) i) := rfl

def val_main_cst_0 : (⟨S_, .f32⟩ : BufTy).Contents (Elt F) :=
  constant S_ .f32 0xFF800000#32
theorem val_main_cst_0_apply (i : S_.Idx) :
    val_main_cst_0 (F := F) i = FloatOps.ofBits .f32 0xFF800000#32 := rfl

def val_main_v27 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S2x64x512x6, .f32⟩ : BufTy).Contents (Elt F) :=
  Host.reduce FloatOps.maximumf (val_main_v26 (F := F) x0 x1 x2 x3) (val_main_cst_0 (F := F)) reducesTo_S2x64x512x6x2048_S2x64x512x6_d4 h_S_

def val_main_v28 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S2x64x512x6x1, .f32⟩ : BufTy).Contents (Elt F) :=
  broadcastInDim S2x64x512x6x1 ![0, 1, 2, 3] bcast_S2x64x512x6_S2x64x512x6x1_0_1_2_3 (val_main_v27 (F := F) x0 x1 x2 x3)
abbrev idx_main_v28 (i : S2x64x512x6x1.Idx) : S2x64x512x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v28_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S2x64x512x6x1.Idx) :
    val_main_v28 (F := F) x0 x1 x2 x3 i = val_main_v27 (F := F) x0 x1 x2 x3 (idx_main_v28 i) := by
  unfold val_main_v28
  generalize val_main_v27 (F := F) x0 x1 x2 x3 = y
  exact broadcastInDim_apply _ bcast_S2x64x512x6_S2x64x512x6x1_0_1_2_3 y i (idx_main_v28 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)])

def val_main_v29 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S2x64x512x6x2048, .f32⟩ : BufTy).Contents (Elt F) :=
  broadcastInDim S2x64x512x6x2048 ![0, 1, 2, 3, 4] bcast_S2x64x512x6x1_S2x64x512x6x2048_0_1_2_3_4 (val_main_v28 (F := F) x0 x1 x2 x3)
abbrev idx_main_v29 (i : S2x64x512x6x2048.Idx) : S2x64x512x6x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v29_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S2x64x512x6x2048.Idx) :
    val_main_v29 (F := F) x0 x1 x2 x3 i = val_main_v28 (F := F) x0 x1 x2 x3 (idx_main_v29 i) := by
  unfold val_main_v29
  generalize val_main_v28 (F := F) x0 x1 x2 x3 = y
  exact broadcastInDim_apply _ bcast_S2x64x512x6x1_S2x64x512x6x2048_0_1_2_3_4 y i (idx_main_v29 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)]
    | ⟨4, _⟩ => by show 0 = if (1 : Nat) = 1 then 0 else (i 4).val; rw [if_pos rfl])

def val_main_v30 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S2x64x512x6x2048, .f32⟩ : BufTy).Contents (Elt F) :=
  subf (val_main_v26 (F := F) x0 x1 x2 x3) (val_main_v29 (F := F) x0 x1 x2 x3)
theorem val_main_v30_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S2x64x512x6x2048.Idx) :
    val_main_v30 (F := F) x0 x1 x2 x3 i = FloatOps.subf (val_main_v26 (F := F) x0 x1 x2 x3 i) (val_main_v29 (F := F) x0 x1 x2 x3 i) := rfl

def val_main_v31 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S2x64x512x6x2048, .f32⟩ : BufTy).Contents (Elt F) :=
  Host.exp (val_main_v30 (F := F) x0 x1 x2 x3)
theorem val_main_v31_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S2x64x512x6x2048.Idx) :
    val_main_v31 (F := F) x0 x1 x2 x3 i = FloatOps.hostUnary .exp (val_main_v30 (F := F) x0 x1 x2 x3 i) := rfl

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_v32 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S2x64x512x6, .f32⟩ : BufTy).Contents (Elt F) :=
  Host.reduceAdd (val_main_v31 (F := F) x0 x1 x2 x3) (val_main_cst_1 (F := F)) reducesTo_S2x64x512x6x2048_S2x64x512x6_d4 h_S_
abbrev idx_main_v32 (i : S2x64x512x6.Idx) (k : Fin 2048) : S2x64x512x6x2048.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
/-- Stated at `F := Ideal`, where the host's float sum is this sum; at a bit-exact instance it is an opaque function of its operand. -/
theorem val_main_v32_apply (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (i : S2x64x512x6.Idx) :
    val_main_v32 (F := Ideal) x0 x1 x2 x3 i = (val_main_cst_1 (F := Ideal)) (Shape.Idx.first h_S_) + ∑ k : Fin 2048, (val_main_v31 (F := Ideal) x0 x1 x2 x3) (idx_main_v32 i k) := by
  unfold val_main_v32
  generalize val_main_v31 (F := Ideal) x0 x1 x2 x3 = y0
  simp only [Host.reduceAdd, Ideal.hostReduceAdd_def]
  rw [Ideal.hostReduceAdd_single reducesTo_S2x64x512x6x2048_S2x64x512x6_d4 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl | ⟨4, _⟩ => rfl))

def val_main_v33 (x5 : (⟨S2048x2, .f32⟩ : BufTy).Contents (Elt F)) : (⟨S2x64x512x6x2048, .f32⟩ : BufTy).Contents (Elt F) :=
  broadcastInDim S2x64x512x6x2048 ![0, 1, 2, 3, 4] bcast_S2x1x1x1x2048_S2x64x512x6x2048_0_1_2_3_4 (val_main_v17 (F := F) x5)
abbrev idx_main_v33 (i : S2x64x512x6x2048.Idx) : S2x1x1x1x2048.Idx := fun a => match a with
  | ⟨0, _⟩ => ⟨(i 0).val, (i 0).isLt⟩
  | ⟨1, _⟩ => ⟨0, Nat.one_pos⟩
  | ⟨2, _⟩ => ⟨0, Nat.one_pos⟩
  | ⟨3, _⟩ => ⟨0, Nat.one_pos⟩
  | ⟨4, _⟩ => ⟨(i 4).val, (i 4).isLt⟩
theorem val_main_v33_apply (x5 : (⟨S2048x2, .f32⟩ : BufTy).Contents (Elt F)) (i : S2x64x512x6x2048.Idx) :
    val_main_v33 (F := F) x5 i = val_main_v17 (F := F) x5 (idx_main_v33 i) := by
  unfold val_main_v33
  generalize val_main_v17 (F := F) x5 = y
  exact broadcastInDim_apply _ bcast_S2x1x1x1x2048_S2x64x512x6x2048_0_1_2_3_4 y i (idx_main_v33 i) (fun a => match a with
    | ⟨0, _⟩ => by show (i 0).val = if (2 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (2048 : Nat) = 1 then 0 else (i 4).val; rw [if_neg (by decide)])

def val_main_v34 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 x5 : (⟨S2048x2, .f32⟩ : BufTy).Contents (Elt F)) : (⟨S2x64x512x6x2048, .f32⟩ : BufTy).Contents (Elt F) :=
  mulf (val_main_v31 (F := F) x0 x1 x2 x3) (val_main_v33 (F := F) x5)
theorem val_main_v34_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 x5 : (⟨S2048x2, .f32⟩ : BufTy).Contents (Elt F)) (i : S2x64x512x6x2048.Idx) :
    val_main_v34 (F := F) x0 x1 x2 x3 x5 i = FloatOps.mulf (val_main_v31 (F := F) x0 x1 x2 x3 i) (val_main_v33 (F := F) x5 i) := rfl

def val_main_v35 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 x5 : (⟨S2048x2, .f32⟩ : BufTy).Contents (Elt F)) : (⟨S2x64x512x6x2048, .bf16⟩ : BufTy).Contents (Elt F) :=
  truncf .bf16 (val_main_v34 (F := F) x0 x1 x2 x3 x5) bitsLt_bf16_f32
theorem val_main_v35_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 x5 : (⟨S2048x2, .f32⟩ : BufTy).Contents (Elt F)) (i : S2x64x512x6x2048.Idx) :
    val_main_v35 (F := F) x0 x1 x2 x3 x5 i = FloatOps.truncf .bf16 bitsLt_bf16_f32 (val_main_v34 (F := F) x0 x1 x2 x3 x5 i) := rfl

def val_main_v36 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x4 : (⟨S2048x2x128, .bf16⟩ : BufTy).Contents (Elt F)) (x5 : (⟨S2048x2, .f32⟩ : BufTy).Contents (Elt F)) : (⟨S2x64x512x6x128, .f32⟩ : BufTy).Contents (Elt F) :=
  Host.dotGeneral dot_S2x64x512x6x2048_S2x2048x128_S2x64x512x6x128_4_1_123_2_0_0 none (val_main_v35 (F := F) x0 x1 x2 x3 x5) (val_main_v14 (F := F) x4)
theorem lhs_main_v36_0 (i : S2x64x512x6x128.Idx) (q : dot_S2x64x512x6x2048_S2x2048x128_S2x64x512x6x128_4_1_123_2_0_0.contr.Idx) :
    (dot_S2x64x512x6x2048_S2x2048x128_S2x64x512x6x128_4_1_123_2_0_0.lhsIdx i q 0).val = (i 0).val := by
  unfold DotDims.lhsIdx
  rw [dif_pos (show (0 : Fin S2x64x512x6x2048.rank) ∈ dot_S2x64x512x6x2048_S2x2048x128_S2x64x512x6x128_4_1_123_2_0_0.lhsBatch by decide)]
  rfl
theorem lhs_main_v36_1 (i : S2x64x512x6x128.Idx) (q : dot_S2x64x512x6x2048_S2x2048x128_S2x64x512x6x128_4_1_123_2_0_0.contr.Idx) :
    (dot_S2x64x512x6x2048_S2x2048x128_S2x64x512x6x128_4_1_123_2_0_0.lhsIdx i q 1).val = (i 1).val := by
  unfold DotDims.lhsIdx
  rw [dif_neg (show ¬(1 : Fin S2x64x512x6x2048.rank) ∈ dot_S2x64x512x6x2048_S2x2048x128_S2x64x512x6x128_4_1_123_2_0_0.lhsBatch by decide), dif_pos (show (1 : Fin S2x64x512x6x2048.rank) ∈ dot_S2x64x512x6x2048_S2x2048x128_S2x64x512x6x128_4_1_123_2_0_0.lhsNonContracting by decide)]
  rfl
theorem lhs_main_v36_2 (i : S2x64x512x6x128.Idx) (q : dot_S2x64x512x6x2048_S2x2048x128_S2x64x512x6x128_4_1_123_2_0_0.contr.Idx) :
    (dot_S2x64x512x6x2048_S2x2048x128_S2x64x512x6x128_4_1_123_2_0_0.lhsIdx i q 2).val = (i 2).val := by
  unfold DotDims.lhsIdx
  rw [dif_neg (show ¬(2 : Fin S2x64x512x6x2048.rank) ∈ dot_S2x64x512x6x2048_S2x2048x128_S2x64x512x6x128_4_1_123_2_0_0.lhsBatch by decide), dif_pos (show (2 : Fin S2x64x512x6x2048.rank) ∈ dot_S2x64x512x6x2048_S2x2048x128_S2x64x512x6x128_4_1_123_2_0_0.lhsNonContracting by decide)]
  rfl
theorem lhs_main_v36_3 (i : S2x64x512x6x128.Idx) (q : dot_S2x64x512x6x2048_S2x2048x128_S2x64x512x6x128_4_1_123_2_0_0.contr.Idx) :
    (dot_S2x64x512x6x2048_S2x2048x128_S2x64x512x6x128_4_1_123_2_0_0.lhsIdx i q 3).val = (i 3).val := by
  unfold DotDims.lhsIdx
  rw [dif_neg (show ¬(3 : Fin S2x64x512x6x2048.rank) ∈ dot_S2x64x512x6x2048_S2x2048x128_S2x64x512x6x128_4_1_123_2_0_0.lhsBatch by decide), dif_pos (show (3 : Fin S2x64x512x6x2048.rank) ∈ dot_S2x64x512x6x2048_S2x2048x128_S2x64x512x6x128_4_1_123_2_0_0.lhsNonContracting by decide)]
  rfl
theorem lhs_main_v36_4 (i : S2x64x512x6x128.Idx) (q : dot_S2x64x512x6x2048_S2x2048x128_S2x64x512x6x128_4_1_123_2_0_0.contr.Idx) :
    (dot_S2x64x512x6x2048_S2x2048x128_S2x64x512x6x128_4_1_123_2_0_0.lhsIdx i q 4).val = (q ⟨0, by decide⟩).val :=
  dot_S2x64x512x6x2048_S2x2048x128_S2x64x512x6x128_4_1_123_2_0_0.lhsIdx_val_of_single rfl i q
theorem rhs_main_v36_0 (i : S2x64x512x6x128.Idx) (q : dot_S2x64x512x6x2048_S2x2048x128_S2x64x512x6x128_4_1_123_2_0_0.contr.Idx) :
    (dot_S2x64x512x6x2048_S2x2048x128_S2x64x512x6x128_4_1_123_2_0_0.rhsIdx i q 0).val = (i 0).val := by
  unfold DotDims.rhsIdx
  rw [dif_pos (show (0 : Fin S2x2048x128.rank) ∈ dot_S2x64x512x6x2048_S2x2048x128_S2x64x512x6x128_4_1_123_2_0_0.rhsBatch by decide)]
  rfl
theorem rhs_main_v36_1 (i : S2x64x512x6x128.Idx) (q : dot_S2x64x512x6x2048_S2x2048x128_S2x64x512x6x128_4_1_123_2_0_0.contr.Idx) :
    (dot_S2x64x512x6x2048_S2x2048x128_S2x64x512x6x128_4_1_123_2_0_0.rhsIdx i q 1).val = (q ⟨0, by decide⟩).val :=
  dot_S2x64x512x6x2048_S2x2048x128_S2x64x512x6x128_4_1_123_2_0_0.rhsIdx_val_of_single rfl i q
theorem rhs_main_v36_2 (i : S2x64x512x6x128.Idx) (q : dot_S2x64x512x6x2048_S2x2048x128_S2x64x512x6x128_4_1_123_2_0_0.contr.Idx) :
    (dot_S2x64x512x6x2048_S2x2048x128_S2x64x512x6x128_4_1_123_2_0_0.rhsIdx i q 2).val = (i 4).val := by
  unfold DotDims.rhsIdx
  rw [dif_neg (show ¬(2 : Fin S2x2048x128.rank) ∈ dot_S2x64x512x6x2048_S2x2048x128_S2x64x512x6x128_4_1_123_2_0_0.rhsBatch by decide), dif_pos (show (2 : Fin S2x2048x128.rank) ∈ dot_S2x64x512x6x2048_S2x2048x128_S2x64x512x6x128_4_1_123_2_0_0.rhsNonContracting by decide)]
  rfl
abbrev lidx_main_v36 (i : S2x64x512x6x128.Idx) (k : Fin 2048) : S2x64x512x6x2048.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
abbrev ridx_main_v36 (i : S2x64x512x6x128.Idx) (k : Fin 2048) : S2x2048x128.Idx := fun a => match a with
  | ⟨0, _⟩ => ⟨(i 0).val, (i 0).isLt⟩
  | ⟨1, _⟩ => ⟨k.val, k.isLt⟩
  | ⟨2, _⟩ => ⟨(i 4).val, (i 4).isLt⟩
/-- Stated at `F := Ideal`, where the host's `dot_general` is this sum; at a bit-exact instance it is an opaque function of its operands. -/
theorem val_main_v36_apply (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (x4 : (⟨S2048x2x128, .bf16⟩ : BufTy).Contents (Elt Ideal)) (x5 : (⟨S2048x2, .f32⟩ : BufTy).Contents (Elt Ideal)) (i : S2x64x512x6x128.Idx) :
    val_main_v36 (F := Ideal) x0 x1 x2 x3 x4 x5 i = ∑ k : Fin 2048, (val_main_v35 (F := Ideal) x0 x1 x2 x3 x5) (lidx_main_v36 i k) * (val_main_v14 (F := Ideal) x4) (ridx_main_v36 i k) := by
  unfold val_main_v36
  generalize val_main_v35 (F := Ideal) x0 x1 x2 x3 x5 = y0
  generalize val_main_v14 (F := Ideal) x4 = y1
  simp only [Host.dotGeneral]
  rw [Ideal.dotGeneral_apply, ← Equiv.sum_comp (ValueIdx.contrEquiv1 dot_S2x64x512x6x2048_S2x2048x128_S2x64x512x6x128_4_1_123_2_0_0 2048 rfl rfl).symm]
  refine Finset.sum_congr rfl fun k _ => ?_
  have hk := ValueIdx.contrEquiv1_symm_val dot_S2x64x512x6x2048_S2x2048x128_S2x64x512x6x128_4_1_123_2_0_0 2048 rfl rfl k
  have el : dot_S2x64x512x6x2048_S2x2048x128_S2x64x512x6x128_4_1_123_2_0_0.lhsIdx i ((ValueIdx.contrEquiv1 dot_S2x64x512x6x2048_S2x2048x128_S2x64x512x6x128_4_1_123_2_0_0 2048 rfl rfl).symm k) = lidx_main_v36 i k := funext fun a => Fin.ext (by
    match a with
    | ⟨0, _⟩ => exact lhs_main_v36_0 _ _
    | ⟨1, _⟩ => exact lhs_main_v36_1 _ _
    | ⟨2, _⟩ => exact lhs_main_v36_2 _ _
    | ⟨3, _⟩ => exact lhs_main_v36_3 _ _
    | ⟨4, _⟩ => exact (lhs_main_v36_4 _ _).trans hk)
  have er : dot_S2x64x512x6x2048_S2x2048x128_S2x64x512x6x128_4_1_123_2_0_0.rhsIdx i ((ValueIdx.contrEquiv1 dot_S2x64x512x6x2048_S2x2048x128_S2x64x512x6x128_4_1_123_2_0_0 2048 rfl rfl).symm k) = ridx_main_v36 i k := funext fun a => Fin.ext (by
    match a with
    | ⟨0, _⟩ => exact rhs_main_v36_0 _ _
    | ⟨1, _⟩ => exact (rhs_main_v36_1 _ _).trans hk
    | ⟨2, _⟩ => exact rhs_main_v36_2 _ _)
  rw [el, er]

def val_main_v37 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S2x64x512x6x1, .f32⟩ : BufTy).Contents (Elt F) :=
  broadcastInDim S2x64x512x6x1 ![0, 1, 2, 3] bcast_S2x64x512x6_S2x64x512x6x1_0_1_2_3 (val_main_v32 (F := F) x0 x1 x2 x3)
abbrev idx_main_v37 (i : S2x64x512x6x1.Idx) : S2x64x512x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v37_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S2x64x512x6x1.Idx) :
    val_main_v37 (F := F) x0 x1 x2 x3 i = val_main_v32 (F := F) x0 x1 x2 x3 (idx_main_v37 i) := by
  unfold val_main_v37
  generalize val_main_v32 (F := F) x0 x1 x2 x3 = y
  exact broadcastInDim_apply _ bcast_S2x64x512x6_S2x64x512x6x1_0_1_2_3 y i (idx_main_v37 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)])

def val_main_v38 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S2x64x512x6x128, .f32⟩ : BufTy).Contents (Elt F) :=
  broadcastInDim S2x64x512x6x128 ![0, 1, 2, 3, 4] bcast_S2x64x512x6x1_S2x64x512x6x128_0_1_2_3_4 (val_main_v37 (F := F) x0 x1 x2 x3)
abbrev idx_main_v38 (i : S2x64x512x6x128.Idx) : S2x64x512x6x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v38_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S2x64x512x6x128.Idx) :
    val_main_v38 (F := F) x0 x1 x2 x3 i = val_main_v37 (F := F) x0 x1 x2 x3 (idx_main_v38 i) := by
  unfold val_main_v38
  generalize val_main_v37 (F := F) x0 x1 x2 x3 = y
  exact broadcastInDim_apply _ bcast_S2x64x512x6x1_S2x64x512x6x128_0_1_2_3_4 y i (idx_main_v38 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)]
    | ⟨4, _⟩ => by show 0 = if (1 : Nat) = 1 then 0 else (i 4).val; rw [if_pos rfl])

def val_main_v39 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x4 : (⟨S2048x2x128, .bf16⟩ : BufTy).Contents (Elt F)) (x5 : (⟨S2048x2, .f32⟩ : BufTy).Contents (Elt F)) : (⟨S2x64x512x6x128, .f32⟩ : BufTy).Contents (Elt F) :=
  Host.divf (val_main_v36 (F := F) x0 x1 x2 x3 x4 x5) (val_main_v38 (F := F) x0 x1 x2 x3)
theorem val_main_v39_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x4 : (⟨S2048x2x128, .bf16⟩ : BufTy).Contents (Elt F)) (x5 : (⟨S2048x2, .f32⟩ : BufTy).Contents (Elt F)) (i : S2x64x512x6x128.Idx) :
    val_main_v39 (F := F) x0 x1 x2 x3 x4 x5 i = FloatOps.hostDivf (val_main_v36 (F := F) x0 x1 x2 x3 x4 x5 i) (val_main_v38 (F := F) x0 x1 x2 x3 i) := rfl

def val_main_v40 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S2x64x512x6, .f32⟩ : BufTy).Contents (Elt F) :=
  shapeCast _ (val_main_v28 (F := F) x0 x1 x2 x3) shapeCasts_S2x64x512x6x1_S2x64x512x6
set_option backward.proofsInPublic true in
abbrev idx_main_v40 (i : S2x64x512x6.Idx) : S2x64x512x6x1.Idx := fun a => match a with
  | ⟨0, _⟩ => ⟨((((i 0).val * 64 + (i 1).val) * 512 + (i 2).val) * 6 + (i 3).val) / 196608, by have h0 : (i 0).val < 2 := (i 0).isLt; have h1 : (i 1).val < 64 := (i 1).isLt; have h2 : (i 2).val < 512 := (i 2).isLt; have h3 : (i 3).val < 6 := (i 3).isLt; show ((((i 0).val * 64 + (i 1).val) * 512 + (i 2).val) * 6 + (i 3).val) / 196608 < 2; omega⟩
  | ⟨1, _⟩ => ⟨((((i 0).val * 64 + (i 1).val) * 512 + (i 2).val) * 6 + (i 3).val) / 3072 % 64, by have h0 : (i 0).val < 2 := (i 0).isLt; have h1 : (i 1).val < 64 := (i 1).isLt; have h2 : (i 2).val < 512 := (i 2).isLt; have h3 : (i 3).val < 6 := (i 3).isLt; show ((((i 0).val * 64 + (i 1).val) * 512 + (i 2).val) * 6 + (i 3).val) / 3072 % 64 < 64; omega⟩
  | ⟨2, _⟩ => ⟨((((i 0).val * 64 + (i 1).val) * 512 + (i 2).val) * 6 + (i 3).val) / 6 % 512, by have h0 : (i 0).val < 2 := (i 0).isLt; have h1 : (i 1).val < 64 := (i 1).isLt; have h2 : (i 2).val < 512 := (i 2).isLt; have h3 : (i 3).val < 6 := (i 3).isLt; show ((((i 0).val * 64 + (i 1).val) * 512 + (i 2).val) * 6 + (i 3).val) / 6 % 512 < 512; omega⟩
  | ⟨3, _⟩ => ⟨((((i 0).val * 64 + (i 1).val) * 512 + (i 2).val) * 6 + (i 3).val) / 1 % 6, by have h0 : (i 0).val < 2 := (i 0).isLt; have h1 : (i 1).val < 64 := (i 1).isLt; have h2 : (i 2).val < 512 := (i 2).isLt; have h3 : (i 3).val < 6 := (i 3).isLt; show ((((i 0).val * 64 + (i 1).val) * 512 + (i 2).val) * 6 + (i 3).val) / 1 % 6 < 6; omega⟩
  | ⟨4, _⟩ => ⟨0, Nat.one_pos⟩
theorem val_main_v40_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S2x64x512x6.Idx) :
    val_main_v40 (F := F) x0 x1 x2 x3 i = val_main_v28 (F := F) x0 x1 x2 x3 (idx_main_v40 i) := by
  unfold val_main_v40
  generalize val_main_v28 (F := F) x0 x1 x2 x3 = y
  exact shapeCast_apply y shapeCasts_S2x64x512x6x1_S2x64x512x6 i (idx_main_v40 i)
    (by rewrite [Shape.rowMajor_val_five, Shape.rowMajor_val_four]; have h0 : (i 0).val < 2 := (i 0).isLt; have h1 : (i 1).val < 64 := (i 1).isLt; have h2 : (i 2).val < 512 := (i 2).isLt; have h3 : (i 3).val < 6 := (i 3).isLt; show (((((((i 0).val * 64 + (i 1).val) * 512 + (i 2).val) * 6 + (i 3).val) / 196608 * 64 + ((((i 0).val * 64 + (i 1).val) * 512 + (i 2).val) * 6 + (i 3).val) / 3072 % 64) * 512 + ((((i 0).val * 64 + (i 1).val) * 512 + (i 2).val) * 6 + (i 3).val) / 6 % 512) * 6 + ((((i 0).val * 64 + (i 1).val) * 512 + (i 2).val) * 6 + (i 3).val) / 1 % 6) * 1 + 0 = (((i 0).val * 64 + (i 1).val) * 512 + (i 2).val) * 6 + (i 3).val; omega)

def val_main_v41 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S2x64x512x6, .f32⟩ : BufTy).Contents (Elt F) :=
  Host.log (val_main_v32 (F := F) x0 x1 x2 x3)
theorem val_main_v41_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S2x64x512x6.Idx) :
    val_main_v41 (F := F) x0 x1 x2 x3 i = FloatOps.hostUnary .log (val_main_v32 (F := F) x0 x1 x2 x3 i) := rfl

def val_main_v42 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S2x64x512x6, .f32⟩ : BufTy).Contents (Elt F) :=
  addf (val_main_v40 (F := F) x0 x1 x2 x3) (val_main_v41 (F := F) x0 x1 x2 x3)
theorem val_main_v42_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S2x64x512x6.Idx) :
    val_main_v42 (F := F) x0 x1 x2 x3 i = FloatOps.addf (val_main_v40 (F := F) x0 x1 x2 x3 i) (val_main_v41 (F := F) x0 x1 x2 x3 i) := rfl

def val_main_v43 : (⟨S512, .i32⟩ : BufTy).Contents (Elt F) :=
  iotaInDim S512 32 0
theorem val_main_v43_apply (i : S512.Idx) :
    val_main_v43 (F := F) i = BitVec.ofNat 32 (i 0).val := rfl

def val_main_v44 : (⟨S1x512, .i32⟩ : BufTy).Contents (Elt F) :=
  broadcastInDim S1x512 ![1] bcast_S512_S1x512_1 (val_main_v43 (F := F))
abbrev idx_main_v44 (i : S1x512.Idx) : S512.Idx := fun a => match a with
  | ⟨0, _⟩ => ⟨(i 1).val, (i 1).isLt⟩
theorem val_main_v44_apply (i : S1x512.Idx) :
    val_main_v44 (F := F) i = val_main_v43 (F := F) (idx_main_v44 i) := by
  unfold val_main_v44
  generalize val_main_v43 (F := F) = y
  exact broadcastInDim_apply _ bcast_S512_S1x512_1 y i (idx_main_v44 i) (fun a => match a with
    | ⟨0, _⟩ => by show (i 1).val = if (512 : Nat) = 1 then 0 else (i 1).val; rw [if_neg (by decide)])

def val_main_v45 : (⟨S512x1, .i32⟩ : BufTy).Contents (Elt F) :=
  broadcastInDim S512x1 ![0] bcast_S512_S512x1_0 (val_main_v43 (F := F))
abbrev idx_main_v45 (i : S512x1.Idx) : S512.Idx := fun a => match a with
  | ⟨0, _⟩ => ⟨(i 0).val, (i 0).isLt⟩
theorem val_main_v45_apply (i : S512x1.Idx) :
    val_main_v45 (F := F) i = val_main_v43 (F := F) (idx_main_v45 i) := by
  unfold val_main_v45
  generalize val_main_v43 (F := F) = y
  exact broadcastInDim_apply _ bcast_S512_S512x1_0 y i (idx_main_v45 i) (fun a => match a with
    | ⟨0, _⟩ => by show (i 0).val = if (512 : Nat) = 1 then 0 else (i 0).val; rw [if_neg (by decide)])

def val_main_v46 : (⟨S512x512, .i32⟩ : BufTy).Contents (Elt F) :=
  broadcastInDim S512x512 ![0, 1] bcast_S1x512_S512x512_0_1 (val_main_v44 (F := F))
abbrev idx_main_v46 (i : S512x512.Idx) : S1x512.Idx := fun a => match a with
  | ⟨0, _⟩ => ⟨0, Nat.one_pos⟩
  | ⟨1, _⟩ => ⟨(i 1).val, (i 1).isLt⟩
theorem val_main_v46_apply (i : S512x512.Idx) :
    val_main_v46 (F := F) i = val_main_v44 (F := F) (idx_main_v46 i) := by
  unfold val_main_v46
  generalize val_main_v44 (F := F) = y
  exact broadcastInDim_apply _ bcast_S1x512_S512x512_0_1 y i (idx_main_v46 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v47 : (⟨S512x512, .i32⟩ : BufTy).Contents (Elt F) :=
  broadcastInDim S512x512 ![0, 1] bcast_S512x1_S512x512_0_1 (val_main_v45 (F := F))
abbrev idx_main_v47 (i : S512x512.Idx) : S512x1.Idx := fun a => match a with
  | ⟨0, _⟩ => ⟨(i 0).val, (i 0).isLt⟩
  | ⟨1, _⟩ => ⟨0, Nat.one_pos⟩
theorem val_main_v47_apply (i : S512x512.Idx) :
    val_main_v47 (F := F) i = val_main_v45 (F := F) (idx_main_v47 i) := by
  unfold val_main_v47
  generalize val_main_v45 (F := F) = y
  exact broadcastInDim_apply _ bcast_S512x1_S512x512_0_1 y i (idx_main_v47 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])

def val_main_v48 : (⟨S512x512, .i1⟩ : BufTy).Contents (Elt F) :=
  cmpi .sgt (val_main_v46 (F := F)) (val_main_v47 (F := F))
theorem val_main_v48_apply (i : S512x512.Idx) :
    val_main_v48 (F := F) i = IntOp.cmpi .sgt (val_main_v46 (F := F) i) (val_main_v47 (F := F) i) := rfl

def val_main_v49 (x7 : (⟨S64x512x2, .f32⟩ : BufTy).Contents (Elt F)) : (⟨S2x64x1x1x512, .f32⟩ : BufTy).Contents (Elt F) :=
  broadcastInDim S2x64x1x1x512 ![0, 1, 4] bcast_S2x64x512_S2x64x1x1x512_0_1_4 (val_main_v9 (F := F) x7)
abbrev idx_main_v49 (i : S2x64x1x1x512.Idx) : S2x64x512.Idx := fun a => match a with
  | ⟨0, _⟩ => ⟨(i 0).val, (i 0).isLt⟩
  | ⟨1, _⟩ => ⟨(i 1).val, (i 1).isLt⟩
  | ⟨2, _⟩ => ⟨(i 4).val, (i 4).isLt⟩
theorem val_main_v49_apply (x7 : (⟨S64x512x2, .f32⟩ : BufTy).Contents (Elt F)) (i : S2x64x1x1x512.Idx) :
    val_main_v49 (F := F) x7 i = val_main_v9 (F := F) x7 (idx_main_v49 i) := by
  unfold val_main_v49
  generalize val_main_v9 (F := F) x7 = y
  exact broadcastInDim_apply _ bcast_S2x64x512_S2x64x1x1x512_0_1_4 y i (idx_main_v49 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 4).val = if (512 : Nat) = 1 then 0 else (i 4).val; rw [if_neg (by decide)])

def val_main_v50 (x9 : (⟨S64x512x2, .f32⟩ : BufTy).Contents (Elt F)) : (⟨S2x64x1x1x512, .f32⟩ : BufTy).Contents (Elt F) :=
  broadcastInDim S2x64x1x1x512 ![0, 1, 4] bcast_S2x64x512_S2x64x1x1x512_0_1_4 (val_main_v11 (F := F) x9)
abbrev idx_main_v50 (i : S2x64x1x1x512.Idx) : S2x64x512.Idx := fun a => match a with
  | ⟨0, _⟩ => ⟨(i 0).val, (i 0).isLt⟩
  | ⟨1, _⟩ => ⟨(i 1).val, (i 1).isLt⟩
  | ⟨2, _⟩ => ⟨(i 4).val, (i 4).isLt⟩
theorem val_main_v50_apply (x9 : (⟨S64x512x2, .f32⟩ : BufTy).Contents (Elt F)) (i : S2x64x1x1x512.Idx) :
    val_main_v50 (F := F) x9 i = val_main_v11 (F := F) x9 (idx_main_v50 i) := by
  unfold val_main_v50
  generalize val_main_v11 (F := F) x9 = y
  exact broadcastInDim_apply _ bcast_S2x64x512_S2x64x1x1x512_0_1_4 y i (idx_main_v50 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 4).val = if (512 : Nat) = 1 then 0 else (i 4).val; rw [if_neg (by decide)])

def val_main_v51 : (⟨S1x1x512x1x512, .i1⟩ : BufTy).Contents (Elt F) :=
  broadcastInDim S1x1x512x1x512 ![2, 4] bcast_S512x512_S1x1x512x1x512_2_4 (val_main_v48 (F := F))
abbrev idx_main_v51 (i : S1x1x512x1x512.Idx) : S512x512.Idx := fun a => match a with
  | ⟨0, _⟩ => ⟨(i 2).val, (i 2).isLt⟩
  | ⟨1, _⟩ => ⟨(i 4).val, (i 4).isLt⟩
theorem val_main_v51_apply (i : S1x1x512x1x512.Idx) :
    val_main_v51 (F := F) i = val_main_v48 (F := F) (idx_main_v51 i) := by
  unfold val_main_v51
  generalize val_main_v48 (F := F) = y
  exact broadcastInDim_apply _ bcast_S512x512_S1x1x512x1x512_2_4 y i (idx_main_v51 i) (fun a => match a with
    | ⟨0, _⟩ => by show (i 2).val = if (512 : Nat) = 1 then 0 else (i 2).val; rw [if_neg (by decide)]
    | ⟨1, _⟩ => by show (i 4).val = if (512 : Nat) = 1 then 0 else (i 4).val; rw [if_neg (by decide)])

def val_main_v52 (x0 : (⟨S64x512x12x128, .f32⟩ : BufTy).Contents (Elt F)) (x6 : (⟨S64x512x2x128, .f32⟩ : BufTy).Contents (Elt F)) : (⟨S2x64x512x6x512, .f32⟩ : BufTy).Contents (Elt F) :=
  Host.dotGeneral dot_S2x64x512x6x128_S2x64x512x128_S2x64x512x6x512_4_3_23_2_01_01 none (val_main_v5 (F := F) x0) (val_main_v8 (F := F) x6)
theorem lhs_main_v52_0 (i : S2x64x512x6x512.Idx) (q : dot_S2x64x512x6x128_S2x64x512x128_S2x64x512x6x512_4_3_23_2_01_01.contr.Idx) :
    (dot_S2x64x512x6x128_S2x64x512x128_S2x64x512x6x512_4_3_23_2_01_01.lhsIdx i q 0).val = (i 0).val := by
  unfold DotDims.lhsIdx
  rw [dif_pos (show (0 : Fin S2x64x512x6x128.rank) ∈ dot_S2x64x512x6x128_S2x64x512x128_S2x64x512x6x512_4_3_23_2_01_01.lhsBatch by decide)]
  rfl
theorem lhs_main_v52_1 (i : S2x64x512x6x512.Idx) (q : dot_S2x64x512x6x128_S2x64x512x128_S2x64x512x6x512_4_3_23_2_01_01.contr.Idx) :
    (dot_S2x64x512x6x128_S2x64x512x128_S2x64x512x6x512_4_3_23_2_01_01.lhsIdx i q 1).val = (i 1).val := by
  unfold DotDims.lhsIdx
  rw [dif_pos (show (1 : Fin S2x64x512x6x128.rank) ∈ dot_S2x64x512x6x128_S2x64x512x128_S2x64x512x6x512_4_3_23_2_01_01.lhsBatch by decide)]
  rfl
theorem lhs_main_v52_2 (i : S2x64x512x6x512.Idx) (q : dot_S2x64x512x6x128_S2x64x512x128_S2x64x512x6x512_4_3_23_2_01_01.contr.Idx) :
    (dot_S2x64x512x6x128_S2x64x512x128_S2x64x512x6x512_4_3_23_2_01_01.lhsIdx i q 2).val = (i 2).val := by
  unfold DotDims.lhsIdx
  rw [dif_neg (show ¬(2 : Fin S2x64x512x6x128.rank) ∈ dot_S2x64x512x6x128_S2x64x512x128_S2x64x512x6x512_4_3_23_2_01_01.lhsBatch by decide), dif_pos (show (2 : Fin S2x64x512x6x128.rank) ∈ dot_S2x64x512x6x128_S2x64x512x128_S2x64x512x6x512_4_3_23_2_01_01.lhsNonContracting by decide)]
  rfl
theorem lhs_main_v52_3 (i : S2x64x512x6x512.Idx) (q : dot_S2x64x512x6x128_S2x64x512x128_S2x64x512x6x512_4_3_23_2_01_01.contr.Idx) :
    (dot_S2x64x512x6x128_S2x64x512x128_S2x64x512x6x512_4_3_23_2_01_01.lhsIdx i q 3).val = (i 3).val := by
  unfold DotDims.lhsIdx
  rw [dif_neg (show ¬(3 : Fin S2x64x512x6x128.rank) ∈ dot_S2x64x512x6x128_S2x64x512x128_S2x64x512x6x512_4_3_23_2_01_01.lhsBatch by decide), dif_pos (show (3 : Fin S2x64x512x6x128.rank) ∈ dot_S2x64x512x6x128_S2x64x512x128_S2x64x512x6x512_4_3_23_2_01_01.lhsNonContracting by decide)]
  rfl
theorem lhs_main_v52_4 (i : S2x64x512x6x512.Idx) (q : dot_S2x64x512x6x128_S2x64x512x128_S2x64x512x6x512_4_3_23_2_01_01.contr.Idx) :
    (dot_S2x64x512x6x128_S2x64x512x128_S2x64x512x6x512_4_3_23_2_01_01.lhsIdx i q 4).val = (q ⟨0, by decide⟩).val :=
  dot_S2x64x512x6x128_S2x64x512x128_S2x64x512x6x512_4_3_23_2_01_01.lhsIdx_val_of_single rfl i q
theorem rhs_main_v52_0 (i : S2x64x512x6x512.Idx) (q : dot_S2x64x512x6x128_S2x64x512x128_S2x64x512x6x512_4_3_23_2_01_01.contr.Idx) :
    (dot_S2x64x512x6x128_S2x64x512x128_S2x64x512x6x512_4_3_23_2_01_01.rhsIdx i q 0).val = (i 0).val := by
  unfold DotDims.rhsIdx
  rw [dif_pos (show (0 : Fin S2x64x512x128.rank) ∈ dot_S2x64x512x6x128_S2x64x512x128_S2x64x512x6x512_4_3_23_2_01_01.rhsBatch by decide)]
  rfl
theorem rhs_main_v52_1 (i : S2x64x512x6x512.Idx) (q : dot_S2x64x512x6x128_S2x64x512x128_S2x64x512x6x512_4_3_23_2_01_01.contr.Idx) :
    (dot_S2x64x512x6x128_S2x64x512x128_S2x64x512x6x512_4_3_23_2_01_01.rhsIdx i q 1).val = (i 1).val := by
  unfold DotDims.rhsIdx
  rw [dif_pos (show (1 : Fin S2x64x512x128.rank) ∈ dot_S2x64x512x6x128_S2x64x512x128_S2x64x512x6x512_4_3_23_2_01_01.rhsBatch by decide)]
  rfl
theorem rhs_main_v52_2 (i : S2x64x512x6x512.Idx) (q : dot_S2x64x512x6x128_S2x64x512x128_S2x64x512x6x512_4_3_23_2_01_01.contr.Idx) :
    (dot_S2x64x512x6x128_S2x64x512x128_S2x64x512x6x512_4_3_23_2_01_01.rhsIdx i q 2).val = (i 4).val := by
  unfold DotDims.rhsIdx
  rw [dif_neg (show ¬(2 : Fin S2x64x512x128.rank) ∈ dot_S2x64x512x6x128_S2x64x512x128_S2x64x512x6x512_4_3_23_2_01_01.rhsBatch by decide), dif_pos (show (2 : Fin S2x64x512x128.rank) ∈ dot_S2x64x512x6x128_S2x64x512x128_S2x64x512x6x512_4_3_23_2_01_01.rhsNonContracting by decide)]
  rfl
theorem rhs_main_v52_3 (i : S2x64x512x6x512.Idx) (q : dot_S2x64x512x6x128_S2x64x512x128_S2x64x512x6x512_4_3_23_2_01_01.contr.Idx) :
    (dot_S2x64x512x6x128_S2x64x512x128_S2x64x512x6x512_4_3_23_2_01_01.rhsIdx i q 3).val = (q ⟨0, by decide⟩).val :=
  dot_S2x64x512x6x128_S2x64x512x128_S2x64x512x6x512_4_3_23_2_01_01.rhsIdx_val_of_single rfl i q
abbrev lidx_main_v52 (i : S2x64x512x6x512.Idx) (k : Fin 128) : S2x64x512x6x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
abbrev ridx_main_v52 (i : S2x64x512x6x512.Idx) (k : Fin 128) : S2x64x512x128.Idx := fun a => match a with
  | ⟨0, _⟩ => ⟨(i 0).val, (i 0).isLt⟩
  | ⟨1, _⟩ => ⟨(i 1).val, (i 1).isLt⟩
  | ⟨2, _⟩ => ⟨(i 4).val, (i 4).isLt⟩
  | ⟨3, _⟩ => ⟨k.val, k.isLt⟩
/-- Stated at `F := Ideal`, where the host's `dot_general` is this sum; at a bit-exact instance it is an opaque function of its operands. -/
theorem val_main_v52_apply (x0 : (⟨S64x512x12x128, .f32⟩ : BufTy).Contents (Elt Ideal)) (x6 : (⟨S64x512x2x128, .f32⟩ : BufTy).Contents (Elt Ideal)) (i : S2x64x512x6x512.Idx) :
    val_main_v52 (F := Ideal) x0 x6 i = ∑ k : Fin 128, (val_main_v5 (F := Ideal) x0) (lidx_main_v52 i k) * (val_main_v8 (F := Ideal) x6) (ridx_main_v52 i k) := by
  unfold val_main_v52
  generalize val_main_v5 (F := Ideal) x0 = y0
  generalize val_main_v8 (F := Ideal) x6 = y1
  simp only [Host.dotGeneral]
  rw [Ideal.dotGeneral_apply, ← Equiv.sum_comp (ValueIdx.contrEquiv1 dot_S2x64x512x6x128_S2x64x512x128_S2x64x512x6x512_4_3_23_2_01_01 128 rfl rfl).symm]
  refine Finset.sum_congr rfl fun k _ => ?_
  have hk := ValueIdx.contrEquiv1_symm_val dot_S2x64x512x6x128_S2x64x512x128_S2x64x512x6x512_4_3_23_2_01_01 128 rfl rfl k
  have el : dot_S2x64x512x6x128_S2x64x512x128_S2x64x512x6x512_4_3_23_2_01_01.lhsIdx i ((ValueIdx.contrEquiv1 dot_S2x64x512x6x128_S2x64x512x128_S2x64x512x6x512_4_3_23_2_01_01 128 rfl rfl).symm k) = lidx_main_v52 i k := funext fun a => Fin.ext (by
    match a with
    | ⟨0, _⟩ => exact lhs_main_v52_0 _ _
    | ⟨1, _⟩ => exact lhs_main_v52_1 _ _
    | ⟨2, _⟩ => exact lhs_main_v52_2 _ _
    | ⟨3, _⟩ => exact lhs_main_v52_3 _ _
    | ⟨4, _⟩ => exact (lhs_main_v52_4 _ _).trans hk)
  have er : dot_S2x64x512x6x128_S2x64x512x128_S2x64x512x6x512_4_3_23_2_01_01.rhsIdx i ((ValueIdx.contrEquiv1 dot_S2x64x512x6x128_S2x64x512x128_S2x64x512x6x512_4_3_23_2_01_01 128 rfl rfl).symm k) = ridx_main_v52 i k := funext fun a => Fin.ext (by
    match a with
    | ⟨0, _⟩ => exact rhs_main_v52_0 _ _
    | ⟨1, _⟩ => exact rhs_main_v52_1 _ _
    | ⟨2, _⟩ => exact rhs_main_v52_2 _ _
    | ⟨3, _⟩ => exact (rhs_main_v52_3 _ _).trans hk)
  rw [el, er]

def val_main_v53 (x1 : (⟨S64x512x12, .f32⟩ : BufTy).Contents (Elt F)) : (⟨S2x64x512x6x1, .f32⟩ : BufTy).Contents (Elt F) :=
  broadcastInDim S2x64x512x6x1 ![0, 1, 2, 3] bcast_S2x64x512x6_S2x64x512x6x1_0_1_2_3 (val_main_v7 (F := F) x1)
abbrev idx_main_v53 (i : S2x64x512x6x1.Idx) : S2x64x512x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v53_apply (x1 : (⟨S64x512x12, .f32⟩ : BufTy).Contents (Elt F)) (i : S2x64x512x6x1.Idx) :
    val_main_v53 (F := F) x1 i = val_main_v7 (F := F) x1 (idx_main_v53 i) := by
  unfold val_main_v53
  generalize val_main_v7 (F := F) x1 = y
  exact broadcastInDim_apply _ bcast_S2x64x512x6_S2x64x512x6x1_0_1_2_3 y i (idx_main_v53 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)])

def val_main_v54 (x1 : (⟨S64x512x12, .f32⟩ : BufTy).Contents (Elt F)) : (⟨S2x64x512x6x512, .f32⟩ : BufTy).Contents (Elt F) :=
  broadcastInDim S2x64x512x6x512 ![0, 1, 2, 3, 4] bcast_S2x64x512x6x1_S2x64x512x6x512_0_1_2_3_4 (val_main_v53 (F := F) x1)
abbrev idx_main_v54 (i : S2x64x512x6x512.Idx) : S2x64x512x6x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v54_apply (x1 : (⟨S64x512x12, .f32⟩ : BufTy).Contents (Elt F)) (i : S2x64x512x6x512.Idx) :
    val_main_v54 (F := F) x1 i = val_main_v53 (F := F) x1 (idx_main_v54 i) := by
  unfold val_main_v54
  generalize val_main_v53 (F := F) x1 = y
  exact broadcastInDim_apply _ bcast_S2x64x512x6x1_S2x64x512x6x512_0_1_2_3_4 y i (idx_main_v54 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)]
    | ⟨4, _⟩ => by show 0 = if (1 : Nat) = 1 then 0 else (i 4).val; rw [if_pos rfl])

def val_main_v55 (x0 : (⟨S64x512x12x128, .f32⟩ : BufTy).Contents (Elt F)) (x1 : (⟨S64x512x12, .f32⟩ : BufTy).Contents (Elt F)) (x6 : (⟨S64x512x2x128, .f32⟩ : BufTy).Contents (Elt F)) : (⟨S2x64x512x6x512, .f32⟩ : BufTy).Contents (Elt F) :=
  mulf (val_main_v52 (F := F) x0 x6) (val_main_v54 (F := F) x1)
theorem val_main_v55_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (i : S2x64x512x6x512.Idx) :
    val_main_v55 (F := F) x0 x1 x6 i = FloatOps.mulf (val_main_v52 (F := F) x0 x6 i) (val_main_v54 (F := F) x1 i) := rfl

def val_main_v56 (x7 : (⟨S64x512x2, .f32⟩ : BufTy).Contents (Elt F)) : (⟨S2x64x512x6x512, .f32⟩ : BufTy).Contents (Elt F) :=
  broadcastInDim S2x64x512x6x512 ![0, 1, 2, 3, 4] bcast_S2x64x1x1x512_S2x64x512x6x512_0_1_2_3_4 (val_main_v49 (F := F) x7)
abbrev idx_main_v56 (i : S2x64x512x6x512.Idx) : S2x64x1x1x512.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩
  | ⟨4, _⟩ => ⟨(i 4).val, (i 4).isLt⟩
theorem val_main_v56_apply (x7 : (⟨S64x512x2, .f32⟩ : BufTy).Contents (Elt F)) (i : S2x64x512x6x512.Idx) :
    val_main_v56 (F := F) x7 i = val_main_v49 (F := F) x7 (idx_main_v56 i) := by
  unfold val_main_v56
  generalize val_main_v49 (F := F) x7 = y
  exact broadcastInDim_apply _ bcast_S2x64x1x1x512_S2x64x512x6x512_0_1_2_3_4 y i (idx_main_v56 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (512 : Nat) = 1 then 0 else (i 4).val; rw [if_neg (by decide)])

def val_main_v57 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6x512, .f32⟩ : BufTy).Contents (Elt F) :=
  mulf (val_main_v55 (F := F) x0 x1 x6) (val_main_v56 (F := F) x7)
theorem val_main_v57_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S2x64x512x6x512.Idx) :
    val_main_v57 (F := F) x0 x1 x6 x7 i = FloatOps.mulf (val_main_v55 (F := F) x0 x1 x6 i) (val_main_v56 (F := F) x7 i) := rfl

def val_main_cst_2 : (⟨S_, .f32⟩ : BufTy).Contents (Elt F) :=
  constant S_ .f32 0x43000000#32
theorem val_main_cst_2_apply (i : S_.Idx) :
    val_main_cst_2 (F := F) i = FloatOps.ofBits .f32 0x43000000#32 := rfl

def val_main_v58 : (⟨S_, .f32⟩ : BufTy).Contents (Elt F) :=
  Host.sqrt (val_main_cst_2 (F := F))
theorem val_main_v58_apply (i : S_.Idx) :
    val_main_v58 (F := F) i = FloatOps.hostUnary .sqrt (val_main_cst_2 (F := F) i) := rfl

def val_main_v59 : (⟨S2x64x512x6x512, .f32⟩ : BufTy).Contents (Elt F) :=
  broadcastInDim S2x64x512x6x512 ![] bcast_S_S2x64x512x6x512 (val_main_v58 (F := F))
abbrev idx_main_v59 (i : S2x64x512x6x512.Idx) : S_.Idx := fun a => a.elim0
theorem val_main_v59_apply (i : S2x64x512x6x512.Idx) :
    val_main_v59 (F := F) i = val_main_v58 (F := F) (idx_main_v59 i) := by
  unfold val_main_v59
  generalize val_main_v58 (F := F) = y
  exact broadcastInDim_apply _ bcast_S_S2x64x512x6x512 y i (idx_main_v59 i) (fun a => a.elim0)

end Cert.ReferenceIdeal.Read

end
-- ==== Proof.RefRead2.lean ====
/- The later stages of the reference, each operation a named stage read at an index. -/
module

public import proofs.«01_k».proof.Proof.RefRead
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v60 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6x512, .f32⟩ : BufTy).Contents (Elt F) :=
  Host.divf (val_main_v57 (F := F) x0 x1 x6 x7) (val_main_v59 (F := F))
theorem val_main_v60_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S2x64x512x6x512.Idx) :
    val_main_v60 (F := F) x0 x1 x6 x7 i = FloatOps.hostDivf (val_main_v57 (F := F) x0 x1 x6 x7 i) (val_main_v59 (F := F) i) := rfl

def val_main_cst_3 : (⟨S_, .f32⟩ : BufTy).Contents (Elt F) :=
  constant S_ .f32 0xFF800000#32
theorem val_main_cst_3_apply (i : S_.Idx) :
    val_main_cst_3 (F := F) i = FloatOps.ofBits .f32 0xFF800000#32 := rfl

-- @_where's %0 = stablehlo.convert %arg1 : tensor<f32>, in %57 = func.call @_where(…) (record main_call0)
def val_main_call0_v0 : (⟨S_, .f32⟩ : BufTy).Contents (Elt F) :=
  id (val_main_cst_3 (F := F))
theorem val_main_call0_v0_apply (i : S_.Idx) :
    val_main_call0_v0 (F := F) i = (val_main_cst_3 (F := F) i) := rfl

-- @_where's %1 = stablehlo.broadcast_in_dim %arg0, dims = [0, 1, 2, 3, 4] : (tensor<1x1x512x1x512xi1>) -> tensor<2x64x512x6x512xi1>, in %57 = func.call @_where(…) (record main_call0)
def val_main_call0_v1 : (⟨S2x64x512x6x512, .i1⟩ : BufTy).Contents (Elt F) :=
  broadcastInDim S2x64x512x6x512 ![0, 1, 2, 3, 4] bcast_S1x1x512x1x512_S2x64x512x6x512_0_1_2_3_4 (val_main_v51 (F := F))
abbrev idx_main_call0_v1 (i : S2x64x512x6x512.Idx) : S1x1x512x1x512.Idx := fun a => match a with
  | ⟨0, _⟩ => ⟨0, Nat.one_pos⟩
  | ⟨1, _⟩ => ⟨0, Nat.one_pos⟩
  | ⟨2, _⟩ => ⟨(i 2).val, (i 2).isLt⟩
  | ⟨3, _⟩ => ⟨0, Nat.one_pos⟩
  | ⟨4, _⟩ => ⟨(i 4).val, (i 4).isLt⟩
theorem val_main_call0_v1_apply (i : S2x64x512x6x512.Idx) :
    val_main_call0_v1 (F := F) i = val_main_v51 (F := F) (idx_main_call0_v1 i) := by
  unfold val_main_call0_v1
  generalize val_main_v51 (F := F) = y
  exact broadcastInDim_apply _ bcast_S1x1x512x1x512_S2x64x512x6x512_0_1_2_3_4 y i (idx_main_call0_v1 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (512 : Nat) = 1 then 0 else (i 2).val; rw [if_neg (by decide)]
    | ⟨3, _⟩ => by show 0 = if (1 : Nat) = 1 then 0 else (i 3).val; rw [if_pos rfl]
    | ⟨4, _⟩ => by show (i 4).val = if (512 : Nat) = 1 then 0 else (i 4).val; rw [if_neg (by decide)])

-- @_where's %2 = stablehlo.broadcast_in_dim %0, dims = [] : (tensor<f32>) -> tensor<2x64x512x6x512xf32>, in %57 = func.call @_where(…) (record main_call0)
def val_main_call0_v2 : (⟨S2x64x512x6x512, .f32⟩ : BufTy).Contents (Elt F) :=
  broadcastInDim S2x64x512x6x512 ![] bcast_S_S2x64x512x6x512 (val_main_call0_v0 (F := F))
abbrev idx_main_call0_v2 (i : S2x64x512x6x512.Idx) : S_.Idx := fun a => a.elim0
theorem val_main_call0_v2_apply (i : S2x64x512x6x512.Idx) :
    val_main_call0_v2 (F := F) i = val_main_call0_v0 (F := F) (idx_main_call0_v2 i) := by
  unfold val_main_call0_v2
  generalize val_main_call0_v0 (F := F) = y
  exact broadcastInDim_apply _ bcast_S_S2x64x512x6x512 y i (idx_main_call0_v2 i) (fun a => a.elim0)

def val_main_v61 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6x512, .f32⟩ : BufTy).Contents (Elt F) :=
  select (val_main_call0_v1 (F := F)) (val_main_call0_v2 (F := F)) (val_main_v60 (F := F) x0 x1 x6 x7)
theorem val_main_v61_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S2x64x512x6x512.Idx) :
    val_main_v61 (F := F) x0 x1 x6 x7 i = Scalar.select (val_main_call0_v1 (F := F) i) (val_main_call0_v2 (F := F) i) (val_main_v60 (F := F) x0 x1 x6 x7 i) := rfl

def val_main_cst_4 : (⟨S_, .f32⟩ : BufTy).Contents (Elt F) :=
  constant S_ .f32 0xFF800000#32
theorem val_main_cst_4_apply (i : S_.Idx) :
    val_main_cst_4 (F := F) i = FloatOps.ofBits .f32 0xFF800000#32 := rfl

def val_main_v62 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  Host.reduce FloatOps.maximumf (val_main_v61 (F := F) x0 x1 x6 x7) (val_main_cst_4 (F := F)) reducesTo_S2x64x512x6x512_S2x64x512x6_d4 h_S_

def val_main_v63 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6x1, .f32⟩ : BufTy).Contents (Elt F) :=
  broadcastInDim S2x64x512x6x1 ![0, 1, 2, 3] bcast_S2x64x512x6_S2x64x512x6x1_0_1_2_3 (val_main_v62 (F := F) x0 x1 x6 x7)
abbrev idx_main_v63 (i : S2x64x512x6x1.Idx) : S2x64x512x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v63_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S2x64x512x6x1.Idx) :
    val_main_v63 (F := F) x0 x1 x6 x7 i = val_main_v62 (F := F) x0 x1 x6 x7 (idx_main_v63 i) := by
  unfold val_main_v63
  generalize val_main_v62 (F := F) x0 x1 x6 x7 = y
  exact broadcastInDim_apply _ bcast_S2x64x512x6_S2x64x512x6x1_0_1_2_3 y i (idx_main_v63 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)])

def val_main_v64 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6x512, .f32⟩ : BufTy).Contents (Elt F) :=
  broadcastInDim S2x64x512x6x512 ![0, 1, 2, 3, 4] bcast_S2x64x512x6x1_S2x64x512x6x512_0_1_2_3_4 (val_main_v63 (F := F) x0 x1 x6 x7)
abbrev idx_main_v64 (i : S2x64x512x6x512.Idx) : S2x64x512x6x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v64_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S2x64x512x6x512.Idx) :
    val_main_v64 (F := F) x0 x1 x6 x7 i = val_main_v63 (F := F) x0 x1 x6 x7 (idx_main_v64 i) := by
  unfold val_main_v64
  generalize val_main_v63 (F := F) x0 x1 x6 x7 = y
  exact broadcastInDim_apply _ bcast_S2x64x512x6x1_S2x64x512x6x512_0_1_2_3_4 y i (idx_main_v64 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)]
    | ⟨4, _⟩ => by show 0 = if (1 : Nat) = 1 then 0 else (i 4).val; rw [if_pos rfl])

def val_main_v65 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6x512, .f32⟩ : BufTy).Contents (Elt F) :=
  subf (val_main_v61 (F := F) x0 x1 x6 x7) (val_main_v64 (F := F) x0 x1 x6 x7)
theorem val_main_v65_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S2x64x512x6x512.Idx) :
    val_main_v65 (F := F) x0 x1 x6 x7 i = FloatOps.subf (val_main_v61 (F := F) x0 x1 x6 x7 i) (val_main_v64 (F := F) x0 x1 x6 x7 i) := rfl

def val_main_v66 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6x512, .f32⟩ : BufTy).Contents (Elt F) :=
  Host.exp (val_main_v65 (F := F) x0 x1 x6 x7)
theorem val_main_v66_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S2x64x512x6x512.Idx) :
    val_main_v66 (F := F) x0 x1 x6 x7 i = FloatOps.hostUnary .exp (val_main_v65 (F := F) x0 x1 x6 x7 i) := rfl

def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

def val_main_v67 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  Host.reduceAdd (val_main_v66 (F := F) x0 x1 x6 x7) (val_main_cst_5 (F := F)) reducesTo_S2x64x512x6x512_S2x64x512x6_d4 h_S_
abbrev idx_main_v67 (i : S2x64x512x6.Idx) (k : Fin 512) : S2x64x512x6x512.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
/-- Stated at `F := Ideal`, where the host's float sum is this sum; at a bit-exact instance it is an opaque function of its operand. -/
theorem val_main_v67_apply (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (i : S2x64x512x6.Idx) :
    val_main_v67 (F := Ideal) x0 x1 x6 x7 i = (val_main_cst_5 (F := Ideal)) (Shape.Idx.first h_S_) + ∑ k : Fin 512, (val_main_v66 (F := Ideal) x0 x1 x6 x7) (idx_main_v67 i k) := by
  unfold val_main_v67
  generalize val_main_v66 (F := Ideal) x0 x1 x6 x7 = y0
  simp only [Host.reduceAdd, Ideal.hostReduceAdd_def]
  rw [Ideal.hostReduceAdd_single reducesTo_S2x64x512x6x512_S2x64x512x6_d4 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl | ⟨4, _⟩ => rfl))

def val_main_v68 (x9 : (⟨S64x512x2, .f32⟩ : BufTy).Contents (Elt F)) : (⟨S2x64x512x6x512, .f32⟩ : BufTy).Contents (Elt F) :=
  broadcastInDim S2x64x512x6x512 ![0, 1, 2, 3, 4] bcast_S2x64x1x1x512_S2x64x512x6x512_0_1_2_3_4 (val_main_v50 (F := F) x9)
abbrev idx_main_v68 (i : S2x64x512x6x512.Idx) : S2x64x1x1x512.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩
  | ⟨4, _⟩ => ⟨(i 4).val, (i 4).isLt⟩
theorem val_main_v68_apply (x9 : (⟨S64x512x2, .f32⟩ : BufTy).Contents (Elt F)) (i : S2x64x512x6x512.Idx) :
    val_main_v68 (F := F) x9 i = val_main_v50 (F := F) x9 (idx_main_v68 i) := by
  unfold val_main_v68
  generalize val_main_v50 (F := F) x9 = y
  exact broadcastInDim_apply _ bcast_S2x64x1x1x512_S2x64x512x6x512_0_1_2_3_4 y i (idx_main_v68 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (512 : Nat) = 1 then 0 else (i 4).val; rw [if_neg (by decide)])

def val_main_v69 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 x9 : (⟨S64x512x2, .f32⟩ : BufTy).Contents (Elt F)) : (⟨S2x64x512x6x512, .f32⟩ : BufTy).Contents (Elt F) :=
  mulf (val_main_v66 (F := F) x0 x1 x6 x7) (val_main_v68 (F := F) x9)
theorem val_main_v69_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 x9 : (⟨S64x512x2, .f32⟩ : BufTy).Contents (Elt F)) (i : S2x64x512x6x512.Idx) :
    val_main_v69 (F := F) x0 x1 x6 x7 x9 i = FloatOps.mulf (val_main_v66 (F := F) x0 x1 x6 x7 i) (val_main_v68 (F := F) x9 i) := rfl

def val_main_v70 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 x9 : (⟨S64x512x2, .f32⟩ : BufTy).Contents (Elt F)) : (⟨S2x64x512x6x512, .bf16⟩ : BufTy).Contents (Elt F) :=
  truncf .bf16 (val_main_v69 (F := F) x0 x1 x6 x7 x9) bitsLt_bf16_f32
theorem val_main_v70_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 x9 : (⟨S64x512x2, .f32⟩ : BufTy).Contents (Elt F)) (i : S2x64x512x6x512.Idx) :
    val_main_v70 (F := F) x0 x1 x6 x7 x9 i = FloatOps.truncf .bf16 bitsLt_bf16_f32 (val_main_v69 (F := F) x0 x1 x6 x7 x9 i) := rfl

def val_main_v71 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (x8 : (⟨S64x512x2x128, .bf16⟩ : BufTy).Contents (Elt F)) (x9 : (⟨S64x512x2, .f32⟩ : BufTy).Contents (Elt F)) : (⟨S2x64x512x6x128, .f32⟩ : BufTy).Contents (Elt F) :=
  Host.dotGeneral dot_S2x64x512x6x512_S2x64x512x128_S2x64x512x6x128_4_2_23_3_01_01 none (val_main_v70 (F := F) x0 x1 x6 x7 x9) (val_main_v10 (F := F) x8)
theorem lhs_main_v71_0 (i : S2x64x512x6x128.Idx) (q : dot_S2x64x512x6x512_S2x64x512x128_S2x64x512x6x128_4_2_23_3_01_01.contr.Idx) :
    (dot_S2x64x512x6x512_S2x64x512x128_S2x64x512x6x128_4_2_23_3_01_01.lhsIdx i q 0).val = (i 0).val := by
  unfold DotDims.lhsIdx
  rw [dif_pos (show (0 : Fin S2x64x512x6x512.rank) ∈ dot_S2x64x512x6x512_S2x64x512x128_S2x64x512x6x128_4_2_23_3_01_01.lhsBatch by decide)]
  rfl
theorem lhs_main_v71_1 (i : S2x64x512x6x128.Idx) (q : dot_S2x64x512x6x512_S2x64x512x128_S2x64x512x6x128_4_2_23_3_01_01.contr.Idx) :
    (dot_S2x64x512x6x512_S2x64x512x128_S2x64x512x6x128_4_2_23_3_01_01.lhsIdx i q 1).val = (i 1).val := by
  unfold DotDims.lhsIdx
  rw [dif_pos (show (1 : Fin S2x64x512x6x512.rank) ∈ dot_S2x64x512x6x512_S2x64x512x128_S2x64x512x6x128_4_2_23_3_01_01.lhsBatch by decide)]
  rfl
theorem lhs_main_v71_2 (i : S2x64x512x6x128.Idx) (q : dot_S2x64x512x6x512_S2x64x512x128_S2x64x512x6x128_4_2_23_3_01_01.contr.Idx) :
    (dot_S2x64x512x6x512_S2x64x512x128_S2x64x512x6x128_4_2_23_3_01_01.lhsIdx i q 2).val = (i 2).val := by
  unfold DotDims.lhsIdx
  rw [dif_neg (show ¬(2 : Fin S2x64x512x6x512.rank) ∈ dot_S2x64x512x6x512_S2x64x512x128_S2x64x512x6x128_4_2_23_3_01_01.lhsBatch by decide), dif_pos (show (2 : Fin S2x64x512x6x512.rank) ∈ dot_S2x64x512x6x512_S2x64x512x128_S2x64x512x6x128_4_2_23_3_01_01.lhsNonContracting by decide)]
  rfl
theorem lhs_main_v71_3 (i : S2x64x512x6x128.Idx) (q : dot_S2x64x512x6x512_S2x64x512x128_S2x64x512x6x128_4_2_23_3_01_01.contr.Idx) :
    (dot_S2x64x512x6x512_S2x64x512x128_S2x64x512x6x128_4_2_23_3_01_01.lhsIdx i q 3).val = (i 3).val := by
  unfold DotDims.lhsIdx
  rw [dif_neg (show ¬(3 : Fin S2x64x512x6x512.rank) ∈ dot_S2x64x512x6x512_S2x64x512x128_S2x64x512x6x128_4_2_23_3_01_01.lhsBatch by decide), dif_pos (show (3 : Fin S2x64x512x6x512.rank) ∈ dot_S2x64x512x6x512_S2x64x512x128_S2x64x512x6x128_4_2_23_3_01_01.lhsNonContracting by decide)]
  rfl
theorem lhs_main_v71_4 (i : S2x64x512x6x128.Idx) (q : dot_S2x64x512x6x512_S2x64x512x128_S2x64x512x6x128_4_2_23_3_01_01.contr.Idx) :
    (dot_S2x64x512x6x512_S2x64x512x128_S2x64x512x6x128_4_2_23_3_01_01.lhsIdx i q 4).val = (q ⟨0, by decide⟩).val :=
  dot_S2x64x512x6x512_S2x64x512x128_S2x64x512x6x128_4_2_23_3_01_01.lhsIdx_val_of_single rfl i q
theorem rhs_main_v71_0 (i : S2x64x512x6x128.Idx) (q : dot_S2x64x512x6x512_S2x64x512x128_S2x64x512x6x128_4_2_23_3_01_01.contr.Idx) :
    (dot_S2x64x512x6x512_S2x64x512x128_S2x64x512x6x128_4_2_23_3_01_01.rhsIdx i q 0).val = (i 0).val := by
  unfold DotDims.rhsIdx
  rw [dif_pos (show (0 : Fin S2x64x512x128.rank) ∈ dot_S2x64x512x6x512_S2x64x512x128_S2x64x512x6x128_4_2_23_3_01_01.rhsBatch by decide)]
  rfl
theorem rhs_main_v71_1 (i : S2x64x512x6x128.Idx) (q : dot_S2x64x512x6x512_S2x64x512x128_S2x64x512x6x128_4_2_23_3_01_01.contr.Idx) :
    (dot_S2x64x512x6x512_S2x64x512x128_S2x64x512x6x128_4_2_23_3_01_01.rhsIdx i q 1).val = (i 1).val := by
  unfold DotDims.rhsIdx
  rw [dif_pos (show (1 : Fin S2x64x512x128.rank) ∈ dot_S2x64x512x6x512_S2x64x512x128_S2x64x512x6x128_4_2_23_3_01_01.rhsBatch by decide)]
  rfl
theorem rhs_main_v71_2 (i : S2x64x512x6x128.Idx) (q : dot_S2x64x512x6x512_S2x64x512x128_S2x64x512x6x128_4_2_23_3_01_01.contr.Idx) :
    (dot_S2x64x512x6x512_S2x64x512x128_S2x64x512x6x128_4_2_23_3_01_01.rhsIdx i q 2).val = (q ⟨0, by decide⟩).val :=
  dot_S2x64x512x6x512_S2x64x512x128_S2x64x512x6x128_4_2_23_3_01_01.rhsIdx_val_of_single rfl i q
theorem rhs_main_v71_3 (i : S2x64x512x6x128.Idx) (q : dot_S2x64x512x6x512_S2x64x512x128_S2x64x512x6x128_4_2_23_3_01_01.contr.Idx) :
    (dot_S2x64x512x6x512_S2x64x512x128_S2x64x512x6x128_4_2_23_3_01_01.rhsIdx i q 3).val = (i 4).val := by
  unfold DotDims.rhsIdx
  rw [dif_neg (show ¬(3 : Fin S2x64x512x128.rank) ∈ dot_S2x64x512x6x512_S2x64x512x128_S2x64x512x6x128_4_2_23_3_01_01.rhsBatch by decide), dif_pos (show (3 : Fin S2x64x512x128.rank) ∈ dot_S2x64x512x6x512_S2x64x512x128_S2x64x512x6x128_4_2_23_3_01_01.rhsNonContracting by decide)]
  rfl
abbrev lidx_main_v71 (i : S2x64x512x6x128.Idx) (k : Fin 512) : S2x64x512x6x512.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
abbrev ridx_main_v71 (i : S2x64x512x6x128.Idx) (k : Fin 512) : S2x64x512x128.Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 4).val, (i 4).isLt⟩
/-- Stated at `F := Ideal`, where the host's `dot_general` is this sum; at a bit-exact instance it is an opaque function of its operands. -/
theorem val_main_v71_apply (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (x8 : (⟨S64x512x2x128, .bf16⟩ : BufTy).Contents (Elt Ideal)) (x9 : (⟨S64x512x2, .f32⟩ : BufTy).Contents (Elt Ideal)) (i : S2x64x512x6x128.Idx) :
    val_main_v71 (F := Ideal) x0 x1 x6 x7 x8 x9 i = ∑ k : Fin 512, (val_main_v70 (F := Ideal) x0 x1 x6 x7 x9) (lidx_main_v71 i k) * (val_main_v10 (F := Ideal) x8) (ridx_main_v71 i k) := by
  unfold val_main_v71
  generalize val_main_v70 (F := Ideal) x0 x1 x6 x7 x9 = y0
  generalize val_main_v10 (F := Ideal) x8 = y1
  simp only [Host.dotGeneral]
  rw [Ideal.dotGeneral_apply, ← Equiv.sum_comp (ValueIdx.contrEquiv1 dot_S2x64x512x6x512_S2x64x512x128_S2x64x512x6x128_4_2_23_3_01_01 512 rfl rfl).symm]
  refine Finset.sum_congr rfl fun k _ => ?_
  have hk := ValueIdx.contrEquiv1_symm_val dot_S2x64x512x6x512_S2x64x512x128_S2x64x512x6x128_4_2_23_3_01_01 512 rfl rfl k
  have el : dot_S2x64x512x6x512_S2x64x512x128_S2x64x512x6x128_4_2_23_3_01_01.lhsIdx i ((ValueIdx.contrEquiv1 dot_S2x64x512x6x512_S2x64x512x128_S2x64x512x6x128_4_2_23_3_01_01 512 rfl rfl).symm k) = lidx_main_v71 i k := funext fun a => Fin.ext (by
    match a with
    | ⟨0, _⟩ => exact lhs_main_v71_0 _ _
    | ⟨1, _⟩ => exact lhs_main_v71_1 _ _
    | ⟨2, _⟩ => exact lhs_main_v71_2 _ _
    | ⟨3, _⟩ => exact lhs_main_v71_3 _ _
    | ⟨4, _⟩ => exact (lhs_main_v71_4 _ _).trans hk)
  have er : dot_S2x64x512x6x512_S2x64x512x128_S2x64x512x6x128_4_2_23_3_01_01.rhsIdx i ((ValueIdx.contrEquiv1 dot_S2x64x512x6x512_S2x64x512x128_S2x64x512x6x128_4_2_23_3_01_01 512 rfl rfl).symm k) = ridx_main_v71 i k := funext fun a => Fin.ext (by
    match a with
    | ⟨0, _⟩ => exact rhs_main_v71_0 _ _
    | ⟨1, _⟩ => exact rhs_main_v71_1 _ _
    | ⟨2, _⟩ => exact (rhs_main_v71_2 _ _).trans hk
    | ⟨3, _⟩ => exact rhs_main_v71_3 _ _)
  rw [el, er]

def val_main_v72 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6x1, .f32⟩ : BufTy).Contents (Elt F) :=
  broadcastInDim S2x64x512x6x1 ![0, 1, 2, 3] bcast_S2x64x512x6_S2x64x512x6x1_0_1_2_3 (val_main_v67 (F := F) x0 x1 x6 x7)
abbrev idx_main_v72 (i : S2x64x512x6x1.Idx) : S2x64x512x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v72_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S2x64x512x6x1.Idx) :
    val_main_v72 (F := F) x0 x1 x6 x7 i = val_main_v67 (F := F) x0 x1 x6 x7 (idx_main_v72 i) := by
  unfold val_main_v72
  generalize val_main_v67 (F := F) x0 x1 x6 x7 = y
  exact broadcastInDim_apply _ bcast_S2x64x512x6_S2x64x512x6x1_0_1_2_3 y i (idx_main_v72 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)])

def val_main_v73 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6x128, .f32⟩ : BufTy).Contents (Elt F) :=
  broadcastInDim S2x64x512x6x128 ![0, 1, 2, 3, 4] bcast_S2x64x512x6x1_S2x64x512x6x128_0_1_2_3_4 (val_main_v72 (F := F) x0 x1 x6 x7)
abbrev idx_main_v73 (i : S2x64x512x6x128.Idx) : S2x64x512x6x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v73_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S2x64x512x6x128.Idx) :
    val_main_v73 (F := F) x0 x1 x6 x7 i = val_main_v72 (F := F) x0 x1 x6 x7 (idx_main_v73 i) := by
  unfold val_main_v73
  generalize val_main_v72 (F := F) x0 x1 x6 x7 = y
  exact broadcastInDim_apply _ bcast_S2x64x512x6x1_S2x64x512x6x128_0_1_2_3_4 y i (idx_main_v73 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)]
    | ⟨4, _⟩ => by show 0 = if (1 : Nat) = 1 then 0 else (i 4).val; rw [if_pos rfl])

def val_main_v74 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (x8 : (⟨S64x512x2x128, .bf16⟩ : BufTy).Contents (Elt F)) (x9 : (⟨S64x512x2, .f32⟩ : BufTy).Contents (Elt F)) : (⟨S2x64x512x6x128, .f32⟩ : BufTy).Contents (Elt F) :=
  Host.divf (val_main_v71 (F := F) x0 x1 x6 x7 x8 x9) (val_main_v73 (F := F) x0 x1 x6 x7)
theorem val_main_v74_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (x8 : (⟨S64x512x2x128, .bf16⟩ : BufTy).Contents (Elt F)) (x9 : (⟨S64x512x2, .f32⟩ : BufTy).Contents (Elt F)) (i : S2x64x512x6x128.Idx) :
    val_main_v74 (F := F) x0 x1 x6 x7 x8 x9 i = FloatOps.hostDivf (val_main_v71 (F := F) x0 x1 x6 x7 x8 x9 i) (val_main_v73 (F := F) x0 x1 x6 x7 i) := rfl

def val_main_v75 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  shapeCast _ (val_main_v63 (F := F) x0 x1 x6 x7) shapeCasts_S2x64x512x6x1_S2x64x512x6
set_option backward.proofsInPublic true in
abbrev idx_main_v75 (i : S2x64x512x6.Idx) : S2x64x512x6x1.Idx := fun a => match a with
  | ⟨0, _⟩ => ⟨((((i 0).val * 64 + (i 1).val) * 512 + (i 2).val) * 6 + (i 3).val) / 196608, by have h0 : (i 0).val < 2 := (i 0).isLt; have h1 : (i 1).val < 64 := (i 1).isLt; have h2 : (i 2).val < 512 := (i 2).isLt; have h3 : (i 3).val < 6 := (i 3).isLt; show ((((i 0).val * 64 + (i 1).val) * 512 + (i 2).val) * 6 + (i 3).val) / 196608 < 2; omega⟩
  | ⟨1, _⟩ => ⟨((((i 0).val * 64 + (i 1).val) * 512 + (i 2).val) * 6 + (i 3).val) / 3072 % 64, by have h0 : (i 0).val < 2 := (i 0).isLt; have h1 : (i 1).val < 64 := (i 1).isLt; have h2 : (i 2).val < 512 := (i 2).isLt; have h3 : (i 3).val < 6 := (i 3).isLt; show ((((i 0).val * 64 + (i 1).val) * 512 + (i 2).val) * 6 + (i 3).val) / 3072 % 64 < 64; omega⟩
  | ⟨2, _⟩ => ⟨((((i 0).val * 64 + (i 1).val) * 512 + (i 2).val) * 6 + (i 3).val) / 6 % 512, by have h0 : (i 0).val < 2 := (i 0).isLt; have h1 : (i 1).val < 64 := (i 1).isLt; have h2 : (i 2).val < 512 := (i 2).isLt; have h3 : (i 3).val < 6 := (i 3).isLt; show ((((i 0).val * 64 + (i 1).val) * 512 + (i 2).val) * 6 + (i 3).val) / 6 % 512 < 512; omega⟩
  | ⟨3, _⟩ => ⟨((((i 0).val * 64 + (i 1).val) * 512 + (i 2).val) * 6 + (i 3).val) / 1 % 6, by have h0 : (i 0).val < 2 := (i 0).isLt; have h1 : (i 1).val < 64 := (i 1).isLt; have h2 : (i 2).val < 512 := (i 2).isLt; have h3 : (i 3).val < 6 := (i 3).isLt; show ((((i 0).val * 64 + (i 1).val) * 512 + (i 2).val) * 6 + (i 3).val) / 1 % 6 < 6; omega⟩
  | ⟨4, _⟩ => ⟨0, Nat.one_pos⟩
theorem val_main_v75_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v75 (F := F) x0 x1 x6 x7 i = val_main_v63 (F := F) x0 x1 x6 x7 (idx_main_v75 i) := by
  unfold val_main_v75
  generalize val_main_v63 (F := F) x0 x1 x6 x7 = y
  exact shapeCast_apply y shapeCasts_S2x64x512x6x1_S2x64x512x6 i (idx_main_v75 i)
    (by rewrite [Shape.rowMajor_val_five, Shape.rowMajor_val_four]; have h0 : (i 0).val < 2 := (i 0).isLt; have h1 : (i 1).val < 64 := (i 1).isLt; have h2 : (i 2).val < 512 := (i 2).isLt; have h3 : (i 3).val < 6 := (i 3).isLt; show (((((((i 0).val * 64 + (i 1).val) * 512 + (i 2).val) * 6 + (i 3).val) / 196608 * 64 + ((((i 0).val * 64 + (i 1).val) * 512 + (i 2).val) * 6 + (i 3).val) / 3072 % 64) * 512 + ((((i 0).val * 64 + (i 1).val) * 512 + (i 2).val) * 6 + (i 3).val) / 6 % 512) * 6 + ((((i 0).val * 64 + (i 1).val) * 512 + (i 2).val) * 6 + (i 3).val) / 1 % 6) * 1 + 0 = (((i 0).val * 64 + (i 1).val) * 512 + (i 2).val) * 6 + (i 3).val; omega)

def val_main_v76 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  Host.log (val_main_v67 (F := F) x0 x1 x6 x7)
theorem val_main_v76_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v76 (F := F) x0 x1 x6 x7 i = FloatOps.hostUnary .log (val_main_v67 (F := F) x0 x1 x6 x7 i) := rfl

def val_main_v77 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  addf (val_main_v75 (F := F) x0 x1 x6 x7) (val_main_v76 (F := F) x0 x1 x6 x7)
theorem val_main_v77_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v77 (F := F) x0 x1 x6 x7 i = FloatOps.addf (val_main_v75 (F := F) x0 x1 x6 x7 i) (val_main_v76 (F := F) x0 x1 x6 x7 i) := rfl

def val_main_v78 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  maximumf (val_main_v42 (F := F) x0 x1 x2 x3) (val_main_v77 (F := F) x0 x1 x6 x7)
theorem val_main_v78_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v78 (F := F) x0 x1 x2 x3 x6 x7 i = FloatOps.maximumf (val_main_v42 (F := F) x0 x1 x2 x3 i) (val_main_v77 (F := F) x0 x1 x6 x7 i) := rfl

def val_main_v79 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  subf (val_main_v42 (F := F) x0 x1 x2 x3) (val_main_v77 (F := F) x0 x1 x6 x7)
theorem val_main_v79_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v79 (F := F) x0 x1 x2 x3 x6 x7 i = FloatOps.subf (val_main_v42 (F := F) x0 x1 x2 x3 i) (val_main_v77 (F := F) x0 x1 x6 x7 i) := rfl

def val_main_v80 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .i1⟩ : BufTy).Contents (Elt F) :=
  cmpf .une (val_main_v79 (F := F) x0 x1 x2 x3 x6 x7) (val_main_v79 (F := F) x0 x1 x2 x3 x6 x7)
theorem val_main_v80_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v80 (F := F) x0 x1 x2 x3 x6 x7 i = FloatOps.cmpf .une (val_main_v79 (F := F) x0 x1 x2 x3 x6 x7 i) (val_main_v79 (F := F) x0 x1 x2 x3 x6 x7 i) := rfl

def val_main_v81 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  addf (val_main_v42 (F := F) x0 x1 x2 x3) (val_main_v77 (F := F) x0 x1 x6 x7)
theorem val_main_v81_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v81 (F := F) x0 x1 x2 x3 x6 x7 i = FloatOps.addf (val_main_v42 (F := F) x0 x1 x2 x3 i) (val_main_v77 (F := F) x0 x1 x6 x7 i) := rfl

def val_main_v82 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  Host.absf (val_main_v79 (F := F) x0 x1 x2 x3 x6 x7)
theorem val_main_v82_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v82 (F := F) x0 x1 x2 x3 x6 x7 i = FloatOps.hostAbsf (val_main_v79 (F := F) x0 x1 x2 x3 x6 x7 i) := rfl

def val_main_v83 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  Host.negf (val_main_v82 (F := F) x0 x1 x2 x3 x6 x7)
theorem val_main_v83_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v83 (F := F) x0 x1 x2 x3 x6 x7 i = FloatOps.hostNegf (val_main_v82 (F := F) x0 x1 x2 x3 x6 x7 i) := rfl

def val_main_v84 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  Host.exp (val_main_v83 (F := F) x0 x1 x2 x3 x6 x7)
theorem val_main_v84_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v84 (F := F) x0 x1 x2 x3 x6 x7 i = FloatOps.hostUnary .exp (val_main_v83 (F := F) x0 x1 x2 x3 x6 x7 i) := rfl

def val_main_v85 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  Host.log1p (val_main_v84 (F := F) x0 x1 x2 x3 x6 x7)
theorem val_main_v85_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v85 (F := F) x0 x1 x2 x3 x6 x7 i = FloatOps.hostUnary .log1p (val_main_v84 (F := F) x0 x1 x2 x3 x6 x7 i) := rfl

def val_main_v86 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  addf (val_main_v78 (F := F) x0 x1 x2 x3 x6 x7) (val_main_v85 (F := F) x0 x1 x2 x3 x6 x7)
theorem val_main_v86_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v86 (F := F) x0 x1 x2 x3 x6 x7 i = FloatOps.addf (val_main_v78 (F := F) x0 x1 x2 x3 x6 x7 i) (val_main_v85 (F := F) x0 x1 x2 x3 x6 x7 i) := rfl

def val_main_v87 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  select (val_main_v80 (F := F) x0 x1 x2 x3 x6 x7) (val_main_v81 (F := F) x0 x1 x2 x3 x6 x7) (val_main_v86 (F := F) x0 x1 x2 x3 x6 x7)
theorem val_main_v87_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v87 (F := F) x0 x1 x2 x3 x6 x7 i = Scalar.select (val_main_v80 (F := F) x0 x1 x2 x3 x6 x7 i) (val_main_v81 (F := F) x0 x1 x2 x3 x6 x7 i) (val_main_v86 (F := F) x0 x1 x2 x3 x6 x7 i) := rfl

def val_main_v88 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  subf (val_main_v42 (F := F) x0 x1 x2 x3) (val_main_v87 (F := F) x0 x1 x2 x3 x6 x7)
theorem val_main_v88_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v88 (F := F) x0 x1 x2 x3 x6 x7 i = FloatOps.subf (val_main_v42 (F := F) x0 x1 x2 x3 i) (val_main_v87 (F := F) x0 x1 x2 x3 x6 x7 i) := rfl

def val_main_v89 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  Host.exp (val_main_v88 (F := F) x0 x1 x2 x3 x6 x7)
theorem val_main_v89_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v89 (F := F) x0 x1 x2 x3 x6 x7 i = FloatOps.hostUnary .exp (val_main_v88 (F := F) x0 x1 x2 x3 x6 x7 i) := rfl

def val_main_v90 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6x1, .f32⟩ : BufTy).Contents (Elt F) :=
  broadcastInDim S2x64x512x6x1 ![0, 1, 2, 3] bcast_S2x64x512x6_S2x64x512x6x1_0_1_2_3 (val_main_v89 (F := F) x0 x1 x2 x3 x6 x7)
abbrev idx_main_v90 (i : S2x64x512x6x1.Idx) : S2x64x512x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v90_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6x1.Idx) :
    val_main_v90 (F := F) x0 x1 x2 x3 x6 x7 i = val_main_v89 (F := F) x0 x1 x2 x3 x6 x7 (idx_main_v90 i) := by
  unfold val_main_v90
  generalize val_main_v89 (F := F) x0 x1 x2 x3 x6 x7 = y
  exact broadcastInDim_apply _ bcast_S2x64x512x6_S2x64x512x6x1_0_1_2_3 y i (idx_main_v90 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)])

def val_main_v91 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6x128, .f32⟩ : BufTy).Contents (Elt F) :=
  broadcastInDim S2x64x512x6x128 ![0, 1, 2, 3, 4] bcast_S2x64x512x6x1_S2x64x512x6x128_0_1_2_3_4 (val_main_v90 (F := F) x0 x1 x2 x3 x6 x7)
abbrev idx_main_v91 (i : S2x64x512x6x128.Idx) : S2x64x512x6x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v91_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6x128.Idx) :
    val_main_v91 (F := F) x0 x1 x2 x3 x6 x7 i = val_main_v90 (F := F) x0 x1 x2 x3 x6 x7 (idx_main_v91 i) := by
  unfold val_main_v91
  generalize val_main_v90 (F := F) x0 x1 x2 x3 x6 x7 = y
  exact broadcastInDim_apply _ bcast_S2x64x512x6x1_S2x64x512x6x128_0_1_2_3_4 y i (idx_main_v91 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)]
    | ⟨4, _⟩ => by show 0 = if (1 : Nat) = 1 then 0 else (i 4).val; rw [if_pos rfl])

def val_main_v92 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x4 : (⟨S2048x2x128, .bf16⟩ : BufTy).Contents (Elt F)) (x5 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6x128, .f32⟩ : BufTy).Contents (Elt F) :=
  mulf (val_main_v91 (F := F) x0 x1 x2 x3 x6 x7) (val_main_v39 (F := F) x0 x1 x2 x3 x4 x5)
theorem val_main_v92_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x4 : (⟨S2048x2x128, .bf16⟩ : BufTy).Contents (Elt F)) (x5 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6x128.Idx) :
    val_main_v92 (F := F) x0 x1 x2 x3 x4 x5 x6 x7 i = FloatOps.mulf (val_main_v91 (F := F) x0 x1 x2 x3 x6 x7 i) (val_main_v39 (F := F) x0 x1 x2 x3 x4 x5 i) := rfl

def val_main_v93 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  subf (val_main_v77 (F := F) x0 x1 x6 x7) (val_main_v87 (F := F) x0 x1 x2 x3 x6 x7)
theorem val_main_v93_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v93 (F := F) x0 x1 x2 x3 x6 x7 i = FloatOps.subf (val_main_v77 (F := F) x0 x1 x6 x7 i) (val_main_v87 (F := F) x0 x1 x2 x3 x6 x7 i) := rfl

def val_main_v94 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6, .f32⟩ : BufTy).Contents (Elt F) :=
  Host.exp (val_main_v93 (F := F) x0 x1 x2 x3 x6 x7)
theorem val_main_v94_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6.Idx) :
    val_main_v94 (F := F) x0 x1 x2 x3 x6 x7 i = FloatOps.hostUnary .exp (val_main_v93 (F := F) x0 x1 x2 x3 x6 x7 i) := rfl

def val_main_v95 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6x1, .f32⟩ : BufTy).Contents (Elt F) :=
  broadcastInDim S2x64x512x6x1 ![0, 1, 2, 3] bcast_S2x64x512x6_S2x64x512x6x1_0_1_2_3 (val_main_v94 (F := F) x0 x1 x2 x3 x6 x7)
abbrev idx_main_v95 (i : S2x64x512x6x1.Idx) : S2x64x512x6.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v95_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6x1.Idx) :
    val_main_v95 (F := F) x0 x1 x2 x3 x6 x7 i = val_main_v94 (F := F) x0 x1 x2 x3 x6 x7 (idx_main_v95 i) := by
  unfold val_main_v95
  generalize val_main_v94 (F := F) x0 x1 x2 x3 x6 x7 = y
  exact broadcastInDim_apply _ bcast_S2x64x512x6_S2x64x512x6x1_0_1_2_3 y i (idx_main_v95 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)])

def val_main_v96 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) : (⟨S2x64x512x6x128, .f32⟩ : BufTy).Contents (Elt F) :=
  broadcastInDim S2x64x512x6x128 ![0, 1, 2, 3, 4] bcast_S2x64x512x6x1_S2x64x512x6x128_0_1_2_3_4 (val_main_v95 (F := F) x0 x1 x2 x3 x6 x7)
abbrev idx_main_v96 (i : S2x64x512x6x128.Idx) : S2x64x512x6x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v96_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (i : S2x64x512x6x128.Idx) :
    val_main_v96 (F := F) x0 x1 x2 x3 x6 x7 i = val_main_v95 (F := F) x0 x1 x2 x3 x6 x7 (idx_main_v96 i) := by
  unfold val_main_v96
  generalize val_main_v95 (F := F) x0 x1 x2 x3 x6 x7 = y
  exact broadcastInDim_apply _ bcast_S2x64x512x6x1_S2x64x512x6x128_0_1_2_3_4 y i (idx_main_v96 i) (fun a => match a with
    | ⟨0, _⟩ => by show (i 0).val = if (2 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (6 : Nat) = 1 then 0 else (i 3).val; rw [if_neg (by decide)]
    | ⟨4, _⟩ => by show 0 = if (1 : Nat) = 1 then 0 else (i 4).val; rw [if_pos rfl])

def val_main_v97 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (x8 : (⟨S64x512x2x128, .bf16⟩ : BufTy).Contents (Elt F)) (x9 : (⟨S64x512x2, .f32⟩ : BufTy).Contents (Elt F)) : (⟨S2x64x512x6x128, .f32⟩ : BufTy).Contents (Elt F) :=
  mulf (val_main_v96 (F := F) x0 x1 x2 x3 x6 x7) (val_main_v74 (F := F) x0 x1 x6 x7 x8 x9)
theorem val_main_v97_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x6 : (⟨S64x512x2x128, .f32⟩ : BufTy).Contents (Elt F)) (x7 : (⟨S64x512x2, .f32⟩ : BufTy).Contents (Elt F)) (x8 : (⟨S64x512x2x128, .bf16⟩ : BufTy).Contents (Elt F)) (x9 : (⟨S64x512x2, .f32⟩ : BufTy).Contents (Elt F)) (i : S2x64x512x6x128.Idx) :
    val_main_v97 (F := F) x0 x1 x2 x3 x6 x7 x8 x9 i = FloatOps.mulf (val_main_v96 (F := F) x0 x1 x2 x3 x6 x7 i) (val_main_v74 (F := F) x0 x1 x6 x7 x8 x9 i) := rfl

def val_main_v98 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x4 : (⟨S2048x2x128, .bf16⟩ : BufTy).Contents (Elt F)) (x5 : (⟨S2048x2, .f32⟩ : BufTy).Contents (Elt F)) (x6 : (⟨S64x512x2x128, .f32⟩ : BufTy).Contents (Elt F)) (x7 : (⟨S64x512x2, .f32⟩ : BufTy).Contents (Elt F)) (x8 : (⟨S64x512x2x128, .bf16⟩ : BufTy).Contents (Elt F)) (x9 : (⟨S64x512x2, .f32⟩ : BufTy).Contents (Elt F)) : (⟨S2x64x512x6x128, .f32⟩ : BufTy).Contents (Elt F) :=
  addf (val_main_v92 (F := F) x0 x1 x2 x3 x4 x5 x6 x7) (val_main_v97 (F := F) x0 x1 x2 x3 x6 x7 x8 x9)
theorem val_main_v98_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x4 : (⟨S2048x2x128, .bf16⟩ : BufTy).Contents (Elt F)) (x5 : (⟨S2048x2, .f32⟩ : BufTy).Contents (Elt F)) (x6 : (⟨S64x512x2x128, .f32⟩ : BufTy).Contents (Elt F)) (x7 : (⟨S64x512x2, .f32⟩ : BufTy).Contents (Elt F)) (x8 : (⟨S64x512x2x128, .bf16⟩ : BufTy).Contents (Elt F)) (x9 : (⟨S64x512x2, .f32⟩ : BufTy).Contents (Elt F)) (i : S2x64x512x6x128.Idx) :
    val_main_v98 (F := F) x0 x1 x2 x3 x4 x5 x6 x7 x8 x9 i = FloatOps.addf (val_main_v92 (F := F) x0 x1 x2 x3 x4 x5 x6 x7 i) (val_main_v97 (F := F) x0 x1 x2 x3 x6 x7 x8 x9 i) := rfl

def val_main_v99 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x4 : (⟨S2048x2x128, .bf16⟩ : BufTy).Contents (Elt F)) (x5 : (⟨S2048x2, .f32⟩ : BufTy).Contents (Elt F)) (x6 : (⟨S64x512x2x128, .f32⟩ : BufTy).Contents (Elt F)) (x7 : (⟨S64x512x2, .f32⟩ : BufTy).Contents (Elt F)) (x8 : (⟨S64x512x2x128, .bf16⟩ : BufTy).Contents (Elt F)) (x9 : (⟨S64x512x2, .f32⟩ : BufTy).Contents (Elt F)) : (⟨S2x64x512x6x128, .bf16⟩ : BufTy).Contents (Elt F) :=
  truncf .bf16 (val_main_v98 (F := F) x0 x1 x2 x3 x4 x5 x6 x7 x8 x9) bitsLt_bf16_f32
theorem val_main_v99_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x4 : (⟨S2048x2x128, .bf16⟩ : BufTy).Contents (Elt F)) (x5 : (⟨S2048x2, .f32⟩ : BufTy).Contents (Elt F)) (x6 : (⟨S64x512x2x128, .f32⟩ : BufTy).Contents (Elt F)) (x7 : (⟨S64x512x2, .f32⟩ : BufTy).Contents (Elt F)) (x8 : (⟨S64x512x2x128, .bf16⟩ : BufTy).Contents (Elt F)) (x9 : (⟨S64x512x2, .f32⟩ : BufTy).Contents (Elt F)) (i : S2x64x512x6x128.Idx) :
    val_main_v99 (F := F) x0 x1 x2 x3 x4 x5 x6 x7 x8 x9 i = FloatOps.truncf .bf16 bitsLt_bf16_f32 (val_main_v98 (F := F) x0 x1 x2 x3 x4 x5 x6 x7 x8 x9 i) := rfl

def val_main_v100 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x4 : (⟨S2048x2x128, .bf16⟩ : BufTy).Contents (Elt F)) (x5 : (⟨S2048x2, .f32⟩ : BufTy).Contents (Elt F)) (x6 : (⟨S64x512x2x128, .f32⟩ : BufTy).Contents (Elt F)) (x7 : (⟨S64x512x2, .f32⟩ : BufTy).Contents (Elt F)) (x8 : (⟨S64x512x2x128, .bf16⟩ : BufTy).Contents (Elt F)) (x9 : (⟨S64x512x2, .f32⟩ : BufTy).Contents (Elt F)) : (⟨S64x512x2x6x128, .bf16⟩ : BufTy).Contents (Elt F) :=
  transpose S64x512x2x6x128 [1, 2, 0, 3, 4] (val_main_v99 (F := F) x0 x1 x2 x3 x4 x5 x6 x7 x8 x9) transposes_S2x64x512x6x128_S64x512x2x6x128_1_2_0_3_4
abbrev idx_main_v100 (i : S64x512x2x6x128.Idx) : S2x64x512x6x128.Idx := fun a => match a with
  | ⟨0, _⟩ => ⟨(i 2).val, (i 2).isLt⟩
  | ⟨1, _⟩ => ⟨(i 0).val, (i 0).isLt⟩
  | ⟨2, _⟩ => ⟨(i 1).val, (i 1).isLt⟩
  | ⟨3, _⟩ => ⟨(i 3).val, (i 3).isLt⟩
  | ⟨4, _⟩ => ⟨(i 4).val, (i 4).isLt⟩
theorem val_main_v100_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x4 : (⟨S2048x2x128, .bf16⟩ : BufTy).Contents (Elt F)) (x5 : (⟨S2048x2, .f32⟩ : BufTy).Contents (Elt F)) (x6 : (⟨S64x512x2x128, .f32⟩ : BufTy).Contents (Elt F)) (x7 : (⟨S64x512x2, .f32⟩ : BufTy).Contents (Elt F)) (x8 : (⟨S64x512x2x128, .bf16⟩ : BufTy).Contents (Elt F)) (x9 : (⟨S64x512x2, .f32⟩ : BufTy).Contents (Elt F)) (i : S64x512x2x6x128.Idx) :
    val_main_v100 (F := F) x0 x1 x2 x3 x4 x5 x6 x7 x8 x9 i = val_main_v99 (F := F) x0 x1 x2 x3 x4 x5 x6 x7 x8 x9 (idx_main_v100 i) := by
  unfold val_main_v100
  generalize val_main_v99 (F := F) x0 x1 x2 x3 x4 x5 x6 x7 x8 x9 = y
  exact transpose_apply [1, 2, 0, 3, 4] y transposes_S2x64x512x6x128_S64x512x2x6x128_1_2_0_3_4 i (idx_main_v100 i) (fun b => match b with
    | ⟨0, _⟩ => rfl
    | ⟨1, _⟩ => rfl
    | ⟨2, _⟩ => rfl
    | ⟨3, _⟩ => rfl
    | ⟨4, _⟩ => rfl)

def val_main_v101 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x4 : (⟨S2048x2x128, .bf16⟩ : BufTy).Contents (Elt F)) (x5 : (⟨S2048x2, .f32⟩ : BufTy).Contents (Elt F)) (x6 : (⟨S64x512x2x128, .f32⟩ : BufTy).Contents (Elt F)) (x7 : (⟨S64x512x2, .f32⟩ : BufTy).Contents (Elt F)) (x8 : (⟨S64x512x2x128, .bf16⟩ : BufTy).Contents (Elt F)) (x9 : (⟨S64x512x2, .f32⟩ : BufTy).Contents (Elt F)) : (⟨S64x512x1536, .bf16⟩ : BufTy).Contents (Elt F) :=
  shapeCast _ (val_main_v100 (F := F) x0 x1 x2 x3 x4 x5 x6 x7 x8 x9) shapeCasts_S64x512x2x6x128_S64x512x1536
set_option backward.proofsInPublic true in
abbrev idx_main_v101 (i : S64x512x1536.Idx) : S64x512x2x6x128.Idx := fun a => match a with
  | ⟨0, _⟩ => ⟨(((i 0).val * 512 + (i 1).val) * 1536 + (i 2).val) / 786432, by have h0 : (i 0).val < 64 := (i 0).isLt; have h1 : (i 1).val < 512 := (i 1).isLt; have h2 : (i 2).val < 1536 := (i 2).isLt; show (((i 0).val * 512 + (i 1).val) * 1536 + (i 2).val) / 786432 < 64; omega⟩
  | ⟨1, _⟩ => ⟨(((i 0).val * 512 + (i 1).val) * 1536 + (i 2).val) / 1536 % 512, by have h0 : (i 0).val < 64 := (i 0).isLt; have h1 : (i 1).val < 512 := (i 1).isLt; have h2 : (i 2).val < 1536 := (i 2).isLt; show (((i 0).val * 512 + (i 1).val) * 1536 + (i 2).val) / 1536 % 512 < 512; omega⟩
  | ⟨2, _⟩ => ⟨(((i 0).val * 512 + (i 1).val) * 1536 + (i 2).val) / 768 % 2, by have h0 : (i 0).val < 64 := (i 0).isLt; have h1 : (i 1).val < 512 := (i 1).isLt; have h2 : (i 2).val < 1536 := (i 2).isLt; show (((i 0).val * 512 + (i 1).val) * 1536 + (i 2).val) / 768 % 2 < 2; omega⟩
  | ⟨3, _⟩ => ⟨(((i 0).val * 512 + (i 1).val) * 1536 + (i 2).val) / 128 % 6, by have h0 : (i 0).val < 64 := (i 0).isLt; have h1 : (i 1).val < 512 := (i 1).isLt; have h2 : (i 2).val < 1536 := (i 2).isLt; show (((i 0).val * 512 + (i 1).val) * 1536 + (i 2).val) / 128 % 6 < 6; omega⟩
  | ⟨4, _⟩ => ⟨(((i 0).val * 512 + (i 1).val) * 1536 + (i 2).val) % 128, by have h0 : (i 0).val < 64 := (i 0).isLt; have h1 : (i 1).val < 512 := (i 1).isLt; have h2 : (i 2).val < 1536 := (i 2).isLt; show (((i 0).val * 512 + (i 1).val) * 1536 + (i 2).val) % 128 < 128; omega⟩
theorem val_main_v101_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (x4 : (⟨S2048x2x128, .bf16⟩ : BufTy).Contents (Elt F)) (x5 : (⟨S2048x2, .f32⟩ : BufTy).Contents (Elt F)) (x6 : (⟨S64x512x2x128, .f32⟩ : BufTy).Contents (Elt F)) (x7 : (⟨S64x512x2, .f32⟩ : BufTy).Contents (Elt F)) (x8 : (⟨S64x512x2x128, .bf16⟩ : BufTy).Contents (Elt F)) (x9 : (⟨S64x512x2, .f32⟩ : BufTy).Contents (Elt F)) (i : S64x512x1536.Idx) :
    val_main_v101 (F := F) x0 x1 x2 x3 x4 x5 x6 x7 x8 x9 i = val_main_v100 (F := F) x0 x1 x2 x3 x4 x5 x6 x7 x8 x9 (idx_main_v101 i) := by
  unfold val_main_v101
  generalize val_main_v100 (F := F) x0 x1 x2 x3 x4 x5 x6 x7 x8 x9 = y
  exact shapeCast_apply y shapeCasts_S64x512x2x6x128_S64x512x1536 i (idx_main_v101 i)
    (by rewrite [Shape.rowMajor_val_five, Shape.rowMajor_val_three]; have h0 : (i 0).val < 64 := (i 0).isLt; have h1 : (i 1).val < 512 := (i 1).isLt; have h2 : (i 2).val < 1536 := (i 2).isLt; show ((((((i 0).val * 512 + (i 1).val) * 1536 + (i 2).val) / 786432 * 512 + (((i 0).val * 512 + (i 1).val) * 1536 + (i 2).val) / 1536 % 512) * 2 + (((i 0).val * 512 + (i 1).val) * 1536 + (i 2).val) / 768 % 2) * 6 + (((i 0).val * 512 + (i 1).val) * 1536 + (i 2).val) / 128 % 6) * 128 + (((i 0).val * 512 + (i 1).val) * 1536 + (i 2).val) % 128 = ((i 0).val * 512 + (i 1).val) * 1536 + (i 2).val; omega)

def val_main_v102 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S64x512x2x6, .f32⟩ : BufTy).Contents (Elt F) :=
  transpose S64x512x2x6 [1, 2, 0, 3] (val_main_v42 (F := F) x0 x1 x2 x3) transposes_S2x64x512x6_S64x512x2x6_1_2_0_3
abbrev idx_main_v102 (i : S64x512x2x6.Idx) : S2x64x512x6.Idx := fun a => match a with
  | ⟨0, _⟩ => ⟨(i 2).val, (i 2).isLt⟩
  | ⟨1, _⟩ => ⟨(i 0).val, (i 0).isLt⟩
  | ⟨2, _⟩ => ⟨(i 1).val, (i 1).isLt⟩
  | ⟨3, _⟩ => ⟨(i 3).val, (i 3).isLt⟩
theorem val_main_v102_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S64x512x2x6.Idx) :
    val_main_v102 (F := F) x0 x1 x2 x3 i = val_main_v42 (F := F) x0 x1 x2 x3 (idx_main_v102 i) := by
  unfold val_main_v102
  generalize val_main_v42 (F := F) x0 x1 x2 x3 = y
  exact transpose_apply [1, 2, 0, 3] y transposes_S2x64x512x6_S64x512x2x6_1_2_0_3 i (idx_main_v102 i) (fun b => match b with
    | ⟨0, _⟩ => rfl
    | ⟨1, _⟩ => rfl
    | ⟨2, _⟩ => rfl
    | ⟨3, _⟩ => rfl)

def val_main_v103 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S64x512x12, .f32⟩ : BufTy).Contents (Elt F) :=
  shapeCast _ (val_main_v102 (F := F) x0 x1 x2 x3) shapeCasts_S64x512x2x6_S64x512x12
set_option backward.proofsInPublic true in
abbrev idx_main_v103 (i : S64x512x12.Idx) : S64x512x2x6.Idx := fun a => match a with
  | ⟨0, _⟩ => ⟨(((i 0).val * 512 + (i 1).val) * 12 + (i 2).val) / 6144, by have h0 : (i 0).val < 64 := (i 0).isLt; have h1 : (i 1).val < 512 := (i 1).isLt; have h2 : (i 2).val < 12 := (i 2).isLt; show (((i 0).val * 512 + (i 1).val) * 12 + (i 2).val) / 6144 < 64; omega⟩
  | ⟨1, _⟩ => ⟨(((i 0).val * 512 + (i 1).val) * 12 + (i 2).val) / 12 % 512, by have h0 : (i 0).val < 64 := (i 0).isLt; have h1 : (i 1).val < 512 := (i 1).isLt; have h2 : (i 2).val < 12 := (i 2).isLt; show (((i 0).val * 512 + (i 1).val) * 12 + (i 2).val) / 12 % 512 < 512; omega⟩
  | ⟨2, _⟩ => ⟨(((i 0).val * 512 + (i 1).val) * 12 + (i 2).val) / 6 % 2, by have h0 : (i 0).val < 64 := (i 0).isLt; have h1 : (i 1).val < 512 := (i 1).isLt; have h2 : (i 2).val < 12 := (i 2).isLt; show (((i 0).val * 512 + (i 1).val) * 12 + (i 2).val) / 6 % 2 < 2; omega⟩
  | ⟨3, _⟩ => ⟨(((i 0).val * 512 + (i 1).val) * 12 + (i 2).val) % 6, by have h0 : (i 0).val < 64 := (i 0).isLt; have h1 : (i 1).val < 512 := (i 1).isLt; have h2 : (i 2).val < 12 := (i 2).isLt; show (((i 0).val * 512 + (i 1).val) * 12 + (i 2).val) % 6 < 6; omega⟩
theorem val_main_v103_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S64x512x12.Idx) :
    val_main_v103 (F := F) x0 x1 x2 x3 i = val_main_v102 (F := F) x0 x1 x2 x3 (idx_main_v103 i) := by
  unfold val_main_v103
  generalize val_main_v102 (F := F) x0 x1 x2 x3 = y
  exact shapeCast_apply y shapeCasts_S64x512x2x6_S64x512x12 i (idx_main_v103 i)
    (by rewrite [Shape.rowMajor_val_four, Shape.rowMajor_val_three]; have h0 : (i 0).val < 64 := (i 0).isLt; have h1 : (i 1).val < 512 := (i 1).isLt; have h2 : (i 2).val < 12 := (i 2).isLt; show (((((i 0).val * 512 + (i 1).val) * 12 + (i 2).val) / 6144 * 512 + (((i 0).val * 512 + (i 1).val) * 12 + (i 2).val) / 12 % 512) * 2 + (((i 0).val * 512 + (i 1).val) * 12 + (i 2).val) / 6 % 2) * 6 + (((i 0).val * 512 + (i 1).val) * 12 + (i 2).val) % 6 = ((i 0).val * 512 + (i 1).val) * 12 + (i 2).val; omega)

def val_main_v104 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S64x512x2x6, .f32⟩ : BufTy).Contents (Elt F) :=
  transpose S64x512x2x6 [1, 2, 0, 3] (val_main_v77 (F := F) x0 x1 x6 x7) transposes_S2x64x512x6_S64x512x2x6_1_2_0_3
abbrev idx_main_v104 (i : S64x512x2x6.Idx) : S2x64x512x6.Idx := fun a => match a with
  | ⟨0, _⟩ => ⟨(i 2).val, (i 2).isLt⟩
  | ⟨1, _⟩ => ⟨(i 0).val, (i 0).isLt⟩
  | ⟨2, _⟩ => ⟨(i 1).val, (i 1).isLt⟩
  | ⟨3, _⟩ => ⟨(i 3).val, (i 3).isLt⟩
theorem val_main_v104_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S64x512x2x6.Idx) :
    val_main_v104 (F := F) x0 x1 x6 x7 i = val_main_v77 (F := F) x0 x1 x6 x7 (idx_main_v104 i) := by
  unfold val_main_v104
  generalize val_main_v77 (F := F) x0 x1 x6 x7 = y
  exact transpose_apply [1, 2, 0, 3] y transposes_S2x64x512x6_S64x512x2x6_1_2_0_3 i (idx_main_v104 i) (fun b => match b with
    | ⟨0, _⟩ => rfl
    | ⟨1, _⟩ => rfl
    | ⟨2, _⟩ => rfl
    | ⟨3, _⟩ => rfl)

def val_main_v105 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S64x512x12, .f32⟩ : BufTy).Contents (Elt F) :=
  shapeCast _ (val_main_v104 (F := F) x0 x1 x6 x7) shapeCasts_S64x512x2x6_S64x512x12
set_option backward.proofsInPublic true in
abbrev idx_main_v105 (i : S64x512x12.Idx) : S64x512x2x6.Idx := fun a => match a with
  | ⟨0, _⟩ => ⟨(((i 0).val * 512 + (i 1).val) * 12 + (i 2).val) / 6144, by have h0 : (i 0).val < 64 := (i 0).isLt; have h1 : (i 1).val < 512 := (i 1).isLt; have h2 : (i 2).val < 12 := (i 2).isLt; show (((i 0).val * 512 + (i 1).val) * 12 + (i 2).val) / 6144 < 64; omega⟩
  | ⟨1, _⟩ => ⟨(((i 0).val * 512 + (i 1).val) * 12 + (i 2).val) / 12 % 512, by have h0 : (i 0).val < 64 := (i 0).isLt; have h1 : (i 1).val < 512 := (i 1).isLt; have h2 : (i 2).val < 12 := (i 2).isLt; show (((i 0).val * 512 + (i 1).val) * 12 + (i 2).val) / 12 % 512 < 512; omega⟩
  | ⟨2, _⟩ => ⟨(((i 0).val * 512 + (i 1).val) * 12 + (i 2).val) / 6 % 2, by have h0 : (i 0).val < 64 := (i 0).isLt; have h1 : (i 1).val < 512 := (i 1).isLt; have h2 : (i 2).val < 12 := (i 2).isLt; show (((i 0).val * 512 + (i 1).val) * 12 + (i 2).val) / 6 % 2 < 2; omega⟩
  | ⟨3, _⟩ => ⟨(((i 0).val * 512 + (i 1).val) * 12 + (i 2).val) % 6, by have h0 : (i 0).val < 64 := (i 0).isLt; have h1 : (i 1).val < 512 := (i 1).isLt; have h2 : (i 2).val < 12 := (i 2).isLt; show (((i 0).val * 512 + (i 1).val) * 12 + (i 2).val) % 6 < 6; omega⟩
theorem val_main_v105_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S64x512x12.Idx) :
    val_main_v105 (F := F) x0 x1 x6 x7 i = val_main_v104 (F := F) x0 x1 x6 x7 (idx_main_v105 i) := by
  unfold val_main_v105
  generalize val_main_v104 (F := F) x0 x1 x6 x7 = y
  exact shapeCast_apply y shapeCasts_S64x512x2x6_S64x512x12 i (idx_main_v105 i)
    (by rewrite [Shape.rowMajor_val_four, Shape.rowMajor_val_three]; have h0 : (i 0).val < 64 := (i 0).isLt; have h1 : (i 1).val < 512 := (i 1).isLt; have h2 : (i 2).val < 12 := (i 2).isLt; show (((((i 0).val * 512 + (i 1).val) * 12 + (i 2).val) / 6144 * 512 + (((i 0).val * 512 + (i 1).val) * 12 + (i 2).val) / 12 % 512) * 2 + (((i 0).val * 512 + (i 1).val) * 12 + (i 2).val) / 6 % 2) * 6 + (((i 0).val * 512 + (i 1).val) * 12 + (i 2).val) % 6 = ((i 0).val * 512 + (i 1).val) * 12 + (i 2).val; omega)

def val_main_cst_6 : (⟨S_, .f32⟩ : BufTy).Contents (Elt F) :=
  constant S_ .f32 0x45000000#32
theorem val_main_cst_6_apply (i : S_.Idx) :
    val_main_cst_6 (F := F) i = FloatOps.ofBits .f32 0x45000000#32 := rfl

def val_main_v106 : (⟨S_, .f32⟩ : BufTy).Contents (Elt F) :=
  Host.log (val_main_cst_6 (F := F))
theorem val_main_v106_apply (i : S_.Idx) :
    val_main_v106 (F := F) i = FloatOps.hostUnary .log (val_main_cst_6 (F := F) i) := rfl

def val_main_v107 : (⟨S64x512x12, .f32⟩ : BufTy).Contents (Elt F) :=
  broadcastInDim S64x512x12 ![] bcast_S_S64x512x12 (val_main_v106 (F := F))
abbrev idx_main_v107 (i : S64x512x12.Idx) : S_.Idx := fun a => a.elim0
theorem val_main_v107_apply (i : S64x512x12.Idx) :
    val_main_v107 (F := F) i = val_main_v106 (F := F) (idx_main_v107 i) := by
  unfold val_main_v107
  generalize val_main_v106 (F := F) = y
  exact broadcastInDim_apply _ bcast_S_S64x512x12 y i (idx_main_v107 i) (fun a => a.elim0)

def val_main_v108 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S64x512x12, .f32⟩ : BufTy).Contents (Elt F) :=
  subf (val_main_v103 (F := F) x0 x1 x2 x3) (val_main_v107 (F := F))
theorem val_main_v108_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S64x512x12.Idx) :
    val_main_v108 (F := F) x0 x1 x2 x3 i = FloatOps.subf (val_main_v103 (F := F) x0 x1 x2 x3 i) (val_main_v107 (F := F) i) := rfl

def val_main_v109 : (⟨S512, .f32⟩ : BufTy).Contents (Elt F) :=
  sitofp .f32 (iotaInDim S512 32 0)

def val_main_cst_7 : (⟨S_, .f32⟩ : BufTy).Contents (Elt F) :=
  constant S_ .f32 0x3F800000#32
theorem val_main_cst_7_apply (i : S_.Idx) :
    val_main_cst_7 (F := F) i = FloatOps.ofBits .f32 0x3F800000#32 := rfl

def val_main_v110 : (⟨S512, .f32⟩ : BufTy).Contents (Elt F) :=
  broadcastInDim S512 ![] bcast_S_S512 (val_main_cst_7 (F := F))
abbrev idx_main_v110 (i : S512.Idx) : S_.Idx := fun a => a.elim0
theorem val_main_v110_apply (i : S512.Idx) :
    val_main_v110 (F := F) i = val_main_cst_7 (F := F) (idx_main_v110 i) := by
  unfold val_main_v110
  generalize val_main_cst_7 (F := F) = y
  exact broadcastInDim_apply _ bcast_S_S512 y i (idx_main_v110 i) (fun a => a.elim0)

def val_main_v111 : (⟨S512, .f32⟩ : BufTy).Contents (Elt F) :=
  addf (val_main_v110 (F := F)) (val_main_v109 (F := F))
theorem val_main_v111_apply (i : S512.Idx) :
    val_main_v111 (F := F) i = FloatOps.addf (val_main_v110 (F := F) i) (val_main_v109 (F := F) i) := rfl

def val_main_v112 : (⟨S512, .f32⟩ : BufTy).Contents (Elt F) :=
  Host.log (val_main_v111 (F := F))
theorem val_main_v112_apply (i : S512.Idx) :
    val_main_v112 (F := F) i = FloatOps.hostUnary .log (val_main_v111 (F := F) i) := rfl

def val_main_v113 : (⟨S1x512x1, .f32⟩ : BufTy).Contents (Elt F) :=
  broadcastInDim S1x512x1 ![1] bcast_S512_S1x512x1_1 (val_main_v112 (F := F))
abbrev idx_main_v113 (i : S1x512x1.Idx) : S512.Idx := fun a => match a with
  | ⟨0, _⟩ => ⟨(i 1).val, (i 1).isLt⟩
theorem val_main_v113_apply (i : S1x512x1.Idx) :
    val_main_v113 (F := F) i = val_main_v112 (F := F) (idx_main_v113 i) := by
  unfold val_main_v113
  generalize val_main_v112 (F := F) = y
  exact broadcastInDim_apply _ bcast_S512_S1x512x1_1 y i (idx_main_v113 i) (fun a => match a with
    | ⟨0, _⟩ => by show (i 1).val = if (512 : Nat) = 1 then 0 else (i 1).val; rw [if_neg (by decide)])

def val_main_v114 : (⟨S64x512x12, .f32⟩ : BufTy).Contents (Elt F) :=
  broadcastInDim S64x512x12 ![0, 1, 2] bcast_S1x512x1_S64x512x12_0_1_2 (val_main_v113 (F := F))
abbrev idx_main_v114 (i : S64x512x12.Idx) : S1x512x1.Idx := fun a => match a with
  | ⟨0, _⟩ => ⟨0, Nat.one_pos⟩
  | ⟨1, _⟩ => ⟨(i 1).val, (i 1).isLt⟩
  | ⟨2, _⟩ => ⟨0, Nat.one_pos⟩
theorem val_main_v114_apply (i : S64x512x12.Idx) :
    val_main_v114 (F := F) i = val_main_v113 (F := F) (idx_main_v114 i) := by
  unfold val_main_v114
  generalize val_main_v113 (F := F) = y
  exact broadcastInDim_apply _ bcast_S1x512x1_S64x512x12_0_1_2 y i (idx_main_v114 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)]
    | ⟨2, _⟩ => by show 0 = if (1 : Nat) = 1 then 0 else (i 2).val; rw [if_pos rfl])

def val_main_v115 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S64x512x12, .f32⟩ : BufTy).Contents (Elt F) :=
  subf (val_main_v105 (F := F) x0 x1 x6 x7) (val_main_v114 (F := F))
theorem val_main_v115_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S64x512x12.Idx) :
    val_main_v115 (F := F) x0 x1 x6 x7 i = FloatOps.subf (val_main_v105 (F := F) x0 x1 x6 x7 i) (val_main_v114 (F := F) i) := rfl

def val_main_v116 (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) : (⟨S64x12x512, .f32⟩ : BufTy).Contents (Elt F) :=
  transpose S64x12x512 [0, 2, 1] (val_main_v108 (F := F) x0 x1 x2 x3) transposes_S64x512x12_S64x12x512_0_2_1
abbrev idx_main_v116 (i : S64x12x512.Idx) : S64x512x12.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v116_apply (x0 : (⟨S64x512x12x128, .f32⟩ : BufTy).Contents (Elt F)) (x1 : (⟨S64x512x12, .f32⟩ : BufTy).Contents (Elt F)) (x2 : (⟨S2048x2x128, .f32⟩ : BufTy).Contents (Elt F)) (x3 : (⟨S2048x2, .f32⟩ : BufTy).Contents (Elt F)) (i : S64x12x512.Idx) :
    val_main_v116 (F := F) x0 x1 x2 x3 i = val_main_v108 (F := F) x0 x1 x2 x3 (idx_main_v116 i) := by
  unfold val_main_v116
  generalize val_main_v108 (F := F) x0 x1 x2 x3 = y
  exact transpose_apply [0, 2, 1] y transposes_S64x512x12_S64x12x512_0_2_1 i (idx_main_v116 i) (fun b => match b with
    | ⟨0, _⟩ => rfl
    | ⟨1, _⟩ => rfl
    | ⟨2, _⟩ => rfl)

def val_main_v117 (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) : (⟨S64x12x512, .f32⟩ : BufTy).Contents (Elt F) :=
  transpose S64x12x512 [0, 2, 1] (val_main_v115 (F := F) x0 x1 x6 x7) transposes_S64x512x12_S64x12x512_0_2_1
abbrev idx_main_v117 (i : S64x12x512.Idx) : S64x512x12.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v117_apply (x0 : (⟨S64x512x12x128, .f32⟩ : BufTy).Contents (Elt F)) (x1 : (⟨S64x512x12, .f32⟩ : BufTy).Contents (Elt F)) (x6 : (⟨S64x512x2x128, .f32⟩ : BufTy).Contents (Elt F)) (x7 : (⟨S64x512x2, .f32⟩ : BufTy).Contents (Elt F)) (i : S64x12x512.Idx) :
    val_main_v117 (F := F) x0 x1 x6 x7 i = val_main_v115 (F := F) x0 x1 x6 x7 (idx_main_v117 i) := by
  unfold val_main_v117
  generalize val_main_v115 (F := F) x0 x1 x6 x7 = y
  exact transpose_apply [0, 2, 1] y transposes_S64x512x12_S64x12x512_0_2_1 i (idx_main_v117 i) (fun b => match b with
    | ⟨0, _⟩ => rfl
    | ⟨1, _⟩ => rfl
    | ⟨2, _⟩ => rfl)

/-- The term the Run module states for `main_v101` over any contents `V0` is the stage. -/
theorem val_main_v101_eq (V0 : Valuation τ sig (Elt F)) :
    shapeCast _ (transpose S64x512x2x6x128 [1, 2, 0, 3, 4] (truncf .bf16 (addf (mulf (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (Host.exp (subf (Cert.ReferenceIdeal.Tail.res_main_v42 V0) (Cert.ReferenceIdeal.Tail.res_main_v87 V0))))) (Host.divf (Host.dotGeneral dot_S2x64x512x6x2048_S2x2048x128_S2x64x512x6x128_4_1_123_2_0_0 none (truncf .bf16 (mulf (Cert.ReferenceIdeal.Tail.res_main_v31 V0) (broadcastInDim S2x64x512x6x2048 ![0, 1, 2, 3, 4] bcast_S2x1x1x1x2048_S2x64x512x6x2048_0_1_2_3_4 (broadcastInDim S2x1x1x1x2048 ![0, 4] bcast_S2x2048_S2x1x1x1x2048_0_4 (transpose S2x2048 [1, 0] (V0 (Proc.devRef .tc main_arg5)) transposes_S2048x2_S2x2048_1_0)))) bitsLt_bf16_f32) (transpose S2x2048x128 [1, 0, 2] (V0 (Proc.devRef .tc main_v3_2)) transposes_S2048x2x128_S2x2048x128_1_0_2)) (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (Cert.ReferenceIdeal.Tail.res_main_v32 V0))))) (mulf (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (Host.exp (subf (Cert.ReferenceIdeal.Tail.res_main_v77 V0) (Cert.ReferenceIdeal.Tail.res_main_v87 V0))))) (Host.divf (Host.dotGeneral dot_S2x64x512x6x512_S2x64x512x128_S2x64x512x6x128_4_2_23_3_01_01 none (truncf .bf16 (mulf (Cert.ReferenceIdeal.Tail.res_main_v66 V0) (broadcastInDim S2x64x512x6x512 ![0, 1, 2, 3, 4] bcast_S2x64x1x1x512_S2x64x512x6x512_0_1_2_3_4 (broadcastInDim S2x64x1x1x512 ![0, 1, 4] bcast_S2x64x512_S2x64x1x1x512_0_1_4 (transpose S2x64x512 [2, 0, 1] (V0 (Proc.devRef .tc main_arg9)) transposes_S64x512x2_S2x64x512_2_0_1)))) bitsLt_bf16_f32) (transpose S2x64x512x128 [2, 0, 1, 3] (V0 (Proc.devRef .tc main_v3_4)) transposes_S64x512x2x128_S2x64x512x128_2_0_1_3)) (broadcastInDim S2x64x512x6x128 ![0, 1, 2, 3, 4] bcast_S2x64x512x6x1_S2x64x512x6x128_0_1_2_3_4 (broadcastInDim S2x64x512x6x1 ![0, 1, 2, 3] bcast_S2x64x512x6_S2x64x512x6x1_0_1_2_3 (Cert.ReferenceIdeal.Tail.res_main_v67 V0)))))) bitsLt_bf16_f32) transposes_S2x64x512x6x128_S64x512x2x6x128_1_2_0_3_4) shapeCasts_S64x512x2x6x128_S64x512x1536
      = val_main_v101 (F := F) (V0 (Proc.devRef .tc main_v3_0)) (V0 (Proc.devRef .tc main_arg1)) (V0 (Proc.devRef .tc main_v3_1)) (V0 (Proc.devRef .tc main_arg3)) (V0 (Proc.devRef .tc main_v3_2)) (V0 (Proc.devRef .tc main_arg5)) (V0 (Proc.devRef .tc main_v3_3)) (V0 (Proc.devRef .tc main_arg7)) (V0 (Proc.devRef .tc main_v3_4)) (V0 (Proc.devRef .tc main_arg9)) := rfl

/-- The term the Run module states for `main_v116` over any contents `V0` is the stage. -/
theorem val_main_v116_eq (V0 : Valuation τ sig (Elt F)) :
    transpose S64x12x512 [0, 2, 1] (subf (shapeCast _ (transpose S64x512x2x6 [1, 2, 0, 3] (Cert.ReferenceIdeal.Tail.res_main_v42 V0) transposes_S2x64x512x6_S64x512x2x6_1_2_0_3) shapeCasts_S64x512x2x6_S64x512x12) (broadcastInDim S64x512x12 ![] bcast_S_S64x512x12 (Host.log (constant S_ .f32 0x45000000#32)))) transposes_S64x512x12_S64x12x512_0_2_1
      = val_main_v116 (F := F) (V0 (Proc.devRef .tc main_v3_0)) (V0 (Proc.devRef .tc main_arg1)) (V0 (Proc.devRef .tc main_v3_1)) (V0 (Proc.devRef .tc main_arg3)) := rfl

/-- The term the Run module states for `main_v117` over any contents `V0` is the stage. -/
theorem val_main_v117_eq (V0 : Valuation τ sig (Elt F)) :
    transpose S64x12x512 [0, 2, 1] (subf (shapeCast _ (transpose S64x512x2x6 [1, 2, 0, 3] (Cert.ReferenceIdeal.Tail.res_main_v77 V0) transposes_S2x64x512x6_S64x512x2x6_1_2_0_3) shapeCasts_S64x512x2x6_S64x512x12) (broadcastInDim S64x512x12 ![0, 1, 2] bcast_S1x512x1_S64x512x12_0_1_2 (broadcastInDim S1x512x1 ![1] bcast_S512_S1x512x1_1 (Host.log (addf (broadcastInDim S512 ![] bcast_S_S512 (constant S_ .f32 0x3F800000#32)) (sitofp .f32 (iotaInDim S512 32 0))))))) transposes_S64x512x12_S64x12x512_0_2_1
      = val_main_v117 (F := F) (V0 (Proc.devRef .tc main_v3_0)) (V0 (Proc.devRef .tc main_arg1)) (V0 (Proc.devRef .tc main_v3_3)) (V0 (Proc.devRef .tc main_arg7)) := rfl

end Cert.ReferenceIdeal.Read

end
-- ==== Proof.RefVal.lean ====
/- The reference's stages at an index, from the scores to the three results, in plain formulas. -/
module

public import proofs.«01_k».proof.Proof.RefRead2
public import proofs.«01_k».proof.Proof.Att
public import proofs.«01_k».proof.Proof.KConst
public import Idealize.ShloMosaic.Lib.Pointwise

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Idealize.ShloMosaic.Tactic

/-- Query head `r` of the group that reads key head `g`. -/
def hq (g : Fin 2) (r : Fin 6) : Fin 12 := ⟨6 * g.val + r.val, by omega⟩

/-- The square root of the number of lanes, as the reference takes it. -/
def c128 : EReal := FloatOps.hostUnary (F := Ideal) .sqrt (FloatOps.ofBits (F := Ideal) FTy.f32 0x43000000#32 : Ideal FTy.f32)

theorem at_v5 (x0 : (⟨S64x512x12x128, .f32⟩ : BufTy).Contents (Elt Ideal)) (g : Fin 2) (b : Fin 64) (s : Fin 512) (r : Fin 6) (d : Fin 128) : val_main_v5 (F := Ideal) x0 (ix5 g b s r d) = x0 (ix4 b s (hq g r) d) := by
  rw [val_main_v5_apply, val_main_v4_apply]
  have hg := g.isLt; have hb := b.isLt; have hs := s.isLt; have hr := r.isLt; have hd := d.isLt
  refine congrArg x0 (funext fun a => Fin.ext ?_)
  match a with
  | ⟨0, _⟩ => show ((((b.val * 512 + s.val) * 2 + g.val) * 6 + r.val) * 128 + d.val) / 786432 = b.val; omega
  | ⟨1, _⟩ => show ((((b.val * 512 + s.val) * 2 + g.val) * 6 + r.val) * 128 + d.val) / 1536 % 512 = s.val; omega
  | ⟨2, _⟩ => show ((((b.val * 512 + s.val) * 2 + g.val) * 6 + r.val) * 128 + d.val) / 128 % 12 = 6 * g.val + r.val; omega
  | ⟨3, _⟩ => show ((((b.val * 512 + s.val) * 2 + g.val) * 6 + r.val) * 128 + d.val) % 128 = d.val; omega

theorem at_v7 (x1 : (⟨S64x512x12, .f32⟩ : BufTy).Contents (Elt Ideal)) (g : Fin 2) (b : Fin 64) (s : Fin 512) (r : Fin 6) : val_main_v7 (F := Ideal) x1 (ix4 g b s r) = x1 (ix3 b s (hq g r)) := by
  rw [val_main_v7_apply, val_main_v6_apply]
  have hg := g.isLt; have hb := b.isLt; have hs := s.isLt; have hr := r.isLt
  refine congrArg x1 (funext fun a => Fin.ext ?_)
  match a with
  | ⟨0, _⟩ => show (((b.val * 512 + s.val) * 2 + g.val) * 6 + r.val) / 6144 = b.val; omega
  | ⟨1, _⟩ => show (((b.val * 512 + s.val) * 2 + g.val) * 6 + r.val) / 12 % 512 = s.val; omega
  | ⟨2, _⟩ => show (((b.val * 512 + s.val) * 2 + g.val) * 6 + r.val) % 12 = 6 * g.val + r.val; omega

theorem at_v20 (x1 : (⟨S64x512x12, .f32⟩ : BufTy).Contents (Elt Ideal)) (g : Fin 2) (b : Fin 64) (s : Fin 512) (r : Fin 6) (n : Fin 2048) : val_main_v20 (F := Ideal) x1 (ix5 g b s r n) = x1 (ix3 b s (hq g r)) := by
  rw [val_main_v20_apply, val_main_v19_apply]
  exact Eq.trans (b := val_main_v7 (F := Ideal) x1 (ix4 g b s r)) (congrArg (val_main_v7 (F := Ideal) x1) ((funext fun a => match a with | ⟨0, _⟩ => rfl | ⟨1, _⟩ => rfl | ⟨2, _⟩ => rfl | ⟨3, _⟩ => rfl))) (at_v7 x1 g b s r)

theorem at_v54 (x1 : (⟨S64x512x12, .f32⟩ : BufTy).Contents (Elt Ideal)) (g : Fin 2) (b : Fin 64) (s : Fin 512) (r : Fin 6) (n : Fin 512) : val_main_v54 (F := Ideal) x1 (ix5 g b s r n) = x1 (ix3 b s (hq g r)) := by
  rw [val_main_v54_apply, val_main_v53_apply]
  exact Eq.trans (b := val_main_v7 (F := Ideal) x1 (ix4 g b s r)) (congrArg (val_main_v7 (F := Ideal) x1) ((funext fun a => match a with | ⟨0, _⟩ => rfl | ⟨1, _⟩ => rfl | ⟨2, _⟩ => rfl | ⟨3, _⟩ => rfl))) (at_v7 x1 g b s r)

theorem at_v12 (x2 : (⟨S2048x2x128, .f32⟩ : BufTy).Contents (Elt Ideal)) (g : Fin 2) (n : Fin 2048) (d : Fin 128) : val_main_v12 (F := Ideal) x2 (ix3 g n d) = x2 (ix3 n g d) := by
  rw [val_main_v12_apply]
  exact congrArg (x2) (funext fun a => match a with | ⟨0, _⟩ => rfl | ⟨1, _⟩ => rfl | ⟨2, _⟩ => rfl)

theorem at_v14 (x4 : (⟨S2048x2x128, .bf16⟩ : BufTy).Contents (Elt Ideal)) (g : Fin 2) (n : Fin 2048) (d : Fin 128) : val_main_v14 (F := Ideal) x4 (ix3 g n d) = x4 (ix3 n g d) := by
  rw [val_main_v14_apply]
  exact congrArg (x4) (funext fun a => match a with | ⟨0, _⟩ => rfl | ⟨1, _⟩ => rfl | ⟨2, _⟩ => rfl)

theorem at_v8 (x6 : (⟨S64x512x2x128, .f32⟩ : BufTy).Contents (Elt Ideal)) (g : Fin 2) (b : Fin 64) (n : Fin 512) (d : Fin 128) : val_main_v8 (F := Ideal) x6 (ix4 g b n d) = x6 (ix4 b n g d) := by
  rw [val_main_v8_apply]
  exact congrArg (x6) (funext fun a => match a with | ⟨0, _⟩ => rfl | ⟨1, _⟩ => rfl | ⟨2, _⟩ => rfl | ⟨3, _⟩ => rfl)

theorem at_v10 (x8 : (⟨S64x512x2x128, .bf16⟩ : BufTy).Contents (Elt Ideal)) (g : Fin 2) (b : Fin 64) (n : Fin 512) (d : Fin 128) : val_main_v10 (F := Ideal) x8 (ix4 g b n d) = x8 (ix4 b n g d) := by
  rw [val_main_v10_apply]
  exact congrArg (x8) (funext fun a => match a with | ⟨0, _⟩ => rfl | ⟨1, _⟩ => rfl | ⟨2, _⟩ => rfl | ⟨3, _⟩ => rfl)

theorem at_v22 (x3 : (⟨S2048x2, .f32⟩ : BufTy).Contents (Elt Ideal)) (g : Fin 2) (b : Fin 64) (s : Fin 512) (r : Fin 6) (n : Fin 2048) : val_main_v22 (F := Ideal) x3 (ix5 g b s r n) = x3 (ix2 n g) := by
  rw [val_main_v22_apply, val_main_v16_apply, val_main_v13_apply]
  exact congrArg (x3) (funext fun a => match a with | ⟨0, _⟩ => rfl | ⟨1, _⟩ => rfl)

theorem at_v33 (x5 : (⟨S2048x2, .f32⟩ : BufTy).Contents (Elt Ideal)) (g : Fin 2) (b : Fin 64) (s : Fin 512) (r : Fin 6) (n : Fin 2048) : val_main_v33 (F := Ideal) x5 (ix5 g b s r n) = x5 (ix2 n g) := by
  rw [val_main_v33_apply, val_main_v17_apply, val_main_v15_apply]
  exact congrArg (x5) (funext fun a => match a with | ⟨0, _⟩ => rfl | ⟨1, _⟩ => rfl)

theorem at_v56 (x7 : (⟨S64x512x2, .f32⟩ : BufTy).Contents (Elt Ideal)) (g : Fin 2) (b : Fin 64) (s : Fin 512) (r : Fin 6) (n : Fin 512) : val_main_v56 (F := Ideal) x7 (ix5 g b s r n) = x7 (ix3 b n g) := by
  rw [val_main_v56_apply, val_main_v49_apply, val_main_v9_apply]
  exact congrArg (x7) (funext fun a => match a with | ⟨0, _⟩ => rfl | ⟨1, _⟩ => rfl | ⟨2, _⟩ => rfl)

theorem at_v68 (x9 : (⟨S64x512x2, .f32⟩ : BufTy).Contents (Elt Ideal)) (g : Fin 2) (b : Fin 64) (s : Fin 512) (r : Fin 6) (n : Fin 512) : val_main_v68 (F := Ideal) x9 (ix5 g b s r n) = x9 (ix3 b n g) := by
  rw [val_main_v68_apply, val_main_v50_apply, val_main_v11_apply]
  exact congrArg (x9) (funext fun a => match a with | ⟨0, _⟩ => rfl | ⟨1, _⟩ => rfl | ⟨2, _⟩ => rfl)

theorem at_mask (g : Fin 2) (b : Fin 64) (s : Fin 512) (r : Fin 6) (n : Fin 512) (x y : EReal) :
    Scalar.select (val_main_call0_v1 (F := Ideal) (ix5 g b s r n)) x y = if n.val ≤ s.val then y else x := by
  rw [val_main_call0_v1_apply, val_main_v51_apply, val_main_v48_apply, val_main_v46_apply, val_main_v44_apply, val_main_v43_apply, val_main_v47_apply, val_main_v45_apply, val_main_v43_apply]
  show Scalar.select (IntOp.cmpi CmpIPredicate.sgt (BitVec.ofNat 32 n.val) (BitVec.ofNat 32 s.val)) x y = _
  have e : IntOp.cmpi CmpIPredicate.sgt (BitVec.ofNat 32 n.val) (BitVec.ofNat 32 s.val) = BitVec.ofBool (decide (s.val < n.val)) :=
    WordCmp.cmpi_sgt_ofNat (by have := n.isLt; omega) (by have := s.isLt; omega)
  rw [e]
  by_cases hh : n.val ≤ s.val
  · rw [if_pos hh, decide_eq_false (by omega)]; rfl
  · rw [if_neg hh, decide_eq_true (by omega)]; rfl

/-- The prefix score of key `n`. -/
def sP (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (g : Fin 2) (b : Fin 64) (s : Fin 512) (r : Fin 6) (n : Fin 2048) : EReal :=
  Ideal.div (((∑ d : Fin 128, (x0 (ix4 b s (hq g r) d) : EReal) * (x2 (ix3 n g d) : EReal)) * (x1 (ix3 b s (hq g r)) : EReal)) * (x3 (ix2 n g) : EReal)) c128

/-- The completion score of key `n`, `⊥` past the query's own position. -/
def sC (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (g : Fin 2) (b : Fin 64) (s : Fin 512) (r : Fin 6) (n : Fin 512) : EReal :=
  if n.val ≤ s.val then
    Ideal.div (((∑ d : Fin 128, (x0 (ix4 b s (hq g r) d) : EReal) * (x6 (ix4 b n g d) : EReal)) * (x1 (ix3 b s (hq g r)) : EReal)) * (x7 (ix3 b n g) : EReal)) c128
  else ⊥

theorem at_v18 (x0 : (⟨S64x512x12x128, .f32⟩ : BufTy).Contents (Elt Ideal)) (x2 : (⟨S2048x2x128, .f32⟩ : BufTy).Contents (Elt Ideal)) (g : Fin 2) (b : Fin 64) (s : Fin 512) (r : Fin 6) (n : Fin 2048) : val_main_v18 (F := Ideal) x0 x2 (ix5 g b s r n)
    = ∑ d : Fin 128, (x0 (ix4 b s (hq g r) d) : EReal) * (x2 (ix3 n g d) : EReal) := by
  rw [val_main_v18_apply]
  refine Finset.sum_congr rfl fun d _ => congrArg₂ (· * ·) ?_ ?_
  · exact Eq.trans (b := val_main_v5 (F := Ideal) x0 (ix5 g b s r d)) (congrArg (val_main_v5 (F := Ideal) x0) ((funext fun a => match a with | ⟨0, _⟩ => rfl | ⟨1, _⟩ => rfl | ⟨2, _⟩ => rfl | ⟨3, _⟩ => rfl | ⟨4, _⟩ => rfl))) (at_v5 x0 g b s r d)
  · exact Eq.trans (b := val_main_v12 (F := Ideal) x2 (ix3 g n d)) (congrArg (val_main_v12 (F := Ideal) x2) ((funext fun a => match a with | ⟨0, _⟩ => rfl | ⟨1, _⟩ => rfl | ⟨2, _⟩ => rfl))) (at_v12 x2 g n d)

theorem at_v26 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (g : Fin 2) (b : Fin 64) (s : Fin 512) (r : Fin 6) (n : Fin 2048) : val_main_v26 (F := Ideal) x0 x1 x2 x3 (ix5 g b s r n) = sP x0 x1 x2 x3 g b s r n := by
  rw [val_main_v26_apply, val_main_v23_apply, val_main_v21_apply, at_v18, at_v20, at_v22, val_main_v25_apply, val_main_v24_apply]
  rfl

theorem at_v52 (x0 : (⟨S64x512x12x128, .f32⟩ : BufTy).Contents (Elt Ideal)) (x6 : (⟨S64x512x2x128, .f32⟩ : BufTy).Contents (Elt Ideal)) (g : Fin 2) (b : Fin 64) (s : Fin 512) (r : Fin 6) (n : Fin 512) : val_main_v52 (F := Ideal) x0 x6 (ix5 g b s r n)
    = ∑ d : Fin 128, (x0 (ix4 b s (hq g r) d) : EReal) * (x6 (ix4 b n g d) : EReal) := by
  rw [val_main_v52_apply]
  refine Finset.sum_congr rfl fun d _ => congrArg₂ (· * ·) ?_ ?_
  · exact Eq.trans (b := val_main_v5 (F := Ideal) x0 (ix5 g b s r d)) (congrArg (val_main_v5 (F := Ideal) x0) ((funext fun a => match a with | ⟨0, _⟩ => rfl | ⟨1, _⟩ => rfl | ⟨2, _⟩ => rfl | ⟨3, _⟩ => rfl | ⟨4, _⟩ => rfl))) (at_v5 x0 g b s r d)
  · exact Eq.trans (b := val_main_v8 (F := Ideal) x6 (ix4 g b n d)) (congrArg (val_main_v8 (F := Ideal) x6) ((funext fun a => match a with | ⟨0, _⟩ => rfl | ⟨1, _⟩ => rfl | ⟨2, _⟩ => rfl | ⟨3, _⟩ => rfl))) (at_v8 x6 g b n d)

theorem at_v61 (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (g : Fin 2) (b : Fin 64) (s : Fin 512) (r : Fin 6) (n : Fin 512) : val_main_v61 (F := Ideal) x0 x1 x6 x7 (ix5 g b s r n) = sC x0 x1 x6 x7 g b s r n := by
  rw [val_main_v61_apply, at_mask, val_main_v60_apply, val_main_v57_apply, val_main_v55_apply, at_v52, at_v54, at_v56, val_main_v59_apply, val_main_v58_apply,
    val_main_call0_v2_apply, val_main_call0_v0_apply, val_main_cst_3_apply]
  have e : (FloatOps.ofBits (F := Ideal) FTy.f32 0xFF800000#32 : EReal) = ⊥ := Cert.KernelIdeal.Gen.ofBits_neg_inf
  unfold sC
  split
  · rfl
  · exact e

theorem at_v27 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (g : Fin 2) (b : Fin 64) (s : Fin 512) (r : Fin 6) : val_main_v27 (F := Ideal) x0 x1 x2 x3 (ix4 g b s r) = Att.kMax (sP x0 x1 x2 x3 g b s r) := by
  have e0 := Host.reduce_eq_fold_single (FloatOps.maximumf (F := Ideal) (φ := .f32)) (val_main_v26 (F := Ideal) x0 x1 x2 x3) (val_main_cst_0 (F := Ideal)) reducesTo_S2x64x512x6x2048_S2x64x512x6_d4 (show S2x64x512x6x2048.Reduces [4] S2x64x512x6 by decide) h_S_ (ix4 g b s r)
  refine Eq.trans (show _ = _ from e0) ?_
  have ei : (val_main_cst_0 (F := Ideal) (Shape.Idx.first h_S_) : EReal) = ⊥ := Cert.KernelIdeal.Gen.ofBits_neg_inf
  have ef : (((val_main_v26 (F := Ideal) x0 x1 x2 x3) ∘ Shape.Reduces.lift (show S2x64x512x6x2048.Reduces [4] S2x64x512x6 by decide) (ix4 g b s r)) : Fin 2048 → EReal) = (sP x0 x1 x2 x3 g b s r) :=
    funext fun k => Eq.trans (b := val_main_v26 (F := Ideal) x0 x1 x2 x3 (ix5 g b s r k)) (congrArg (val_main_v26 (F := Ideal) x0 x1 x2 x3) (funext fun a => Fin.ext (by match a with | ⟨0, _⟩ => rfl | ⟨1, _⟩ => rfl | ⟨2, _⟩ => rfl | ⟨3, _⟩ => rfl | ⟨4, _⟩ => rfl))) (at_v26 x0 x1 x2 x3 g b s r k)
  unfold Att.kMax
  exact (congrArg (fun z => Finset.fold max z _ _) ei).trans (congrArg (fun z => Finset.fold max ⊥ z (Finset.univ : Finset (Fin 2048))) ef)

theorem at_v28 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (g : Fin 2) (b : Fin 64) (s : Fin 512) (r : Fin 6) (z : Fin 1) : val_main_v28 (F := Ideal) x0 x1 x2 x3 (ix5 g b s r z) = Att.kMax (sP x0 x1 x2 x3 g b s r) := by
  rw [val_main_v28_apply]
  exact Eq.trans (b := val_main_v27 (F := Ideal) x0 x1 x2 x3 (ix4 g b s r)) (congrArg (val_main_v27 (F := Ideal) x0 x1 x2 x3) ((funext fun a => match a with | ⟨0, _⟩ => rfl | ⟨1, _⟩ => rfl | ⟨2, _⟩ => rfl | ⟨3, _⟩ => rfl))) (at_v27 x0 x1 x2 x3 g b s r)

theorem at_v31 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (g : Fin 2) (b : Fin 64) (s : Fin 512) (r : Fin 6) (n : Fin 2048) : val_main_v31 (F := Ideal) x0 x1 x2 x3 (ix5 g b s r n) = Att.rW (sP x0 x1 x2 x3 g b s r) n := by
  have e2 : val_main_v29 (F := Ideal) x0 x1 x2 x3 (ix5 g b s r n) = Att.kMax (sP x0 x1 x2 x3 g b s r) := by
    rw [val_main_v29_apply]
    exact Eq.trans (b := val_main_v28 (F := Ideal) x0 x1 x2 x3 (ix5 g b s r (0 : Fin 1))) (congrArg (val_main_v28 (F := Ideal) x0 x1 x2 x3) ((funext fun a => match a with | ⟨0, _⟩ => rfl | ⟨1, _⟩ => rfl | ⟨2, _⟩ => rfl | ⟨3, _⟩ => rfl | ⟨4, _⟩ => rfl))) (at_v28 x0 x1 x2 x3 g b s r 0)
  rw [val_main_v31_apply, val_main_v30_apply, at_v26, e2]
  rfl

theorem at_v32 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (g : Fin 2) (b : Fin 64) (s : Fin 512) (r : Fin 6) : val_main_v32 (F := Ideal) x0 x1 x2 x3 (ix4 g b s r) = Att.rL (sP x0 x1 x2 x3 g b s r) := by
  rw [val_main_v32_apply]
  have ei : (val_main_cst_1 (F := Ideal) (Shape.Idx.first h_S_) : EReal) = 0 := Ideal.ofBits_zero_f32
  refine (congrArg₂ (· + ·) ei (Finset.sum_congr rfl fun k _ => ?_)).trans (zero_add _)
  exact Eq.trans (b := val_main_v31 (F := Ideal) x0 x1 x2 x3 (ix5 g b s r k)) (congrArg (val_main_v31 (F := Ideal) x0 x1 x2 x3) ((funext fun a => match a with | ⟨0, _⟩ => rfl | ⟨1, _⟩ => rfl | ⟨2, _⟩ => rfl | ⟨3, _⟩ => rfl | ⟨4, _⟩ => rfl))) (at_v31 x0 x1 x2 x3 g b s r k)

theorem at_v37 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (g : Fin 2) (b : Fin 64) (s : Fin 512) (r : Fin 6) (z : Fin 1) : val_main_v37 (F := Ideal) x0 x1 x2 x3 (ix5 g b s r z) = Att.rL (sP x0 x1 x2 x3 g b s r) := by
  rw [val_main_v37_apply]
  exact Eq.trans (b := val_main_v32 (F := Ideal) x0 x1 x2 x3 (ix4 g b s r)) (congrArg (val_main_v32 (F := Ideal) x0 x1 x2 x3) ((funext fun a => match a with | ⟨0, _⟩ => rfl | ⟨1, _⟩ => rfl | ⟨2, _⟩ => rfl | ⟨3, _⟩ => rfl))) (at_v32 x0 x1 x2 x3 g b s r)

theorem at_v36 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (x4 : (⟨S2048x2x128, .bf16⟩ : BufTy).Contents (Elt Ideal)) (x5 : (⟨S2048x2, .f32⟩ : BufTy).Contents (Elt Ideal)) (g : Fin 2) (b : Fin 64) (s : Fin 512) (r : Fin 6) (d : Fin 128) : val_main_v36 (F := Ideal) x0 x1 x2 x3 x4 x5 (ix5 g b s r d) = Att.rO (sP x0 x1 x2 x3 g b s r) (fun n => x5 (ix2 n g)) (fun n => x4 (ix3 n g d)) := by
  rw [val_main_v36_apply]
  refine Finset.sum_congr rfl fun n _ => congrArg₂ (· * ·) ?_ ?_
  · refine Eq.trans (b := val_main_v35 (F := Ideal) x0 x1 x2 x3 x5 (ix5 g b s r n)) (congrArg (val_main_v35 (F := Ideal) x0 x1 x2 x3 x5) ((funext fun a => match a with | ⟨0, _⟩ => rfl | ⟨1, _⟩ => rfl | ⟨2, _⟩ => rfl | ⟨3, _⟩ => rfl | ⟨4, _⟩ => rfl))) ?_
    rw [val_main_v35_apply, val_main_v34_apply, at_v31, at_v33]
    rfl
  · exact Eq.trans (b := val_main_v14 (F := Ideal) x4 (ix3 g n d)) (congrArg (val_main_v14 (F := Ideal) x4) ((funext fun a => match a with | ⟨0, _⟩ => rfl | ⟨1, _⟩ => rfl | ⟨2, _⟩ => rfl))) (at_v14 x4 g n d)

theorem at_v39 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (x4 : (⟨S2048x2x128, .bf16⟩ : BufTy).Contents (Elt Ideal)) (x5 : (⟨S2048x2, .f32⟩ : BufTy).Contents (Elt Ideal)) (g : Fin 2) (b : Fin 64) (s : Fin 512) (r : Fin 6) (d : Fin 128) : val_main_v39 (F := Ideal) x0 x1 x2 x3 x4 x5 (ix5 g b s r d) = Ideal.div (Att.rO (sP x0 x1 x2 x3 g b s r) (fun n => x5 (ix2 n g)) (fun n => x4 (ix3 n g d))) (Att.rL (sP x0 x1 x2 x3 g b s r)) := by
  have e2 : val_main_v38 (F := Ideal) x0 x1 x2 x3 (ix5 g b s r d) = Att.rL (sP x0 x1 x2 x3 g b s r) := by
    rw [val_main_v38_apply]
    exact Eq.trans (b := val_main_v37 (F := Ideal) x0 x1 x2 x3 (ix5 g b s r (0 : Fin 1))) (congrArg (val_main_v37 (F := Ideal) x0 x1 x2 x3) ((funext fun a => match a with | ⟨0, _⟩ => rfl | ⟨1, _⟩ => rfl | ⟨2, _⟩ => rfl | ⟨3, _⟩ => rfl | ⟨4, _⟩ => rfl))) (at_v37 x0 x1 x2 x3 g b s r 0)
  rw [val_main_v39_apply, at_v36, e2]
  rfl

theorem at_v42 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (g : Fin 2) (b : Fin 64) (s : Fin 512) (r : Fin 6) : val_main_v42 (F := Ideal) x0 x1 x2 x3 (ix4 g b s r) = Att.rLse (sP x0 x1 x2 x3 g b s r) := by
  have e2 : val_main_v40 (F := Ideal) x0 x1 x2 x3 (ix4 g b s r) = Att.kMax (sP x0 x1 x2 x3 g b s r) := by
    rw [val_main_v40_apply]
    exact Eq.trans (b := val_main_v28 (F := Ideal) x0 x1 x2 x3 (ix5 g b s r (0 : Fin 1))) (congrArg (val_main_v28 (F := Ideal) x0 x1 x2 x3) ((funext fun a => Fin.ext (by
      have hg := g.isLt; have hb := b.isLt; have hs := s.isLt; have hr := r.isLt
      match a with
      | ⟨0, _⟩ => show (((g.val * 64 + b.val) * 512 + s.val) * 6 + r.val) / 196608 = g.val; omega
      | ⟨1, _⟩ => show (((g.val * 64 + b.val) * 512 + s.val) * 6 + r.val) / 3072 % 64 = b.val; omega
      | ⟨2, _⟩ => show (((g.val * 64 + b.val) * 512 + s.val) * 6 + r.val) / 6 % 512 = s.val; omega
      | ⟨3, _⟩ => show (((g.val * 64 + b.val) * 512 + s.val) * 6 + r.val) / 1 % 6 = r.val; omega
      | ⟨4, _⟩ => rfl)))) (at_v28 x0 x1 x2 x3 g b s r 0)
  rw [val_main_v42_apply, val_main_v41_apply, at_v32, e2]
  rfl

theorem at_v62 (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (g : Fin 2) (b : Fin 64) (s : Fin 512) (r : Fin 6) : val_main_v62 (F := Ideal) x0 x1 x6 x7 (ix4 g b s r) = Att.kMax (sC x0 x1 x6 x7 g b s r) := by
  have e0 := Host.reduce_eq_fold_single (FloatOps.maximumf (F := Ideal) (φ := .f32)) (val_main_v61 (F := Ideal) x0 x1 x6 x7) (val_main_cst_4 (F := Ideal)) reducesTo_S2x64x512x6x512_S2x64x512x6_d4 (show S2x64x512x6x512.Reduces [4] S2x64x512x6 by decide) h_S_ (ix4 g b s r)
  refine Eq.trans (show _ = _ from e0) ?_
  have ei : (val_main_cst_4 (F := Ideal) (Shape.Idx.first h_S_) : EReal) = ⊥ := Cert.KernelIdeal.Gen.ofBits_neg_inf
  have ef : (((val_main_v61 (F := Ideal) x0 x1 x6 x7) ∘ Shape.Reduces.lift (show S2x64x512x6x512.Reduces [4] S2x64x512x6 by decide) (ix4 g b s r)) : Fin 512 → EReal) = (sC x0 x1 x6 x7 g b s r) :=
    funext fun k => Eq.trans (b := val_main_v61 (F := Ideal) x0 x1 x6 x7 (ix5 g b s r k)) (congrArg (val_main_v61 (F := Ideal) x0 x1 x6 x7) (funext fun a => Fin.ext (by match a with | ⟨0, _⟩ => rfl | ⟨1, _⟩ => rfl | ⟨2, _⟩ => rfl | ⟨3, _⟩ => rfl | ⟨4, _⟩ => rfl))) (at_v61 x0 x1 x6 x7 g b s r k)
  unfold Att.kMax
  exact (congrArg (fun z => Finset.fold max z _ _) ei).trans (congrArg (fun z => Finset.fold max ⊥ z (Finset.univ : Finset (Fin 512))) ef)

theorem at_v63 (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (g : Fin 2) (b : Fin 64) (s : Fin 512) (r : Fin 6) (z : Fin 1) : val_main_v63 (F := Ideal) x0 x1 x6 x7 (ix5 g b s r z) = Att.kMax (sC x0 x1 x6 x7 g b s r) := by
  rw [val_main_v63_apply]
  exact Eq.trans (b := val_main_v62 (F := Ideal) x0 x1 x6 x7 (ix4 g b s r)) (congrArg (val_main_v62 (F := Ideal) x0 x1 x6 x7) ((funext fun a => match a with | ⟨0, _⟩ => rfl | ⟨1, _⟩ => rfl | ⟨2, _⟩ => rfl | ⟨3, _⟩ => rfl))) (at_v62 x0 x1 x6 x7 g b s r)

theorem at_v66 (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (g : Fin 2) (b : Fin 64) (s : Fin 512) (r : Fin 6) (n : Fin 512) : val_main_v66 (F := Ideal) x0 x1 x6 x7 (ix5 g b s r n) = Att.rW (sC x0 x1 x6 x7 g b s r) n := by
  have e2 : val_main_v64 (F := Ideal) x0 x1 x6 x7 (ix5 g b s r n) = Att.kMax (sC x0 x1 x6 x7 g b s r) := by
    rw [val_main_v64_apply]
    exact Eq.trans (b := val_main_v63 (F := Ideal) x0 x1 x6 x7 (ix5 g b s r (0 : Fin 1))) (congrArg (val_main_v63 (F := Ideal) x0 x1 x6 x7) ((funext fun a => match a with | ⟨0, _⟩ => rfl | ⟨1, _⟩ => rfl | ⟨2, _⟩ => rfl | ⟨3, _⟩ => rfl | ⟨4, _⟩ => rfl))) (at_v63 x0 x1 x6 x7 g b s r 0)
  rw [val_main_v66_apply, val_main_v65_apply, at_v61, e2]
  rfl

theorem at_v67 (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (g : Fin 2) (b : Fin 64) (s : Fin 512) (r : Fin 6) : val_main_v67 (F := Ideal) x0 x1 x6 x7 (ix4 g b s r) = Att.rL (sC x0 x1 x6 x7 g b s r) := by
  rw [val_main_v67_apply]
  have ei : (val_main_cst_5 (F := Ideal) (Shape.Idx.first h_S_) : EReal) = 0 := Ideal.ofBits_zero_f32
  refine (congrArg₂ (· + ·) ei (Finset.sum_congr rfl fun k _ => ?_)).trans (zero_add _)
  exact Eq.trans (b := val_main_v66 (F := Ideal) x0 x1 x6 x7 (ix5 g b s r k)) (congrArg (val_main_v66 (F := Ideal) x0 x1 x6 x7) ((funext fun a => match a with | ⟨0, _⟩ => rfl | ⟨1, _⟩ => rfl | ⟨2, _⟩ => rfl | ⟨3, _⟩ => rfl | ⟨4, _⟩ => rfl))) (at_v66 x0 x1 x6 x7 g b s r k)

theorem at_v72 (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (g : Fin 2) (b : Fin 64) (s : Fin 512) (r : Fin 6) (z : Fin 1) : val_main_v72 (F := Ideal) x0 x1 x6 x7 (ix5 g b s r z) = Att.rL (sC x0 x1 x6 x7 g b s r) := by
  rw [val_main_v72_apply]
  exact Eq.trans (b := val_main_v67 (F := Ideal) x0 x1 x6 x7 (ix4 g b s r)) (congrArg (val_main_v67 (F := Ideal) x0 x1 x6 x7) ((funext fun a => match a with | ⟨0, _⟩ => rfl | ⟨1, _⟩ => rfl | ⟨2, _⟩ => rfl | ⟨3, _⟩ => rfl))) (at_v67 x0 x1 x6 x7 g b s r)

theorem at_v71 (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (x8 : (⟨S64x512x2x128, .bf16⟩ : BufTy).Contents (Elt Ideal)) (x9 : (⟨S64x512x2, .f32⟩ : BufTy).Contents (Elt Ideal)) (g : Fin 2) (b : Fin 64) (s : Fin 512) (r : Fin 6) (d : Fin 128) : val_main_v71 (F := Ideal) x0 x1 x6 x7 x8 x9 (ix5 g b s r d) = Att.rO (sC x0 x1 x6 x7 g b s r) (fun n => x9 (ix3 b n g)) (fun n => x8 (ix4 b n g d)) := by
  rw [val_main_v71_apply]
  refine Finset.sum_congr rfl fun n _ => congrArg₂ (· * ·) ?_ ?_
  · refine Eq.trans (b := val_main_v70 (F := Ideal) x0 x1 x6 x7 x9 (ix5 g b s r n)) (congrArg (val_main_v70 (F := Ideal) x0 x1 x6 x7 x9) ((funext fun a => match a with | ⟨0, _⟩ => rfl | ⟨1, _⟩ => rfl | ⟨2, _⟩ => rfl | ⟨3, _⟩ => rfl | ⟨4, _⟩ => rfl))) ?_
    rw [val_main_v70_apply, val_main_v69_apply, at_v66, at_v68]
    rfl
  · exact Eq.trans (b := val_main_v10 (F := Ideal) x8 (ix4 g b n d)) (congrArg (val_main_v10 (F := Ideal) x8) ((funext fun a => match a with | ⟨0, _⟩ => rfl | ⟨1, _⟩ => rfl | ⟨2, _⟩ => rfl | ⟨3, _⟩ => rfl))) (at_v10 x8 g b n d)

theorem at_v74 (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (x8 : (⟨S64x512x2x128, .bf16⟩ : BufTy).Contents (Elt Ideal)) (x9 : (⟨S64x512x2, .f32⟩ : BufTy).Contents (Elt Ideal)) (g : Fin 2) (b : Fin 64) (s : Fin 512) (r : Fin 6) (d : Fin 128) : val_main_v74 (F := Ideal) x0 x1 x6 x7 x8 x9 (ix5 g b s r d) = Ideal.div (Att.rO (sC x0 x1 x6 x7 g b s r) (fun n => x9 (ix3 b n g)) (fun n => x8 (ix4 b n g d))) (Att.rL (sC x0 x1 x6 x7 g b s r)) := by
  have e2 : val_main_v73 (F := Ideal) x0 x1 x6 x7 (ix5 g b s r d) = Att.rL (sC x0 x1 x6 x7 g b s r) := by
    rw [val_main_v73_apply]
    exact Eq.trans (b := val_main_v72 (F := Ideal) x0 x1 x6 x7 (ix5 g b s r (0 : Fin 1))) (congrArg (val_main_v72 (F := Ideal) x0 x1 x6 x7) ((funext fun a => match a with | ⟨0, _⟩ => rfl | ⟨1, _⟩ => rfl | ⟨2, _⟩ => rfl | ⟨3, _⟩ => rfl | ⟨4, _⟩ => rfl))) (at_v72 x0 x1 x6 x7 g b s r 0)
  rw [val_main_v74_apply, at_v71, e2]
  rfl

theorem at_v77 (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (g : Fin 2) (b : Fin 64) (s : Fin 512) (r : Fin 6) : val_main_v77 (F := Ideal) x0 x1 x6 x7 (ix4 g b s r) = Att.rLse (sC x0 x1 x6 x7 g b s r) := by
  have e2 : val_main_v75 (F := Ideal) x0 x1 x6 x7 (ix4 g b s r) = Att.kMax (sC x0 x1 x6 x7 g b s r) := by
    rw [val_main_v75_apply]
    exact Eq.trans (b := val_main_v63 (F := Ideal) x0 x1 x6 x7 (ix5 g b s r (0 : Fin 1))) (congrArg (val_main_v63 (F := Ideal) x0 x1 x6 x7) ((funext fun a => Fin.ext (by
      have hg := g.isLt; have hb := b.isLt; have hs := s.isLt; have hr := r.isLt
      match a with
      | ⟨0, _⟩ => show (((g.val * 64 + b.val) * 512 + s.val) * 6 + r.val) / 196608 = g.val; omega
      | ⟨1, _⟩ => show (((g.val * 64 + b.val) * 512 + s.val) * 6 + r.val) / 3072 % 64 = b.val; omega
      | ⟨2, _⟩ => show (((g.val * 64 + b.val) * 512 + s.val) * 6 + r.val) / 6 % 512 = s.val; omega
      | ⟨3, _⟩ => show (((g.val * 64 + b.val) * 512 + s.val) * 6 + r.val) / 1 % 6 = r.val; omega
      | ⟨4, _⟩ => rfl)))) (at_v63 x0 x1 x6 x7 g b s r 0)
  rw [val_main_v77_apply, val_main_v76_apply, at_v67, e2]
  rfl

theorem at_v87 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (x6 : (⟨S64x512x2x128, .f32⟩ : BufTy).Contents (Elt Ideal)) (x7 : (⟨S64x512x2, .f32⟩ : BufTy).Contents (Elt Ideal)) (g : Fin 2) (b : Fin 64) (s : Fin 512) (r : Fin 6) : val_main_v87 (F := Ideal) x0 x1 x2 x3 x6 x7 (ix4 g b s r) = Att.rLae (Att.rLse (sP x0 x1 x2 x3 g b s r)) (Att.rLse (sC x0 x1 x6 x7 g b s r)) := by
  have e80 : val_main_v80 (F := Ideal) x0 x1 x2 x3 x6 x7 (ix4 g b s r) = 0#1 := by
    rw [val_main_v80_apply]
    generalize val_main_v79 (F := Ideal) x0 x1 x2 x3 x6 x7 (ix4 g b s r) = z
    show BitVec.ofBool (decide ((z : EReal) ≠ z)) = 0#1
    exact congrArg BitVec.ofBool (decide_eq_false (fun h => h rfl))
  rw [val_main_v87_apply, e80]
  show val_main_v86 (F := Ideal) x0 x1 x2 x3 x6 x7 (ix4 g b s r) = _
  rw [val_main_v86_apply, val_main_v85_apply, val_main_v84_apply, val_main_v83_apply, val_main_v82_apply, val_main_v79_apply, val_main_v78_apply, at_v42, at_v77]
  rfl

/-- The combined result. -/
theorem at_v98 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (x4 : (⟨S2048x2x128, .bf16⟩ : BufTy).Contents (Elt Ideal)) (x5 : (⟨S2048x2, .f32⟩ : BufTy).Contents (Elt Ideal)) (x6 : (⟨S64x512x2x128, .f32⟩ : BufTy).Contents (Elt Ideal)) (x7 : (⟨S64x512x2, .f32⟩ : BufTy).Contents (Elt Ideal)) (x8 : (⟨S64x512x2x128, .bf16⟩ : BufTy).Contents (Elt Ideal)) (x9 : (⟨S64x512x2, .f32⟩ : BufTy).Contents (Elt Ideal)) (g : Fin 2) (b : Fin 64) (s : Fin 512) (r : Fin 6) (d : Fin 128) : val_main_v98 (F := Ideal) x0 x1 x2 x3 x4 x5 x6 x7 x8 x9 (ix5 g b s r d)
    = Att.rOut (Att.rLse (sP x0 x1 x2 x3 g b s r)) (Att.rL (sP x0 x1 x2 x3 g b s r)) (Att.rO (sP x0 x1 x2 x3 g b s r) (fun n => x5 (ix2 n g)) (fun n => x4 (ix3 n g d)))
        (Att.rLse (sC x0 x1 x6 x7 g b s r)) (Att.rL (sC x0 x1 x6 x7 g b s r)) (Att.rO (sC x0 x1 x6 x7 g b s r) (fun n => x9 (ix3 b n g)) (fun n => x8 (ix4 b n g d))) := by
  have e91 : val_main_v91 (F := Ideal) x0 x1 x2 x3 x6 x7 (ix5 g b s r d) = Ideal.exp (Att.rLse (sP x0 x1 x2 x3 g b s r) - Att.rLae (Att.rLse (sP x0 x1 x2 x3 g b s r)) (Att.rLse (sC x0 x1 x6 x7 g b s r))) := by
    rw [val_main_v91_apply, val_main_v90_apply]
    refine Eq.trans (b := val_main_v89 (F := Ideal) x0 x1 x2 x3 x6 x7 (ix4 g b s r)) (congrArg (val_main_v89 (F := Ideal) x0 x1 x2 x3 x6 x7) ((funext fun a => match a with | ⟨0, _⟩ => rfl | ⟨1, _⟩ => rfl | ⟨2, _⟩ => rfl | ⟨3, _⟩ => rfl))) ?_
    rw [val_main_v89_apply, val_main_v88_apply, at_v42, at_v87]
    rfl
  have e96 : val_main_v96 (F := Ideal) x0 x1 x2 x3 x6 x7 (ix5 g b s r d) = Ideal.exp (Att.rLse (sC x0 x1 x6 x7 g b s r) - Att.rLae (Att.rLse (sP x0 x1 x2 x3 g b s r)) (Att.rLse (sC x0 x1 x6 x7 g b s r))) := by
    rw [val_main_v96_apply, val_main_v95_apply]
    refine Eq.trans (b := val_main_v94 (F := Ideal) x0 x1 x2 x3 x6 x7 (ix4 g b s r)) (congrArg (val_main_v94 (F := Ideal) x0 x1 x2 x3 x6 x7) ((funext fun a => match a with | ⟨0, _⟩ => rfl | ⟨1, _⟩ => rfl | ⟨2, _⟩ => rfl | ⟨3, _⟩ => rfl))) ?_
    rw [val_main_v94_apply, val_main_v93_apply, at_v77, at_v87]
    rfl
  rw [val_main_v98_apply, val_main_v92_apply, val_main_v97_apply, e91, e96, at_v39, at_v74]
  rfl

/-- The first result at lane `128 * (6 * g + r) + d`. -/
theorem at_v101 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (x4 : (⟨S2048x2x128, .bf16⟩ : BufTy).Contents (Elt Ideal)) (x5 : (⟨S2048x2, .f32⟩ : BufTy).Contents (Elt Ideal)) (x6 : (⟨S64x512x2x128, .f32⟩ : BufTy).Contents (Elt Ideal)) (x7 : (⟨S64x512x2, .f32⟩ : BufTy).Contents (Elt Ideal)) (x8 : (⟨S64x512x2x128, .bf16⟩ : BufTy).Contents (Elt Ideal)) (x9 : (⟨S64x512x2, .f32⟩ : BufTy).Contents (Elt Ideal)) (g : Fin 2) (b : Fin 64) (s : Fin 512) (r : Fin 6) (d : Fin 128) (l : Fin 1536) (hl : l.val = 128 * (6 * g.val + r.val) + d.val) : val_main_v101 (F := Ideal) x0 x1 x2 x3 x4 x5 x6 x7 x8 x9 (ix3 b s l)
    = Att.rOut (Att.rLse (sP x0 x1 x2 x3 g b s r)) (Att.rL (sP x0 x1 x2 x3 g b s r)) (Att.rO (sP x0 x1 x2 x3 g b s r) (fun n => x5 (ix2 n g)) (fun n => x4 (ix3 n g d)))
        (Att.rLse (sC x0 x1 x6 x7 g b s r)) (Att.rL (sC x0 x1 x6 x7 g b s r)) (Att.rO (sC x0 x1 x6 x7 g b s r) (fun n => x9 (ix3 b n g)) (fun n => x8 (ix4 b n g d))) := by
  have hg := g.isLt; have hb := b.isLt; have hs := s.isLt; have hr := r.isLt; have hd := d.isLt
  rw [val_main_v101_apply, val_main_v100_apply, val_main_v99_apply]
  refine Eq.trans (b := val_main_v98 (F := Ideal) x0 x1 x2 x3 x4 x5 x6 x7 x8 x9 (ix5 g b s r d)) (congrArg (val_main_v98 (F := Ideal) x0 x1 x2 x3 x4 x5 x6 x7 x8 x9) (funext fun a => Fin.ext ?_)) (at_v98 x0 x1 x2 x3 x4 x5 x6 x7 x8 x9 g b s r d)
  match a with
  | ⟨0, _⟩ => show ((b.val * 512 + s.val) * 1536 + l.val) / 768 % 2 = g.val; omega
  | ⟨1, _⟩ => show ((b.val * 512 + s.val) * 1536 + l.val) / 786432 = b.val; omega
  | ⟨2, _⟩ => show ((b.val * 512 + s.val) * 1536 + l.val) / 1536 % 512 = s.val; omega
  | ⟨3, _⟩ => show ((b.val * 512 + s.val) * 1536 + l.val) / 128 % 6 = r.val; omega
  | ⟨4, _⟩ => show ((b.val * 512 + s.val) * 1536 + l.val) % 128 = d.val; omega

theorem at_v103 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (g : Fin 2) (b : Fin 64) (s : Fin 512) (r : Fin 6) : val_main_v103 (F := Ideal) x0 x1 x2 x3 (ix3 b s (hq g r)) = Att.rLse (sP x0 x1 x2 x3 g b s r) := by
  have hg := g.isLt; have hb := b.isLt; have hs := s.isLt; have hr := r.isLt
  rw [val_main_v103_apply, val_main_v102_apply]
  refine Eq.trans (b := val_main_v42 (F := Ideal) x0 x1 x2 x3 (ix4 g b s r)) (congrArg (val_main_v42 (F := Ideal) x0 x1 x2 x3) (funext fun a => Fin.ext ?_)) (at_v42 x0 x1 x2 x3 g b s r)
  match a with
  | ⟨0, _⟩ => show ((b.val * 512 + s.val) * 12 + (6 * g.val + r.val)) / 6 % 2 = g.val; omega
  | ⟨1, _⟩ => show ((b.val * 512 + s.val) * 12 + (6 * g.val + r.val)) / 6144 = b.val; omega
  | ⟨2, _⟩ => show ((b.val * 512 + s.val) * 12 + (6 * g.val + r.val)) / 12 % 512 = s.val; omega
  | ⟨3, _⟩ => show ((b.val * 512 + s.val) * 12 + (6 * g.val + r.val)) % 6 = r.val; omega

theorem at_v105 (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (g : Fin 2) (b : Fin 64) (s : Fin 512) (r : Fin 6) : val_main_v105 (F := Ideal) x0 x1 x6 x7 (ix3 b s (hq g r)) = Att.rLse (sC x0 x1 x6 x7 g b s r) := by
  have hg := g.isLt; have hb := b.isLt; have hs := s.isLt; have hr := r.isLt
  rw [val_main_v105_apply, val_main_v104_apply]
  refine Eq.trans (b := val_main_v77 (F := Ideal) x0 x1 x6 x7 (ix4 g b s r)) (congrArg (val_main_v77 (F := Ideal) x0 x1 x6 x7) (funext fun a => Fin.ext ?_)) (at_v77 x0 x1 x6 x7 g b s r)
  match a with
  | ⟨0, _⟩ => show ((b.val * 512 + s.val) * 12 + (6 * g.val + r.val)) / 6 % 2 = g.val; omega
  | ⟨1, _⟩ => show ((b.val * 512 + s.val) * 12 + (6 * g.val + r.val)) / 6144 = b.val; omega
  | ⟨2, _⟩ => show ((b.val * 512 + s.val) * 12 + (6 * g.val + r.val)) / 12 % 512 = s.val; omega
  | ⟨3, _⟩ => show ((b.val * 512 + s.val) * 12 + (6 * g.val + r.val)) % 6 = r.val; omega

/-- The second result. -/
theorem at_v116 (x0 : (⟨S64x512x12x128, .f32⟩ : BufTy).Contents (Elt Ideal)) (x1 : (⟨S64x512x12, .f32⟩ : BufTy).Contents (Elt Ideal)) (x2 : (⟨S2048x2x128, .f32⟩ : BufTy).Contents (Elt Ideal)) (x3 : (⟨S2048x2, .f32⟩ : BufTy).Contents (Elt Ideal)) (g : Fin 2) (b : Fin 64) (s : Fin 512) (r : Fin 6) : val_main_v116 (F := Ideal) x0 x1 x2 x3 (ix3 b (hq g r) s)
    = Att.rLse (sP x0 x1 x2 x3 g b s r) - FloatOps.hostUnary (F := Ideal) .log (FloatOps.ofBits (F := Ideal) FTy.f32 0x45000000#32 : Ideal FTy.f32) := by
  rw [val_main_v116_apply]
  refine Eq.trans (b := val_main_v108 (F := Ideal) x0 x1 x2 x3 (ix3 b s (hq g r))) (congrArg (val_main_v108 (F := Ideal) x0 x1 x2 x3) ((funext fun a => match a with | ⟨0, _⟩ => rfl | ⟨1, _⟩ => rfl | ⟨2, _⟩ => rfl))) ?_
  rw [val_main_v108_apply, at_v103, val_main_v107_apply, val_main_v106_apply]
  rfl

/-- The third result. -/
theorem at_v117 (x0 : (⟨S64x512x12x128, .f32⟩ : BufTy).Contents (Elt Ideal)) (x1 : (⟨S64x512x12, .f32⟩ : BufTy).Contents (Elt Ideal)) (x6 : (⟨S64x512x2x128, .f32⟩ : BufTy).Contents (Elt Ideal)) (x7 : (⟨S64x512x2, .f32⟩ : BufTy).Contents (Elt Ideal)) (g : Fin 2) (b : Fin 64) (s : Fin 512) (r : Fin 6) : val_main_v117 (F := Ideal) x0 x1 x6 x7 (ix3 b (hq g r) s)
    = Att.rLse (sC x0 x1 x6 x7 g b s r) - FloatOps.hostUnary (F := Ideal) .log ((FloatOps.ofBits (F := Ideal) FTy.f32 0x3F800000#32 : EReal)
        + (FloatOps.sitofp (F := Ideal) .f32 (BitVec.ofNat 32 s.val) : EReal) : EReal) := by
  rw [val_main_v117_apply]
  refine Eq.trans (b := val_main_v115 (F := Ideal) x0 x1 x6 x7 (ix3 b s (hq g r))) (congrArg (val_main_v115 (F := Ideal) x0 x1 x6 x7) ((funext fun a => match a with | ⟨0, _⟩ => rfl | ⟨1, _⟩ => rfl | ⟨2, _⟩ => rfl))) ?_
  rw [val_main_v115_apply, at_v105, val_main_v114_apply, val_main_v113_apply, val_main_v112_apply, val_main_v111_apply, val_main_v110_apply]
  rfl

end Cert.ReferenceIdeal.Read
-- ==== Proof.Bridge.lean ====
/- The kernel's results and the reference's, entry by entry, under the precondition. -/
module

public import proofs.«01_k».proof.Proof.KVal
public import proofs.«01_k».proof.Proof.RefVal

@[expose] public section

set_option maxRecDepth 16384

noncomputable section

namespace Cert.Bridge

open Idealize.ShloMosaic Idealize.ShloMosaic.TcCoe Idealize.ShloMosaic.Tactic
open Idealize.SL.Sem
open Cert.KernelIdeal Cert.KernelIdeal.Gen
open Cert.ReferenceIdeal.Read (hq c128 sP sC)

theorem c128_eq : c128 = ((Real.sqrt 128 : ℝ) : EReal) := by
  have e : Ideal.ofBits .f32 0x43000000#32 = ((128 : ℝ) : EReal) := by
    simp [Ideal.ofBits, Ideal.ieee, -EReal.coe_mul]; norm_num
  show Ideal.sqrt (Ideal.ofBits .f32 0x43000000#32) = _
  rw [e, Ideal.sqrt_coe, if_neg (by norm_num)]

/-- The unscaled score of finite codes and scales, and the scaled one the reference forms. -/
theorem score_eq (q k : Fin 128 → EReal) (qs ks : EReal) (fq fk : Fin 128 → ℝ) (rs rk : ℝ)
    (hq : ∀ d, q d = (fq d : EReal)) (hk : ∀ d, k d = (fk d : EReal)) (hs : qs = (rs : EReal)) (hr : ks = (rk : EReal)) :
    (∑ d, k d * q d) * ks = (((∑ d, fk d * fq d) * rk : ℝ) : EReal)
    ∧ Ideal.div (((∑ d, q d * k d) * qs) * ks) c128 = (((rs * (Real.sqrt 128)⁻¹) * ((∑ d, fk d * fq d) * rk) : ℝ) : EReal) := by
  have e1 : (∑ d, k d * q d) = ((∑ d, fk d * fq d : ℝ) : EReal) := by
    rw [← Att.coe_sum_real]
    exact Finset.sum_congr rfl fun d _ => by rw [hq, hk, EReal.coe_mul]
  have e2 : (∑ d, q d * k d) = ((∑ d, fk d * fq d : ℝ) : EReal) :=
    (Finset.sum_congr rfl fun d _ => mul_comm _ _).trans e1
  have h0 : Real.sqrt 128 ≠ 0 := (Real.sqrt_pos.mpr (by norm_num)).ne'
  constructor
  · rw [e1, hr, ← EReal.coe_mul]
  · rw [e2, hs, hr, c128_eq, Ideal.div_coe h0, ← EReal.coe_mul, ← EReal.coe_mul, ← EReal.coe_mul]
    congr 1
    rw [one_div]
    ring

variable (m : (ℓ : Loc nD τ sig) → Buf (Elt Ideal) ℓ) (c : Dev nD)

/-- The arrays the reference starts from, as numbers. -/
def X0 : S64x512x12x128.Idx → EReal := fun y => FloatOps.ofBits (F := Ideal) .fp8e4m3 ((m ((c : Thread nD τ).loc main_arg0) : S64x512x12x128.Idx → BitVec 8) y)
def X1 : S64x512x12.Idx → EReal := (m ((c : Thread nD τ).loc main_arg1) : S64x512x12.Idx → EReal)
def X2 : S2048x2x128.Idx → EReal := fun y => FloatOps.ofBits (F := Ideal) .fp8e4m3 ((m ((c : Thread nD τ).loc main_arg2) : S2048x2x128.Idx → BitVec 8) y)
def X3 : S2048x2.Idx → EReal := (m ((c : Thread nD τ).loc main_arg3) : S2048x2.Idx → EReal)
def X4 : S2048x2x128.Idx → EReal := (m ((c : Thread nD τ).loc main_arg4) : S2048x2x128.Idx → EReal)
def X5 : S2048x2.Idx → EReal := (m ((c : Thread nD τ).loc main_arg5) : S2048x2.Idx → EReal)
def X6 : S64x512x2x128.Idx → EReal := fun y => FloatOps.ofBits (F := Ideal) .fp8e4m3 ((m ((c : Thread nD τ).loc main_arg6) : S64x512x2x128.Idx → BitVec 8) y)
def X7 : S64x512x2.Idx → EReal := (m ((c : Thread nD τ).loc main_arg7) : S64x512x2.Idx → EReal)
def X8 : S64x512x2x128.Idx → EReal := (m ((c : Thread nD τ).loc main_arg8) : S64x512x2x128.Idx → EReal)
def X9 : S64x512x2.Idx → EReal := (m ((c : Thread nD τ).loc main_arg9) : S64x512x2.Idx → EReal)

theorem gr_hq (g : Fin 2) (r : Fin 6) : gr (hq g r) = g := by
  apply Fin.ext
  show (6 * g.val + r.val) / 6 = g.val
  omega

/-- What the precondition gives of one device's arguments. -/
structure Good : Prop where
  q : ∀ b s h d, ∃ r : ℝ, aQ m c b s h d = (r : EReal)
  s : ∀ b s h, ∃ r : ℝ, 0 < r ∧ aS m c b s h = (r : EReal)
  pk : ∀ n g d, ∃ r : ℝ, aPK m c n g d = (r : EReal)
  ps : ∀ n g, ∃ r : ℝ, aPS m c n g = (r : EReal)
  k : ∀ b n g d, ∃ r : ℝ, aK m c b n g d = (r : EReal)
  ks : ∀ b n g, ∃ r : ℝ, aKS m c b n g = (r : EReal)

variable (G : Good m c) (b : Fin 64) (g : Fin 2) (r : Fin 6) (s : Fin 512)
include G

/-- The scores of one query head and position on both sides, from real numbers. -/
theorem scores : ∃ (β : ℝ) (U : Fin 2048 → ℝ) (W : Fin 512 → ℝ), 0 < β
    ∧ kScale m c b (hq g r) s = ((β * (Real.log 2)⁻¹ : ℝ) : EReal)
    ∧ (kUp m c b (hq g r) s = fun n => if True then (U n : EReal) else ⊥)
    ∧ (sP (X0 m c) (X1 m c) (X2 m c) (X3 m c) g b s r = fun n => if True then ((β * U n : ℝ) : EReal) else ⊥)
    ∧ (kUs m c b (hq g r) s = fun n => if n.val ≤ s.val then (W n : EReal) else ⊥)
    ∧ (sC (X0 m c) (X1 m c) (X6 m c) (X7 m c) g b s r = fun n => if n.val ≤ s.val then ((β * W n : ℝ) : EReal) else ⊥) := by
  choose fq hfq using G.q
  obtain ⟨rs, hrs0, hrs⟩ := G.s b s (hq g r)
  choose fpk hfpk using G.pk
  choose fps hfps using G.ps
  choose fk hfk using G.k
  choose fks hfks using G.ks
  have hp := fun n => score_eq (fun d => aQ m c b s (hq g r) d) (fun d => aPK m c n g d) (aS m c b s (hq g r)) (aPS m c n g)
    (fq b s (hq g r)) (fpk n g) rs (fps n g) (hfq b s (hq g r)) (hfpk n g) hrs (hfps n g)
  have hc := fun n => score_eq (fun d => aQ m c b s (hq g r) d) (fun d => aK m c b n g d) (aS m c b s (hq g r)) (aKS m c b n g)
    (fq b s (hq g r)) (fk b n g) rs (fks b n g) (hfq b s (hq g r)) (hfk b n g) hrs (hfks b n g)
  refine ⟨rs * (Real.sqrt 128)⁻¹, fun n => (∑ d, fpk n g d * fq b s (hq g r) d) * fps n g,
    fun n => (∑ d, fk b n g d * fq b s (hq g r) d) * fks b n g, mul_pos hrs0 (inv_pos.mpr (Real.sqrt_pos.mpr (by norm_num))), ?_, ?_, ?_, ?_, ?_⟩
  · unfold kScale cScale
    rw [hrs, ← EReal.coe_mul, mul_assoc]
  · funext n
    rw [if_pos trivial]
    unfold kUp
    rw [gr_hq]
    exact (hp n).1
  · funext n
    rw [if_pos trivial]
    exact (hp n).2
  · funext n
    unfold kUs
    rw [gr_hq]
    split
    · exact (hc n).1
    · rfl
  · funext n
    unfold sC
    split
    · exact (hc n).2
    · rfl

theorem out_at (d : Fin 128) (l : Fin 1536) (hl : l.val = 128 * (6 * g.val + r.val) + d.val) :
    kRes m c b s (hq g r) d
      = Cert.ReferenceIdeal.Read.val_main_v101 (F := Ideal) (X0 m c) (X1 m c) (X2 m c) (X3 m c) (X4 m c) (X5 m c) (X6 m c) (X7 m c) (X8 m c) (X9 m c) (ix3 b s l) := by
  obtain ⟨β, U, W, hβ, hS, hu, hsp, hus, hsc⟩ := scores m c G b g r s
  rw [Cert.ReferenceIdeal.Read.at_v101 _ _ _ _ _ _ _ _ _ _ g b s r d l hl]
  unfold kRes
  rw [gr_hq]
  exact Att.out_eq (fun _ => True) (fun n : Fin 512 => n.val ≤ s.val) U W ⟨0, trivial⟩ ⟨s, le_refl _⟩ β hβ _ _ _ _ _ hS _ _ _ _ hu hsp hus hsc

theorem lp_at : kLp m c b (hq g r) s
      = Cert.ReferenceIdeal.Read.val_main_v116 (F := Ideal) (X0 m c) (X1 m c) (X2 m c) (X3 m c) (ix3 b (hq g r) s) := by
  obtain ⟨β, U, W, hβ, hS, hu, hsp, hus, hsc⟩ := scores m c G b g r s
  have e : Ideal.ofBits .f32 0x45000000#32 = ((2048 : ℝ) : EReal) := by
    simp [Ideal.ofBits, Ideal.ieee, -EReal.coe_mul]; norm_num
  have e2 : (FloatOps.hostUnary (F := Ideal) .log (FloatOps.ofBits (F := Ideal) FTy.f32 0x45000000#32 : Ideal FTy.f32) : EReal) = ((Real.log 2048 : ℝ) : EReal) := by
    show Ideal.log (Ideal.ofBits .f32 0x45000000#32) = _
    rw [e, Ideal.log_coe, if_neg (by norm_num)]
  rw [Cert.ReferenceIdeal.Read.at_v116 _ _ _ _ g b s r, e2]
  unfold kLp
  rw [Att.lse_eq (fun _ => True) U ⟨0, trivial⟩ β hβ _ hS _ _ hu hsp]

theorem lc_at : kLc m c b (hq g r) s
      = Cert.ReferenceIdeal.Read.val_main_v117 (F := Ideal) (X0 m c) (X1 m c) (X6 m c) (X7 m c) (ix3 b (hq g r) s) := by
  obtain ⟨β, U, W, hβ, hS, hu, hsp, hus, hsc⟩ := scores m c G b g r s
  have e2 : ((FloatOps.ofBits (F := Ideal) FTy.f32 0x3F800000#32 : EReal) + (FloatOps.sitofp (F := Ideal) .f32 (BitVec.ofNat 32 s.val) : EReal) : EReal)
      = (((s.val + 1 : ℕ) : ℝ) : EReal) := by
    have h1 : (FloatOps.ofBits (F := Ideal) FTy.f32 0x3F800000#32 : EReal) = ((1 : ℝ) : EReal) := Ideal.ofBits_one_f32
    have h2 : (BitVec.ofNat 32 s.val).toInt = (s.val : ℤ) := by
      have := s.isLt
      rw [BitVec.toInt_eq_toNat_of_lt (by rw [BitVec.toNat_ofNat]; omega), BitVec.toNat_ofNat, Nat.mod_eq_of_lt (by omega)]
    rw [h1]
    show ((1 : ℝ) : EReal) + ((((BitVec.ofNat 32 s.val).toInt : ℤ) : ℝ) : EReal) = _
    rw [h2, ← EReal.coe_add]
    congr 1
    push_cast
    ring
  rw [Cert.ReferenceIdeal.Read.at_v117 _ _ _ _ g b s r, e2]
  unfold kLc
  rw [Att.lse_eq (fun n : Fin 512 => n.val ≤ s.val) W ⟨s, le_refl _⟩ β hβ _ hS _ _ hus hsc]
  rfl

end Cert.Bridge
-- ==== Proof.RefDec.lean ====
module
public import proofs.«01_k».proof.Proof.Gen.ReferenceIdeal.Frame
public import Idealize.ShloMosaic.Lib.Pipeline.ValueKit
public import Idealize.ShloMosaic.Lib.Pipeline.Cells
public import Idealize.ShloMosaic.Lib.StableHlo.Run
/-! The reference's decoded arrays: on the extended reals each holds the codes' own numbers. -/
@[expose] public section
set_option maxRecDepth 16384
noncomputable section
namespace Cert.ReferenceIdeal.Gen
open Idealize.ShloMosaic Idealize.ShloMosaic.TcCoe Idealize.ShloMosaic.Tactic
open Idealize.SL.Sem
variable (m : (ℓ : Loc nD τ sig) → Buf (Elt Ideal) ℓ) (c : Dev nD)

theorem V_v0 : V (F := Ideal) m c main_v0 = (bitcastToFloat (F := Ideal) .fp8e4m3 (m ((c : Thread nD τ).loc main_arg0)) : Vec Ideal S64x512x12x128 .fp8e4m3) := by
  show StableHlo.after hostOps0 _ _ = _
  simp only [hostOps0]
  after_results_simp <;> rfl
theorem V_v1 : V (F := Ideal) m c main_v1 = (bitcastToFloat (F := Ideal) .fp8e4m3 (m ((c : Thread nD τ).loc main_arg2)) : Vec Ideal S2048x2x128 .fp8e4m3) := by
  show StableHlo.after hostOps0 _ _ = _
  simp only [hostOps0]
  after_results_simp <;> rfl
theorem V_v2 : V (F := Ideal) m c main_v2 = (bitcastToFloat (F := Ideal) .fp8e4m3 (m ((c : Thread nD τ).loc main_arg6)) : Vec Ideal S64x512x2x128 .fp8e4m3) := by
  show StableHlo.after hostOps0 _ _ = _
  simp only [hostOps0]
  after_results_simp <;> rfl
theorem iblk0 (t : Fin cfg0.N) : iblk (F := Ideal) m c 0 t = V (F := Ideal) m c main_v0 := by
  obtain rfl := fin_N0 t
  funext y
  show V (F := Ideal) m c main_v0 (((cfg0.win 0).blk t0_0).view.emb y) = _
  refine congrArg (V (F := Ideal) m c main_v0) (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega
theorem pay5 (x : Vec Ideal S64x512x12x128 .fp8e4m3) (y : S64x512x12x128.Idx) : (k0_pay1 (F := Ideal) x y : EReal) = x y := by
  unfold k0_pay1
  first
  | rfl
  | (show shapeCast S64x512x12x128 x _ y = x y; rw [shapeCast_self])
theorem outEq5 (x0 : Vec Ideal S64x512x12x128 .fp8e4m3) (x1 : Vec Ideal S2048x2x128 .fp8e4m3) (x2 : Vec Ideal S2048x2x128 .fp8e4m3) (x3 : Vec Ideal S64x512x2x128 .fp8e4m3) (x4 : Vec Ideal S64x512x2x128 .fp8e4m3)
    (y : S64x512x12x128.Idx) : (out0_5 (F := Ideal) x0 x1 x2 x3 x4 y : EReal) = x0 y := by
  unfold out0_5
  rw [View.ld_unit_zero (by funext a; fin_cases a <;> rfl), View.canon_unit_zero (by funext a; fin_cases a <;> rfl)]
  exact pay5 x0 y
theorem arr5 : (dats (F := Ideal) m 0 c).arrAt 5 cfg0.N = (fun y => (bitcastToFloat (F := Ideal) .fp8e4m3 (m ((c : Thread nD τ).loc main_arg0)) : Vec Ideal S64x512x12x128 .fp8e4m3) y : S64x512x12x128.Idx → EReal) := by
  funext y
  have e := congrFun ((dats (F := Ideal) m 0 c).read_blk_arrAt_eq_flushed 5 (fun t t' _ _ hne => absurd ((fin_N0 t).trans (fin_N0 t').symm) hne) cfg0.N t0_0 t0_0.isLt (by decide)) y
  have hy : ((cfg0.win 5).blk t0_0).view.emb y = y := funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
    | ⟨3, _⟩ => show 0 + 1 * (y 3).val = (y 3).val; omega)
  refine ((congrArg ((dats (F := Ideal) m 0 c).arrAt 5 cfg0.N) hy).symm.trans e).trans ?_
  show (dats (F := Ideal) m 0 c).after 5 t0_0 y = _
  rw [after0_5]
  refine (outEq5 _ _ _ _ _ y).trans ?_
  rw [iblk0, V_v0]
theorem iblk1 (t : Fin cfg0.N) : iblk (F := Ideal) m c 1 t = V (F := Ideal) m c main_v1 := by
  obtain rfl := fin_N0 t
  funext y
  show V (F := Ideal) m c main_v1 (((cfg0.win 1).blk t0_0).view.emb y) = _
  refine congrArg (V (F := Ideal) m c main_v1) (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem pay6 (x : Vec Ideal S2048x2x128 .fp8e4m3) (y : S2048x2x128.Idx) : (k0_pay2 (F := Ideal) x y : EReal) = x y := by
  unfold k0_pay2
  first
  | rfl
  | (show shapeCast S2048x2x128 x _ y = x y; rw [shapeCast_self])
theorem outEq6 (x0 : Vec Ideal S64x512x12x128 .fp8e4m3) (x1 : Vec Ideal S2048x2x128 .fp8e4m3) (x2 : Vec Ideal S2048x2x128 .fp8e4m3) (x3 : Vec Ideal S64x512x2x128 .fp8e4m3) (x4 : Vec Ideal S64x512x2x128 .fp8e4m3)
    (y : S2048x2x128.Idx) : (out0_6 (F := Ideal) x0 x1 x2 x3 x4 y : EReal) = x1 y := by
  unfold out0_6
  rw [View.ld_unit_zero (by funext a; fin_cases a <;> rfl), View.canon_unit_zero (by funext a; fin_cases a <;> rfl)]
  exact pay6 x1 y
theorem arr6 : (dats (F := Ideal) m 0 c).arrAt 6 cfg0.N = (fun y => (bitcastToFloat (F := Ideal) .fp8e4m3 (m ((c : Thread nD τ).loc main_arg2)) : Vec Ideal S2048x2x128 .fp8e4m3) y : S2048x2x128.Idx → EReal) := by
  funext y
  have e := congrFun ((dats (F := Ideal) m 0 c).read_blk_arrAt_eq_flushed 6 (fun t t' _ _ hne => absurd ((fin_N0 t).trans (fin_N0 t').symm) hne) cfg0.N t0_0 t0_0.isLt (by decide)) y
  have hy : ((cfg0.win 6).blk t0_0).view.emb y = y := funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
  refine ((congrArg ((dats (F := Ideal) m 0 c).arrAt 6 cfg0.N) hy).symm.trans e).trans ?_
  show (dats (F := Ideal) m 0 c).after 6 t0_0 y = _
  rw [after0_6]
  refine (outEq6 _ _ _ _ _ y).trans ?_
  rw [iblk1, V_v1]
theorem iblk2 (t : Fin cfg0.N) : iblk (F := Ideal) m c 2 t = V (F := Ideal) m c main_arg4 := by
  obtain rfl := fin_N0 t
  funext y
  show V (F := Ideal) m c main_arg4 (((cfg0.win 2).blk t0_0).view.emb y) = _
  refine congrArg (V (F := Ideal) m c main_arg4) (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem pay7 (x : Vec Ideal S2048x2x128 .fp8e4m3) (y : S2048x2x128.Idx) : (k0_pay3 (F := Ideal) x y : EReal) = x y := by
  unfold k0_pay3
  first
  | rfl
  | (show shapeCast S2048x2x128 x _ y = x y; rw [shapeCast_self])
theorem outEq7 (x0 : Vec Ideal S64x512x12x128 .fp8e4m3) (x1 : Vec Ideal S2048x2x128 .fp8e4m3) (x2 : Vec Ideal S2048x2x128 .fp8e4m3) (x3 : Vec Ideal S64x512x2x128 .fp8e4m3) (x4 : Vec Ideal S64x512x2x128 .fp8e4m3)
    (y : S2048x2x128.Idx) : (out0_7 (F := Ideal) x0 x1 x2 x3 x4 y : EReal) = x2 y := by
  unfold out0_7
  rw [View.ld_unit_zero (by funext a; fin_cases a <;> rfl), View.canon_unit_zero (by funext a; fin_cases a <;> rfl)]
  exact pay7 x2 y
theorem arr7 : (dats (F := Ideal) m 0 c).arrAt 7 cfg0.N = (fun y => (m ((c : Thread nD τ).loc main_arg4) : Vec Ideal S2048x2x128 .fp8e4m3) y : S2048x2x128.Idx → EReal) := by
  funext y
  have e := congrFun ((dats (F := Ideal) m 0 c).read_blk_arrAt_eq_flushed 7 (fun t t' _ _ hne => absurd ((fin_N0 t).trans (fin_N0 t').symm) hne) cfg0.N t0_0 t0_0.isLt (by decide)) y
  have hy : ((cfg0.win 7).blk t0_0).view.emb y = y := funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
  refine ((congrArg ((dats (F := Ideal) m 0 c).arrAt 7 cfg0.N) hy).symm.trans e).trans ?_
  show (dats (F := Ideal) m 0 c).after 7 t0_0 y = _
  rw [after0_7]
  refine (outEq7 _ _ _ _ _ y).trans ?_
  rw [iblk2, V_main_arg4]
theorem iblk3 (t : Fin cfg0.N) : iblk (F := Ideal) m c 3 t = V (F := Ideal) m c main_v2 := by
  obtain rfl := fin_N0 t
  funext y
  show V (F := Ideal) m c main_v2 (((cfg0.win 3).blk t0_0).view.emb y) = _
  refine congrArg (V (F := Ideal) m c main_v2) (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega
theorem pay8 (x : Vec Ideal S64x512x2x128 .fp8e4m3) (y : S64x512x2x128.Idx) : (k0_pay4 (F := Ideal) x y : EReal) = x y := by
  unfold k0_pay4
  first
  | rfl
  | (show shapeCast S64x512x2x128 x _ y = x y; rw [shapeCast_self])
theorem outEq8 (x0 : Vec Ideal S64x512x12x128 .fp8e4m3) (x1 : Vec Ideal S2048x2x128 .fp8e4m3) (x2 : Vec Ideal S2048x2x128 .fp8e4m3) (x3 : Vec Ideal S64x512x2x128 .fp8e4m3) (x4 : Vec Ideal S64x512x2x128 .fp8e4m3)
    (y : S64x512x2x128.Idx) : (out0_8 (F := Ideal) x0 x1 x2 x3 x4 y : EReal) = x3 y := by
  unfold out0_8
  rw [View.ld_unit_zero (by funext a; fin_cases a <;> rfl), View.canon_unit_zero (by funext a; fin_cases a <;> rfl)]
  exact pay8 x3 y
theorem arr8 : (dats (F := Ideal) m 0 c).arrAt 8 cfg0.N = (fun y => (bitcastToFloat (F := Ideal) .fp8e4m3 (m ((c : Thread nD τ).loc main_arg6)) : Vec Ideal S64x512x2x128 .fp8e4m3) y : S64x512x2x128.Idx → EReal) := by
  funext y
  have e := congrFun ((dats (F := Ideal) m 0 c).read_blk_arrAt_eq_flushed 8 (fun t t' _ _ hne => absurd ((fin_N0 t).trans (fin_N0 t').symm) hne) cfg0.N t0_0 t0_0.isLt (by decide)) y
  have hy : ((cfg0.win 8).blk t0_0).view.emb y = y := funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
    | ⟨3, _⟩ => show 0 + 1 * (y 3).val = (y 3).val; omega)
  refine ((congrArg ((dats (F := Ideal) m 0 c).arrAt 8 cfg0.N) hy).symm.trans e).trans ?_
  show (dats (F := Ideal) m 0 c).after 8 t0_0 y = _
  rw [after0_8]
  refine (outEq8 _ _ _ _ _ y).trans ?_
  rw [iblk3, V_v2]
theorem iblk4 (t : Fin cfg0.N) : iblk (F := Ideal) m c 4 t = V (F := Ideal) m c main_arg8 := by
  obtain rfl := fin_N0 t
  funext y
  show V (F := Ideal) m c main_arg8 (((cfg0.win 4).blk t0_0).view.emb y) = _
  refine congrArg (V (F := Ideal) m c main_arg8) (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega
theorem pay9 (x : Vec Ideal S64x512x2x128 .fp8e4m3) (y : S64x512x2x128.Idx) : (k0_pay5 (F := Ideal) x y : EReal) = x y := by
  unfold k0_pay5
  first
  | rfl
  | (show shapeCast S64x512x2x128 x _ y = x y; rw [shapeCast_self])
theorem outEq9 (x0 : Vec Ideal S64x512x12x128 .fp8e4m3) (x1 : Vec Ideal S2048x2x128 .fp8e4m3) (x2 : Vec Ideal S2048x2x128 .fp8e4m3) (x3 : Vec Ideal S64x512x2x128 .fp8e4m3) (x4 : Vec Ideal S64x512x2x128 .fp8e4m3)
    (y : S64x512x2x128.Idx) : (out0_9 (F := Ideal) x0 x1 x2 x3 x4 y : EReal) = x4 y := by
  unfold out0_9
  rw [View.ld_unit_zero (by funext a; fin_cases a <;> rfl), View.canon_unit_zero (by funext a; fin_cases a <;> rfl)]
  exact pay9 x4 y
theorem arr9 : (dats (F := Ideal) m 0 c).arrAt 9 cfg0.N = (fun y => (m ((c : Thread nD τ).loc main_arg8) : Vec Ideal S64x512x2x128 .fp8e4m3) y : S64x512x2x128.Idx → EReal) := by
  funext y
  have e := congrFun ((dats (F := Ideal) m 0 c).read_blk_arrAt_eq_flushed 9 (fun t t' _ _ hne => absurd ((fin_N0 t).trans (fin_N0 t').symm) hne) cfg0.N t0_0 t0_0.isLt (by decide)) y
  have hy : ((cfg0.win 9).blk t0_0).view.emb y = y := funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
    | ⟨3, _⟩ => show 0 + 1 * (y 3).val = (y 3).val; omega)
  refine ((congrArg ((dats (F := Ideal) m 0 c).arrAt 9 cfg0.N) hy).symm.trans e).trans ?_
  show (dats (F := Ideal) m 0 c).after 9 t0_0 y = _
  rw [after0_9]
  refine (outEq9 _ _ _ _ _ y).trans ?_
  rw [iblk4, V_main_arg8]
end Cert.ReferenceIdeal.Gen
-- ==== Proof.RefRun.lean ====
/- The reference's run: the three results are the named stages over the decoded arrays, and the arguments end unchanged. -/
module

public import proofs.«01_k».proof.Proof.RefDec
public import proofs.«01_k».proof.Proof.RefTail
public import proofs.«01_k».proof.Proof.RefRead2

@[expose] public section

set_option maxRecDepth 16384

noncomputable section

namespace Cert.ReferenceIdeal.Gen

open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- The query codes' numbers. -/
def dQ : (⟨S64x512x12x128, .f32⟩ : BufTy).Contents (Elt Ideal) := fun y => (bitcastToFloat (F := Ideal) .fp8e4m3 (m ((c : Thread nD τ).loc main_arg0)) : Vec Ideal S64x512x12x128 .fp8e4m3) y
/-- The prefix key codes' numbers. -/
def dPK : (⟨S2048x2x128, .f32⟩ : BufTy).Contents (Elt Ideal) := fun y => (bitcastToFloat (F := Ideal) .fp8e4m3 (m ((c : Thread nD τ).loc main_arg2)) : Vec Ideal S2048x2x128 .fp8e4m3) y
/-- The prefix values. -/
def dPV : (⟨S2048x2x128, .bf16⟩ : BufTy).Contents (Elt Ideal) := fun y => (m ((c : Thread nD τ).loc main_arg4) : Vec Ideal S2048x2x128 .fp8e4m3) y
/-- The completion key codes' numbers. -/
def dK : (⟨S64x512x2x128, .f32⟩ : BufTy).Contents (Elt Ideal) := fun y => (bitcastToFloat (F := Ideal) .fp8e4m3 (m ((c : Thread nD τ).loc main_arg6)) : Vec Ideal S64x512x2x128 .fp8e4m3) y
/-- The completion values. -/
def dV : (⟨S64x512x2x128, .bf16⟩ : BufTy).Contents (Elt Ideal) := fun y => (m ((c : Thread nD τ).loc main_arg8) : Vec Ideal S64x512x2x128 .fp8e4m3) y

/-- What the memory holds when the decoding region is done. -/
def Vend : Valuation τ sig (Elt Ideal) :=
  Pipeline.withArrays spec0 c (V0 (F := Ideal) m c) fun w => (dats (F := Ideal) m 0 c).arrAt w cfg0.N

theorem Vend_v3_0 : Vend m c (Proc.devRef .tc main_v3_0) = dQ m c :=
  (Pipeline.withArrays_arr spec0 (by decide) c (V0 (F := Ideal) m c) (fun w => (dats (F := Ideal) m 0 c).arrAt w cfg0.N) 5).trans (arr5 m c)

theorem Vend_v3_1 : Vend m c (Proc.devRef .tc main_v3_1) = dPK m c :=
  (Pipeline.withArrays_arr spec0 (by decide) c (V0 (F := Ideal) m c) (fun w => (dats (F := Ideal) m 0 c).arrAt w cfg0.N) 6).trans (arr6 m c)

theorem Vend_v3_2 : Vend m c (Proc.devRef .tc main_v3_2) = dPV m c :=
  (Pipeline.withArrays_arr spec0 (by decide) c (V0 (F := Ideal) m c) (fun w => (dats (F := Ideal) m 0 c).arrAt w cfg0.N) 7).trans (arr7 m c)

theorem Vend_v3_3 : Vend m c (Proc.devRef .tc main_v3_3) = dK m c :=
  (Pipeline.withArrays_arr spec0 (by decide) c (V0 (F := Ideal) m c) (fun w => (dats (F := Ideal) m 0 c).arrAt w cfg0.N) 8).trans (arr8 m c)

theorem Vend_v3_4 : Vend m c (Proc.devRef .tc main_v3_4) = dV m c :=
  (Pipeline.withArrays_arr spec0 (by decide) c (V0 (F := Ideal) m c) (fun w => (dats (F := Ideal) m 0 c).arrAt w cfg0.N) 9).trans (arr9 m c)

theorem Vend_arg1 : Vend m c (Proc.devRef .tc main_arg1) = m ((c : Thread nD τ).loc main_arg1) :=
  (Pipeline.withArrays_of_ne _ c (V0 (F := Ideal) m c) _ main_arg1 (by exact (by decide : ∀ w, Pipeline.arrRef spec0 w ≠ main_arg1))).trans (V_main_arg1 m c)

theorem Vend_arg3 : Vend m c (Proc.devRef .tc main_arg3) = m ((c : Thread nD τ).loc main_arg3) :=
  (Pipeline.withArrays_of_ne _ c (V0 (F := Ideal) m c) _ main_arg3 (by exact (by decide : ∀ w, Pipeline.arrRef spec0 w ≠ main_arg3))).trans (V_main_arg3 m c)

theorem Vend_arg5 : Vend m c (Proc.devRef .tc main_arg5) = m ((c : Thread nD τ).loc main_arg5) :=
  (Pipeline.withArrays_of_ne _ c (V0 (F := Ideal) m c) _ main_arg5 (by exact (by decide : ∀ w, Pipeline.arrRef spec0 w ≠ main_arg5))).trans (V_main_arg5 m c)

theorem Vend_arg7 : Vend m c (Proc.devRef .tc main_arg7) = m ((c : Thread nD τ).loc main_arg7) :=
  (Pipeline.withArrays_of_ne _ c (V0 (F := Ideal) m c) _ main_arg7 (by exact (by decide : ∀ w, Pipeline.arrRef spec0 w ≠ main_arg7))).trans (V_main_arg7 m c)

theorem Vend_arg9 : Vend m c (Proc.devRef .tc main_arg9) = m ((c : Thread nD τ).loc main_arg9) :=
  (Pipeline.withArrays_of_ne _ c (V0 (F := Ideal) m c) _ main_arg9 (by exact (by decide : ∀ w, Pipeline.arrRef spec0 w ≠ main_arg9))).trans (V_main_arg9 m c)

theorem end_v101 : Pipeline.afterTail₀ cfgs (dats (F := Ideal) m) 0 (V0 m) [hostOps1, hostOps1_1, hostOps1_2] c main_v101
    = Read.val_main_v101 (F := Ideal) (dQ m c) (m ((c : Thread nD τ).loc main_arg1)) (dPK m c) (m ((c : Thread nD τ).loc main_arg3)) (dPV m c) (m ((c : Thread nD τ).loc main_arg5)) (dK m c) (m ((c : Thread nD τ).loc main_arg7)) (dV m c) (m ((c : Thread nD τ).loc main_arg9)) := by
  show StableHlo.after Tail.ops (Vend m c) (Proc.devRef .tc main_v101) = _
  rw [Tail.after_ops]
  refine (Tail.val3_main_v101 (Vend m c)).trans ((Read.val_main_v101_eq (Vend m c)).trans ?_)
  rw [Vend_v3_0, Vend_arg1, Vend_v3_1, Vend_arg3, Vend_v3_2, Vend_arg5, Vend_v3_3, Vend_arg7, Vend_v3_4, Vend_arg9]

theorem end_v116 : Pipeline.afterTail₀ cfgs (dats (F := Ideal) m) 0 (V0 m) [hostOps1, hostOps1_1, hostOps1_2] c main_v116
    = Read.val_main_v116 (F := Ideal) (dQ m c) (m ((c : Thread nD τ).loc main_arg1)) (dPK m c) (m ((c : Thread nD τ).loc main_arg3)) := by
  show StableHlo.after Tail.ops (Vend m c) (Proc.devRef .tc main_v116) = _
  rw [Tail.after_ops]
  refine (Tail.val3_main_v116 (Vend m c)).trans ((Read.val_main_v116_eq (Vend m c)).trans ?_)
  rw [Vend_v3_0, Vend_arg1, Vend_v3_1, Vend_arg3]

theorem end_v117 : Pipeline.afterTail₀ cfgs (dats (F := Ideal) m) 0 (V0 m) [hostOps1, hostOps1_1, hostOps1_2] c main_v117
    = Read.val_main_v117 (F := Ideal) (dQ m c) (m ((c : Thread nD τ).loc main_arg1)) (dK m c) (m ((c : Thread nD τ).loc main_arg7)) := by
  show StableHlo.after Tail.ops (Vend m c) (Proc.devRef .tc main_v117) = _
  rw [Tail.after_ops]
  refine (Tail.val3_main_v117 (Vend m c)).trans ((Read.val_main_v117_eq (Vend m c)).trans ?_)
  rw [Vend_v3_0, Vend_arg1, Vend_v3_3, Vend_arg7]

/-- The reference's run. -/
theorem run_value : θ_run defs (onTc (τ := τ) (main (F := Ideal))) ⟨m, fun _ => 0, ρ⟩ (fun r => ∀ c : Dev nD,
      r.2.mem ((c.tc : Thread nD τ).loc main_v101) = Read.val_main_v101 (F := Ideal) (dQ m c) (m ((c : Thread nD τ).loc main_arg1)) (dPK m c) (m ((c : Thread nD τ).loc main_arg3)) (dPV m c) (m ((c : Thread nD τ).loc main_arg5)) (dK m c) (m ((c : Thread nD τ).loc main_arg7)) (dV m c) (m ((c : Thread nD τ).loc main_arg9))
      ∧ r.2.mem ((c.tc : Thread nD τ).loc main_v116) = Read.val_main_v116 (F := Ideal) (dQ m c) (m ((c : Thread nD τ).loc main_arg1)) (dPK m c) (m ((c : Thread nD τ).loc main_arg3))
      ∧ r.2.mem ((c.tc : Thread nD τ).loc main_v117) = Read.val_main_v117 (F := Ideal) (dQ m c) (m ((c : Thread nD τ).loc main_arg1)) (dK m c) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.2 c).2 main_v101 (Pipeline.mem_restRefs_of main_v101 (by decide) (by decide))).trans (end_v101 m c),
      ((h.2 c).2 main_v116 (Pipeline.mem_restRefs_of main_v116 (by decide) (by decide))).trans (end_v116 m c),
      ((h.2 c).2 main_v117 (Pipeline.mem_restRefs_of main_v117 (by decide) (by decide))).trans (end_v117 m c),
      h.1 c⟩) (θ_run_and (unchanged m ρ) (run_main m ρ))

end Cert.ReferenceIdeal.Gen
-- ==== Proof.PreRead.lean ====
/- What the precondition gives: the codes of the queries and keys are numbers, their scales are finite,
   and the scales of the queries are positive. -/
module

public import proofs.«01_k».proof.Proof.Gen.Pre_codes_and_scales_are_numbers
public import Idealize.ShloMosaic.Lib.ReduceAll
public import Idealize.ShloMosaic.Lib.Pointwise
public import Idealize.ShloMosaic.PureOps.Ideal.Laws

@[expose] public section

set_option maxRecDepth 16384

noncomputable section

namespace Cert.PreRead

open Idealize.ShloMosaic Idealize.ShloMosaic.TcCoe Idealize.SL.Sem
open Cert.Pre_codes_and_scales_are_numbers

/-- A code whose low seven bits are not all ones is not the NaN pattern. -/
theorem not_nan : ∀ k : Fin 256, IntOp.cmpi .ne (IntOp.andi ((BitVec.ofFin (w := 8) k).setWidth 32) 127#32) 127#32 = 1#1 →
    ¬ (((BitVec.ofFin (w := 8) k).extractLsb' 3 4).toNat = 15 ∧ ((BitVec.ofFin (w := 8) k).extractLsb' 0 3).toNat = 7) := by
  decide +kernel

/-- A code that is a number reads as a real. -/
theorem code_real (b : BitVec 8) (h : IntOp.cmpi .ne (IntOp.andi (b.setWidth 32) 127#32) 127#32 = 1#1) :
    ∃ r : ℝ, Ideal.ofBits .fp8e4m3 b = (r : EReal) := by
  have hn := not_nan b.toFin h
  show ∃ r : ℝ, Ideal.e4m3fn b = (r : EReal)
  unfold Ideal.e4m3fn
  simp only
  rw [if_neg hn]
  split
  · exact ⟨_, rfl⟩
  · exact ⟨_, rfl⟩

/-- A value below infinity in absolute value is a real. -/
theorem finite_real (x : EReal) (h : FloatOps.cmpf (F := Ideal) (φ := .f32) .olt (FloatOps.hostAbsf (F := Ideal) (φ := .f32) x) (FloatOps.ofBits (F := Ideal) FTy.f32 0x7F800000#32) = 1#1) :
    ∃ r : ℝ, x = (r : EReal) := by
  have e : (FloatOps.ofBits (F := Ideal) FTy.f32 0x7F800000#32 : EReal) = ⊤ := by
    show Ideal.ofBits .f32 0x7F800000#32 = ⊤
    simp [Ideal.ofBits, Ideal.ieee]
  rw [e] at h
  have h' : max x (-x) < ⊤ := by
    by_contra hc
    have : BitVec.ofBool (decide (max x (-x) < (⊤ : EReal))) = 1#1 := h
    rw [decide_eq_false hc] at this
    exact absurd this (by decide)
  induction x using EReal.rec with
  | bot => simp at h'
  | top => simp at h'
  | coe r => exact ⟨r, rfl⟩

/-- The comparison with zero. -/
theorem pos_of (x : EReal) (h : FloatOps.cmpf (F := Ideal) (φ := .f32) .ogt x (FloatOps.ofBits (F := Ideal) FTy.f32 0x00000000#32) = 1#1) : 0 < x := by
  have e : (FloatOps.ofBits (F := Ideal) FTy.f32 0x00000000#32 : EReal) = 0 := Ideal.ofBits_zero_f32
  rw [e] at h
  by_contra hc
  have : BitVec.ofBool (decide ((0 : EReal) < x)) = 1#1 := h
  rw [decide_eq_false hc] at this
  exact absurd this (by decide)

variable (a0 : IVec S64x512x12x128 8) (a1 : FVec Ideal S64x512x12 .f32) (a2 : IVec S2048x2x128 8) (a3 : FVec Ideal S2048x2 .f32) (a4 : FVec Ideal S2048x2x128 .fp8e4m3) (a5 : FVec Ideal S2048x2 .f32) (a6 : IVec S64x512x2x128 8) (a7 : FVec Ideal S64x512x2 .f32) (a8 : FVec Ideal S64x512x2x128 .fp8e4m3) (a9 : FVec Ideal S64x512x2 .f32)

/-- The one index of a scalar. -/
def j0 : S_.Idx := fun a => a.elim0

theorem q_code (h : (fn (F := Ideal) a0 a1 a2 a3 a4 a5 a6 a7 a8 a9).1 = fun _ => 1#1) (i : S64x512x12x128.Idx) : ∃ r : ℝ, Ideal.ofBits .fp8e4m3 (a0 i) = (r : EReal) := by
  have h1 := congrFun h j0
  unfold fn fn_part1 fn_part2 at h1
  dsimp only at h1
  exact code_real _ (Host.reduce_andi_all _ _ _ _ j0 h1 i)

theorem q_scale_real (h : (fn (F := Ideal) a0 a1 a2 a3 a4 a5 a6 a7 a8 a9).2.1 = fun _ => 1#1) (i : S64x512x12.Idx) : ∃ r : ℝ, a1 i = (r : EReal) := by
  have h1 := congrFun h j0
  unfold fn fn_part1 fn_part2 at h1
  dsimp only at h1
  exact finite_real _ (Host.reduce_andi_all _ _ _ _ j0 h1 i)

theorem q_scale_pos (h : (fn (F := Ideal) a0 a1 a2 a3 a4 a5 a6 a7 a8 a9).2.2.1 = fun _ => 1#1) (i : S64x512x12.Idx) : 0 < (a1 i : EReal) := by
  have h1 := congrFun h j0
  unfold fn fn_part1 fn_part2 at h1
  dsimp only at h1
  exact pos_of _ (Host.reduce_andi_all _ _ _ _ j0 h1 i)

theorem q_scale (h : (fn (F := Ideal) a0 a1 a2 a3 a4 a5 a6 a7 a8 a9).2.1 = fun _ => 1#1) (h' : (fn (F := Ideal) a0 a1 a2 a3 a4 a5 a6 a7 a8 a9).2.2.1 = fun _ => 1#1) (i : S64x512x12.Idx) : ∃ r : ℝ, 0 < r ∧ a1 i = (r : EReal) := by
  obtain ⟨r, hr⟩ := q_scale_real a0 a1 a2 a3 a4 a5 a6 a7 a8 a9 h i
  have hp := q_scale_pos a0 a1 a2 a3 a4 a5 a6 a7 a8 a9 h' i
  rw [hr] at hp
  exact ⟨r, EReal.coe_pos.mp hp, hr⟩

theorem pk_code (h : (fn (F := Ideal) a0 a1 a2 a3 a4 a5 a6 a7 a8 a9).2.2.2.1 = fun _ => 1#1) (i : S2048x2x128.Idx) : ∃ r : ℝ, Ideal.ofBits .fp8e4m3 (a2 i) = (r : EReal) := by
  have h1 := congrFun h j0
  unfold fn fn_part1 fn_part2 at h1
  dsimp only at h1
  exact code_real _ (Host.reduce_andi_all _ _ _ _ j0 h1 i)

theorem pk_scale (h : (fn (F := Ideal) a0 a1 a2 a3 a4 a5 a6 a7 a8 a9).2.2.2.2.1 = fun _ => 1#1) (i : S2048x2.Idx) : ∃ r : ℝ, a3 i = (r : EReal) := by
  have h1 := congrFun h j0
  unfold fn fn_part1 fn_part2 at h1
  dsimp only at h1
  exact finite_real _ (Host.reduce_andi_all _ _ _ _ j0 h1 i)

theorem k_code (h : (fn (F := Ideal) a0 a1 a2 a3 a4 a5 a6 a7 a8 a9).2.2.2.2.2.1 = fun _ => 1#1) (i : S64x512x2x128.Idx) : ∃ r : ℝ, Ideal.ofBits .fp8e4m3 (a6 i) = (r : EReal) := by
  have h1 := congrFun h j0
  unfold fn fn_part1 fn_part2 at h1
  dsimp only at h1
  exact code_real _ (Host.reduce_andi_all _ _ _ _ j0 h1 i)

theorem k_scale (h : (fn (F := Ideal) a0 a1 a2 a3 a4 a5 a6 a7 a8 a9).2.2.2.2.2.2 = fun _ => 1#1) (i : S64x512x2.Idx) : ∃ r : ℝ, a7 i = (r : EReal) := by
  have h1 := congrFun h j0
  unfold fn fn_part1 fn_part2 at h1
  dsimp only at h1
  exact finite_real _ (Host.reduce_andi_all _ _ _ _ j0 h1 i)

end Cert.PreRead
-- ==== Proof.Final.lean ====
/- The kernel and the reference return the same three arrays. -/
module

public import proofs.«01_k».proof.Defs
public import proofs.«01_k».proof.Proof.Bridge
public import proofs.«01_k».proof.Proof.RefRun
public import proofs.«01_k».proof.Proof.PreRead

@[expose] public section

set_option maxRecDepth 16384

noncomputable section

namespace Cert.Bridge

open Idealize.ShloMosaic Idealize.ShloMosaic.TcCoe Idealize.ShloMosaic.Tactic
open Idealize.SL.Sem
open Cert.KernelIdeal Cert.KernelIdeal.Gen
open Cert.ReferenceIdeal.Read (hq)

variable (m : (ℓ : Loc nD τ sig) → Buf (Elt Ideal) ℓ) (c : Dev nD)

/-- The precondition, of one device's arguments. -/
theorem good (h : Cert.Pre_KernelIdeal_codes_and_scales_are_numbers m) : Good m c := by
  obtain ⟨h1, h2, h3, h4, h5, h6, h7⟩ := h c
  exact {
    q := fun b s h d => PreRead.q_code _ _ _ _ _ _ _ _ _ _ h1 (ix4 b s h d)
    s := fun b s h => PreRead.q_scale _ _ _ _ _ _ _ _ _ _ h2 h3 (ix3 b s h)
    pk := fun n g d => PreRead.pk_code _ _ _ _ _ _ _ _ _ _ h4 (ix3 n g d)
    ps := fun n g => PreRead.pk_scale _ _ _ _ _ _ _ _ _ _ h5 (ix2 n g)
    k := fun b n g d => PreRead.k_code _ _ _ _ _ _ _ _ _ _ h6 (ix4 b n g d)
    ks := fun b n g => PreRead.k_scale _ _ _ _ _ _ _ _ _ _ h7 (ix3 b n g) }

/-- Every head is a head of a group. -/
theorem head (h : Fin 12) : ∃ (g : Fin 2) (r : Fin 6), h = hq g r :=
  ⟨⟨h.val / 6, by omega⟩, ⟨h.val % 6, by omega⟩, Fin.ext (by show h.val = 6 * (h.val / 6) + h.val % 6; omega)⟩

/-- Every batch is a grid point. -/
theorem batch (b : Fin 64) : ∃ t : Fin cfg0.N, bt t = b :=
  ⟨⟨b.val, by rw [show cfg0.N = 64 from N_0]; exact b.isLt⟩, rfl⟩

variable (G : Good m c)
include G

theorem res0 : Value.G10 (F := Ideal) m c = Cert.ReferenceIdeal.Read.val_main_v101 (F := Ideal) (X0 m c) (X1 m c) (X2 m c) (X3 m c) (X4 m c) (X5 m c) (X6 m c) (X7 m c) (X8 m c) (X9 m c) := by
  funext y
  obtain ⟨t, ht⟩ := batch (y 0)
  have hy2 : (y 2).val < 1536 := (y 2).isLt
  obtain ⟨g, r, hgr⟩ := head ⟨(y 2).val / 128, by omega⟩
  have hv : (y 2).val / 128 = 6 * g.val + r.val := congrArg Fin.val hgr
  have ey : y = (ix3 (bt t) (y 1) (l12 (hq g r) ⟨(y 2).val % 128, by omega⟩) : S64x512x1536.Idx) := by
    funext a
    match a with
    | ⟨0, _⟩ => exact ht.symm
    | ⟨1, _⟩ => rfl
    | ⟨2, _⟩ => exact Fin.ext (by show (y 2).val = 128 * (6 * g.val + r.val) + (y 2).val % 128; omega)
  rw [ey]
  exact (G10_at m c G.s t _ _ _).trans (out_at m c G (bt t) g r _ _ _ rfl)

theorem res1 : Value.G11 (F := Ideal) m c = Cert.ReferenceIdeal.Read.val_main_v116 (F := Ideal) (X0 m c) (X1 m c) (X2 m c) (X3 m c) := by
  funext y
  obtain ⟨t, ht⟩ := batch (y 0)
  obtain ⟨g, r, hgr⟩ := head (y 1)
  have ey : y = (ix3 (bt t) (hq g r) (y 2) : S64x12x512.Idx) := by
    funext a
    match a with
    | ⟨0, _⟩ => exact ht.symm
    | ⟨1, _⟩ => exact hgr
    | ⟨2, _⟩ => rfl
  rw [ey]
  exact (G11_at m c G.s t _ _).trans (lp_at m c G (bt t) g r _)

theorem res2 : Value.G12 (F := Ideal) m c = Cert.ReferenceIdeal.Read.val_main_v117 (F := Ideal) (X0 m c) (X1 m c) (X6 m c) (X7 m c) := by
  funext y
  obtain ⟨t, ht⟩ := batch (y 0)
  obtain ⟨g, r, hgr⟩ := head (y 1)
  have ey : y = (ix3 (bt t) (hq g r) (y 2) : S64x12x512.Idx) := by
    funext a
    match a with
    | ⟨0, _⟩ => exact ht.symm
    | ⟨1, _⟩ => exact hgr
    | ⟨2, _⟩ => rfl
  rw [ey]
  exact (G12_at m c G.s t _ _).trans (lc_at m c G (bt t) g r _)

omit G

section
variable (m' : (ℓ : Loc Cert.ReferenceIdeal.nD Cert.ReferenceIdeal.τ Cert.ReferenceIdeal.sig) → Buf (Elt Ideal) ℓ)

theorem arr0 (h : m' ((c.tc : Thread Cert.ReferenceIdeal.nD Cert.ReferenceIdeal.τ).loc Cert.ReferenceIdeal.main_arg0) = (m ((c.tc : Thread Cert.KernelIdeal.nD Cert.KernelIdeal.τ).loc Cert.KernelIdeal.main_arg0))) : Cert.ReferenceIdeal.Gen.dQ m' c = X0 m c := by
  unfold Cert.ReferenceIdeal.Gen.dQ X0
  rw [h]
  rfl

theorem arr1 (h : m' ((c.tc : Thread Cert.ReferenceIdeal.nD Cert.ReferenceIdeal.τ).loc Cert.ReferenceIdeal.main_arg1) = (m ((c.tc : Thread Cert.KernelIdeal.nD Cert.KernelIdeal.τ).loc Cert.KernelIdeal.main_arg1))) : m' ((c.tc : Thread Cert.ReferenceIdeal.nD Cert.ReferenceIdeal.τ).loc Cert.ReferenceIdeal.main_arg1) = X1 m c := h

theorem arr2 (h : m' ((c.tc : Thread Cert.ReferenceIdeal.nD Cert.ReferenceIdeal.τ).loc Cert.ReferenceIdeal.main_arg2) = (m ((c.tc : Thread Cert.KernelIdeal.nD Cert.KernelIdeal.τ).loc Cert.KernelIdeal.main_arg2))) : Cert.ReferenceIdeal.Gen.dPK m' c = X2 m c := by
  unfold Cert.ReferenceIdeal.Gen.dPK X2
  rw [h]
  rfl

theorem arr3 (h : m' ((c.tc : Thread Cert.ReferenceIdeal.nD Cert.ReferenceIdeal.τ).loc Cert.ReferenceIdeal.main_arg3) = (m ((c.tc : Thread Cert.KernelIdeal.nD Cert.KernelIdeal.τ).loc Cert.KernelIdeal.main_arg3))) : m' ((c.tc : Thread Cert.ReferenceIdeal.nD Cert.ReferenceIdeal.τ).loc Cert.ReferenceIdeal.main_arg3) = X3 m c := h

theorem arr4 (h : m' ((c.tc : Thread Cert.ReferenceIdeal.nD Cert.ReferenceIdeal.τ).loc Cert.ReferenceIdeal.main_arg4) = (m ((c.tc : Thread Cert.KernelIdeal.nD Cert.KernelIdeal.τ).loc Cert.KernelIdeal.main_arg4))) : Cert.ReferenceIdeal.Gen.dPV m' c = X4 m c := by
  unfold Cert.ReferenceIdeal.Gen.dPV X4
  rw [h]

theorem arr5 (h : m' ((c.tc : Thread Cert.ReferenceIdeal.nD Cert.ReferenceIdeal.τ).loc Cert.ReferenceIdeal.main_arg5) = (m ((c.tc : Thread Cert.KernelIdeal.nD Cert.KernelIdeal.τ).loc Cert.KernelIdeal.main_arg5))) : m' ((c.tc : Thread Cert.ReferenceIdeal.nD Cert.ReferenceIdeal.τ).loc Cert.ReferenceIdeal.main_arg5) = X5 m c := h

theorem arr6 (h : m' ((c.tc : Thread Cert.ReferenceIdeal.nD Cert.ReferenceIdeal.τ).loc Cert.ReferenceIdeal.main_arg6) = (m ((c.tc : Thread Cert.KernelIdeal.nD Cert.KernelIdeal.τ).loc Cert.KernelIdeal.main_arg6))) : Cert.ReferenceIdeal.Gen.dK m' c = X6 m c := by
  unfold Cert.ReferenceIdeal.Gen.dK X6
  rw [h]
  rfl

theorem arr7 (h : m' ((c.tc : Thread Cert.ReferenceIdeal.nD Cert.ReferenceIdeal.τ).loc Cert.ReferenceIdeal.main_arg7) = (m ((c.tc : Thread Cert.KernelIdeal.nD Cert.KernelIdeal.τ).loc Cert.KernelIdeal.main_arg7))) : m' ((c.tc : Thread Cert.ReferenceIdeal.nD Cert.ReferenceIdeal.τ).loc Cert.ReferenceIdeal.main_arg7) = X7 m c := h

theorem arr8 (h : m' ((c.tc : Thread Cert.ReferenceIdeal.nD Cert.ReferenceIdeal.τ).loc Cert.ReferenceIdeal.main_arg8) = (m ((c.tc : Thread Cert.KernelIdeal.nD Cert.KernelIdeal.τ).loc Cert.KernelIdeal.main_arg8))) : Cert.ReferenceIdeal.Gen.dV m' c = X8 m c := by
  unfold Cert.ReferenceIdeal.Gen.dV X8
  rw [h]

theorem arr9 (h : m' ((c.tc : Thread Cert.ReferenceIdeal.nD Cert.ReferenceIdeal.τ).loc Cert.ReferenceIdeal.main_arg9) = (m ((c.tc : Thread Cert.KernelIdeal.nD Cert.KernelIdeal.τ).loc Cert.KernelIdeal.main_arg9))) : m' ((c.tc : Thread Cert.ReferenceIdeal.nD Cert.ReferenceIdeal.τ).loc Cert.ReferenceIdeal.main_arg9) = X9 m c := h

end

theorem algebraic : Cert.algebraic_KernelIdeal_ReferenceIdeal_pre_codes_and_scales_are_numbers := by
  intro m g m' g' hpre hargs
  refine ⟨fun c => Value.G10 (F := Ideal) m c, fun c => Value.G11 (F := Ideal) m c, fun c => Value.G12 (F := Ideal) m c, Value.run m g, ?_⟩
  refine (θ_run _ _ _).mono (fun r h c => ?_) (Cert.ReferenceIdeal.Gen.run_value m' g')
  obtain ⟨e0, e1, e2, hu⟩ := h c
  obtain ⟨a0, a1, a2, a3, a4, a5, a6, a7, a8, a9⟩ := hargs c
  have G := good m c hpre
  refine ⟨e0.trans ?_, e1.trans ?_, e2.trans ?_, hu⟩
  · refine Eq.trans ?_ (res0 m c G).symm
    rw [arr0 m c m' a0, arr2 m c m' a2, arr4 m c m' a4, arr6 m c m' a6, arr8 m c m' a8, a1, a3, a5, a7, a9]
    rfl
  · refine Eq.trans ?_ (res1 m c G).symm
    rw [arr0 m c m' a0, arr2 m c m' a2, a1, a3]
    rfl
  · refine Eq.trans ?_ (res2 m c G).symm
    rw [arr0 m c m' a0, arr6 m c m' a6, a1, a7]
    rfl

theorem preserves : Cert.preserves_Kernel_KernelIdeal :=
  ⟨IdealRules.named_const.statement Cert.KernelIdeal.κ _ _ _ _ rfl, IdealRules.named_const.statement Cert.KernelIdeal.κ _ _ _ _ rfl,
    IdealRules.named_const.statement Cert.KernelIdeal.κ _ _ _ _ rfl, IdealRules.named_const.statement Cert.KernelIdeal.κ _ _ _ _ rfl⟩

end Cert.Bridge
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Frame
public import proofs.«01_k».proof.Proof.Gen.Pre_codes_and_scales_are_numbers
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_codes_and_scales_are_numbers.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    Cert.Bridge.preserves,
    Cert.Bridge.algebraic⟩

end Cert.Proof

end
